-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_ctx [hPre_finite_ctx : Cert.Pre_finite_ctx.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_ctx.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_ctx [hPre_finite_ctx : Cert.Pre_finite_ctx.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_ctx.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_mod [hPre_finite_mod : Cert.Pre_finite_mod.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_mod.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_mod [hPre_finite_mod : Cert.Pre_finite_mod.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_mod.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite_ctx [hKernel9Ideal : Cert.Kernel9Ideal.Facts] [hPre_finite_ctx : Cert.Pre_finite_ctx.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_ctx m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite_ctx [hReference9Ideal : Cert.Reference9Ideal.Facts] [hPre_finite_ctx : Cert.Pre_finite_ctx.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_ctx m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite_mod [hKernel10Ideal : Cert.Kernel10Ideal.Facts] [hPre_finite_mod : Cert.Pre_finite_mod.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_mod m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite_mod [hReference10Ideal : Cert.Reference10Ideal.Facts] [hPre_finite_mod : Cert.Pre_finite_mod.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_mod m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "mla_scale" .f32 0x3DD53B95#32 (((Real.sqrt 192)⁻¹ * (Real.log 2)⁻¹ : ℝ) : EReal)
  ∧ IdealRules.named_const.Statement Cert.Kernel5Ideal.κ "swa_scale" .f32 0x3E38AA3B#32 (((Real.sqrt 64)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)) (v4 : (c : Dev Cert.Kernel5Ideal.nD) → Buf (Elt Ideal) ((c.tc : Thread Cert.Kernel5Ideal.nD Cert.Kernel5Ideal.τ).loc Cert.Kernel5Ideal.main_v9_4)) (v5 : (c : Dev Cert.Kernel5Ideal.nD) → Buf (Elt Ideal) ((c.tc : Thread Cert.Kernel5Ideal.nD Cert.Kernel5Ideal.τ).loc Cert.Kernel5Ideal.main_v9_5)) (v6 : (c : Dev Cert.Kernel5Ideal.nD) → Buf (Elt Ideal) ((c.tc : Thread Cert.Kernel5Ideal.nD Cert.Kernel5Ideal.τ).loc Cert.Kernel5Ideal.main_v9_6)) (v7 : (c : Dev Cert.Kernel5Ideal.nD) → Buf (Elt Ideal) ((c.tc : Thread Cert.Kernel5Ideal.nD Cert.Kernel5Ideal.τ).loc Cert.Kernel5Ideal.main_v9_7)) (v8 : (c : Dev Cert.Kernel5Ideal.nD) → Buf (Elt Ideal) ((c.tc : Thread Cert.Kernel5Ideal.nD Cert.Kernel5Ideal.τ).loc Cert.Kernel5Ideal.main_v9_8)) (v9 : (c : Dev Cert.Kernel5Ideal.nD) → Buf (Elt Ideal) ((c.tc : Thread Cert.Kernel5Ideal.nD Cert.Kernel5Ideal.τ).loc Cert.Kernel5Ideal.main_v9_9)) (v10 : (c : Dev Cert.Kernel5Ideal.nD) → Buf (Elt Ideal) ((c.tc : Thread Cert.Kernel5Ideal.nD Cert.Kernel5Ideal.τ).loc Cert.Kernel5Ideal.main_v9_10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_v9_4) = v4 c
          ∧ r.2.mem ((c.tc : Thread Cert.Kernel5Ideal.nD Cert.Kernel5Ideal.τ).loc Cert.Kernel5Ideal.main_v9_5) = v5 c
          ∧ r.2.mem ((c.tc : Thread Cert.Kernel5Ideal.nD Cert.Kernel5Ideal.τ).loc Cert.Kernel5Ideal.main_v9_6) = v6 c
          ∧ r.2.mem ((c.tc : Thread Cert.Kernel5Ideal.nD Cert.Kernel5Ideal.τ).loc Cert.Kernel5Ideal.main_v9_7) = v7 c
          ∧ r.2.mem ((c.tc : Thread Cert.Kernel5Ideal.nD Cert.Kernel5Ideal.τ).loc Cert.Kernel5Ideal.main_v9_8) = v8 c
          ∧ r.2.mem ((c.tc : Thread Cert.Kernel5Ideal.nD Cert.Kernel5Ideal.τ).loc Cert.Kernel5Ideal.main_v9_9) = v9 c
          ∧ r.2.mem ((c.tc : Thread Cert.Kernel5Ideal.nD Cert.Kernel5Ideal.τ).loc Cert.Kernel5Ideal.main_v9_10) = v10 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v167) = v0 c
          ∧ r.2.mem ((c.tc : Thread Cert.Reference5Ideal.nD Cert.Reference5Ideal.τ).loc Cert.Reference5Ideal.main_v169) = v1 c
          ∧ r.2.mem ((c.tc : Thread Cert.Reference5Ideal.nD Cert.Reference5Ideal.τ).loc Cert.Reference5Ideal.main_v171) = v2 c
          ∧ r.2.mem ((c.tc : Thread Cert.Reference5Ideal.nD Cert.Reference5Ideal.τ).loc Cert.Reference5Ideal.main_v173) = v3 c
          ∧ r.2.mem ((c.tc : Thread Cert.Reference5Ideal.nD Cert.Reference5Ideal.τ).loc Cert.Reference5Ideal.main_v175) = v4 c
          ∧ r.2.mem ((c.tc : Thread Cert.Reference5Ideal.nD Cert.Reference5Ideal.τ).loc Cert.Reference5Ideal.main_v177) = v5 c
          ∧ r.2.mem ((c.tc : Thread Cert.Reference5Ideal.nD Cert.Reference5Ideal.τ).loc Cert.Reference5Ideal.main_v179) = v6 c
          ∧ r.2.mem ((c.tc : Thread Cert.Reference5Ideal.nD Cert.Reference5Ideal.τ).loc Cert.Reference5Ideal.main_v181) = v7 c
          ∧ r.2.mem ((c.tc : Thread Cert.Reference5Ideal.nD Cert.Reference5Ideal.τ).loc Cert.Reference5Ideal.main_v183) = v8 c
          ∧ r.2.mem ((c.tc : Thread Cert.Reference5Ideal.nD Cert.Reference5Ideal.τ).loc Cert.Reference5Ideal.main_v185) = v9 c
          ∧ r.2.mem ((c.tc : Thread Cert.Reference5Ideal.nD Cert.Reference5Ideal.τ).loc Cert.Reference5Ideal.main_v186) = v10 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_v58) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  IdealRules.named_const.Statement Cert.Kernel8Ideal.κ "mla_scale" .f32 0x3DD53B95#32 (((Real.sqrt 192)⁻¹ * (Real.log 2)⁻¹ : ℝ) : EReal)
  ∧ IdealRules.named_const.Statement Cert.Kernel8Ideal.κ "swa_scale" .f32 0x3E38AA3B#32 (((Real.sqrt 64)⁻¹ * (Real.log 2)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v2_4)) (v5 : (c : Dev Cert.Kernel8Ideal.nD) → Buf (Elt Ideal) ((c.tc : Thread Cert.Kernel8Ideal.nD Cert.Kernel8Ideal.τ).loc Cert.Kernel8Ideal.main_v2_5)) (v6 : (c : Dev Cert.Kernel8Ideal.nD) → Buf (Elt Ideal) ((c.tc : Thread Cert.Kernel8Ideal.nD Cert.Kernel8Ideal.τ).loc Cert.Kernel8Ideal.main_v2_6)) (v7 : (c : Dev Cert.Kernel8Ideal.nD) → Buf (Elt Ideal) ((c.tc : Thread Cert.Kernel8Ideal.nD Cert.Kernel8Ideal.τ).loc Cert.Kernel8Ideal.main_v2_7)) (v8 : (c : Dev Cert.Kernel8Ideal.nD) → Buf (Elt Ideal) ((c.tc : Thread Cert.Kernel8Ideal.nD Cert.Kernel8Ideal.τ).loc Cert.Kernel8Ideal.main_v2_8)) (v9 : (c : Dev Cert.Kernel8Ideal.nD) → Buf (Elt Ideal) ((c.tc : Thread Cert.Kernel8Ideal.nD Cert.Kernel8Ideal.τ).loc Cert.Kernel8Ideal.main_v2_9)) (v10 : (c : Dev Cert.Kernel8Ideal.nD) → Buf (Elt Ideal) ((c.tc : Thread Cert.Kernel8Ideal.nD Cert.Kernel8Ideal.τ).loc Cert.Kernel8Ideal.main_v2_10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v2_4) = v4 c
          ∧ r.2.mem ((c.tc : Thread Cert.Kernel8Ideal.nD Cert.Kernel8Ideal.τ).loc Cert.Kernel8Ideal.main_v2_5) = v5 c
          ∧ r.2.mem ((c.tc : Thread Cert.Kernel8Ideal.nD Cert.Kernel8Ideal.τ).loc Cert.Kernel8Ideal.main_v2_6) = v6 c
          ∧ r.2.mem ((c.tc : Thread Cert.Kernel8Ideal.nD Cert.Kernel8Ideal.τ).loc Cert.Kernel8Ideal.main_v2_7) = v7 c
          ∧ r.2.mem ((c.tc : Thread Cert.Kernel8Ideal.nD Cert.Kernel8Ideal.τ).loc Cert.Kernel8Ideal.main_v2_8) = v8 c
          ∧ r.2.mem ((c.tc : Thread Cert.Kernel8Ideal.nD Cert.Kernel8Ideal.τ).loc Cert.Kernel8Ideal.main_v2_9) = v9 c
          ∧ r.2.mem ((c.tc : Thread Cert.Kernel8Ideal.nD Cert.Kernel8Ideal.τ).loc Cert.Kernel8Ideal.main_v2_10) = v10 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v105) = v0 c
          ∧ r.2.mem ((c.tc : Thread Cert.Reference8Ideal.nD Cert.Reference8Ideal.τ).loc Cert.Reference8Ideal.main_v106) = v1 c
          ∧ r.2.mem ((c.tc : Thread Cert.Reference8Ideal.nD Cert.Reference8Ideal.τ).loc Cert.Reference8Ideal.main_v107) = v2 c
          ∧ r.2.mem ((c.tc : Thread Cert.Reference8Ideal.nD Cert.Reference8Ideal.τ).loc Cert.Reference8Ideal.main_v108) = v3 c
          ∧ r.2.mem ((c.tc : Thread Cert.Reference8Ideal.nD Cert.Reference8Ideal.τ).loc Cert.Reference8Ideal.main_v109) = v4 c
          ∧ r.2.mem ((c.tc : Thread Cert.Reference8Ideal.nD Cert.Reference8Ideal.τ).loc Cert.Reference8Ideal.main_v110) = v5 c
          ∧ r.2.mem ((c.tc : Thread Cert.Reference8Ideal.nD Cert.Reference8Ideal.τ).loc Cert.Reference8Ideal.main_v111) = v6 c
          ∧ r.2.mem ((c.tc : Thread Cert.Reference8Ideal.nD Cert.Reference8Ideal.τ).loc Cert.Reference8Ideal.main_v112) = v7 c
          ∧ r.2.mem ((c.tc : Thread Cert.Reference8Ideal.nD Cert.Reference8Ideal.τ).loc Cert.Reference8Ideal.main_v113) = v8 c
          ∧ r.2.mem ((c.tc : Thread Cert.Reference8Ideal.nD Cert.Reference8Ideal.τ).loc Cert.Reference8Ideal.main_v114) = v9 c
          ∧ r.2.mem ((c.tc : Thread Cert.Reference8Ideal.nD Cert.Reference8Ideal.τ).loc Cert.Reference8Ideal.main_v35) = v10 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal_pre_finite_ctx [hKernel9Ideal : Cert.Kernel9Ideal.Facts] [hReference9Ideal : Cert.Reference9Ideal.Facts] [hPre_finite_ctx : Cert.Pre_finite_ctx.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_ctx m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite_mod [hKernel10Ideal : Cert.Kernel10Ideal.Facts] [hReference10Ideal : Cert.Reference10Ideal.Facts] [hPre_finite_mod : Cert.Pre_finite_mod.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_mod m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_qk : Cert.Pre_finite_qk.Facts) (hPre_finite_ctx : Cert.Pre_finite_ctx.Facts) (hPre_finite_mod : Cert.Pre_finite_mod.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_ctx (hKernel9Ideal := hKernel9Ideal) (hPre_finite_ctx := hPre_finite_ctx)
    ∧ quiescent_Reference9Ideal (hReference9Ideal := hReference9Ideal)
    ∧ quiescent_Reference9Ideal_pre_finite_ctx (hReference9Ideal := hReference9Ideal) (hPre_finite_ctx := hPre_finite_ctx)
    ∧ quiescent_Kernel10 (hKernel10 := hKernel10)
    ∧ quiescent_Kernel10Ideal (hKernel10Ideal := hKernel10Ideal)
    ∧ quiescent_Kernel10Ideal_pre_finite_mod (hKernel10Ideal := hKernel10Ideal) (hPre_finite_mod := hPre_finite_mod)
    ∧ quiescent_Reference10Ideal (hReference10Ideal := hReference10Ideal)
    ∧ quiescent_Reference10Ideal_pre_finite_mod (hReference10Ideal := hReference10Ideal) (hPre_finite_mod := hPre_finite_mod)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_ctx (hKernel9Ideal := hKernel9Ideal) (hReference9Ideal := hReference9Ideal) (hPre_finite_ctx := hPre_finite_ctx)
    ∧ preserves_Kernel10_Kernel10Ideal
    ∧ algebraic_Kernel10Ideal_Reference10Ideal_pre_finite_mod (hKernel10Ideal := hKernel10Ideal) (hReference10Ideal := hReference10Ideal) (hPre_finite_mod := hPre_finite_mod)
-- ==== Pre_finite_ctx.lean ====
abbrev S1024x1024 : Shape := ⟨2, ![1024, 1024]⟩
abbrev S1024x512 : Shape := ⟨2, ![1024, 512]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .bf16) (main_arg1 : FVec F S1024x1024 .bf16) (main_arg2 : FVec F S1024x512 .bf16) : IVec S_ 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_c : IVec S_ 1 := constantI S_ 1 1#1
  let main_v4 : IVec S_ 1 := (fun x v => Host.reduce IntOp.andi x v reducesTo_S1024x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  main_v10
-- ==== Pre_finite_mod.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  bcast_S_S4x2048x12288 : S_.BroadcastsInDim S4x2048x12288 (![] : Fin 0 → Fin S4x2048x12288.rank)
  reducesTo_S4x2048x12288_S_d0_1_2 : S4x2048x12288.ReducesTo [0, 1, 2] S_

variable [Facts]

def fn {F : FTy → Type} [FloatOps F] (main_arg0 : FVec F S8x2048 .f32) (main_arg1 : FVec F S4x2048x12288 .f32) (main_arg2 : FVec F S4x12288 .f32) : IVec S_ 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_c : IVec S_ 1 := constantI S_ 1 1#1
  let main_v3 : IVec S_ 1 := (fun x v => Host.reduce IntOp.andi x v reducesTo_S8x2048_S_d0_1 h_S_) main_v2 main_c
  let main_v4 : FVec F S4x2048x12288 .f32 := Host.absf main_arg1
  let main_cst_0 : FVec F S_ .f32 := constant S_ .f32 0x7F800000#32
  let main_v5 : FVec F S4x2048x12288 .f32 := broadcastInDim S4x2048x12288 ![] bcast_S_S4x2048x12288 main_cst_0
  let main_v6 : IVec S4x2048x12288 1 := cmpf .olt main_v4 main_v5
  let main_c_1 : IVec S_ 1 := constantI S_ 1 1#1
  let main_v7 : IVec S_ 1 := (fun x v => Host.reduce IntOp.andi x v reducesTo_S4x2048x12288_S_d0_1_2 h_S_) main_v6 main_c_1
  let main_v8 : IVec S_ 1 := andi main_v3 main_v7
  main_v8
-- ==== Pre_finite_qk.lean ====
abbrev S32768x1024 : Shape := ⟨2, ![32768, 1024]⟩
abbrev S32768x512 : Shape := ⟨2, ![32768, 512]⟩
abbrev S1024x1024 : Shape := ⟨2, ![1024, 1024]⟩
abbrev S1024x512 : Shape := ⟨2, ![1024, 512]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32768x1024 .bf16) (main_arg1 : FVec F S32768x1024 .bf16) (main_arg2 : FVec F S32768x512 .bf16) (main_arg3 : FVec F S1024x1024 .bf16) (main_arg4 : FVec F S1024x512 .bf16) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .f32 := (extf .f32 · bitsLt_bf16_f32) main_arg1
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  let main_c_1 : IVec S_ 1 := constantI S_ 1 1#1
  let main_v9 : IVec S_ 1 := (fun x v => Host.reduce IntOp.andi x v reducesTo_S32768x1024_S_d0_1 h_S_) main_v8 main_c_1
  let main_v10 : IVec S_ 1 := andi main_v4 main_v9
  let main_v11 : FVec F S1024x1024 .f32 := (extf .f32 · bitsLt_bf16_f32) main_arg3
  let main_v12 : FVec F S1024x1024 .f32 := Host.absf main_v11
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v10 main_v15
  main_v16
-- ==== Kernel.lean ====
abbrev S32768x1024 : Shape := ⟨2, ![32768, 1024]⟩
abbrev S32768x512 : Shape := ⟨2, ![32768, 512]⟩
abbrev S1024x1024 : Shape := ⟨2, ![1024, 1024]⟩
abbrev S1024x512 : Shape := ⟨2, ![1024, 512]⟩
abbrev S2048x256 : Shape := ⟨2, ![2048, 256]⟩
abbrev S8192x256 : Shape := ⟨2, ![8192, 256]⟩
abbrev S8192x128 : Shape := ⟨2, ![8192, 128]⟩
abbrev S256x256 : Shape := ⟨2, ![256, 256]⟩
abbrev S256x128 : Shape := ⟨2, ![256, 128]⟩
abbrev S2048x128 : Shape := ⟨2, ![2048, 128]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 6
  | .vmem => 15
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x512, .bf16⟩
  | .hbm, ⟨3, _⟩ => ⟨S1024x1024, .bf16⟩
  | .hbm, ⟨4, _⟩ => ⟨S1024x512, .bf16⟩
  | .hbm, ⟨5, _⟩ => ⟨S32768x512, .bf16⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S256x256, .bf16⟩
  | .local _ .vmem, ⟨8, _⟩ => ⟨S256x128, .bf16⟩
  | .local _ .vmem, ⟨9, _⟩ => ⟨S256x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

@[reducible] def k0_t1_loop : Scf.Loop 32 :=
  let c0_i32 : BitVec 32 := 0#32
  let c4_i32 : BitVec 32 := 4#32
  let v31 : BitVec 32 := Scalar.addi c0_i32 c4_i32
  let c1_i32 : BitVec 32 := 1#32
  ⟨c0_i32, v31, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c2048_i32 : BitVec 32 := 2048#32
  let v40 : BitVec 32 := Scalar.muli arg12 c2048_i32
  v40
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c2048_i32 : BitVec 32 := 2048#32
  let v40 : BitVec 32 := Scalar.muli arg12 c2048_i32
  let v41 : BitVec 32 := v40
  let v42 : Index := Scalar.indexCast v41
  let c0_21 : Index := 0#32
  ![v42.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c2048_i32 : BitVec 32 := 2048#32
  let v40 : BitVec 32 := Scalar.muli arg12 c2048_i32
  let v41 : BitVec 32 := v40
  let v44 : Index := Scalar.indexCast v41
  let c0_22 : Index := 0#32
  ![v44.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S32768x1024 : Shape := ⟨2, ![32768, 1024]⟩
abbrev S32768x512 : Shape := ⟨2, ![32768, 512]⟩
abbrev S1024x1024 : Shape := ⟨2, ![1024, 1024]⟩
abbrev S1024x512 : Shape := ⟨2, ![1024, 512]⟩
abbrev S4x256x4x256 : Shape := ⟨4, ![4, 256, 4, 256]⟩
abbrev S4x8192x4x256 : Shape := ⟨4, ![4, 8192, 4, 256]⟩
abbrev S4x8448x4x256 : Shape := ⟨4, ![4, 8448, 4, 256]⟩
abbrev S4x256x4x128 : Shape := ⟨4, ![4, 256, 4, 128]⟩
abbrev S4x8192x4x128 : Shape := ⟨4, ![4, 8192, 4, 128]⟩
abbrev S4x8448x4x128 : Shape := ⟨4, ![4, 8448, 4, 128]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x512, .bf16⟩
  | .hbm, ⟨3, _⟩ => ⟨S1024x1024, .bf16⟩
  | .hbm, ⟨4, _⟩ => ⟨S1024x512, .bf16⟩
  | .hbm, ⟨5, _⟩ => ⟨S1024x1024, .f32⟩
  | .hbm, ⟨6, _⟩ => ⟨S4x256x4x256, .f32⟩
  | .hbm, ⟨7, _⟩ => ⟨S32768x1024, .f32⟩
  | .hbm, ⟨8, _⟩ => ⟨S4x8192x4x256, .f32⟩
  | .hbm, ⟨9, _⟩ => ⟨S4x8448x4x256, .f32⟩
  | .hbm, ⟨10, _⟩ => ⟨S1024x512, .f32⟩
  | .hbm, ⟨11, _⟩ => ⟨S4x256x4x128, .f32⟩
  | .hbm, ⟨12, _⟩ => ⟨S32768x512, .f32⟩
  | .hbm, ⟨13, _⟩ => ⟨S4x8192x4x128, .f32⟩
  | .hbm, ⟨14, _⟩ => ⟨S4x8448x4x128, .f32⟩
  | .hbm, ⟨15, _⟩ => ⟨S32768x1024, .f32⟩
  | .hbm, ⟨16, _⟩ => ⟨S4x8192x4x256, .f32⟩
  | .hbm, ⟨17, _⟩ => ⟨S4x4x8192x8448, .f32⟩
  | .hbm, ⟨18, _⟩ => ⟨S_, .f32⟩
  | .hbm, ⟨19, _⟩ => ⟨S_, .f32⟩
  | .hbm, ⟨20, _⟩ => ⟨S4x4x8192x8448, .f32⟩
  | .hbm, ⟨21, _⟩ => ⟨S4x4x8192x8448, .f32⟩
  | .hbm, ⟨22, _⟩ => ⟨S_, .f32⟩
  | .hbm, ⟨23, _⟩ => ⟨S4x4x8192, .f32⟩
  | .hbm, ⟨24, _⟩ => ⟨S_, .f32⟩
  | .hbm, ⟨25, _⟩ => ⟨S4x4x8192, .f32⟩
  | .hbm, ⟨26, _⟩ => ⟨S4x4x8192, .f32⟩
  | .hbm, ⟨27, _⟩ => ⟨S4x4x8192x1, .f32⟩
  | .hbm, ⟨28, _⟩ => ⟨S4x4x8192x8448, .f32⟩
  | .hbm, ⟨29, _⟩ => ⟨S4x4x8192x8448, .f32⟩
  | .hbm, ⟨30, _⟩ => ⟨S4x4x8192x8448, .f32⟩
  | .hbm, ⟨31, _⟩ => ⟨S_, .f32⟩
  | .hbm, ⟨32, _⟩ => ⟨S4x4x8192, .f32⟩
  | .hbm, ⟨33, _⟩ => ⟨S4x4x8192x1, .f32⟩
  | .hbm, ⟨34, _⟩ => ⟨S4x4x8192x8448, .f32⟩
  | .hbm, ⟨35, _⟩ => ⟨S4x4x8192x8448, .f32⟩
  | .hbm, ⟨36, _⟩ => ⟨S4x4x128x8192, .f32⟩
  | .hbm, ⟨37, _⟩ => ⟨S4x8192x4x128, .f32⟩
  | .hbm, ⟨38, _⟩ => ⟨S32768x512, .f32⟩
  | .hbm, ⟨39, _⟩ => ⟨S32768x512, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel2.lean ====
abbrev S32768x2048 : Shape := ⟨2, ![32768, 2048]⟩
abbrev S4x1x2048 : Shape := ⟨3, ![4, 1, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S512x2048 : Shape := ⟨2, ![512, 2048]⟩
abbrev S1x1x2048 : Shape := ⟨3, ![1, 1, 2048]⟩
abbrev S1x2048x2048 : Shape := ⟨3, ![1, 2048, 2048]⟩
abbrev S2048x2048 : Shape := ⟨2, ![2048, 2048]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S4x1x2048, .f32⟩
  | .hbm, ⟨3, _⟩ => ⟨S1x2048, .f32⟩
  | .hbm, ⟨4, _⟩ => ⟨S4x2048x8192, .bf16⟩
  | .hbm, ⟨5, _⟩ => ⟨S4x8192x2048, .bf16⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048x2048, .bf16⟩
  | .local _ .vmem, ⟨8, _⟩ => ⟨S1x2048x2048, .bf16⟩
  | .local _ .vmem, ⟨9, _⟩ => ⟨S1x2048x2048, .bf16⟩
  | .local _ .vmem, ⟨10, _⟩ => ⟨S1x2048x2048, .bf16⟩
  | .local _ .vmem, ⟨11, _⟩ => ⟨S512x2048, .f32⟩
  | .local _ .vmem, ⟨12, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_5 : BitVec 32 := 0#32
  let v10 : BitVec 1 := Scalar.cmpi .ne v9 c0_i32_5
  v10

def k0_cond2 (i : grid0.Coords) : BitVec 1 :=
  let arg1 : BitVec 32 := BitVec.ofNat 32 (i 1).val
  let c0_i32_6 : BitVec 32 := 0#32
  let v11 : BitVec 1 := Scalar.cmpi .ne arg1 c0_i32_6
  let v12 : BitVec 32 := Scalar.extui v11
  let c0_i32_7 : BitVec 32 := 0#32
  let v13 : BitVec 1 := Scalar.cmpi .ne v12 c0_i32_7
  v13

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x2048 : Shape := ⟨2, ![32768, 2048]⟩
abbrev S4x1x2048 : Shape := ⟨3, ![4, 1, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S1x2048x8192 : Shape := ⟨3, ![1, 2048, 8192]⟩
abbrev S2048x8192 : Shape := ⟨2, ![2048, 8192]⟩
abbrev S32768x8192 : Shape := ⟨2, ![32768, 8192]⟩
abbrev S_ : Shape := ⟨0, ![]⟩
abbrev S1x8192x2048 : Shape := ⟨3, ![1, 8192, 2048]⟩
abbrev S8192x2048 : Shape := ⟨2, ![8192, 2048]⟩
abbrev S4x8192 : Shape := ⟨2, ![4, 8192]⟩
abbrev S4x8192x1 : Shape := ⟨3, ![4, 8192, 1]⟩
abbrev S2048 : Shape := ⟨1, ![2048]⟩
abbrev S1x1x2048 : Shape := ⟨3, ![1, 1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S4x1x2048, .f32⟩
  | .hbm, ⟨3, _⟩ => ⟨S1x2048, .f32⟩
  | .hbm, ⟨4, _⟩ => ⟨S4x2048x8192, .bf16⟩
  | .hbm, ⟨5, _⟩ => ⟨S4x8192x2048, .bf16⟩
  | .hbm, ⟨6, _⟩ => ⟨S32768x2048, .f32⟩
  | .hbm, ⟨7, _⟩ => ⟨S1x2048x8192, .bf16⟩
  | .hbm, ⟨8, _⟩ => ⟨S2048x8192, .bf16⟩
  | .hbm, ⟨9, _⟩ => ⟨S2048x8192, .f32⟩
  | .hbm, ⟨10, _⟩ => ⟨S32768x8192, .f32⟩
  | .hbm, ⟨11, _⟩ => ⟨S_, .f32⟩
  | .hbm, ⟨12, _⟩ => ⟨S32768x8192, .f32⟩
  | .hbm, ⟨13, _⟩ => ⟨S32768x8192, .f32⟩
  | .hbm, ⟨14, _⟩ => ⟨S32768x8192, .f32⟩
  | .hbm, ⟨15, _⟩ => ⟨S1x8192x2048, .bf16⟩
  | .hbm, ⟨16, _⟩ => ⟨S8192x2048, .bf16⟩
  | .hbm, ⟨17, _⟩ => ⟨S8192x2048, .f32⟩
  | .hbm, ⟨18, _⟩ => ⟨S32768x2048, .f32⟩
  | .hbm, ⟨19, _⟩ => ⟨S4x8192x2048, .f32⟩
  | .hbm, ⟨20, _⟩ => ⟨S4x8192x2048, .f32⟩
  | .hbm, ⟨21, _⟩ => ⟨S4x8192x2048, .f32⟩
  | .hbm, ⟨22, _⟩ => ⟨S4x8192x2048, .f32⟩
  | .hbm, ⟨23, _⟩ => ⟨S4x8192x2048, .f32⟩
  | .hbm, ⟨24, _⟩ => ⟨S4x8192x2048, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S4x8192x1, .f32⟩
  | .hbm, ⟨35, _⟩ => ⟨S4x8192x2048, .f32⟩
  | .hbm, ⟨36, _⟩ => ⟨S4x8192x2048, .f32⟩
  | .hbm, ⟨37, _⟩ => ⟨S2048, .f32⟩
  | .hbm, ⟨38, _⟩ => ⟨S1x1x2048, .f32⟩
  | .hbm, ⟨39, _⟩ => ⟨S4x8192x2048, .f32⟩
  | .hbm, ⟨40, _⟩ => ⟨S4x8192x2048, .f32⟩
  | .hbm, ⟨41, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel3.lean ====
abbrev S32768x512 : Shape := ⟨2, ![32768, 512]⟩
abbrev S32768x1024 : Shape := ⟨2, ![32768, 1024]⟩
abbrev S1x512 : Shape := ⟨2, ![1, 512]⟩
abbrev S4x2048x2048 : Shape := ⟨3, ![4, 2048, 2048]⟩
abbrev S32768x2048 : Shape := ⟨2, ![32768, 2048]⟩
abbrev S4x1x2048 : Shape := ⟨3, ![4, 1, 2048]⟩
abbrev S1x2048 : Shape := ⟨2, ![1, 2048]⟩
abbrev S512x512 : Shape := ⟨2, ![512, 512]⟩
abbrev S512x1024 : Shape := ⟨2, ![512, 1024]⟩
abbrev S1x2048x2048 : Shape := ⟨3, ![1, 2048, 2048]⟩
abbrev S512x2048 : Shape := ⟨2, ![512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1x1x512 : Shape := ⟨3, ![1, 1, 512]⟩
abbrev S1x2048x512 : Shape := ⟨3, ![1, 2048, 512]⟩
abbrev S2048x512 : Shape := ⟨2, ![2048, 512]⟩

abbrev nBuf : Space → Nat
  | .hbm => 14
  | .vmem => 26
  | .smem => 0
  | _ => 0

abbrev bufTy : (tb : Table) → Fin (tcTables nBuf tb) → BufTy
  | .hbm, ⟨0, _⟩ => ⟨S32768x512, .bf16⟩
  | .hbm, ⟨1, _⟩ => ⟨S32768x1024, .bf16⟩
  | .hbm, ⟨2, _⟩ => ⟨S32768x512, .f32⟩
  | .hbm, ⟨3, _⟩ => ⟨S32768x512, .f32⟩
  | .hbm, ⟨4, _⟩ => ⟨S32768x512, .bf16⟩
  | .hbm, ⟨5, _⟩ => ⟨S1x512, .f32⟩
  | .hbm, ⟨6, _⟩ => ⟨S4x2048x2048, .bf16⟩
  | .hbm, ⟨7, _⟩ => ⟨S32768x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S1x2048, .f32⟩
  | .hbm, ⟨12, _⟩ => ⟨S32768x2048, .f32⟩
  | .hbm, ⟨13, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S1x2048x2048, .bf16⟩
  | .local _ .vmem, ⟨12, _⟩ => ⟨S512x2048, .f32⟩
  | .local _ .vmem, ⟨13, _⟩ => ⟨S512x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x2048, .f32⟩
  | .local _ .vmem, ⟨21, _⟩ => ⟨S512x2048, .f32⟩
  | .local _ .vmem, ⟨22, _⟩ => ⟨S512x2048, .f32⟩
  | .local _ .vmem, ⟨23, _⟩ => ⟨S512x2048, .bf16⟩
  | .local _ .vmem, ⟨24, _⟩ => ⟨S512x2048, .bf16⟩
  | .local _ .vmem, ⟨25, _⟩ => ⟨S512x2048, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S32768x512 : Shape := ⟨2, ![32768, 512]⟩
abbrev S32768x1024 : Shape := ⟨2, ![32768, 1024]⟩
abbrev S1x512 : Shape := ⟨2, ![1, 512]⟩
abbrev S4x2048x2048 : Shape := ⟨3, ![4, 2048, 2048]⟩
abbrev S32768x2048 : Shape := ⟨2, ![32768, 2048]⟩
abbrev S4x1x2048 : Shape := ⟨3, ![4, 1, 2048]⟩
abbrev S1x2048 : Shape := ⟨2, ![1, 2048]⟩
abbrev S32768x4x128 : Shape := ⟨3, ![32768, 4, 128]⟩
abbrev S4x128 : Shape := ⟨2, ![4, 128]⟩
abbrev S_ : Shape := ⟨0, ![]⟩
abbrev S32768x4 : Shape := ⟨2, ![32768, 4]⟩
abbrev S32768x4x1 : Shape := ⟨3, ![32768, 4, 1]⟩
abbrev S1x4x128 : Shape := ⟨3, ![1, 4, 128]⟩
abbrev S4x8192x2048 : Shape := ⟨3, ![4, 8192, 2048]⟩
abbrev S1x2048x2048 : Shape := ⟨3, ![1, 2048, 2048]⟩
abbrev S2048x2048 : Shape := ⟨2, ![2048, 2048]⟩
abbrev S2048 : Shape := ⟨1, ![2048]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x1024, .bf16⟩
  | .hbm, ⟨2, _⟩ => ⟨S32768x512, .f32⟩
  | .hbm, ⟨3, _⟩ => ⟨S32768x512, .f32⟩
  | .hbm, ⟨4, _⟩ => ⟨S32768x512, .bf16⟩
  | .hbm, ⟨5, _⟩ => ⟨S1x512, .f32⟩
  | .hbm, ⟨6, _⟩ => ⟨S4x2048x2048, .bf16⟩
  | .hbm, ⟨7, _⟩ => ⟨S32768x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S1x2048, .f32⟩
  | .hbm, ⟨12, _⟩ => ⟨S32768x512, .f32⟩
  | .hbm, ⟨13, _⟩ => ⟨S32768x4x128, .f32⟩
  | .hbm, ⟨14, _⟩ => ⟨S4x128, .f32⟩
  | .hbm, ⟨15, _⟩ => ⟨S32768x4x128, .f32⟩
  | .hbm, ⟨16, _⟩ => ⟨S_, .f32⟩
  | .hbm, ⟨17, _⟩ => ⟨S32768x4, .f32⟩
  | .hbm, ⟨18, _⟩ => ⟨S32768x4x1, .f32⟩
  | .hbm, ⟨19, _⟩ => ⟨S_, .f32⟩
  | .hbm, ⟨20, _⟩ => ⟨S32768x4x1, .f32⟩
  | .hbm, ⟨21, _⟩ => ⟨S32768x4x1, .f32⟩
  | .hbm, ⟨22, _⟩ => ⟨S_, .f32⟩
  | .hbm, ⟨23, _⟩ => ⟨S32768x4x1, .f32⟩
  | .hbm, ⟨24, _⟩ => ⟨S32768x4x1, .f32⟩
  | .hbm, ⟨25, _⟩ => ⟨S32768x4x1, .f32⟩
  | .hbm, ⟨26, _⟩ => ⟨S32768x4x128, .f32⟩
  | .hbm, ⟨27, _⟩ => ⟨S32768x4x128, .f32⟩
  | .hbm, ⟨28, _⟩ => ⟨S1x4x128, .f32⟩
  | .hbm, ⟨29, _⟩ => ⟨S32768x4x128, .f32⟩
  | .hbm, ⟨30, _⟩ => ⟨S32768x4x128, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S_, .f32⟩
  | .hbm, ⟨36, _⟩ => ⟨S32768x512, .f32⟩
  | .hbm, ⟨37, _⟩ => ⟨S32768x512, .f32⟩
  | .hbm, ⟨38, _⟩ => ⟨S_, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x1024, .f32⟩
  | .hbm, ⟨44, _⟩ => ⟨S32768x2048, .f32⟩
  | .hbm, ⟨45, _⟩ => ⟨S4x8192x2048, .f32⟩
  | .hbm, ⟨46, _⟩ => ⟨S1x2048x2048, .bf16⟩
  | .hbm, ⟨47, _⟩ => ⟨S2048x2048, .bf16⟩
  | .hbm, ⟨48, _⟩ => ⟨S2048x2048, .f32⟩
  | .hbm, ⟨49, _⟩ => ⟨S32768x2048, .f32⟩
  | .hbm, ⟨50, _⟩ => ⟨S4x8192x2048, .f32⟩
  | .hbm, ⟨51, _⟩ => ⟨S4x8192x2048, .f32⟩
  | .hbm, ⟨52, _⟩ => ⟨S4x8192x2048, .f32⟩
  | .hbm, ⟨53, _⟩ => ⟨S4x8192x2048, .f32⟩
  | .hbm, ⟨54, _⟩ => ⟨S2048, .f32⟩
  | .hbm, ⟨55, _⟩ => ⟨S4x8192x2048, .f32⟩
  | .hbm, ⟨56, _⟩ => ⟨S_, .f32⟩
  | .hbm, ⟨57, _⟩ => ⟨S4x8192, .f32⟩
  | .hbm, ⟨58, _⟩ => ⟨S4x8192x1, .f32⟩
  | .hbm, ⟨59, _⟩ => ⟨S_, .f32⟩
  | .hbm, ⟨60, _⟩ => ⟨S4x8192x1, .f32⟩
  | .hbm, ⟨61, _⟩ => ⟨S4x8192x1, .f32⟩
  | .hbm, ⟨62, _⟩ => ⟨S_, .f32⟩
  | .hbm, ⟨63, _⟩ => ⟨S4x8192x1, .f32⟩
  | .hbm, ⟨64, _⟩ => ⟨S4x8192x1, .f32⟩
  | .hbm, ⟨65, _⟩ => ⟨S4x8192x1, .f32⟩
  | .hbm, ⟨66, _⟩ => ⟨S4x8192x2048, .f32⟩
  | .hbm, ⟨67, _⟩ => ⟨S4x8192x2048, .f32⟩
  | .hbm, ⟨68, _⟩ => ⟨S1x1x2048, .f32⟩
  | .hbm, ⟨69, _⟩ => ⟨S4x8192x2048, .f32⟩
  | .hbm, ⟨70, _⟩ => ⟨S4x8192x2048, .f32⟩
  | .hbm, ⟨71, _⟩ => ⟨S_, .f32⟩
  | .hbm, ⟨72, _⟩ => ⟨S4x1x2048, .f32⟩
  | .hbm, ⟨73, _⟩ => ⟨S4x1x2048, .f32⟩
  | .hbm, ⟨74, _⟩ => ⟨S4x8192x2048, .f32⟩
  | .hbm, ⟨75, _⟩ => ⟨S4x8192x2048, .f32⟩
  | .hbm, ⟨76, _⟩ => ⟨S4x8192x2048, .f32⟩
  | .hbm, ⟨77, _⟩ => ⟨S4x8192x2048, .f32⟩
  | .hbm, ⟨78, _⟩ => ⟨S32768x2048, .f32⟩
  | .hbm, ⟨79, _⟩ => ⟨S32768x2048, .f32⟩
  | .hbm, ⟨80, _⟩ => ⟨S32768x2048, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel4.lean ====
abbrev S32768x2048 : Shape := ⟨2, ![32768, 2048]⟩
abbrev S4x1x2048 : Shape := ⟨3, ![4, 1, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S512x2048 : Shape := ⟨2, ![512, 2048]⟩
abbrev S1x1x2048 : Shape := ⟨3, ![1, 1, 2048]⟩
abbrev S1x2048x2048 : Shape := ⟨3, ![1, 2048, 2048]⟩
abbrev S2048x2048 : Shape := ⟨2, ![2048, 2048]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 7
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S4x1x2048, .f32⟩
  | .hbm, ⟨3, _⟩ => ⟨S1x2048, .f32⟩
  | .hbm, ⟨4, _⟩ => ⟨S4x2048x8192, .bf16⟩
  | .hbm, ⟨5, _⟩ => ⟨S4x8192x2048, .bf16⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048x2048, .bf16⟩
  | .local _ .vmem, ⟨8, _⟩ => ⟨S1x2048x2048, .bf16⟩
  | .local _ .vmem, ⟨9, _⟩ => ⟨S1x2048x2048, .bf16⟩
  | .local _ .vmem, ⟨10, _⟩ => ⟨S1x2048x2048, .bf16⟩
  | .local _ .vmem, ⟨11, _⟩ => ⟨S512x2048, .f32⟩
  | .local _ .vmem, ⟨12, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_5 : BitVec 32 := 0#32
  let v10 : BitVec 1 := Scalar.cmpi .ne v9 c0_i32_5
  v10

def k0_cond2 (i : grid0.Coords) : BitVec 1 :=
  let arg1 : BitVec 32 := BitVec.ofNat 32 (i 1).val
  let c0_i32_6 : BitVec 32 := 0#32
  let v11 : BitVec 1 := Scalar.cmpi .ne arg1 c0_i32_6
  let v12 : BitVec 32 := Scalar.extui v11
  let c0_i32_7 : BitVec 32 := 0#32
  let v13 : BitVec 1 := Scalar.cmpi .ne v12 c0_i32_7
  v13

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S32768x2048 : Shape := ⟨2, ![32768, 2048]⟩
abbrev S4x1x2048 : Shape := ⟨3, ![4, 1, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S1x2048x8192 : Shape := ⟨3, ![1, 2048, 8192]⟩
abbrev S2048x8192 : Shape := ⟨2, ![2048, 8192]⟩
abbrev S32768x8192 : Shape := ⟨2, ![32768, 8192]⟩
abbrev S_ : Shape := ⟨0, ![]⟩
abbrev S1x8192x2048 : Shape := ⟨3, ![1, 8192, 2048]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S4x1x2048, .f32⟩
  | .hbm, ⟨3, _⟩ => ⟨S1x2048, .f32⟩
  | .hbm, ⟨4, _⟩ => ⟨S4x2048x8192, .bf16⟩
  | .hbm, ⟨5, _⟩ => ⟨S4x8192x2048, .bf16⟩
  | .hbm, ⟨6, _⟩ => ⟨S32768x2048, .f32⟩
  | .hbm, ⟨7, _⟩ => ⟨S1x2048x8192, .bf16⟩
  | .hbm, ⟨8, _⟩ => ⟨S2048x8192, .bf16⟩
  | .hbm, ⟨9, _⟩ => ⟨S2048x8192, .f32⟩
  | .hbm, ⟨10, _⟩ => ⟨S32768x8192, .f32⟩
  | .hbm, ⟨11, _⟩ => ⟨S_, .f32⟩
  | .hbm, ⟨12, _⟩ => ⟨S32768x8192, .f32⟩
  | .hbm, ⟨13, _⟩ => ⟨S32768x8192, .f32⟩
  | .hbm, ⟨14, _⟩ => ⟨S32768x8192, .f32⟩
  | .hbm, ⟨15, _⟩ => ⟨S1x8192x2048, .bf16⟩
  | .hbm, ⟨16, _⟩ => ⟨S8192x2048, .bf16⟩
  | .hbm, ⟨17, _⟩ => ⟨S8192x2048, .f32⟩
  | .hbm, ⟨18, _⟩ => ⟨S32768x2048, .f32⟩
  | .hbm, ⟨19, _⟩ => ⟨S4x8192x2048, .f32⟩
  | .hbm, ⟨20, _⟩ => ⟨S4x8192x2048, .f32⟩
  | .hbm, ⟨21, _⟩ => ⟨S4x8192x2048, .f32⟩
  | .hbm, ⟨22, _⟩ => ⟨S4x8192x2048, .f32⟩
  | .hbm, ⟨23, _⟩ => ⟨S4x8192x2048, .f32⟩
  | .hbm, ⟨24, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel5.lean ====
abbrev S32768x2048 : Shape := ⟨2, ![32768, 2048]⟩
abbrev S4x1x2048 : Shape := ⟨3, ![4, 1, 2048]⟩
abbrev S1x2048 : Shape := ⟨2, ![1, 2048]⟩
abbrev S4x2048x3712 : Shape := ⟨3, ![4, 2048, 3712]⟩
abbrev S1x512 : Shape := ⟨2, ![1, 512]⟩
abbrev S4x512x1024 : Shape := ⟨3, ![4, 512, 1024]⟩
abbrev S1x256 : Shape := ⟨2, ![1, 256]⟩
abbrev S4x256x1024 : Shape := ⟨3, ![4, 256, 1024]⟩
abbrev S8192x64 : Shape := ⟨2, ![8192, 64]⟩
abbrev S8192x128 : Shape := ⟨2, ![8192, 128]⟩
abbrev S128 : Shape := ⟨1, ![128]⟩
abbrev S_ : Shape := ⟨0, ![]⟩
abbrev S32768x1024 : Shape := ⟨2, ![32768, 1024]⟩
abbrev S32768x512 : Shape := ⟨2, ![32768, 512]⟩
abbrev S32768x256 : Shape := ⟨2, ![32768, 256]⟩
abbrev S32768x128 : Shape := ⟨2, ![32768, 128]⟩
abbrev S512x2048 : Shape := ⟨2, ![512, 2048]⟩
abbrev S1x1x2048 : Shape := ⟨3, ![1, 1, 2048]⟩
abbrev S1x2048x3712 : Shape := ⟨3, ![1, 2048, 3712]⟩
abbrev S1x512x1024 : Shape := ⟨3, ![1, 512, 1024]⟩
abbrev S1x256x1024 : Shape := ⟨3, ![1, 256, 1024]⟩
abbrev S512x128 : Shape := ⟨2, ![512, 128]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1x2048x128 : Shape := ⟨3, ![1, 2048, 128]⟩
abbrev S2048x128 : Shape := ⟨2, ![2048, 128]⟩
abbrev S1x2048x512 : Shape := ⟨3, ![1, 2048, 512]⟩
abbrev S2048x512 : Shape := ⟨2, ![2048, 512]⟩
abbrev S1x2048x256 : Shape := ⟨3, ![1, 2048, 256]⟩
abbrev S2048x256 : Shape := ⟨2, ![2048, 256]⟩
abbrev S256x1024 : Shape := ⟨2, ![256, 1024]⟩

abbrev nBuf : Space → Nat
  | .hbm => 61
  | .vmem => 40
  | .smem => 0
  | _ => 0

abbrev bufTy : (tb : Table) → Fin (tcTables nBuf tb) → BufTy
  | .hbm, ⟨0, _⟩ => ⟨S32768x2048, .f32⟩
  | .hbm, ⟨1, _⟩ => ⟨S4x1x2048, .f32⟩
  | .hbm, ⟨2, _⟩ => ⟨S4x1x2048, .f32⟩
  | .hbm, ⟨3, _⟩ => ⟨S1x2048, .f32⟩
  | .hbm, ⟨4, _⟩ => ⟨S4x2048x3712, .bf16⟩
  | .hbm, ⟨5, _⟩ => ⟨S1x512, .f32⟩
  | .hbm, ⟨6, _⟩ => ⟨S4x512x1024, .bf16⟩
  | .hbm, ⟨7, _⟩ => ⟨S1x256, .f32⟩
  | .hbm, ⟨8, _⟩ => ⟨S4x256x1024, .bf16⟩
  | .hbm, ⟨9, _⟩ => ⟨S8192x64, .f32⟩
  | .hbm, ⟨10, _⟩ => ⟨S8192x64, .f32⟩
  | .hbm, ⟨11, _⟩ => ⟨S8192x128, .f32⟩
  | .hbm, ⟨12, _⟩ => ⟨S8192x128, .f32⟩
  | .hbm, ⟨13, _⟩ => ⟨S128, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .i32⟩
  | .hbm, ⟨29, _⟩ => ⟨S_, .i1⟩
  | .hbm, ⟨30, _⟩ => ⟨S128, .i1⟩
  | .hbm, ⟨31, _⟩ => ⟨S128, .i1⟩
  | .hbm, ⟨32, _⟩ => ⟨S128, .i1⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S8192x128, .f32⟩
  | .hbm, ⟨40, _⟩ => ⟨S_, .f32⟩
  | .hbm, ⟨41, _⟩ => ⟨S_, .f32⟩
  | .hbm, ⟨42, _⟩ => ⟨S8192x128, .i1⟩
  | .hbm, ⟨43, _⟩ => ⟨S8192x128, .f32⟩
  | .hbm, ⟨44, _⟩ => ⟨S8192x128, .f32⟩
  | .hbm, ⟨45, _⟩ => ⟨S_, .f32⟩
  | .hbm, ⟨46, _⟩ => ⟨S_, .f32⟩
  | .hbm, ⟨47, _⟩ => ⟨S8192x128, .i1⟩
  | .hbm, ⟨48, _⟩ => ⟨S8192x128, .f32⟩
  | .hbm, ⟨49, _⟩ => ⟨S8192x128, .f32⟩
  | .hbm, ⟨50, _⟩ => ⟨S32768x1024, .bf16⟩
  | .hbm, ⟨51, _⟩ => ⟨S32768x1024, .bf16⟩
  | .hbm, ⟨52, _⟩ => ⟨S32768x512, .bf16⟩
  | .hbm, ⟨53, _⟩ => ⟨S32768x1024, .bf16⟩
  | .hbm, ⟨54, _⟩ => ⟨S32768x256, .bf16⟩
  | .hbm, ⟨55, _⟩ => ⟨S32768x256, .bf16⟩
  | .hbm, ⟨56, _⟩ => ⟨S32768x256, .bf16⟩
  | .hbm, ⟨57, _⟩ => ⟨S32768x256, .bf16⟩
  | .hbm, ⟨58, _⟩ => ⟨S32768x512, .bf16⟩
  | .hbm, ⟨59, _⟩ => ⟨S32768x512, .bf16⟩
  | .hbm, ⟨60, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048x3712, .bf16⟩
  | .local _ .vmem, ⟨8, _⟩ => ⟨S1x512, .f32⟩
  | .local _ .vmem, ⟨9, _⟩ => ⟨S1x512x1024, .bf16⟩
  | .local _ .vmem, ⟨10, _⟩ => ⟨S1x256, .f32⟩
  | .local _ .vmem, ⟨11, _⟩ => ⟨S1x256x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x512, .bf16⟩
  | .local _ .vmem, ⟨23, _⟩ => ⟨S512x512, .bf16⟩
  | .local _ .vmem, ⟨24, _⟩ => ⟨S512x1024, .bf16⟩
  | .local _ .vmem, ⟨25, _⟩ => ⟨S512x1024, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | .local _ .vmem, ⟨32, _⟩ => ⟨S512x256, .bf16⟩
  | .local _ .vmem, ⟨33, _⟩ => ⟨S512x256, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x128, .f32⟩
  | .local _ .vmem, ⟨39, _⟩ => ⟨S512x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v7 : Ref sig .tc := ⟨.hbm, 44, rfl⟩
abbrev main_cst_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v8 : Ref sig .tc := ⟨.hbm, 49, rfl⟩
abbrev main_v9_0 : Ref sig .tc := ⟨.hbm, 50, rfl⟩
abbrev main_v9_1 : Ref sig .tc := ⟨.hbm, 51, rfl⟩
abbrev main_v9_2 : Ref sig .tc := ⟨.hbm, 52, rfl⟩
abbrev main_v9_3 : Ref sig .tc := ⟨.hbm, 53, rfl⟩
abbrev main_v9_4 : Ref sig .tc := ⟨.hbm, 54, rfl⟩
abbrev main_v9_5 : Ref sig .tc := ⟨.hbm, 55, rfl⟩
abbrev main_v9_6 : Ref sig .tc := ⟨.hbm, 56, rfl⟩
abbrev main_v9_7 : Ref sig .tc := ⟨.hbm, 57, rfl⟩
abbrev main_v9_8 : Ref sig .tc := ⟨.hbm, 58, rfl⟩
abbrev main_v9_9 : Ref sig .tc := ⟨.hbm, 59, rfl⟩
abbrev main_v9_10 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x3712 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Kernel5Ideal.lean ====
variable {F : FTy → Type} [FloatOps F] [Named F]
def κ : String → Option EReal := fun
  | "mla_scale" => some (((Real.sqrt 192)⁻¹ * (Real.log 2)⁻¹ : ℝ) : EReal)
  | "swa_scale" => some (((Real.sqrt 64)⁻¹ * (Real.log 2)⁻¹ : ℝ) : EReal)
  | _ => none
-- ==== Reference5Ideal.lean ====
abbrev S32768x2048 : Shape := ⟨2, ![32768, 2048]⟩
abbrev S4x1x2048 : Shape := ⟨3, ![4, 1, 2048]⟩
abbrev S1x2048 : Shape := ⟨2, ![1, 2048]⟩
abbrev S4x2048x3712 : Shape := ⟨3, ![4, 2048, 3712]⟩
abbrev S1x512 : Shape := ⟨2, ![1, 512]⟩
abbrev S4x512x1024 : Shape := ⟨3, ![4, 512, 1024]⟩
abbrev S1x256 : Shape := ⟨2, ![1, 256]⟩
abbrev S4x256x1024 : Shape := ⟨3, ![4, 256, 1024]⟩
abbrev S8192x64 : Shape := ⟨2, ![8192, 64]⟩
abbrev S4x8192x2048 : Shape := ⟨3, ![4, 8192, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S1x2048x3712 : Shape := ⟨3, ![1, 2048, 3712]⟩
abbrev S2048x3712 : Shape := ⟨2, ![2048, 3712]⟩
abbrev S4x8192x3712 : Shape := ⟨3, ![4, 8192, 3712]⟩
abbrev S4x8192x512 : Shape := ⟨3, ![4, 8192, 512]⟩
abbrev S4x8192x256 : Shape := ⟨3, ![4, 8192, 256]⟩
abbrev S4x8192x1024 : Shape := ⟨3, ![4, 8192, 1024]⟩
abbrev S4x8192x128 : Shape := ⟨3, ![4, 8192, 128]⟩
abbrev S4x8192x4x64 : Shape := ⟨4, ![4, 8192, 4, 64]⟩
abbrev S512 : Shape := ⟨1, ![512]⟩
abbrev S1x1x512 : Shape := ⟨3, ![1, 1, 512]⟩
abbrev S1x512x1024 : Shape := ⟨3, ![1, 512, 1024]⟩
abbrev S512x1024 : Shape := ⟨2, ![512, 1024]⟩
abbrev S4x8192x4x256 : Shape := ⟨4, ![4, 8192, 4, 256]⟩
abbrev S4x8192x4x128 : Shape := ⟨4, ![4, 8192, 4, 128]⟩
abbrev S4x8192x4x16 : Shape := ⟨4, ![4, 8192, 4, 16]⟩
abbrev S8192x1x64 : Shape := ⟨3, ![8192, 1, 64]⟩
abbrev S1x8192x1x64 : Shape := ⟨4, ![1, 8192, 1, 64]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S4x8192x64 : Shape := ⟨3, ![4, 8192, 64]⟩
abbrev S4x8192x1x64 : Shape := ⟨4, ![4, 8192, 1, 64]⟩
abbrev S4x8192x1x16 : Shape := ⟨4, ![4, 8192, 1, 16]⟩
abbrev S4x8192x16x64 : Shape := ⟨4, ![4, 8192, 16, 64]⟩
abbrev S4x8192x16x16 : Shape := ⟨4, ![4, 8192, 16, 16]⟩
abbrev S4x8192x2x64 : Shape := ⟨4, ![4, 8192, 2, 64]⟩
abbrev S4x8192x2x16 : Shape := ⟨4, ![4, 8192, 2, 16]⟩
abbrev S32768x1024 : Shape := ⟨2, ![32768, 1024]⟩
abbrev S32768x512 : Shape := ⟨2, ![32768, 512]⟩
abbrev S32768x256 : Shape := ⟨2, ![32768, 256]⟩
abbrev S32768x128 : Shape := ⟨2, ![32768, 128]⟩

abbrev nBuf : Space → Nat
  | .hbm => 214
  | .vmem => 0
  | .smem => 0
  | _ => 0

abbrev hbmTy0_0 (i : Nat) : BufTy := match i % 128 with
  | 0 => ⟨S32768x2048, .f32⟩
  | 1 => ⟨S4x1x2048, .f32⟩
  | 2 => ⟨S4x1x2048, .f32⟩
  | 3 => ⟨S1x2048, .f32⟩
  | 4 => ⟨S4x2048x3712, .bf16⟩
  | 5 => ⟨S1x512, .f32⟩
  | 6 => ⟨S4x512x1024, .bf16⟩
  | 7 => ⟨S1x256, .f32⟩
  | 8 => ⟨S4x256x1024, .bf16⟩
  | 9 => ⟨S8192x64, .f32⟩
  | 10 => ⟨S8192x64, .f32⟩
  | 11 => ⟨S4x8192x2048, .f32⟩
  | 12 => ⟨S2048, .f32⟩
  | 13 => ⟨S4x8192x2048, .f32⟩
  | 14 => ⟨S_, .f32⟩
  | 15 => ⟨S4x8192, .f32⟩
  | 16 => ⟨S4x8192x1, .f32⟩
  | 17 => ⟨S_, .f32⟩
  | 18 => ⟨S4x8192x1, .f32⟩
  | 19 => ⟨S4x8192x1, .f32⟩
  | 20 => ⟨S_, .f32⟩
  | 21 => ⟨S4x8192x1, .f32⟩
  | 22 => ⟨S4x8192x1, .f32⟩
  | 23 => ⟨S4x8192x1, .f32⟩
  | 24 => ⟨S4x8192x2048, .f32⟩
  | 25 => ⟨S4x8192x2048, .f32⟩
  | 26 => ⟨S1x1x2048, .f32⟩
  | 27 => ⟨S4x8192x2048, .f32⟩
  | 28 => ⟨S4x8192x2048, .f32⟩
  | 29 => ⟨S_, .f32⟩
  | 30 => ⟨S4x1x2048, .f32⟩
  | 31 => ⟨S4x1x2048, .f32⟩
  | 32 => ⟨S4x8192x2048, .f32⟩
  | 33 => ⟨S4x8192x2048, .f32⟩
  | 34 => ⟨S4x8192x2048, .f32⟩
  | 35 => ⟨S4x8192x2048, .f32⟩
  | 36 => ⟨S1x2048x3712, .bf16⟩
  | 37 => ⟨S2048x3712, .bf16⟩
  | 38 => ⟨S2048x3712, .f32⟩
  | 39 => ⟨S4x8192x3712, .f32⟩
  | 40 => ⟨S4x8192x512, .f32⟩
  | 41 => ⟨S4x8192x256, .f32⟩
  | 42 => ⟨S4x8192x1024, .f32⟩
  | 43 => ⟨S4x8192x128, .f32⟩
  | 44 => ⟨S4x8192x128, .f32⟩
  | 45 => ⟨S4x8192x256, .f32⟩
  | 46 => ⟨S4x8192x256, .f32⟩
  | 47 => ⟨S4x8192x512, .f32⟩
  | 48 => ⟨S4x8192x512, .f32⟩
  | 49 => ⟨S4x8192x128, .f32⟩
  | 50 => ⟨S_, .f32⟩
  | 51 => ⟨S4x8192x4x64, .f32⟩
  | 52 => ⟨S512, .f32⟩
  | 53 => ⟨S4x8192x512, .f32⟩
  | 54 => ⟨S_, .f32⟩
  | 55 => ⟨S4x8192, .f32⟩
  | 56 => ⟨S4x8192x1, .f32⟩
  | 57 => ⟨S_, .f32⟩
  | 58 => ⟨S4x8192x1, .f32⟩
  | 59 => ⟨S4x8192x1, .f32⟩
  | 60 => ⟨S_, .f32⟩
  | 61 => ⟨S4x8192x1, .f32⟩
  | 62 => ⟨S4x8192x1, .f32⟩
  | 63 => ⟨S4x8192x1, .f32⟩
  | 64 => ⟨S4x8192x512, .f32⟩
  | 65 => ⟨S4x8192x512, .f32⟩
  | 66 => ⟨S1x1x512, .f32⟩
  | 67 => ⟨S4x8192x512, .f32⟩
  | 68 => ⟨S4x8192x512, .f32⟩
  | 69 => ⟨S1x512x1024, .bf16⟩
  | 70 => ⟨S512x1024, .bf16⟩
  | 71 => ⟨S512x1024, .f32⟩
  | 72 => ⟨S4x8192x1024, .f32⟩
  | 73 => ⟨S4x8192x4x256, .f32⟩
  | 74 => ⟨S4x8192x4x128, .f32⟩
  | 75 => ⟨S4x8192x4x64, .f32⟩
  | 76 => ⟨S4x8192x4x16, .f32⟩
  | 77 => ⟨S4x8192x4x16, .f32⟩
  | 78 => ⟨S4x8192x4x16, .f32⟩
  | 79 => ⟨S4x8192x4x16, .f32⟩
  | 80 => ⟨S4x8192x4x16, .f32⟩
  | 81 => ⟨S4x8192x4x16, .f32⟩
  | 82 => ⟨S4x8192x4x64, .f32⟩
  | 83 => ⟨S8192x1x64, .f32⟩
  | 84 => ⟨S1x8192x1x64, .f32⟩
  | 85 => ⟨S4x8192x4x64, .f32⟩
  | 86 => ⟨S4x8192x4x64, .f32⟩
  | 87 => ⟨S8192x1x64, .f32⟩
  | 88 => ⟨S1x8192x1x64, .f32⟩
  | 89 => ⟨S4x8192x4x64, .f32⟩
  | 90 => ⟨S4x8192x4x64, .f32⟩
  | 91 => ⟨S4x8192x4x64, .f32⟩
  | 92 => ⟨S4x8192x4x256, .f32⟩
  | 93 => ⟨S_, .f32⟩
  | 94 => ⟨S_, .f32⟩
  | 95 => ⟨S_, .f32⟩
  | 96 => ⟨S_, .f32⟩
  | 97 => ⟨S_, .f32⟩
  | 98 => ⟨S4x8192x4x256, .f32⟩
  | 99 => ⟨S4x8192x4x256, .f32⟩
  | 100 => ⟨S256, .f32⟩
  | 101 => ⟨S4x8192x256, .f32⟩
  | 102 => ⟨S_, .f32⟩
  | 103 => ⟨S4x8192, .f32⟩
  | 104 => ⟨S4x8192x1, .f32⟩
  | 105 => ⟨S_, .f32⟩
  | 106 => ⟨S4x8192x1, .f32⟩
  | 107 => ⟨S4x8192x1, .f32⟩
  | 108 => ⟨S_, .f32⟩
  | 109 => ⟨S4x8192x1, .f32⟩
  | 110 => ⟨S4x8192x1, .f32⟩
  | 111 => ⟨S4x8192x1, .f32⟩
  | 112 => ⟨S4x8192x256, .f32⟩
  | 113 => ⟨S4x8192x256, .f32⟩
  | 114 => ⟨S1x1x256, .f32⟩
  | 115 => ⟨S4x8192x256, .f32⟩
  | 116 => ⟨S4x8192x256, .f32⟩
  | 117 => ⟨S1x256x1024, .bf16⟩
  | 118 => ⟨S256x1024, .bf16⟩
  | 119 => ⟨S256x1024, .f32⟩
  | 120 => ⟨S4x8192x1024, .f32⟩
  | 121 => ⟨S4x8192x64, .f32⟩
  | 122 => ⟨S4x8192x1x64, .f32⟩
  | 123 => ⟨S4x8192x1x16, .f32⟩
  | 124 => ⟨S4x8192x1x16, .f32⟩
  | 125 => ⟨S4x8192x1x16, .f32⟩
  | 126 => ⟨S4x8192x1x16, .f32⟩
  | 127 => ⟨S4x8192x1x16, .f32⟩
  | _ => ⟨S32768x2048, .f32⟩

abbrev hbmTy0_1 (i : Nat) : BufTy := match i % 128 with
  | 0 => ⟨S4x8192x1x16, .f32⟩
  | 1 => ⟨S4x8192x1x64, .f32⟩
  | 2 => ⟨S8192x1x64, .f32⟩
  | 3 => ⟨S1x8192x1x64, .f32⟩
  | 4 => ⟨S4x8192x1x64, .f32⟩
  | 5 => ⟨S4x8192x1x64, .f32⟩
  | 6 => ⟨S8192x1x64, .f32⟩
  | 7 => ⟨S1x8192x1x64, .f32⟩
  | 8 => ⟨S4x8192x1x64, .f32⟩
  | 9 => ⟨S4x8192x1x64, .f32⟩
  | 10 => ⟨S4x8192x1x64, .f32⟩
  | 11 => ⟨S4x8192x4x64, .f32⟩
  | 12 => ⟨S4x8192x512, .f32⟩
  | 13 => ⟨S4x8192x4x128, .f32⟩
  | 14 => ⟨S4x8192x4x256, .f32⟩
  | 15 => ⟨S4x8192x512, .f32⟩
  | 16 => ⟨S4x8192x16x64, .f32⟩
  | 17 => ⟨S4x8192x16x16, .f32⟩
  | 18 => ⟨S4x8192x16x16, .f32⟩
  | 19 => ⟨S4x8192x16x16, .f32⟩
  | 20 => ⟨S4x8192x16x16, .f32⟩
  | 21 => ⟨S4x8192x16x16, .f32⟩
  | 22 => ⟨S4x8192x16x16, .f32⟩
  | 23 => ⟨S4x8192x16x64, .f32⟩
  | 24 => ⟨S8192x1x64, .f32⟩
  | 25 => ⟨S1x8192x1x64, .f32⟩
  | 26 => ⟨S4x8192x16x64, .f32⟩
  | 27 => ⟨S4x8192x16x64, .f32⟩
  | 28 => ⟨S8192x1x64, .f32⟩
  | 29 => ⟨S1x8192x1x64, .f32⟩
  | 30 => ⟨S4x8192x16x64, .f32⟩
  | 31 => ⟨S4x8192x16x64, .f32⟩
  | 32 => ⟨S4x8192x16x64, .f32⟩
  | 33 => ⟨S_, .f32⟩
  | 34 => ⟨S_, .f32⟩
  | 35 => ⟨S_, .f32⟩
  | 36 => ⟨S_, .f32⟩
  | 37 => ⟨S_, .f32⟩
  | 38 => ⟨S4x8192x16x64, .f32⟩
  | 39 => ⟨S4x8192x16x64, .f32⟩
  | 40 => ⟨S4x8192x2x64, .f32⟩
  | 41 => ⟨S4x8192x2x16, .f32⟩
  | 42 => ⟨S4x8192x2x16, .f32⟩
  | 43 => ⟨S4x8192x2x16, .f32⟩
  | 44 => ⟨S4x8192x2x16, .f32⟩
  | 45 => ⟨S4x8192x2x16, .f32⟩
  | 46 => ⟨S4x8192x2x16, .f32⟩
  | 47 => ⟨S4x8192x2x64, .f32⟩
  | 48 => ⟨S8192x1x64, .f32⟩
  | 49 => ⟨S1x8192x1x64, .f32⟩
  | 50 => ⟨S4x8192x2x64, .f32⟩
  | 51 => ⟨S4x8192x2x64, .f32⟩
  | 52 => ⟨S8192x1x64, .f32⟩
  | 53 => ⟨S1x8192x1x64, .f32⟩
  | 54 => ⟨S4x8192x2x64, .f32⟩
  | 55 => ⟨S4x8192x2x64, .f32⟩
  | 56 => ⟨S4x8192x2x64, .f32⟩
  | 57 => ⟨S4x8192x2x64, .f32⟩
  | 58 => ⟨S4x8192x2x64, .f32⟩
  | 59 => ⟨S4x8192x4x64, .f32⟩
  | 60 => ⟨S4x8192x2x64, .f32⟩
  | 61 => ⟨S4x8192x4x64, .f32⟩
  | 62 => ⟨S_, .f32⟩
  | 63 => ⟨S4x8192x256, .f32⟩
  | 64 => ⟨S4x8192x256, .f32⟩
  | 65 => ⟨S32768x1024, .f32⟩
  | 66 => ⟨S32768x1024, .bf16⟩
  | 67 => ⟨S32768x1024, .f32⟩
  | 68 => ⟨S32768x1024, .bf16⟩
  | 69 => ⟨S32768x512, .f32⟩
  | 70 => ⟨S32768x512, .bf16⟩
  | 71 => ⟨S32768x1024, .f32⟩
  | 72 => ⟨S32768x1024, .bf16⟩
  | 73 => ⟨S32768x256, .f32⟩
  | 74 => ⟨S32768x256, .bf16⟩
  | 75 => ⟨S32768x256, .f32⟩
  | 76 => ⟨S32768x256, .bf16⟩
  | 77 => ⟨S32768x256, .f32⟩
  | 78 => ⟨S32768x256, .bf16⟩
  | 79 => ⟨S32768x256, .f32⟩
  | 80 => ⟨S32768x256, .bf16⟩
  | 81 => ⟨S32768x512, .f32⟩
  | 82 => ⟨S32768x512, .bf16⟩
  | 83 => ⟨S32768x512, .f32⟩
  | 84 => ⟨S32768x512, .bf16⟩
  | 85 => ⟨S32768x128, .f32⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_7 : Ref sig .tc := ⟨.hbm, 93, rfl⟩
abbrev main_v74 : Ref sig .tc := ⟨.hbm, 94, rfl⟩
abbrev main_cst_8 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_9 : Ref sig .tc := ⟨.hbm, 102, rfl⟩
abbrev main_v81 : Ref sig .tc := ⟨.hbm, 103, rfl⟩
abbrev main_v82 : Ref sig .tc := ⟨.hbm, 104, rfl⟩
abbrev main_cst_10 : Ref sig .tc := ⟨.hbm, 105, rfl⟩
abbrev main_v83 : Ref sig .tc := ⟨.hbm, 106, rfl⟩
abbrev main_v84 : Ref sig .tc := ⟨.hbm, 107, rfl⟩
abbrev main_cst_11 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_cst_12 : Ref sig .tc := ⟨.hbm, 161, rfl⟩
abbrev main_v137 : Ref sig .tc := ⟨.hbm, 162, rfl⟩
abbrev main_cst_13 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_cst_14 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩

abbrev nD : Nat := 1
abbrev τ : Topo := Topo.v7x

variable {F : FTy → Type} [FloatOps F]
-- ==== Kernel6.lean ====
abbrev S1024x2048 : Shape := ⟨2, ![1024, 2048]⟩
abbrev S1x1x2048 : Shape := ⟨3, ![1, 1, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S1x2048x512 : Shape := ⟨3, ![1, 2048, 512]⟩
abbrev S1x512x2048 : Shape := ⟨3, ![1, 512, 2048]⟩
abbrev S2048x512 : Shape := ⟨2, ![2048, 512]⟩
abbrev S1024x512 : Shape := ⟨2, ![1024, 512]⟩
abbrev S512x2048 : Shape := ⟨2, ![512, 2048]⟩
abbrev S1x1x512 : Shape := ⟨3, ![1, 1, 512]⟩
abbrev S1x512 : Shape := ⟨2, ![1, 512]⟩

abbrev nBuf : Space → Nat
  | .hbm => 7
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S1x1x2048, .f32⟩
  | .hbm, ⟨3, _⟩ => ⟨S1x2048, .f32⟩
  | .hbm, ⟨4, _⟩ => ⟨S4x2048x8192, .bf16⟩
  | .hbm, ⟨5, _⟩ => ⟨S4x8192x2048, .bf16⟩
  | .hbm, ⟨6, _⟩ => ⟨S1024x2048, .f32⟩
  | .local _ .vmem, ⟨0, _⟩ => ⟨S1024x2048, .f32⟩
  | .local _ .vmem, ⟨1, _⟩ => ⟨S1024x2048, .bf16⟩
  | .local _ .vmem, ⟨2, _⟩ => ⟨S1x1x2048, .f32⟩
  | .local _ .vmem, ⟨3, _⟩ => ⟨S1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1024x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_5 : BitVec 32 := 0#32
  let v10 : BitVec 1 := Scalar.cmpi .ne v9 c0_i32_5
  v10

def k0_cond2 (i : grid0.Coords) : BitVec 1 :=
  let arg1 : BitVec 32 := BitVec.ofNat 32 (i 1).val
  let c0_i32_6 : BitVec 32 := 0#32
  let v11 : BitVec 1 := Scalar.cmpi .ne arg1 c0_i32_6
  let v12 : BitVec 32 := Scalar.extui v11
  let c0_i32_7 : BitVec 32 := 0#32
  let v13 : BitVec 1 := Scalar.cmpi .ne v12 c0_i32_7
  v13

def k0_cond3 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference6Ideal.lean ====
abbrev S1024x2048 : Shape := ⟨2, ![1024, 2048]⟩
abbrev S1x1x2048 : Shape := ⟨3, ![1, 1, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S1x2048x8192 : Shape := ⟨3, ![1, 2048, 8192]⟩
abbrev S2048x8192 : Shape := ⟨2, ![2048, 8192]⟩
abbrev S1024x8192 : Shape := ⟨2, ![1024, 8192]⟩
abbrev S_ : Shape := ⟨0, ![]⟩
abbrev S1x8192x2048 : Shape := ⟨3, ![1, 8192, 2048]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S1x1x2048, .f32⟩
  | .hbm, ⟨3, _⟩ => ⟨S1x2048, .f32⟩
  | .hbm, ⟨4, _⟩ => ⟨S4x2048x8192, .bf16⟩
  | .hbm, ⟨5, _⟩ => ⟨S4x8192x2048, .bf16⟩
  | .hbm, ⟨6, _⟩ => ⟨S1024x2048, .f32⟩
  | .hbm, ⟨7, _⟩ => ⟨S1x2048x8192, .bf16⟩
  | .hbm, ⟨8, _⟩ => ⟨S2048x8192, .bf16⟩
  | .hbm, ⟨9, _⟩ => ⟨S2048x8192, .f32⟩
  | .hbm, ⟨10, _⟩ => ⟨S1024x8192, .f32⟩
  | .hbm, ⟨11, _⟩ => ⟨S_, .f32⟩
  | .hbm, ⟨12, _⟩ => ⟨S1024x8192, .f32⟩
  | .hbm, ⟨13, _⟩ => ⟨S1024x8192, .f32⟩
  | .hbm, ⟨14, _⟩ => ⟨S1024x8192, .f32⟩
  | .hbm, ⟨15, _⟩ => ⟨S1x2048, .f32⟩
  | .hbm, ⟨16, _⟩ => ⟨S1x8192x2048, .bf16⟩
  | .hbm, ⟨17, _⟩ => ⟨S8192x2048, .bf16⟩
  | .hbm, ⟨18, _⟩ => ⟨S8192x2048, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel7.lean ====
abbrev S1024x512 : Shape := ⟨2, ![1024, 512]⟩
abbrev S1024x1024 : Shape := ⟨2, ![1024, 1024]⟩
abbrev S1x512 : Shape := ⟨2, ![1, 512]⟩
abbrev S4x2048x2048 : Shape := ⟨3, ![4, 2048, 2048]⟩
abbrev S1024x2048 : Shape := ⟨2, ![1024, 2048]⟩
abbrev S1x1x2048 : Shape := ⟨3, ![1, 1, 2048]⟩
abbrev S1x2048 : Shape := ⟨2, ![1, 2048]⟩
abbrev S256x512 : Shape := ⟨2, ![256, 512]⟩
abbrev S256x1024 : Shape := ⟨2, ![256, 1024]⟩
abbrev S1x2048x2048 : Shape := ⟨3, ![1, 2048, 2048]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x1x512 : Shape := ⟨3, ![1, 1, 512]⟩
abbrev S1x2048x512 : Shape := ⟨3, ![1, 2048, 512]⟩
abbrev S2048x512 : Shape := ⟨2, ![2048, 512]⟩

abbrev nBuf : Space → Nat
  | .hbm => 14
  | .vmem => 26
  | .smem => 0
  | _ => 0

abbrev bufTy : (tb : Table) → Fin (tcTables nBuf tb) → BufTy
  | .hbm, ⟨0, _⟩ => ⟨S1024x512, .bf16⟩
  | .hbm, ⟨1, _⟩ => ⟨S1024x1024, .bf16⟩
  | .hbm, ⟨2, _⟩ => ⟨S1024x512, .f32⟩
  | .hbm, ⟨3, _⟩ => ⟨S1024x512, .f32⟩
  | .hbm, ⟨4, _⟩ => ⟨S1024x512, .bf16⟩
  | .hbm, ⟨5, _⟩ => ⟨S1x512, .f32⟩
  | .hbm, ⟨6, _⟩ => ⟨S4x2048x2048, .bf16⟩
  | .hbm, ⟨7, _⟩ => ⟨S1024x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S1x2048, .f32⟩
  | .hbm, ⟨12, _⟩ => ⟨S1024x2048, .f32⟩
  | .hbm, ⟨13, _⟩ => ⟨S1024x2048, .bf16⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S1x512, .f32⟩
  | .local _ .vmem, ⟨11, _⟩ => ⟨S1x2048x2048, .bf16⟩
  | .local _ .vmem, ⟨12, _⟩ => ⟨S256x2048, .f32⟩
  | .local _ .vmem, ⟨13, _⟩ => ⟨S256x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .bf16⟩
  | .local _ .vmem, ⟨24, _⟩ => ⟨S256x2048, .bf16⟩
  | .local _ .vmem, ⟨25, _⟩ => ⟨S256x2048, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S1024x512 : Shape := ⟨2, ![1024, 512]⟩
abbrev S1024x1024 : Shape := ⟨2, ![1024, 1024]⟩
abbrev S1x512 : Shape := ⟨2, ![1, 512]⟩
abbrev S4x2048x2048 : Shape := ⟨3, ![4, 2048, 2048]⟩
abbrev S1024x2048 : Shape := ⟨2, ![1024, 2048]⟩
abbrev S1x1x2048 : Shape := ⟨3, ![1, 1, 2048]⟩
abbrev S1x2048 : Shape := ⟨2, ![1, 2048]⟩
abbrev S1024x4x128 : Shape := ⟨3, ![1024, 4, 128]⟩
abbrev S4x128 : Shape := ⟨2, ![4, 128]⟩
abbrev S_ : Shape := ⟨0, ![]⟩
abbrev S1024x4 : Shape := ⟨2, ![1024, 4]⟩
abbrev S1024x4x1 : Shape := ⟨3, ![1024, 4, 1]⟩
abbrev S1x4x128 : Shape := ⟨3, ![1, 4, 128]⟩
abbrev S1x2048x2048 : Shape := ⟨3, ![1, 2048, 2048]⟩
abbrev S2048x2048 : Shape := ⟨2, ![2048, 2048]⟩
abbrev S2048 : Shape := ⟨1, ![2048]⟩
abbrev S1024 : Shape := ⟨1, ![1024]⟩
abbrev S1024x1 : Shape := ⟨2, ![1024, 1]⟩

abbrev nBuf : Space → Nat
  | .hbm => 80
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x1024, .bf16⟩
  | .hbm, ⟨2, _⟩ => ⟨S1024x512, .f32⟩
  | .hbm, ⟨3, _⟩ => ⟨S1024x512, .f32⟩
  | .hbm, ⟨4, _⟩ => ⟨S1024x512, .bf16⟩
  | .hbm, ⟨5, _⟩ => ⟨S1x512, .f32⟩
  | .hbm, ⟨6, _⟩ => ⟨S4x2048x2048, .bf16⟩
  | .hbm, ⟨7, _⟩ => ⟨S1024x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S1x2048, .f32⟩
  | .hbm, ⟨12, _⟩ => ⟨S1024x512, .f32⟩
  | .hbm, ⟨13, _⟩ => ⟨S1024x4x128, .f32⟩
  | .hbm, ⟨14, _⟩ => ⟨S4x128, .f32⟩
  | .hbm, ⟨15, _⟩ => ⟨S1024x4x128, .f32⟩
  | .hbm, ⟨16, _⟩ => ⟨S_, .f32⟩
  | .hbm, ⟨17, _⟩ => ⟨S1024x4, .f32⟩
  | .hbm, ⟨18, _⟩ => ⟨S1024x4x1, .f32⟩
  | .hbm, ⟨19, _⟩ => ⟨S_, .f32⟩
  | .hbm, ⟨20, _⟩ => ⟨S1024x4x1, .f32⟩
  | .hbm, ⟨21, _⟩ => ⟨S1024x4x1, .f32⟩
  | .hbm, ⟨22, _⟩ => ⟨S_, .f32⟩
  | .hbm, ⟨23, _⟩ => ⟨S1024x4x1, .f32⟩
  | .hbm, ⟨24, _⟩ => ⟨S1024x4x1, .f32⟩
  | .hbm, ⟨25, _⟩ => ⟨S1024x4x1, .f32⟩
  | .hbm, ⟨26, _⟩ => ⟨S1024x4x128, .f32⟩
  | .hbm, ⟨27, _⟩ => ⟨S1024x4x128, .f32⟩
  | .hbm, ⟨28, _⟩ => ⟨S1x4x128, .f32⟩
  | .hbm, ⟨29, _⟩ => ⟨S1024x4x128, .f32⟩
  | .hbm, ⟨30, _⟩ => ⟨S1024x4x128, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S1024x1024, .f32⟩
  | .hbm, ⟨44, _⟩ => ⟨S1024x2048, .f32⟩
  | .hbm, ⟨45, _⟩ => ⟨S1x2048, .f32⟩
  | .hbm, ⟨46, _⟩ => ⟨S1x2048x2048, .bf16⟩
  | .hbm, ⟨47, _⟩ => ⟨S2048x2048, .bf16⟩
  | .hbm, ⟨48, _⟩ => ⟨S2048x2048, .f32⟩
  | .hbm, ⟨49, _⟩ => ⟨S1024x2048, .f32⟩
  | .hbm, ⟨50, _⟩ => ⟨S1024x2048, .f32⟩
  | .hbm, ⟨51, _⟩ => ⟨S1024x2048, .f32⟩
  | .hbm, ⟨52, _⟩ => ⟨S1024x2048, .f32⟩
  | .hbm, ⟨53, _⟩ => ⟨S2048, .f32⟩
  | .hbm, ⟨54, _⟩ => ⟨S1024x2048, .f32⟩
  | .hbm, ⟨55, _⟩ => ⟨S_, .f32⟩
  | .hbm, ⟨56, _⟩ => ⟨S1024, .f32⟩
  | .hbm, ⟨57, _⟩ => ⟨S1024x1, .f32⟩
  | .hbm, ⟨58, _⟩ => ⟨S_, .f32⟩
  | .hbm, ⟨59, _⟩ => ⟨S1024x1, .f32⟩
  | .hbm, ⟨60, _⟩ => ⟨S1024x1, .f32⟩
  | .hbm, ⟨61, _⟩ => ⟨S_, .f32⟩
  | .hbm, ⟨62, _⟩ => ⟨S1024x1, .f32⟩
  | .hbm, ⟨63, _⟩ => ⟨S1024x1, .f32⟩
  | .hbm, ⟨64, _⟩ => ⟨S1024x1, .f32⟩
  | .hbm, ⟨65, _⟩ => ⟨S1024x2048, .f32⟩
  | .hbm, ⟨66, _⟩ => ⟨S1024x2048, .f32⟩
  | .hbm, ⟨67, _⟩ => ⟨S1x2048, .f32⟩
  | .hbm, ⟨68, _⟩ => ⟨S1024x2048, .f32⟩
  | .hbm, ⟨69, _⟩ => ⟨S1024x2048, .f32⟩
  | .hbm, ⟨70, _⟩ => ⟨S1x2048, .f32⟩
  | .hbm, ⟨71, _⟩ => ⟨S_, .f32⟩
  | .hbm, ⟨72, _⟩ => ⟨S1x2048, .f32⟩
  | .hbm, ⟨73, _⟩ => ⟨S1x2048, .f32⟩
  | .hbm, ⟨74, _⟩ => ⟨S1024x2048, .f32⟩
  | .hbm, ⟨75, _⟩ => ⟨S1024x2048, .f32⟩
  | .hbm, ⟨76, _⟩ => ⟨S1x2048, .f32⟩
  | .hbm, ⟨77, _⟩ => ⟨S1024x2048, .f32⟩
  | .hbm, ⟨78, _⟩ => ⟨S1024x2048, .f32⟩
  | .hbm, ⟨79, _⟩ => ⟨S1024x2048, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Kernel8.lean ====
abbrev S1024x2048 : Shape := ⟨2, ![1024, 2048]⟩
abbrev S1x1x2048 : Shape := ⟨3, ![1, 1, 2048]⟩
abbrev S1x2048 : Shape := ⟨2, ![1, 2048]⟩
abbrev S4x2048x3712 : Shape := ⟨3, ![4, 2048, 3712]⟩
abbrev S1x512 : Shape := ⟨2, ![1, 512]⟩
abbrev S4x512x1024 : Shape := ⟨3, ![4, 512, 1024]⟩
abbrev S1x256 : Shape := ⟨2, ![1, 256]⟩
abbrev S4x256x1024 : Shape := ⟨3, ![4, 256, 1024]⟩
abbrev S_ : Shape := ⟨0, ![]⟩
abbrev S256x128 : Shape := ⟨2, ![256, 128]⟩
abbrev S1024x1024 : Shape := ⟨2, ![1024, 1024]⟩
abbrev S1024x512 : Shape := ⟨2, ![1024, 512]⟩
abbrev S1024x256 : Shape := ⟨2, ![1024, 256]⟩
abbrev S1024x128 : Shape := ⟨2, ![1024, 128]⟩
abbrev S256x2048 : Shape := ⟨2, ![256, 2048]⟩
abbrev S1x2048x3712 : Shape := ⟨3, ![1, 2048, 3712]⟩
abbrev S1x512x1024 : Shape := ⟨3, ![1, 512, 1024]⟩
abbrev S1x256x1024 : Shape := ⟨3, ![1, 256, 1024]⟩
abbrev S256x1024 : Shape := ⟨2, ![256, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1x2048x128 : Shape := ⟨3, ![1, 2048, 128]⟩
abbrev S2048x128 : Shape := ⟨2, ![2048, 128]⟩
abbrev S1x2048x512 : Shape := ⟨3, ![1, 2048, 512]⟩
abbrev S2048x512 : Shape := ⟨2, ![2048, 512]⟩
abbrev S512x1024 : Shape := ⟨2, ![512, 1024]⟩
abbrev S1x2048x256 : Shape := ⟨3, ![1, 2048, 256]⟩
abbrev S2048x256 : Shape := ⟨2, ![2048, 256]⟩

abbrev nBuf : Space → Nat
  | .hbm => 24
  | .vmem => 37
  | .smem => 0
  | _ => 0

abbrev bufTy : (tb : Table) → Fin (tcTables nBuf tb) → BufTy
  | .hbm, ⟨0, _⟩ => ⟨S1024x2048, .f32⟩
  | .hbm, ⟨1, _⟩ => ⟨S1x1x2048, .f32⟩
  | .hbm, ⟨2, _⟩ => ⟨S1x1x2048, .f32⟩
  | .hbm, ⟨3, _⟩ => ⟨S1x2048, .f32⟩
  | .hbm, ⟨4, _⟩ => ⟨S4x2048x3712, .bf16⟩
  | .hbm, ⟨5, _⟩ => ⟨S1x512, .f32⟩
  | .hbm, ⟨6, _⟩ => ⟨S4x512x1024, .bf16⟩
  | .hbm, ⟨7, _⟩ => ⟨S1x256, .f32⟩
  | .hbm, ⟨8, _⟩ => ⟨S4x256x1024, .bf16⟩
  | .hbm, ⟨9, _⟩ => ⟨S_, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S1024x1024, .bf16⟩
  | .hbm, ⟨14, _⟩ => ⟨S1024x1024, .bf16⟩
  | .hbm, ⟨15, _⟩ => ⟨S1024x512, .bf16⟩
  | .hbm, ⟨16, _⟩ => ⟨S1024x1024, .bf16⟩
  | .hbm, ⟨17, _⟩ => ⟨S1024x256, .bf16⟩
  | .hbm, ⟨18, _⟩ => ⟨S1024x256, .bf16⟩
  | .hbm, ⟨19, _⟩ => ⟨S1024x256, .bf16⟩
  | .hbm, ⟨20, _⟩ => ⟨S1024x256, .bf16⟩
  | .hbm, ⟨21, _⟩ => ⟨S1024x512, .bf16⟩
  | .hbm, ⟨22, _⟩ => ⟨S1024x512, .bf16⟩
  | .hbm, ⟨23, _⟩ => ⟨S1024x128, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048x3712, .bf16⟩
  | .local _ .vmem, ⟨8, _⟩ => ⟨S1x512, .f32⟩
  | .local _ .vmem, ⟨9, _⟩ => ⟨S1x512x1024, .bf16⟩
  | .local _ .vmem, ⟨10, _⟩ => ⟨S1x256, .f32⟩
  | .local _ .vmem, ⟨11, _⟩ => ⟨S1x256x1024, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x512, .bf16⟩
  | .local _ .vmem, ⟨20, _⟩ => ⟨S256x512, .bf16⟩
  | .local _ .vmem, ⟨21, _⟩ => ⟨S256x1024, .bf16⟩
  | .local _ .vmem, ⟨22, _⟩ => ⟨S256x1024, .bf16⟩
  | .local _ .vmem, ⟨23, _⟩ => ⟨S256x256, .bf16⟩
  | .local _ .vmem, ⟨24, _⟩ => ⟨S256x256, .bf16⟩
  | .local _ .vmem, ⟨25, _⟩ => ⟨S256x256, .bf16⟩
  | .local _ .vmem, ⟨26, _⟩ => ⟨S256x256, .bf16⟩
  | .local _ .vmem, ⟨27, _⟩ => ⟨S256x256, .bf16⟩
  | .local _ .vmem, ⟨28, _⟩ => ⟨S256x256, .bf16⟩
  | .local _ .vmem, ⟨29, _⟩ => ⟨S256x256, .bf16⟩
  | .local _ .vmem, ⟨30, _⟩ => ⟨S256x256, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x128, .f32⟩
  | .local _ .vmem, ⟨36, _⟩ => ⟨S256x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_v2_5 : Ref sig .tc := ⟨.hbm, 18, rfl⟩
abbrev main_v2_6 : Ref sig .tc := ⟨.hbm, 19, rfl⟩
abbrev main_v2_7 : Ref sig .tc := ⟨.hbm, 20, rfl⟩
abbrev main_v2_8 : Ref sig .tc := ⟨.hbm, 21, rfl⟩
abbrev main_v2_9 : Ref sig .tc := ⟨.hbm, 22, rfl⟩
abbrev main_v2_10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x3712 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Kernel8Ideal.lean ====
variable {F : FTy → Type} [FloatOps F] [Named F]
def κ : String → Option EReal := fun
  | "mla_scale" => some (((Real.sqrt 192)⁻¹ * (Real.log 2)⁻¹ : ℝ) : EReal)
  | "swa_scale" => some (((Real.sqrt 64)⁻¹ * (Real.log 2)⁻¹ : ℝ) : EReal)
  | _ => none
-- ==== Reference8Ideal.lean ====
abbrev S1024x2048 : Shape := ⟨2, ![1024, 2048]⟩
abbrev S1x1x2048 : Shape := ⟨3, ![1, 1, 2048]⟩
abbrev S1x2048 : Shape := ⟨2, ![1, 2048]⟩
abbrev S4x2048x3712 : Shape := ⟨3, ![4, 2048, 3712]⟩
abbrev S1x512 : Shape := ⟨2, ![1, 512]⟩
abbrev S4x512x1024 : Shape := ⟨3, ![4, 512, 1024]⟩
abbrev S1x256 : Shape := ⟨2, ![1, 256]⟩
abbrev S4x256x1024 : Shape := ⟨3, ![4, 256, 1024]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048x3712 : Shape := ⟨3, ![1, 2048, 3712]⟩
abbrev S2048x3712 : Shape := ⟨2, ![2048, 3712]⟩
abbrev S1024x3712 : Shape := ⟨2, ![1024, 3712]⟩
abbrev S1024x512 : Shape := ⟨2, ![1024, 512]⟩
abbrev S1024x256 : Shape := ⟨2, ![1024, 256]⟩
abbrev S1024x1024 : Shape := ⟨2, ![1024, 1024]⟩
abbrev S1024x128 : Shape := ⟨2, ![1024, 128]⟩
abbrev S1024x4x64 : Shape := ⟨3, ![1024, 4, 64]⟩
abbrev S512 : Shape := ⟨1, ![512]⟩
abbrev S1x512x1024 : Shape := ⟨3, ![1, 512, 1024]⟩
abbrev S512x1024 : Shape := ⟨2, ![512, 1024]⟩
abbrev S1024x4x256 : Shape := ⟨3, ![1024, 4, 256]⟩
abbrev S1024x4x192 : Shape := ⟨3, ![1024, 4, 192]⟩
abbrev S256 : Shape := ⟨1, ![256]⟩
abbrev S1x256x1024 : Shape := ⟨3, ![1, 256, 1024]⟩
abbrev S256x1024 : Shape := ⟨2, ![256, 1024]⟩
abbrev S1024x64 : Shape := ⟨2, ![1024, 64]⟩
abbrev S1024x1x64 : Shape := ⟨3, ![1024, 1, 64]⟩
abbrev S1024x4x128 : Shape := ⟨3, ![1024, 4, 128]⟩
abbrev S1024x2x64 : Shape := ⟨3, ![1024, 2, 64]⟩

abbrev nBuf : Space → Nat
  | .hbm => 140
  | .vmem => 0
  | .smem => 0
  | _ => 0

abbrev hbmTy0_0 (i : Nat) : BufTy := match i % 128 with
  | 0 => ⟨S1024x2048, .f32⟩
  | 1 => ⟨S1x1x2048, .f32⟩
  | 2 => ⟨S1x1x2048, .f32⟩
  | 3 => ⟨S1x2048, .f32⟩
  | 4 => ⟨S4x2048x3712, .bf16⟩
  | 5 => ⟨S1x512, .f32⟩
  | 6 => ⟨S4x512x1024, .bf16⟩
  | 7 => ⟨S1x256, .f32⟩
  | 8 => ⟨S4x256x1024, .bf16⟩
  | 9 => ⟨S2048, .f32⟩
  | 10 => ⟨S1024x2048, .f32⟩
  | 11 => ⟨S_, .f32⟩
  | 12 => ⟨S1024, .f32⟩
  | 13 => ⟨S1024x1, .f32⟩
  | 14 => ⟨S_, .f32⟩
  | 15 => ⟨S1024x1, .f32⟩
  | 16 => ⟨S1024x1, .f32⟩
  | 17 => ⟨S_, .f32⟩
  | 18 => ⟨S1024x1, .f32⟩
  | 19 => ⟨S1024x1, .f32⟩
  | 20 => ⟨S1024x1, .f32⟩
  | 21 => ⟨S1024x2048, .f32⟩
  | 22 => ⟨S1024x2048, .f32⟩
  | 23 => ⟨S1x2048, .f32⟩
  | 24 => ⟨S1024x2048, .f32⟩
  | 25 => ⟨S1024x2048, .f32⟩
  | 26 => ⟨S1x2048, .f32⟩
  | 27 => ⟨S_, .f32⟩
  | 28 => ⟨S1x2048, .f32⟩
  | 29 => ⟨S1x2048, .f32⟩
  | 30 => ⟨S1024x2048, .f32⟩
  | 31 => ⟨S1024x2048, .f32⟩
  | 32 => ⟨S1x2048, .f32⟩
  | 33 => ⟨S1024x2048, .f32⟩
  | 34 => ⟨S1024x2048, .f32⟩
  | 35 => ⟨S1x2048x3712, .bf16⟩
  | 36 => ⟨S2048x3712, .bf16⟩
  | 37 => ⟨S2048x3712, .f32⟩
  | 38 => ⟨S1024x3712, .f32⟩
  | 39 => ⟨S1024x512, .f32⟩
  | 40 => ⟨S1024x256, .f32⟩
  | 41 => ⟨S1024x1024, .f32⟩
  | 42 => ⟨S1024x128, .f32⟩
  | 43 => ⟨S1024x128, .f32⟩
  | 44 => ⟨S1024x256, .f32⟩
  | 45 => ⟨S1024x256, .f32⟩
  | 46 => ⟨S1024x512, .f32⟩
  | 47 => ⟨S1024x512, .f32⟩
  | 48 => ⟨S1024x128, .f32⟩
  | 49 => ⟨S_, .f32⟩
  | 50 => ⟨S1024x4x64, .f32⟩
  | 51 => ⟨S512, .f32⟩
  | 52 => ⟨S1024x512, .f32⟩
  | 53 => ⟨S_, .f32⟩
  | 54 => ⟨S1024, .f32⟩
  | 55 => ⟨S1024x1, .f32⟩
  | 56 => ⟨S_, .f32⟩
  | 57 => ⟨S1024x1, .f32⟩
  | 58 => ⟨S1024x1, .f32⟩
  | 59 => ⟨S_, .f32⟩
  | 60 => ⟨S1024x1, .f32⟩
  | 61 => ⟨S1024x1, .f32⟩
  | 62 => ⟨S1024x1, .f32⟩
  | 63 => ⟨S1024x512, .f32⟩
  | 64 => ⟨S1024x512, .f32⟩
  | 65 => ⟨S1x512, .f32⟩
  | 66 => ⟨S1024x512, .f32⟩
  | 67 => ⟨S1024x512, .f32⟩
  | 68 => ⟨S1x512x1024, .bf16⟩
  | 69 => ⟨S512x1024, .bf16⟩
  | 70 => ⟨S512x1024, .f32⟩
  | 71 => ⟨S1024x1024, .f32⟩
  | 72 => ⟨S1024x4x256, .f32⟩
  | 73 => ⟨S1024x4x192, .f32⟩
  | 74 => ⟨S1024x4x256, .f32⟩
  | 75 => ⟨S_, .f32⟩
  | 76 => ⟨S_, .f32⟩
  | 77 => ⟨S_, .f32⟩
  | 78 => ⟨S_, .f32⟩
  | 79 => ⟨S_, .f32⟩
  | 80 => ⟨S1024x4x256, .f32⟩
  | 81 => ⟨S1024x4x256, .f32⟩
  | 82 => ⟨S256, .f32⟩
  | 83 => ⟨S1024x256, .f32⟩
  | 84 => ⟨S_, .f32⟩
  | 85 => ⟨S1024, .f32⟩
  | 86 => ⟨S1024x1, .f32⟩
  | 87 => ⟨S_, .f32⟩
  | 88 => ⟨S1024x1, .f32⟩
  | 89 => ⟨S1024x1, .f32⟩
  | 90 => ⟨S_, .f32⟩
  | 91 => ⟨S1024x1, .f32⟩
  | 92 => ⟨S1024x1, .f32⟩
  | 93 => ⟨S1024x1, .f32⟩
  | 94 => ⟨S1024x256, .f32⟩
  | 95 => ⟨S1024x256, .f32⟩
  | 96 => ⟨S1x256, .f32⟩
  | 97 => ⟨S1024x256, .f32⟩
  | 98 => ⟨S1024x256, .f32⟩
  | 99 => ⟨S1x256x1024, .bf16⟩
  | 100 => ⟨S256x1024, .bf16⟩
  | 101 => ⟨S256x1024, .f32⟩
  | 102 => ⟨S1024x1024, .f32⟩
  | 103 => ⟨S1024x64, .f32⟩
  | 104 => ⟨S1024x1x64, .f32⟩
  | 105 => ⟨S1024x4x64, .f32⟩
  | 106 => ⟨S1024x512, .f32⟩
  | 107 => ⟨S1024x4x128, .f32⟩
  | 108 => ⟨S1024x4x256, .f32⟩
  | 109 => ⟨S1024x512, .f32⟩
  | 110 => ⟨S_, .f32⟩
  | 111 => ⟨S_, .f32⟩
  | 112 => ⟨S_, .f32⟩
  | 113 => ⟨S_, .f32⟩
  | 114 => ⟨S_, .f32⟩
  | 115 => ⟨S1024x1024, .f32⟩
  | 116 => ⟨S1024x1024, .f32⟩
  | 117 => ⟨S1024x1024, .f32⟩
  | 118 => ⟨S1024x1024, .f32⟩
  | 119 => ⟨S1024x2x64, .f32⟩
  | 120 => ⟨S1024x2x64, .f32⟩
  | 121 => ⟨S1024x128, .f32⟩
  | 122 => ⟨S1024x256, .f32⟩
  | 123 => ⟨S1024x2x64, .f32⟩
  | 124 => ⟨S1024x2x64, .f32⟩
  | 125 => ⟨S1024x128, .f32⟩
  | 126 => ⟨S1024x256, .f32⟩
  | 127 => ⟨S_, .f32⟩
  | _ => ⟨S1024x2048, .f32⟩

abbrev hbmTy0_1 (i : Nat) : BufTy := match i % 128 with
  | 0 => ⟨S1024x256, .f32⟩
  | 1 => ⟨S1024x256, .f32⟩
  | 2 => ⟨S1024x1024, .bf16⟩
  | 3 => ⟨S1024x1024, .bf16⟩
  | 4 => ⟨S1024x512, .bf16⟩
  | 5 => ⟨S1024x1024, .bf16⟩
  | 6 => ⟨S1024x256, .bf16⟩
  | 7 => ⟨S1024x256, .bf16⟩
  | 8 => ⟨S1024x256, .bf16⟩
  | 9 => ⟨S1024x256, .bf16⟩
  | 10 => ⟨S1024x512, .bf16⟩
  | 11 => ⟨S1024x512, .bf16⟩
  | _ => ⟨S1024x2048, .f32⟩

abbrev hbmTy (i : Nat) : BufTy := match i / 128 with
  | 0 => hbmTy0_0 i
  | 1 => hbmTy0_1 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_12 : Ref sig .tc := ⟨.hbm, 110, rfl⟩
abbrev main_v88 : Ref sig .tc := ⟨.hbm, 111, rfl⟩
abbrev main_cst_13 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_14 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩

abbrev nD : Nat := 1
abbrev τ : Topo := Topo.v7x

variable {F : FTy → Type} [FloatOps F]
-- ==== Kernel9.lean ====
abbrev S1024x1024 : Shape := ⟨2, ![1024, 1024]⟩
abbrev S1024x512 : Shape := ⟨2, ![1024, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 11
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x512, .bf16⟩
  | .hbm, ⟨3, _⟩ => ⟨S1024x512, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference9Ideal.lean ====
abbrev S1024x1024 : Shape := ⟨2, ![1024, 1024]⟩
abbrev S1024x512 : Shape := ⟨2, ![1024, 512]⟩
abbrev S4x256x4x256 : Shape := ⟨4, ![4, 256, 4, 256]⟩
abbrev S4x4x256x256 : Shape := ⟨4, ![4, 4, 256, 256]⟩
abbrev S_ : Shape := ⟨0, ![]⟩
abbrev S4x4x256 : Shape := ⟨3, ![4, 4, 256]⟩
abbrev S4x4x256x1 : Shape := ⟨4, ![4, 4, 256, 1]⟩
abbrev S4x256x4x128 : Shape := ⟨4, ![4, 256, 4, 128]⟩
abbrev S4x4x128x256 : Shape := ⟨4, ![4, 4, 128, 256]⟩

abbrev nBuf : Space → Nat
  | .hbm => 32
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x512, .bf16⟩
  | .hbm, ⟨3, _⟩ => ⟨S1024x1024, .f32⟩
  | .hbm, ⟨4, _⟩ => ⟨S4x256x4x256, .f32⟩
  | .hbm, ⟨5, _⟩ => ⟨S1024x1024, .f32⟩
  | .hbm, ⟨6, _⟩ => ⟨S4x256x4x256, .f32⟩
  | .hbm, ⟨7, _⟩ => ⟨S4x4x256x256, .f32⟩
  | .hbm, ⟨8, _⟩ => ⟨S_, .f32⟩
  | .hbm, ⟨9, _⟩ => ⟨S_, .f32⟩
  | .hbm, ⟨10, _⟩ => ⟨S4x4x256x256, .f32⟩
  | .hbm, ⟨11, _⟩ => ⟨S4x4x256x256, .f32⟩
  | .hbm, ⟨12, _⟩ => ⟨S_, .f32⟩
  | .hbm, ⟨13, _⟩ => ⟨S4x4x256, .f32⟩
  | .hbm, ⟨14, _⟩ => ⟨S_, .f32⟩
  | .hbm, ⟨15, _⟩ => ⟨S4x4x256, .f32⟩
  | .hbm, ⟨16, _⟩ => ⟨S4x4x256, .f32⟩
  | .hbm, ⟨17, _⟩ => ⟨S4x4x256x1, .f32⟩
  | .hbm, ⟨18, _⟩ => ⟨S4x4x256x256, .f32⟩
  | .hbm, ⟨19, _⟩ => ⟨S4x4x256x256, .f32⟩
  | .hbm, ⟨20, _⟩ => ⟨S4x4x256x256, .f32⟩
  | .hbm, ⟨21, _⟩ => ⟨S_, .f32⟩
  | .hbm, ⟨22, _⟩ => ⟨S4x4x256, .f32⟩
  | .hbm, ⟨23, _⟩ => ⟨S4x4x256x1, .f32⟩
  | .hbm, ⟨24, _⟩ => ⟨S4x4x256x256, .f32⟩
  | .hbm, ⟨25, _⟩ => ⟨S4x4x256x256, .f32⟩
  | .hbm, ⟨26, _⟩ => ⟨S1024x512, .f32⟩
  | .hbm, ⟨27, _⟩ => ⟨S4x256x4x128, .f32⟩
  | .hbm, ⟨28, _⟩ => ⟨S4x4x128x256, .f32⟩
  | .hbm, ⟨29, _⟩ => ⟨S4x256x4x128, .f32⟩
  | .hbm, ⟨30, _⟩ => ⟨S1024x512, .f32⟩
  | .hbm, ⟨31, _⟩ => ⟨S1024x512, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel10.lean ====
abbrev S8x2048 : Shape := ⟨2, ![8, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x2048x2048 : Shape := ⟨3, ![1, 2048, 2048]⟩
abbrev S1x1x2048 : Shape := ⟨3, ![1, 1, 2048]⟩
abbrev S1x8x2048 : Shape := ⟨3, ![1, 8, 2048]⟩
abbrev S2048x2048 : Shape := ⟨2, ![2048, 2048]⟩
abbrev S1x2048 : Shape := ⟨2, ![1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x2048, .f32⟩
  | .local _ .vmem, ⟨1, _⟩ => ⟨S1x2048x2048, .f32⟩
  | .local _ .vmem, ⟨2, _⟩ => ⟨S1x2048x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x8x2048, .f32⟩
  | .local _ .vmem, ⟨6, _⟩ => ⟨S1x8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x12288x8, .f32⟩
  | .hbm, ⟨13, _⟩ => ⟨S4x8x12288, .f32⟩
  | .hbm, ⟨14, _⟩ => ⟨S4x1x12288, .f32⟩
  | .hbm, ⟨15, _⟩ => ⟨S4x8x12288, .f32⟩
  | .hbm, ⟨16, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Attn.Trip.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The logits of a block of 2048 keys. -/
abbrev logits (q k : FVec Ideal S2048x256 .bf16) : FVec Ideal S2048x2048 .f32 := k0_pay2 (F := Ideal) q k

/-- The running maximum after a block of keys. -/
abbrev newMax (q k : FVec Ideal S2048x256 .bf16) (μ : FVec Ideal S2048x128 .f32) : FVec Ideal S2048x128 .f32 :=
  k0_pay3 (F := Ideal) q k μ

/-- The running maximum as a trip stores it. -/
def stepM (q k : FVec Ideal S2048x256 .bf16) (μ : FVec Ideal S2048x128 .f32) : FVec Ideal S2048x128 .f32 :=
  k0_pay46 (F := Ideal) (newMax q k μ)

/-- The running sums of weights, lane by lane, as a trip stores them. -/
def stepL (q k : FVec Ideal S2048x256 .bf16) (μ l : FVec Ideal S2048x128 .f32) : FVec Ideal S2048x128 .f32 :=
  k0_pay44 (F := Ideal) (k0_pay4 q k μ)
    (k0_pay31 (logits q k) (newMax q k μ) (k0_pay5 q k μ) (k0_pay7 q k μ))
    (exp2 (k0_pay33 (logits q k) (newMax q k μ))) (k0_pay41 (logits q k) (newMax q k μ))
    (k0_pay42 (logits q k) (newMax q k μ)) l

/-- The weights of a block of keys, side by side. -/
def weights (q k : FVec Ideal S2048x256 .bf16) (μ : FVec Ideal S2048x128 .f32) : FVec Ideal S2048x2048 .bf16 :=
  k0_pay43 (F := Ideal) (k0_pay6 q k μ) (k0_pay9 (k0_pay7 q k μ)) (k0_pay11 (logits q k) (newMax q k μ))
    (k0_pay13 (logits q k) (newMax q k μ)) (k0_pay15 (logits q k) (newMax q k μ)) (k0_pay17 (logits q k) (newMax q k μ))
    (k0_pay19 (logits q k) (newMax q k μ)) (k0_pay21 (logits q k) (newMax q k μ)) (k0_pay23 (logits q k) (newMax q k μ))
    (k0_pay25 (logits q k) (newMax q k μ)) (k0_pay27 (logits q k) (newMax q k μ)) (k0_pay29 (logits q k) (newMax q k μ))
    (k0_pay32 (logits q k) (newMax q k μ)) (exp2 (k0_pay33 (logits q k) (newMax q k μ)))
    (k0_pay41 (logits q k) (newMax q k μ)) (k0_pay42 (logits q k) (newMax q k μ))

/-- The running weighted sum of values as a trip stores it. -/
def stepA (q k : FVec Ideal S2048x256 .bf16) (v : FVec Ideal S2048x128 .bf16) (μ a : FVec Ideal S2048x128 .f32) :
    FVec Ideal S2048x128 .f32 :=
  k0_pay45 (F := Ideal) v (k0_pay4 q k μ) (weights q k μ) a

/-- The whole of a running array, as one rectangle. -/
abbrev full : Rect S2048x128 := Rect.unit (s := S2048x128) ![0, 0] S2048x128.size inb_S2048x128_S2048x128_0_0

/-- The keys a trip reads. -/
abbrev keyRect (k : Fin k0_t1_loop.trips) : Rect S8192x256 :=
  Rect.unit (s := S8192x256) (k0_off1 k) S2048x256.size (k0_off1_inb k)

/-- The values a trip reads. -/
abbrev valRect (k : Fin k0_t1_loop.trips) : Rect S8192x128 :=
  Rect.unit (s := S8192x128) (k0_off2 k) S2048x128.size (k0_off2_inb k)

/-- What a trip stores: the three running arrays, each once and whole, of what it reads. -/
theorem trip_eq (𝒱 : Variants) (c : Dev nD) (bd : Option 𝒱.V) (i : grid0.Coords)
    (arg3 : Memref sig .tc .vmem S2048x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S256x256 .bf16) (harg6 : arg6.IsWhole) (arg7 : Memref sig .tc .vmem S256x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole)
    (q : FVec Ideal S2048x256 .bf16) (X4 : BufTy.Contents (Elt Ideal) arg4.view.ty) (X5 : BufTy.Contents (Elt Ideal) arg5.view.ty)
    (k : Fin k0_t1_loop.trips) (f9 : BufTy.Contents (Elt Ideal) arg9.view.ty) (f10 : BufTy.Contents (Elt Ideal) arg10.view.ty) (f11 : BufTy.Contents (Elt Ideal) arg11.view.ty) :
    tripL_k0_t1 (F := Ideal) 𝒱 c bd i arg3 harg3 arg4 harg4 arg5 harg5 arg6 harg6 arg7 harg7 arg8 harg8 arg9 harg9 arg10 harg10 arg11 harg11 q X4 X5 k f9 f10 f11
      = ([⟨full, stepM q (arg4.view.readAt (Elt Ideal) (keyRect k).toLoadRect X4) (arg9.view.readAt (Elt Ideal) full.toLoadRect f9)⟩],
        [⟨full, stepL q (arg4.view.readAt (Elt Ideal) (keyRect k).toLoadRect X4) (arg9.view.readAt (Elt Ideal) full.toLoadRect f9)
          (arg10.view.readAt (Elt Ideal) full.toLoadRect f10)⟩],
        [⟨full, stepA q (arg4.view.readAt (Elt Ideal) (keyRect k).toLoadRect X4) (arg5.view.readAt (Elt Ideal) (valRect k).toLoadRect X5)
          (arg9.view.readAt (Elt Ideal) full.toLoadRect f9) (arg11.view.readAt (Elt Ideal) full.toLoadRect f11)⟩]) := by
  unfold tripL_k0_t1 trip_k0_t1
  rfl

end Cert.KernelIdeal.Attn

end
-- ==== Proof.Attn.Spec.lean ====
module

public import Idealize.ShloMosaic.Lib.Pipeline.ValueKit

@[expose] public section

noncomputable section

open Idealize.ShloMosaic

namespace Attn

/-- `x` is a finite number. -/
def IsReal (x : EReal) : Prop := ∃ r : ℝ, x = r

/-- A number of finite absolute value is finite. -/
theorem real_of {x : EReal} (h : max x (-x) < ⊤) : IsReal x := by
  induction x with
  | bot => simp at h
  | coe r => exact ⟨r, rfl⟩
  | top => simp at h

/-- A finite sum of finite numbers is the sum of the numbers. -/
theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A dot product of finite numbers is finite. -/
theorem real_dot {ι : Type} [Fintype ι] (f g : ι → EReal) (hf : ∀ i, IsReal (f i)) (hg : ∀ i, IsReal (g i)) :
    IsReal (∑ i, f i * g i) := by
  choose a ha using hf
  choose b hb using hg
  refine ⟨∑ i, a i * b i, ?_⟩
  rw [← coe_sum]
  exact Finset.sum_congr rfl fun i _ => by rw [ha, hb, EReal.coe_mul]

/-- The greatest of finite numbers, at least one, is finite. -/
theorem real_fold {ι : Type} (t : Finset ι) (ht : t.Nonempty) (f : ι → EReal) (hf : ∀ i, IsReal (f i)) :
    IsReal (t.fold max ⊥ f) := by
  classical
  induction ht using Finset.Nonempty.cons_induction with
  | singleton a => rw [Finset.fold_singleton, max_bot_right]; exact hf a
  | cons a t ha _ ih =>
    rw [Finset.fold_cons]
    obtain ⟨x, hx⟩ := hf a
    obtain ⟨y, hy⟩ := ih
    exact ⟨max x y, by rw [hx, hy, ← EReal.coe_strictMono.monotone.map_max]⟩

/-- The greater of two finite numbers is finite. -/
theorem real_max {x y : EReal} (hx : IsReal x) (hy : IsReal y) : IsReal (max x y) := by
  obtain ⟨a, rfl⟩ := hx
  obtain ⟨b, rfl⟩ := hy
  exact ⟨max a b, by rw [← EReal.coe_strictMono.monotone.map_max]⟩

/-- The weight of a key of logit `s`, taken relative to `m`. -/
def wt (s m : ℝ) : ℝ := (2 : ℝ) ^ (s - m)

/-- A weight is positive. -/
theorem wt_pos (s m : ℝ) : 0 < wt s m := Real.rpow_pos_of_pos two_pos _

/-- Weights relative to another number: one factor. -/
theorem wt_mul (s m m' : ℝ) : wt m m' * wt s m = wt s m' := by
  unfold wt
  rw [← Real.rpow_add two_pos]
  congr 1
  ring

/-- The exponential to base two of a difference of finite numbers. -/
theorem exp2_sub (s m : ℝ) : Ideal.exp2 ((s : EReal) - (m : EReal)) = (wt s m : EReal) := by
  rw [← EReal.coe_sub, Ideal.exp2_coe]; rfl

/-- A nonnegative finite factor goes into a sum. -/
theorem mul_sum' {ι : Type} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (EReal.coe_nonneg.mpr hc) (EReal.coe_ne_top c) _ _

/-- The share of key `i` among the keys: its power of two over the sum of all. -/
def share {ι : Type} [Fintype ι] (s : ι → ℝ) (i : ι) : ℝ := (2 : ℝ) ^ s i / ∑ k, (2 : ℝ) ^ s k

/-- Attention of one query: the values, each times its key's share. -/
def mix {ι : Type} [Fintype ι] (s : ι → ℝ) (v : ι → EReal) : EReal := ∑ i, (share s i : EReal) * v i

/-- The share, from weights relative to any number. -/
theorem share_eq {ι : Type} [Fintype ι] (s : ι → ℝ) (m : ℝ) (i : ι) :
    share s i = wt (s i) m * (1 / ∑ k, wt (s k) m) := by
  have e : ∀ k, wt (s k) m = (2 : ℝ) ^ s k * (2 : ℝ) ^ (-m) := fun k => by
    unfold wt
    rw [← Real.rpow_add two_pos, sub_eq_add_neg]
  have h2 : (2 : ℝ) ^ (-m) ≠ 0 := (Real.rpow_pos_of_pos two_pos _).ne'
  unfold share
  simp only [e]
  rw [← Finset.sum_mul, mul_one_div, mul_div_mul_right _ _ h2]

/-- The weighted sum over the sum of weights is the attention. -/
theorem div_eq_mix {ι : Type} [Fintype ι] [Nonempty ι] (s : ι → ℝ) (m : ℝ) (v : ι → EReal) :
    Ideal.div (∑ i, (wt (s i) m : EReal) * v i) (∑ i, (wt (s i) m : EReal)) = mix s v := by
  have hpos : 0 < ∑ i, wt (s i) m := Finset.sum_pos (fun i _ => wt_pos _ _) Finset.univ_nonempty
  rw [coe_sum, Ideal.div_coe hpos.ne', mul_comm, mul_sum' _ _ (by positivity)]
  unfold mix
  refine Finset.sum_congr rfl fun i _ => ?_
  rw [share_eq s m i, ← mul_assoc, ← EReal.coe_mul, mul_comm (1 / _) (wt _ _)]

/-- The softmax of `ln 2` times the logits, with any finite number taken off first, gives the shares. -/
theorem softmax_eq {ι : Type} [Fintype ι] [Nonempty ι] (s : ι → ℝ) (t : ℝ) (i : ι) :
    Ideal.div (Ideal.exp ((s i : EReal) * (Real.log 2 : ℝ) - (t : EReal)))
      (∑ k, Ideal.exp ((s k : EReal) * (Real.log 2 : ℝ) - (t : EReal))) = (share s i : EReal) := by
  have e : ∀ k, Ideal.exp ((s k : EReal) * (Real.log 2 : ℝ) - (t : EReal)) = (((2 : ℝ) ^ s k * Real.exp (-t) : ℝ) : EReal) := fun k => by
    rw [← EReal.coe_mul, ← EReal.coe_sub, Ideal.exp_coe, Real.rpow_def_of_pos two_pos, ← Real.exp_add, mul_comm (s k), sub_eq_add_neg]
  have hpos : 0 < ∑ k, (2 : ℝ) ^ s k * Real.exp (-t) :=
    Finset.sum_pos (fun i _ => by positivity) Finset.univ_nonempty
  simp only [e]
  rw [coe_sum, Ideal.div_coe hpos.ne', ← EReal.coe_mul]
  unfold share
  rw [← Finset.sum_mul, mul_one_div, mul_div_mul_right _ _ (Real.exp_pos _).ne']

/-! The attention of one head of one batch entry: 256 context keys, then 8192 latent keys. -/

/-- Feature `d` of head `h`, among the columns of the queries and keys. -/
def col (h : Fin 4) (d : Fin 256) : Fin 1024 := ⟨h.val * 256 + d.val, by omega⟩

/-- Feature `d` of head `h`, among the columns of the values. -/
def vcol (h : Fin 4) (d : Fin 128) : Fin 512 := ⟨h.val * 128 + d.val, by omega⟩

/-- The row of position `s` of batch entry `b`. -/
def row (b : Fin 4) (s : Fin 8192) : Fin 32768 := ⟨b.val * 8192 + s.val, by omega⟩

/-- The row of context position `s` of batch entry `b`. -/
def crow (b : Fin 4) (s : Fin 256) : Fin 1024 := ⟨b.val * 256 + s.val, by omega⟩

/-- What key `i` of batch entry `b` holds, of a context array and a latent array. -/
def entry {n : ℕ} (C : Fin 1024 → Fin n → EReal) (K : Fin 32768 → Fin n → EReal) (b : Fin 4) (i : Fin 8448) (x : Fin n) : EReal :=
  if h : i.val < 256 then C (crow b ⟨i.val, h⟩) x else K (row b ⟨i.val - 256, by omega⟩) x

/-- The logit, to base two, of position `s` at key `i`. -/
def logit (Q : Fin 32768 → Fin 1024 → EReal) (C : Fin 1024 → Fin 1024 → EReal) (K : Fin 32768 → Fin 1024 → EReal)
    (b h : Fin 4) (s : Fin 8192) (i : Fin 8448) : EReal :=
  ∑ d, Q (row b s) (col h d) * entry C K b i (col h d)

/-- The attention's result. -/
def out (Q : Fin 32768 → Fin 1024 → EReal) (C : Fin 1024 → Fin 1024 → EReal) (K : Fin 32768 → Fin 1024 → EReal)
    (VC : Fin 1024 → Fin 512 → EReal) (V : Fin 32768 → Fin 512 → EReal)
    (b h : Fin 4) (s : Fin 8192) (d : Fin 128) : EReal :=
  mix (fun i => (logit Q C K b h s i).toReal) (fun i => entry VC V b i (vcol h d))

/-- Of finite queries and keys the logits are finite. -/
theorem real_logit {Q : Fin 32768 → Fin 1024 → EReal} {C : Fin 1024 → Fin 1024 → EReal} {K : Fin 32768 → Fin 1024 → EReal}
    (hQ : ∀ r x, IsReal (Q r x)) (hC : ∀ r x, IsReal (C r x)) (hK : ∀ r x, IsReal (K r x))
    (b h : Fin 4) (s : Fin 8192) (i : Fin 8448) : IsReal (logit Q C K b h s i) := by
  unfold logit
  refine real_dot _ _ (fun d => hQ _ _) fun d => ?_
  unfold entry
  split
  · exact hC _ _
  · exact hK _ _

/-- A finite number is the number. -/
theorem IsReal.eq {x : EReal} (h : IsReal x) : x = (x.toReal : EReal) := by
  obtain ⟨r, rfl⟩ := h
  rfl

end Attn

end
-- ==== Proof.Attn.Pay.lean ====
module

public import proofs.«01_k».proof.Proof.Attn.Trip
public import proofs.«01_k».proof.Proof.Attn.Spec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The greatest entry of one lane, over the sixteen tiles of a row. -/
def laneMax (f : Fin 2048 → EReal) (x : Fin 128) : EReal :=
  max (max (max (max (max (max (max (max (max (max (max (max (max (max (max (f ⟨x.val, by omega⟩) (f ⟨128 + x.val, by omega⟩)) (f ⟨256 + x.val, by omega⟩)) (f ⟨384 + x.val, by omega⟩)) (f ⟨512 + x.val, by omega⟩)) (f ⟨640 + x.val, by omega⟩)) (f ⟨768 + x.val, by omega⟩)) (f ⟨896 + x.val, by omega⟩)) (f ⟨1024 + x.val, by omega⟩)) (f ⟨1152 + x.val, by omega⟩)) (f ⟨1280 + x.val, by omega⟩)) (f ⟨1408 + x.val, by omega⟩)) (f ⟨1536 + x.val, by omega⟩)) (f ⟨1664 + x.val, by omega⟩)) (f ⟨1792 + x.val, by omega⟩)) (f ⟨1920 + x.val, by omega⟩)

/-- The sum of one lane, over the sixteen tiles of a row. -/
def laneSum (f : Fin 2048 → EReal) (x : Fin 128) : EReal :=
  ((((((((((((((f ⟨x.val, by omega⟩ + f ⟨128 + x.val, by omega⟩) + f ⟨256 + x.val, by omega⟩) + f ⟨384 + x.val, by omega⟩) + f ⟨512 + x.val, by omega⟩) + f ⟨640 + x.val, by omega⟩) + f ⟨768 + x.val, by omega⟩) + f ⟨896 + x.val, by omega⟩) + f ⟨1024 + x.val, by omega⟩) + f ⟨1152 + x.val, by omega⟩) + f ⟨1280 + x.val, by omega⟩) + f ⟨1408 + x.val, by omega⟩) + f ⟨1536 + x.val, by omega⟩) + f ⟨1664 + x.val, by omega⟩) + f ⟨1792 + x.val, by omega⟩) + f ⟨1920 + x.val, by omega⟩

/-- The lane sums add up to the row's sum. -/
theorem sum_laneSum (f : Fin 2048 → EReal) : ∑ x, laneSum f x = ∑ j, f j := by
  refine Eq.trans ?_ (Fin.sum_univ_tiles 16 128 rfl f).symm
  rw [Finset.sum_comm]
  refine Finset.sum_congr rfl fun x _ => ?_
  unfold laneSum
  simp only [Fin.sum_univ_succ, Fin.sum_univ_zero, add_zero, ← add_assoc]
  simp [Fin.val_succ]

/-- The greatest of a lane of finite numbers is finite. -/
theorem real_laneMax (f : Fin 2048 → EReal) (hf : ∀ j, Attn.IsReal (f j)) (x : Fin 128) : Attn.IsReal (laneMax f x) := by
  unfold laneMax
  repeat' first | exact hf _ | apply Attn.real_max

/-- Minus infinity, as the maxima start. -/
theorem bot_bits : Ideal.ofBits .f32 0xFF800000#32 = ⊥ := by
  simp [Ideal.ofBits, Ideal.ieee]

/-- A logit is a dot product. -/
theorem logits_at (q k : FVec Ideal S2048x256 .bf16) (r j : Fin 2048) :
    logits q k (ix2 r j) = ∑ d, q (ix2 r d) * k (ix2 j d) := by
  pointwise [k0_pay2]

/-- The new maximum is the greater of the old one and the row's greatest logit. -/
theorem newMax_at (q k : FVec Ideal S2048x256 .bf16) (μ : FVec Ideal S2048x128 .f32) (r : Fin 2048) (c : Fin 128) :
    newMax q k μ (ix2 r c) = max (μ (ix2 r c)) (Finset.univ.fold max ⊥ (laneMax fun j => logits q k (ix2 r j))) := by
  unfold newMax k0_pay3 logits
  generalize (k0_pay2 q k : FVec Ideal S2048x2048 .f32) = L
  rw [← bot_bits]
  unfold laneMax
  pointwise []

/-- Of sixteen tiles side by side, entry `c` of tile `s`. -/
theorem pay43_at (x0 x1 x2 x3 x4 x5 x6 x7 x8 x9 x10 x11 x12 : FVec Ideal S2048x128 .bf16) (x13 x14 x15 : FVec Ideal S2048x128 .f32)
    (r : Fin 2048) (s : Fin 16) (c : Fin 128) :
    k0_pay43 (F := Ideal) x0 x1 x2 x3 x4 x5 x6 x7 x8 x9 x10 x11 x12 x13 x14 x15 (ix2 r ⟨s.val * 128 + c.val, by omega⟩)
      = (![x0, x1, x2, x3, x4, x5, x6, x7, x8, x9, x10, x11, x12, x13, x14, x15] : Fin 16 → S2048x128.Idx → EReal) s (ix2 r c) := by
  refine concatenate_ofFn_apply (t := S2048x2048) (s₁ := S2048x128) 1 (![x0, x1, x2, x3, x4, x5, x6, x7, x8, x9, x10, x11, x12, x13, x14, x15] : Fin 16 → S2048x128.Idx → EReal)
    concatenates_S2048x128_S2048x128_S2048x128_S2048x128_S2048x128_S2048x128_S2048x128_S2048x128_S2048x128_S2048x128_S2048x128_S2048x128_S2048x128_S2048x128_S2048x128_S2048x128_S2048x2048_d1
    rfl 128 rfl (ix2 r ⟨s.val * 128 + c.val, by omega⟩) s ?_ (ix2 r c) ?_ ?_
  · show (s.val * 128 + c.val) / 128 = s.val
    omega
  · show c.val = (s.val * 128 + c.val) % 128
    omega
  · intro b hb
    match b with
    | ⟨0, _⟩ => rfl
    | ⟨1, _⟩ => exact absurd rfl hb

/-- A weight: the power of two of the logit less the new maximum. -/
theorem weights_at (q k : FVec Ideal S2048x256 .bf16) (μ : FVec Ideal S2048x128 .f32) (r : Fin 2048) (s : Fin 16) (c : Fin 128) :
    weights q k μ (ix2 r ⟨s.val * 128 + c.val, by omega⟩)
      = Ideal.exp2 (logits q k (ix2 r ⟨s.val * 128 + c.val, by omega⟩) - newMax q k μ (ix2 r c)) := by
  unfold weights
  rw [pay43_at]
  unfold k0_pay6 k0_pay5 k0_pay7 logits newMax
  generalize (k0_pay3 q k μ : FVec Ideal S2048x128 .f32) = M
  generalize (k0_pay2 q k : FVec Ideal S2048x2048 .f32) = L
  fin_cases s
  all_goals
    dsimp only [Matrix.cons_val]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay32, k0_pay33, k0_pay41, k0_pay42]
    try rfl

/-- A lane's running sum after a trip. -/
theorem stepL_at (q k : FVec Ideal S2048x256 .bf16) (μ l : FVec Ideal S2048x128 .f32) (r : Fin 2048) (c : Fin 128) :
    stepL q k μ l (ix2 r c) = Ideal.exp2 (μ (ix2 r c) - newMax q k μ (ix2 r c)) * l (ix2 r c)
      + laneSum (fun j => Ideal.exp2 (logits q k (ix2 r j) - newMax q k μ (ix2 r c))) c := by
  unfold stepL k0_pay44 k0_pay4 k0_pay5 k0_pay7 logits newMax
  generalize (k0_pay3 q k μ : FVec Ideal S2048x128 .f32) = M
  generalize (k0_pay2 q k : FVec Ideal S2048x2048 .f32) = L
  unfold laneSum
  pointwise [k0_pay31, k0_pay8, k0_pay10, k0_pay12, k0_pay14, k0_pay16, k0_pay18, k0_pay20, k0_pay22, k0_pay24, k0_pay26, k0_pay28, k0_pay30, k0_pay33, k0_pay41, k0_pay42]
  try rfl

/-- The running weighted sum after a trip. -/
theorem pay45_at (v : FVec Ideal S2048x128 .bf16) (a : FVec Ideal S2048x128 .f32) (w : FVec Ideal S2048x2048 .bf16) (o : FVec Ideal S2048x128 .f32)
    (r : Fin 2048) (c : Fin 128) : k0_pay45 (F := Ideal) v a w o (ix2 r c) = a (ix2 r c) * o (ix2 r c) + ∑ x, w (ix2 r x) * v (ix2 x c) := by
  pointwise [k0_pay45]

/-- A trip's effect on one row whose logits `s` are finite and whose running maximum is `m` on every lane: a new maximum,
    and both running sums taken relative to it, with the block's keys added. -/
theorem trip_row (q k : FVec Ideal S2048x256 .bf16) (v : FVec Ideal S2048x128 .bf16) (μ l a : FVec Ideal S2048x128 .f32)
    (r : Fin 2048) (m : ℝ) (s : Fin 2048 → ℝ) (hs : ∀ j, ∑ d, q (ix2 r d) * k (ix2 j d) = (s j : EReal)) (hμ : ∀ c, μ (ix2 r c) = (m : EReal)) :
    ∃ m' : ℝ, (∀ c, stepM q k μ (ix2 r c) = (m' : EReal))
      ∧ ∑ c, stepL q k μ l (ix2 r c) = (Attn.wt m m' : EReal) * ∑ c, l (ix2 r c) + ∑ j, (Attn.wt (s j) m' : EReal)
      ∧ ∀ c, stepA q k v μ a (ix2 r c) = (Attn.wt m m' : EReal) * a (ix2 r c) + ∑ j, (Attn.wt (s j) m' : EReal) * v (ix2 j c) := by
  have hL : ∀ j, logits q k (ix2 r j) = (s j : EReal) := fun j => (logits_at q k r j).trans (hs j)
  obtain ⟨m', hm'⟩ : Attn.IsReal (max (m : EReal) (Finset.univ.fold max ⊥ (laneMax fun j => logits q k (ix2 r j)))) :=
    Attn.real_max ⟨m, rfl⟩ (Attn.real_fold _ ⟨0, Finset.mem_univ _⟩ _ fun x => real_laneMax _ (fun j => ⟨s j, hL j⟩) x)
  have hM : ∀ c, newMax q k μ (ix2 r c) = (m' : EReal) := fun c => by rw [newMax_at, hμ, hm']
  refine ⟨m', fun c => ?_, ?_, fun c => ?_⟩
  · refine Eq.trans ?_ (hM c)
    unfold stepM
    pointwise [k0_pay46]
  · simp only [stepL_at, hM, hμ, hL, Attn.exp2_sub]
    rw [Finset.sum_add_distrib, ← Attn.mul_sum' _ _ (Attn.wt_pos _ _).le, sum_laneSum]
  · have hw : ∀ j, weights q k μ (ix2 r j) = (Attn.wt (s j) m' : EReal) := fun j => by
      have h := weights_at q k μ r ⟨j.val / 128, by omega⟩ ⟨j.val % 128, by omega⟩
      have e : (⟨j.val / 128 * 128 + j.val % 128, by omega⟩ : Fin 2048) = j := Fin.ext (by simp only; omega)
      simp only [e] at h
      rw [h, hL, hM, Attn.exp2_sub]
    have ha : k0_pay4 (F := Ideal) q k μ (ix2 r c) = (Attn.wt m m' : EReal) := by
      have h : k0_pay4 (F := Ideal) q k μ (ix2 r c) = Ideal.exp2 (μ (ix2 r c) - newMax q k μ (ix2 r c)) := rfl
      rw [h, hμ, hM, Attn.exp2_sub]
    unfold stepA
    rw [pay45_at, ha]
    simp only [hw]

/-- The logits of the context's keys. -/
theorem pay34_at (q : FVec Ideal S2048x256 .bf16) (k : FVec Ideal S256x256 .bf16) (r : Fin 2048) (j : Fin 256) :
    k0_pay34 (F := Ideal) q k (ix2 r j) = ∑ d, q (ix2 r d) * k (ix2 j d) := by
  pointwise [k0_pay34]

/-- The greatest logit of the context's keys. -/
theorem pay35_at (q : FVec Ideal S2048x256 .bf16) (k : FVec Ideal S256x256 .bf16) (r : Fin 2048) (c : Fin 128) :
    k0_pay35 (F := Ideal) q k (ix2 r c) = Finset.univ.fold max ⊥ (fun x : Fin 128 =>
      max (k0_pay34 (F := Ideal) q k (ix2 r ⟨x.val, by omega⟩)) (k0_pay34 (F := Ideal) q k (ix2 r ⟨128 + x.val, by omega⟩))) := by
  unfold k0_pay35
  generalize (k0_pay34 q k : FVec Ideal S2048x256 .f32) = L
  rw [← bot_bits]
  pointwise []

/-- The first running sums, lane by lane. -/
theorem pay38_at (q : FVec Ideal S2048x256 .bf16) (k : FVec Ideal S256x256 .bf16) (r : Fin 2048) (c : Fin 128) :
    k0_pay38 (F := Ideal) q k (ix2 r c)
      = Ideal.exp2 (k0_pay34 (F := Ideal) q k (ix2 r ⟨c.val, by omega⟩) - k0_pay35 (F := Ideal) q k (ix2 r c))
        + Ideal.exp2 (k0_pay34 (F := Ideal) q k (ix2 r ⟨128 + c.val, by omega⟩) - k0_pay35 (F := Ideal) q k (ix2 r c)) := by
  unfold k0_pay38 k0_pay36 k0_pay37
  generalize (k0_pay35 q k : FVec Ideal S2048x128 .f32) = M
  generalize (k0_pay34 q k : FVec Ideal S2048x256 .f32) = L
  pointwise []
  try rfl

/-- The first weighted sums. -/
theorem pay39_at (q : FVec Ideal S2048x256 .bf16) (k : FVec Ideal S256x256 .bf16) (v : FVec Ideal S256x128 .bf16) (r : Fin 2048) (c : Fin 128)
    (m : EReal) (hm : ∀ c, k0_pay35 (F := Ideal) q k (ix2 r c) = m) :
    k0_pay39 (F := Ideal) q k v (ix2 r c) = ∑ j, Ideal.exp2 (k0_pay34 (F := Ideal) q k (ix2 r j) - m) * v (ix2 j c) := by
  unfold k0_pay39 k0_pay36 k0_pay37
  revert hm
  generalize (k0_pay35 q k : FVec Ideal S2048x128 .f32) = M
  generalize (k0_pay34 q k : FVec Ideal S2048x256 .f32) = L
  intro hm
  pointwise []
  simp only [hm]
  refine Eq.trans ?_ (Fin.sum_univ_tiles 2 128 rfl (fun j => Ideal.exp2 (L (ix2 r j) - m) * v (ix2 j c))).symm
  rw [Fin.sum_univ_two]
  simp
  rfl

/-- What the context leaves on one row whose logits `s` are finite. -/
theorem ctx_row (q : FVec Ideal S2048x256 .bf16) (k : FVec Ideal S256x256 .bf16) (v : FVec Ideal S256x128 .bf16)
    (r : Fin 2048) (s : Fin 256 → ℝ) (hs : ∀ j, ∑ d, q (ix2 r d) * k (ix2 j d) = (s j : EReal)) :
    ∃ m : ℝ, (∀ c, k0_pay40 (F := Ideal) q k (ix2 r c) = (m : EReal))
      ∧ ∑ c, k0_pay38 (F := Ideal) q k (ix2 r c) = ∑ j, (Attn.wt (s j) m : EReal)
      ∧ ∀ c, k0_pay39 (F := Ideal) q k v (ix2 r c) = ∑ j, (Attn.wt (s j) m : EReal) * v (ix2 j c) := by
  have hL : ∀ j, k0_pay34 (F := Ideal) q k (ix2 r j) = (s j : EReal) := fun j => (pay34_at q k r j).trans (hs j)
  obtain ⟨m, hm⟩ : Attn.IsReal (Finset.univ.fold max ⊥ (fun x : Fin 128 =>
      max (k0_pay34 (F := Ideal) q k (ix2 r ⟨x.val, by omega⟩)) (k0_pay34 (F := Ideal) q k (ix2 r ⟨128 + x.val, by omega⟩)))) :=
    Attn.real_fold _ ⟨0, Finset.mem_univ _⟩ _ fun x => Attn.real_max ⟨_, hL _⟩ ⟨_, hL _⟩
  have hM : ∀ c, k0_pay35 (F := Ideal) q k (ix2 r c) = (m : EReal) := fun c => (pay35_at q k r c).trans hm
  refine ⟨m, fun c => ?_, ?_, fun c => ?_⟩
  · refine Eq.trans ?_ (hM c)
    pointwise [k0_pay40]
  · simp only [pay38_at, hM, hL, Attn.exp2_sub]
    refine Eq.trans ?_ (Fin.sum_univ_tiles 2 128 rfl (fun j => (Attn.wt (s j) m : EReal))).symm
    rw [Finset.sum_comm]
    refine Finset.sum_congr rfl fun x _ => ?_
    simp [Fin.sum_univ_succ]
  · rw [pay39_at q k v r c m hM]
    simp only [hL, Attn.exp2_sub]

/-- The stored result: the weighted sum over the sum of the lanes. -/
theorem pay1_at (l a : FVec Ideal S2048x128 .f32) (r : Fin 2048) (c : Fin 128) :
    k0_pay1 (F := Ideal) l a (ix2 r c) = Ideal.div (a (ix2 r c)) (∑ x, l (ix2 r x)) := by
  pointwise [k0_pay1]

end Cert.KernelIdeal.Attn

end
-- ==== Proof.Attn.Loop.lean ====
module

public import proofs.«01_k».proof.Proof.Attn.Pay
public import Idealize.ShloMosaic.Lib.Pipeline.ValueKit
public import Idealize.ShloMosaic.Lib.Pipeline.ReadBack
public import Idealize.ShloMosaic.Lib.VecWindow
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The loop's run: whatever the first contents of the three running arrays satisfy and a trip keeps, the contents after any number
    of trips satisfy. -/
theorem loop_inv (𝒱 : Variants) (c : Dev nD) (bd : Option 𝒱.V) (i : grid0.Coords)
    (arg3 : Memref sig .tc .vmem S2048x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S256x256 .bf16) (harg6 : arg6.IsWhole) (arg7 : Memref sig .tc .vmem S256x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole)
    (q : FVec Ideal S2048x256 .bf16) (X4 : BufTy.Contents (Elt Ideal) arg4.view.ty) (X5 : BufTy.Contents (Elt Ideal) arg5.view.ty)
    (g9 : BufTy.Contents (Elt Ideal) arg9.view.ty) (g10 : BufTy.Contents (Elt Ideal) arg10.view.ty) (g11 : BufTy.Contents (Elt Ideal) arg11.view.ty)
    (P : ℕ → FVec Ideal S2048x128 .f32 → FVec Ideal S2048x128 .f32 → FVec Ideal S2048x128 .f32 → Prop)
    (h0 : P 0 (arg9.view.readAt (Elt Ideal) full.toLoadRect g9) (arg10.view.readAt (Elt Ideal) full.toLoadRect g10) (arg11.view.readAt (Elt Ideal) full.toLoadRect g11))
    (hs : ∀ (k : Fin k0_t1_loop.trips) μ l a, P k.val μ l a →
      P (k.val + 1) (stepM q (arg4.view.readAt (Elt Ideal) (keyRect k).toLoadRect X4) μ) (stepL q (arg4.view.readAt (Elt Ideal) (keyRect k).toLoadRect X4) μ l)
        (stepA q (arg4.view.readAt (Elt Ideal) (keyRect k).toLoadRect X4) (arg5.view.readAt (Elt Ideal) (valRect k).toLoadRect X5) μ a))
    (n : ℕ) (hn : n ≤ k0_t1_loop.trips) :
    P n (arg9.view.readAt (Elt Ideal) full.toLoadRect (arg9.view.writes (Elt Ideal) g9 (pb_k0_t1 (F := Ideal) 𝒱 c bd i arg3 harg3 arg4 harg4 arg5 harg5 arg6 harg6 arg7 harg7 arg8 harg8 arg9 harg9 arg10 harg10 arg11 harg11 q X4 X5 g9 g10 g11 n).1))
      (arg10.view.readAt (Elt Ideal) full.toLoadRect (arg10.view.writes (Elt Ideal) g10 (pb_k0_t1 (F := Ideal) 𝒱 c bd i arg3 harg3 arg4 harg4 arg5 harg5 arg6 harg6 arg7 harg7 arg8 harg8 arg9 harg9 arg10 harg10 arg11 harg11 q X4 X5 g9 g10 g11 n).2.1))
      (arg11.view.readAt (Elt Ideal) full.toLoadRect (arg11.view.writes (Elt Ideal) g11 (pb_k0_t1 (F := Ideal) 𝒱 c bd i arg3 harg3 arg4 harg4 arg5 harg5 arg6 harg6 arg7 harg7 arg8 harg8 arg9 harg9 arg10 harg10 arg11 harg11 q X4 X5 g9 g10 g11 n).2.2)) := by
  induction n with
  | zero => exact h0
  | succ n ih =>
    have h := hs ⟨n, hn⟩ _ _ _ (ih (Nat.le_of_succ_le hn))
    rw [pb_k0_t1_succ 𝒱 c bd i arg3 harg3 arg4 harg4 arg5 harg5 arg6 harg6 arg7 harg7 arg8 harg8 arg9 harg9 arg10 harg10 arg11 harg11 q X4 X5 g9 g10 g11 ⟨n, hn⟩, trip_eq]
    rw [List.singleton_append, List.singleton_append, List.singleton_append, View.readAt_writes_full, View.readAt_writes_full, View.readAt_writes_full]
    exact h

end Cert.KernelIdeal.Attn

end
-- ==== Proof.Attn.Inv.lean ====
module

public import proofs.«01_k».proof.Proof.Attn.Loop
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The sum over the keys seen after `n` trips: the context's 256, then `n` blocks of 2048. -/
def seen (f : Fin 8448 → EReal) : ℕ → EReal
  | 0 => ∑ j : Fin 256, f ⟨j.val, by omega⟩
  | n + 1 => seen f n + if h : n < 4 then ∑ j : Fin 2048, f ⟨256 + (n * 2048 + j.val), by omega⟩ else 0

/-- After the fourth trip every key is seen. -/
theorem seen_four (f : Fin 8448 → EReal) : seen f 4 = ∑ i, f i := by
  have h := Fin.sum_univ_add (a := 256) (b := 8192) f
  refine Eq.trans ?_ h.symm
  rw [Fin.sum_univ_tiles 4 2048 rfl, Fin.sum_univ_four]
  have c0 : seen f 0 = ∑ j : Fin 256, f (Fin.castAdd 8192 j) := Finset.sum_congr rfl fun j _ => congrArg f (Fin.ext rfl)
  have e : ∀ n : ℕ, ∀ hn : n < 4, seen f (n + 1)
      = seen f n + ∑ j : Fin 2048, f (Fin.natAdd 256 (⟨n * 2048 + j.val, by omega⟩ : Fin 8192)) := fun n hn => by
    simp only [seen, dif_pos hn]
    exact congrArg _ (Finset.sum_congr rfl fun j _ => congrArg f (Fin.ext rfl))
  rw [e 3 (by omega), e 2 (by omega), e 1 (by omega), e 0 (by omega), c0]
  generalize ∑ j : Fin 256, f (Fin.castAdd 8192 j) = x
  exact (fun a b c d => by simp only [add_assoc] : ∀ a b c d : EReal, x + a + b + c + d = x + (a + b + c + d)) _ _ _ _

/-- A nonnegative finite factor goes into the sum over the keys seen. -/
theorem mul_seen (c : ℝ) (hc : 0 ≤ c) (f : Fin 8448 → EReal) (n : ℕ) : (c : EReal) * seen f n = seen (fun i => (c : EReal) * f i) n := by
  induction n with
  | zero => exact Attn.mul_sum' _ c hc _
  | succ n ih =>
    unfold seen
    rw [EReal.left_distrib_of_nonneg_of_ne_top (EReal.coe_nonneg.mpr hc) (EReal.coe_ne_top c), ih]
    split
    · rw [Attn.mul_sum' _ c hc]
    · rw [mul_zero]

/-- What holds of the three running arrays after `n` trips, where `s` are the rows' logits and `v` the lanes' values: on every row one
    finite maximum on every lane, and both running sums are those over the keys seen, taken relative to it. -/
def Inv (s : Fin 2048 → Fin 8448 → ℝ) (v : Fin 128 → Fin 8448 → EReal) (n : ℕ) (μ l a : FVec Ideal S2048x128 .f32) : Prop :=
  ∀ r, ∃ m : ℝ, (∀ c, μ (ix2 r c) = (m : EReal)) ∧ ∑ c, l (ix2 r c) = seen (fun i => (Attn.wt (s r i) m : EReal)) n
    ∧ ∀ c, a (ix2 r c) = seen (fun i => (Attn.wt (s r i) m : EReal) * v c i) n

variable {s : Fin 2048 → Fin 8448 → ℝ} {v : Fin 128 → Fin 8448 → EReal}

/-- The context's keys start the invariant. -/
theorem inv_zero (q : FVec Ideal S2048x256 .bf16) (k : FVec Ideal S256x256 .bf16) (x : FVec Ideal S256x128 .bf16)
    (hs : ∀ r (j : Fin 256), ∑ d, q (ix2 r d) * k (ix2 j d) = (s r ⟨j.val, by omega⟩ : EReal)) (hv : ∀ c (j : Fin 256), x (ix2 j c) = v c ⟨j.val, by omega⟩) :
    Inv s v 0 (k0_pay40 (F := Ideal) q k) (k0_pay38 (F := Ideal) q k) (k0_pay39 (F := Ideal) q k x) := fun r => by
  obtain ⟨m, h1, h2, h3⟩ := ctx_row q k x r _ (hs r)
  refine ⟨m, h1, h2, fun c => ?_⟩
  rw [h3]
  simp only [hv]
  rfl

/-- A trip keeps the invariant. -/
theorem inv_step (n : ℕ) (hn : n < 4) (q k : FVec Ideal S2048x256 .bf16) (x : FVec Ideal S2048x128 .bf16) (μ l a : FVec Ideal S2048x128 .f32)
    (hs : ∀ r (j : Fin 2048), ∑ d, q (ix2 r d) * k (ix2 j d) = (s r ⟨256 + (n * 2048 + j.val), by omega⟩ : EReal))
    (hv : ∀ c (j : Fin 2048), x (ix2 j c) = v c ⟨256 + (n * 2048 + j.val), by omega⟩) (h : Inv s v n μ l a) :
    Inv s v (n + 1) (stepM q k μ) (stepL q k μ l) (stepA q k x μ a) := fun r => by
  obtain ⟨m, h1, h2, h3⟩ := h r
  obtain ⟨m', e1, e2, e3⟩ := trip_row q k x μ l a r m _ (hs r) h1
  refine ⟨m', e1, ?_, fun c => ?_⟩
  · rw [e2, h2, mul_seen _ (Attn.wt_pos _ _).le]
    simp only [← EReal.coe_mul, Attn.wt_mul, seen, dif_pos hn]
  · rw [e3, h3, mul_seen _ (Attn.wt_pos _ _).le]
    simp only [← mul_assoc, ← EReal.coe_mul, Attn.wt_mul, hv, seen, dif_pos hn]

/-- At the end the stored block is the attention. -/
theorem inv_out (n : ℕ) (hn : n = 4) (μ l a : FVec Ideal S2048x128 .f32) (h : Inv s v n μ l a) (r : Fin 2048) (c : Fin 128) :
    k0_pay1 (F := Ideal) l a (ix2 r c) = Attn.mix (s r) (v c) := by
  subst hn
  obtain ⟨m, h1, h2, h3⟩ := h r
  rw [pay1_at, h2, h3, seen_four, seen_four]
  exact Attn.div_eq_mix (s r) m (v c)

end Cert.KernelIdeal.Attn

end
-- ==== Proof.Attn.Final.lean ====
module

public import proofs.«01_k».proof.Proof.Attn.Inv
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- The batch entry of a grid point. -/
def pb (t : Fin cfg0.N) : Fin 4 := ⟨t.val / 16 % 4, by omega⟩

/-- The head of a grid point. -/
def ph (t : Fin cfg0.N) : Fin 4 := ⟨t.val / 4 % 4, by omega⟩

/-- The row block of a grid point. -/
def pi (t : Fin cfg0.N) : Fin 4 := ⟨t.val % 4, by omega⟩

/-- Which block each window is on at a point. -/
theorem idx : ∀ t : Fin cfg0.N, win0_0.index t = ![(pb t).val * 4 + (pi t).val, (ph t).val] ∧ win0_1.index t = ![(pb t).val, (ph t).val]
    ∧ win0_2.index t = ![(pb t).val, (ph t).val] ∧ win0_3.index t = ![(pb t).val, (ph t).val] ∧ win0_4.index t = ![(pb t).val, (ph t).val]
    ∧ win0_5.index t = ![(pb t).val * 4 + (pi t).val, (ph t).val] :=
  (by decide +kernel : ∀ t : Fin grid0.N, _)

/-! The arguments, by their coordinates. -/

/-- An array of the latent queries' and keys' shape, by row and column. -/
def wide (x : FVec Ideal S32768x1024 .bf16) (r : Fin 32768) (n : Fin 1024) : EReal := x (ix2 r n)
/-- An array of the latent values' shape, by row and column. -/
def narrow (x : FVec Ideal S32768x512 .bf16) (r : Fin 32768) (n : Fin 512) : EReal := x (ix2 r n)
/-- An array of the context keys' shape, by row and column. -/
def cwide (x : FVec Ideal S1024x1024 .bf16) (r : Fin 1024) (n : Fin 1024) : EReal := x (ix2 r n)
/-- An array of the context values' shape, by row and column. -/
def cnarrow (x : FVec Ideal S1024x512 .bf16) (r : Fin 1024) (n : Fin 512) : EReal := x (ix2 r n)

/-- The queries. -/
abbrev Q (c : Dev nD) := wide (m ((c.tc : Thread nD τ).loc main_arg0))
/-- The latent keys. -/
abbrev K (c : Dev nD) := wide (m ((c.tc : Thread nD τ).loc main_arg1))
/-- The latent values. -/
abbrev U (c : Dev nD) := narrow (m ((c.tc : Thread nD τ).loc main_arg2))
/-- The context keys. -/
abbrev KC (c : Dev nD) := cwide (m ((c.tc : Thread nD τ).loc main_arg3))
/-- The context values. -/
abbrev VC (c : Dev nD) := cnarrow (m ((c.tc : Thread nD τ).loc main_arg4))

/-- The position, inside its batch entry, of row `r` of a point's block. -/
def pos (t : Fin cfg0.N) (r : Fin 2048) : Fin 8192 := ⟨(pi t).val * 2048 + r.val, by have := (pi t).isLt; omega⟩

/-- A point's queries. -/
theorem q_at (c : Dev nD) (t : Fin cfg0.N) (r : Fin 2048) (d : Fin 256) :
    (iblk m c 0 t : S2048x256.Idx → EReal) (ix2 r d) = Q m c (Attn.row (pb t) (pos t r)) (Attn.col (ph t) d) := by
  unfold Q wide Attn.row Attn.col pos
  blk_point [iblk, V, idx t]

/-- A point's latent keys. -/
theorem k_at (c : Dev nD) (t : Fin cfg0.N) (r : Fin 8192) (d : Fin 256) :
    (iblk m c 1 t : S8192x256.Idx → EReal) (ix2 r d) = K m c (Attn.row (pb t) r) (Attn.col (ph t) d) := by
  unfold K wide Attn.row Attn.col
  blk_point [iblk, V, idx t]

/-- A point's latent values. -/
theorem v_at (c : Dev nD) (t : Fin cfg0.N) (r : Fin 8192) (d : Fin 128) :
    (iblk m c 2 t : S8192x128.Idx → EReal) (ix2 r d) = U m c (Attn.row (pb t) r) (Attn.vcol (ph t) d) := by
  unfold U narrow Attn.row Attn.vcol
  blk_point [iblk, V, idx t]

/-- A point's context keys. -/
theorem kc_at (c : Dev nD) (t : Fin cfg0.N) (r : Fin 256) (d : Fin 256) :
    (iblk m c 3 t : S256x256.Idx → EReal) (ix2 r d) = KC m c (Attn.crow (pb t) r) (Attn.col (ph t) d) := by
  unfold KC cwide Attn.crow Attn.col
  blk_point [iblk, V, idx t]

/-- A point's context values. -/
theorem vc_at (c : Dev nD) (t : Fin cfg0.N) (r : Fin 256) (d : Fin 128) :
    (iblk m c 4 t : S256x128.Idx → EReal) (ix2 r d) = VC m c (Attn.crow (pb t) r) (Attn.vcol (ph t) d) := by
  unfold VC cnarrow Attn.crow Attn.vcol
  blk_point [iblk, V, idx t]

/-- Entry `x` of the latent part of a batch entry's keys or values. -/
theorem entry_latent {n : ℕ} (C : Fin 1024 → Fin n → EReal) (A : Fin 32768 → Fin n → EReal) (b : Fin 4) (i : Fin 8192) (x : Fin n) :
    Attn.entry C A b ⟨256 + i.val, by omega⟩ x = A (Attn.row b i) x := by
  unfold Attn.entry
  rw [dif_neg (by simp)]
  exact congrFun (congrArg A (congrArg (Attn.row b) (Fin.ext (by simp only; omega)))) x

/-- Entry `x` of the context part. -/
theorem entry_ctx {n : ℕ} (C : Fin 1024 → Fin n → EReal) (A : Fin 32768 → Fin n → EReal) (b : Fin 4) (i : Fin 256) (x : Fin n) :
    Attn.entry C A b ⟨i.val, by omega⟩ x = C (Attn.crow b i) x := by
  unfold Attn.entry
  rw [dif_pos i.isLt]

/-- Where a trip's keys lie among the point's keys. -/
theorem keyRect_idx (k : Fin k0_t1_loop.trips) (hk : k.val < 4) (j : Fin 2048) (d : Fin 256) :
    (keyRect k).toLoadRect.idx (ix2 j d) = ix2 (⟨k.val * 2048 + j.val, by omega⟩ : Fin 8192) d := by
  have h := k0_off1_eq k
  funext a
  match a with
  | ⟨0, _⟩ =>
    refine Fin.ext ?_
    show k0_off1 k 0 + 1 * j.val = k.val * 2048 + j.val
    rw [h]
    show 2048 * k.val + 1 * j.val = _
    omega
  | ⟨1, _⟩ =>
    refine Fin.ext ?_
    show k0_off1 k 1 + 1 * d.val = d.val
    rw [h]
    show 0 + 1 * d.val = _
    omega

/-- Where a trip's values lie among the point's values. -/
theorem valRect_idx (k : Fin k0_t1_loop.trips) (hk : k.val < 4) (j : Fin 2048) (d : Fin 128) :
    (valRect k).toLoadRect.idx (ix2 j d) = ix2 (⟨k.val * 2048 + j.val, by omega⟩ : Fin 8192) d := by
  have h := k0_off2_eq k
  funext a
  match a with
  | ⟨0, _⟩ =>
    refine Fin.ext ?_
    show k0_off2 k 0 + 1 * j.val = k.val * 2048 + j.val
    rw [h]
    show 2048 * k.val + 1 * j.val = _
    omega
  | ⟨1, _⟩ =>
    refine Fin.ext ?_
    show k0_off2 k 1 + 1 * d.val = d.val
    rw [h]
    show 0 + 1 * d.val = _
    omega

/-- A load after two runs of stores is a load of the later over the earlier. -/
theorem readCov_append {κ : Kind} {sp : Space} {S : Shape} {e : EltTy} (v : View sig κ sp S e)
    (L L' : List (View.Piece (Elt Ideal) S e)) (B : LoadRect S) :
    v.readCov (L ++ L') B = v.readAt (Elt Ideal) B (v.writes (Elt Ideal) (v.writes (Elt Ideal) v.junk L') L) :=
  congrArg (v.readAt (Elt Ideal) B) (View.writes_append v v.junk L L')

/-- What a point leaves, of finite queries and keys: the attention of its rows. -/
theorem point (c : Dev nD) (hQ : ∀ r x, Attn.IsReal (Q m c r x)) (hK : ∀ r x, Attn.IsReal (K m c r x)) (hC : ∀ r x, Attn.IsReal (KC m c r x))
    (t : Fin cfg0.N) (r : Fin 2048) (n : Fin 128) : outsAt0 m c t (ix2 r n)
      = Attn.out (Q m c) (KC m c) (K m c) (VC m c) (U m c) (pb t) (ph t) (pos t r) n := by
  have hl : ∀ r i, Attn.logit (Q m c) (KC m c) (K m c) (pb t) (ph t) (pos t r) i
      = (((Attn.logit (Q m c) (KC m c) (K m c) (pb t) (ph t) (pos t r) i).toReal : ℝ) : EReal) := fun r i =>
    (Attn.real_logit hQ hC hK _ _ _ i).eq
  have h4 : Scf.trips (0#32) (Scalar.addi 0#32 4#32) 1#32 = 4 := by decide
  have h4' : k0_t1_loop.trips = 4 := by decide
  unfold outsAt0 Attn.out
  frame_open
  simp (disch := decide) only [↓ View.readCov_skip, ↓ View.readCov_cons_toLoadRect, ↓ View.readCov_fill]
  frame_out
  rw [readCov_append, readCov_append]
  have key := fun h0 hs => loop_inv Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _) scM0_2 (Memref.isWhole_whole _)
    (iblk m c 0 t) ((hs0_1 t).unread (iblk m c 1 t)) ((hs0_2 t).unread (iblk m c 2 t))
    ((View.whole cc0_scratch0).writes (Elt Ideal) (View.whole cc0_scratch0).junk [⟨full, k0_pay40 (F := Ideal) (iblk m c 0 t) (iblk m c 3 t)⟩])
    ((View.whole cc0_scratch1).writes (Elt Ideal) (View.whole cc0_scratch1).junk [⟨full, k0_pay38 (F := Ideal) (iblk m c 0 t) (iblk m c 3 t)⟩])
    ((View.whole cc0_scratch2).writes (Elt Ideal) (View.whole cc0_scratch2).junk [⟨full, k0_pay39 (F := Ideal) (iblk m c 0 t) (iblk m c 3 t) (iblk m c 4 t)⟩])
    (Inv (fun r i => (Attn.logit (Q m c) (KC m c) (K m c) (pb t) (ph t) (pos t r) i).toReal)
      (fun n i => Attn.entry (VC m c) (U m c) (pb t) i (Attn.vcol (ph t) n)))
    h0 hs (Scf.trips (0#32) (Scalar.addi 0#32 4#32) 1#32) (by rw [h4, h4'])
  refine inv_out _ h4 _ _ _ (key ?_ ?_) r n
  · have h := inv_zero (s := fun r i => (Attn.logit (Q m c) (KC m c) (K m c) (pb t) (ph t) (pos t r) i).toReal)
      (v := fun n i => Attn.entry (VC m c) (U m c) (pb t) i (Attn.vcol (ph t) n)) (iblk m c 0 t) (iblk m c 3 t) (iblk m c 4 t)
      (fun r j => by
        rw [← hl]
        unfold Attn.logit
        refine Finset.sum_congr rfl fun d _ => ?_
        rw [q_at, kc_at, entry_ctx])
      (fun n j => by rw [vc_at, entry_ctx])
    have e0 := View.readAt_writes_full (Val := Elt Ideal) (View.whole cc0_scratch0) (View.whole cc0_scratch0).junk inb_S2048x128_S2048x128_0_0 inb_S2048x128_S2048x128_0_0
      (k0_pay40 (F := Ideal) (iblk m c 0 t) (iblk m c 3 t)) []
    have e1 := View.readAt_writes_full (Val := Elt Ideal) (View.whole cc0_scratch1) (View.whole cc0_scratch1).junk inb_S2048x128_S2048x128_0_0 inb_S2048x128_S2048x128_0_0
      (k0_pay38 (F := Ideal) (iblk m c 0 t) (iblk m c 3 t)) []
    have e2 := View.readAt_writes_full (Val := Elt Ideal) (View.whole cc0_scratch2) (View.whole cc0_scratch2).junk inb_S2048x128_S2048x128_0_0 inb_S2048x128_S2048x128_0_0
      (k0_pay39 (F := Ideal) (iblk m c 0 t) (iblk m c 3 t) (iblk m c 4 t)) []
    rw [← e0, ← e1, ← e2] at h
    exact h
  · intro k μ l a h
    have hk : k.val < 4 := h4' ▸ k.isLt
    refine inv_step k.val hk _ _ _ μ l a (fun r j => ?_) (fun n j => ?_) h
    · rw [← hl]
      unfold Attn.logit
      refine Finset.sum_congr rfl fun d _ => ?_
      rw [q_at, Memref.IsWhole.readAt_unread, keyRect_idx k hk, k_at,
        entry_latent _ _ _ (⟨k.val * 2048 + j.val, by omega⟩ : Fin 8192)]
    · rw [Memref.IsWhole.readAt_unread, valRect_idx k hk, v_at,
        entry_latent _ _ _ (⟨k.val * 2048 + j.val, by omega⟩ : Fin 8192)]

/-- The batch entry of a row. -/
def bat (r : Fin 32768) : Fin 4 := ⟨r.val / 8192, by omega⟩

/-- The position of a row in its batch entry. -/
def at' (r : Fin 32768) : Fin 8192 := ⟨r.val % 8192, by omega⟩

/-- The head of a column of the result. -/
def head (n : Fin 512) : Fin 4 := ⟨n.val / 128, by omega⟩

/-- The feature of a column of the result. -/
def feat (n : Fin 512) : Fin 128 := ⟨n.val % 128, by omega⟩

/-- The result array after the run, index by index. -/
theorem final (c : Dev nD) (hQ : ∀ r x, Attn.IsReal (Q m c r x)) (hK : ∀ r x, Attn.IsReal (K m c r x)) (hC : ∀ r x, Attn.IsReal (KC m c r x)) :
    (dats m 0 c).arrAt 5 (cfgs 0).N = fun j : S32768x512.Idx =>
      Attn.out (Q m c) (KC m c) (K m c) (VC m c) (U m c) (bat (j 0)) (head (j 1)) (at' (j 0)) (feat (j 1)) := by
  refine (dats m 0 c).arrAt_eq_of_covers 5 _ (by decide +kernel) fun t hf y => ?_
  blk_simp
  rw [after0_5]
  revert y
  intro (y : S2048x128.Idx)
  obtain ⟨r, n, rfl⟩ : ∃ r n, y = ix2 r n := ⟨y 0, y 1, eq_ix2 y⟩
  have e0 : (win0_5.blk t).view.emb (ix2 r n) 0 = Attn.row (pb t) (pos t r) :=
    Fin.ext (by unfold Attn.row pos; blk_simp [idx t]; simp only; omega)
  have e1 : (win0_5.blk t).view.emb (ix2 r n) 1 = Attn.vcol (ph t) n :=
    Fin.ext (by unfold Attn.vcol; blk_simp [idx t])
  have b0 : bat (Attn.row (pb t) (pos t r)) = pb t := Fin.ext (by unfold bat Attn.row; simp only; omega)
  have b1 : at' (Attn.row (pb t) (pos t r)) = pos t r := Fin.ext (by unfold at' Attn.row; simp only; omega)
  have b2 : head (Attn.vcol (ph t) n) = ph t := Fin.ext (by unfold head Attn.vcol; simp only; omega)
  have b3 : feat (Attn.vcol (ph t) n) = n := Fin.ext (by unfold feat Attn.vcol; simp only; omega)
  rw [point m c hQ hK hC t r n]
  refine Eq.trans ?_ (congrArg₂ (fun (x : Fin 32768) (y : Fin 512) =>
    Attn.out (Q m c) (KC m c) (K m c) (VC m c) (U m c) (bat x) (head y) (at' x) (feat y)) e0.symm e1.symm)
  simp only [b0, b1, b2, b3]

end Cert.KernelIdeal.Attn

end
-- ==== Proof.Attn.Ref.lean ====
module

public import proofs.«01_k».proof.Proof.Gen.ReferenceIdeal.Run
public import Idealize.ShloMosaic.Lib.Pipeline.ValueKit
public import proofs.«01_k».proof.Proof.Attn.Spec

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Value

/-- The keys of every batch entry and head: the context's, then the latents'. -/
def keysV (C : FVec Ideal S1024x1024 .bf16) (K : FVec Ideal S32768x1024 .bf16) : FVec Ideal S4x8448x4x256 .f32 :=
  concatenate S4x8448x4x256 1 [⟨S4x256x4x256, (shapeCast _ (extf .f32 C bitsLt_bf16_f32) shapeCasts_S1024x1024_S4x256x4x256)⟩,
    ⟨S4x8192x4x256, (shapeCast _ (extf .f32 K bitsLt_bf16_f32) shapeCasts_S32768x1024_S4x8192x4x256)⟩]
    concatenates_S4x256x4x256_S4x8192x4x256_S4x8448x4x256_d1

/-- A key's feature, by its head. -/
theorem keysV_at (C : FVec Ideal S1024x1024 .bf16) (K : FVec Ideal S32768x1024 .bf16) (b h : Fin 4) (i : Fin 8448) (d : Fin 256) :
    keysV C K (ix4 b i h d) = Attn.entry (fun r x => C (ix2 r x)) (fun r x => K (ix2 r x)) b i (Attn.col h d) := by
  unfold Attn.entry Attn.col Attn.row Attn.crow
  pointwise [keysV]

/-- The values of every batch entry and head: the context's, then the latents'. -/
def valsV (C : FVec Ideal S1024x512 .bf16) (V : FVec Ideal S32768x512 .bf16) : FVec Ideal S4x8448x4x128 .f32 :=
  concatenate S4x8448x4x128 1 [⟨S4x256x4x128, (shapeCast _ (extf .f32 C bitsLt_bf16_f32) shapeCasts_S1024x512_S4x256x4x128)⟩,
    ⟨S4x8192x4x128, (shapeCast _ (extf .f32 V bitsLt_bf16_f32) shapeCasts_S32768x512_S4x8192x4x128)⟩]
    concatenates_S4x256x4x128_S4x8192x4x128_S4x8448x4x128_d1

/-- A value's feature, by its head. -/
theorem valsV_at (C : FVec Ideal S1024x512 .bf16) (V : FVec Ideal S32768x512 .bf16) (b h : Fin 4) (i : Fin 8448) (d : Fin 128) :
    valsV C V (ix4 b i h d) = Attn.entry (fun r x => C (ix2 r x)) (fun r x => V (ix2 r x)) b i (Attn.vcol h d) := by
  unfold Attn.entry Attn.vcol Attn.row Attn.crow
  pointwise [valsV]

/-- The logits, times the logarithm of two. -/
def logitV (Q : FVec Ideal S32768x1024 .bf16) (K : FVec Ideal S4x8448x4x256 .f32) : FVec Ideal S4x4x8192x8448 .f32 :=
  mulf (Host.dotGeneral dot_S4x8192x4x256_S4x8448x4x256_S4x4x8192x8448_3_3_1_1_02_02 none
      (shapeCast _ (extf .f32 Q bitsLt_bf16_f32) shapeCasts_S32768x1024_S4x8192x4x256) K)
    (broadcastInDim S4x4x8192x8448 ![] bcast_S_S4x4x8192x8448 (Host.log (constant S_ .f32 0x40000000#32)))

/-- A logit is a dot product over one head's features, times the logarithm of two. -/
theorem logitV_at (Q : FVec Ideal S32768x1024 .bf16) (K : FVec Ideal S4x8448x4x256 .f32) (b h : Fin 4) (s : Fin 8192) (i : Fin 8448) :
    logitV Q K (ix4 b h s i)
      = (∑ d, Q (ix2 (Attn.row b s) (Attn.col h d)) * K (ix4 b i h d)) * Ideal.log (Ideal.ofBits .f32 0x40000000#32) := by
  unfold Attn.col Attn.row
  pointwise [logitV]

/-- That logarithm. -/
theorem log_two : Ideal.log (Ideal.ofBits .f32 0x40000000#32) = (Real.log 2 : ℝ) := by
  have h : Ideal.ofBits .f32 0x40000000#32 = ((2 : ℝ) : EReal) := by
    simp [Ideal.ofBits, Ideal.ieee]; rw [← EReal.coe_mul, EReal.coe_eq_coe_iff]; norm_num
  rw [h, Ideal.log_coe, if_neg (by norm_num)]

/-- Minus infinity, as the reference writes it. -/
theorem bot_bits : Ideal.ofBits .f32 0xFF800000#32 = ⊥ := by
  simp [Ideal.ofBits, Ideal.ieee]

/-- The greatest of finite entries along an axis that is not empty, from minus infinity, is finite. -/
theorem real_reduce {s t u : Shape} {a : Fin s.rank} (x : FVec Ideal s .f32) (hx : ∀ i, Attn.IsReal (x i))
    (h' : s.ReducesTo [a] t) (ht : 0 < t.rank) (hs : 0 < s.size a) (hu : 0 < u.numel) (dims : Fin u.rank → Fin t.rank)
    (hb : u.BroadcastsInDim t dims) (j : t.Idx) :
    Attn.IsReal ((maximumf (broadcastInDim t dims hb (constant u .f32 0xFF800000#32))
      (Host.reduce FloatOps.maximumf x (constant u .f32 0xFF800000#32) h' hu) : FVec Ideal t .f32) j) := by
  have h : s.Reduces [a] t := ⟨h'.1, ht, h'.2⟩
  have e : (maximumf (broadcastInDim t dims hb (constant u .f32 0xFF800000#32))
      (Host.reduce FloatOps.maximumf x (constant u .f32 0xFF800000#32) h' hu) : FVec Ideal t .f32) j
      = max (Ideal.ofBits .f32 0xFF800000#32) (Host.reduce (FloatOps.maximumf (F := Ideal) (φ := .f32)) x
        (constant u .f32 0xFF800000#32 : FVec Ideal u .f32) h' hu j) := rfl
  have e2 : ∀ i, (constant u .f32 0xFF800000#32 : FVec Ideal u .f32) i = ⊥ := fun _ => bot_bits
  rw [e, bot_bits, max_bot_left, Host.reduce_eq_fold_single _ _ _ h' h hu j, e2]
  exact Attn.real_fold Finset.univ ⟨⟨0, hs⟩, Finset.mem_univ _⟩ _ fun i => hx _

/-- The greatest logit of every query. -/
def topV (L : FVec Ideal S4x4x8192x8448 .f32) : FVec Ideal S4x4x8192 .f32 :=
  maximumf (broadcastInDim S4x4x8192 ![] bcast_S_S4x4x8192 (constant S_ .f32 0xFF800000#32))
    (Host.reduce FloatOps.maximumf L (constant S_ .f32 0xFF800000#32) reducesTo_S4x4x8192x8448_S4x4x8192_d3 h_S_)

/-- Of finite logits the greatest is finite. -/
theorem real_topV (L : FVec Ideal S4x4x8192x8448 .f32) (hL : ∀ i, Attn.IsReal (L i)) (j : S4x4x8192.Idx) :
    Attn.IsReal (topV L j) := by
  unfold topV
  exact real_reduce L hL _ (by decide) (by decide) _ _ _ j

/-- The exponentials of the logits less the greatest. -/
def expV (L : FVec Ideal S4x4x8192x8448 .f32) (T : FVec Ideal S4x4x8192 .f32) : FVec Ideal S4x4x8192x8448 .f32 :=
  Host.exp (subf L (broadcastInDim S4x4x8192x8448 ![0, 1, 2, 3] bcast_S4x4x8192x1_S4x4x8192x8448_0_1_2_3
    (broadcastInDim S4x4x8192x1 ![0, 1, 2] bcast_S4x4x8192_S4x4x8192x1_0_1_2 T)))

/-- An entry of the exponentials of the logits less their maximum. -/
theorem expV_at (L : FVec Ideal S4x4x8192x8448 .f32) (T : FVec Ideal S4x4x8192 .f32) (b h : Fin 4) (s : Fin 8192) (i : Fin 8448) :
    expV L T (ix4 b h s i) = Ideal.exp (L (ix4 b h s i) - T (ix3 b h s)) := by
  pointwise [expV]

/-- The exponentials over their sum. -/
def probV (E : FVec Ideal S4x4x8192x8448 .f32) : FVec Ideal S4x4x8192x8448 .f32 :=
  Host.divf E (broadcastInDim S4x4x8192x8448 ![0, 1, 2, 3] bcast_S4x4x8192x1_S4x4x8192x8448_0_1_2_3
    (broadcastInDim S4x4x8192x1 ![0, 1, 2] bcast_S4x4x8192_S4x4x8192x1_0_1_2
      (Host.reduceAdd E (constant S_ .f32 0x00000000#32) reducesTo_S4x4x8192x8448_S4x4x8192_d3 h_S_)))

/-- An entry of the probabilities: the exponential over its row's sum. -/
theorem probV_at (E : FVec Ideal S4x4x8192x8448 .f32) (b h : Fin 4) (s : Fin 8192) (i : Fin 8448) :
    probV E (ix4 b h s i) = Ideal.div (E (ix4 b h s i)) (∑ k, E (ix4 b h s k)) := by
  pointwise [probV]

/-- The weighted values, laid out as an array of rows. -/
def mixV (V : FVec Ideal S4x8448x4x128 .f32) (P : FVec Ideal S4x4x8192x8448 .f32) : FVec Ideal S32768x512 .bf16 :=
  truncf .bf16 (shapeCast _ (transpose S4x8192x4x128 [0, 3, 1, 2]
    (Host.dotGeneral dot_S4x8448x4x128_S4x4x8192x8448_S4x4x128x8192_1_3_3_2_02_01 none V P) transposes_S4x4x128x8192_S4x8192x4x128_0_3_1_2) shapeCasts_S4x8192x4x128_S32768x512)
    bitsLt_bf16_f32

/-- An entry of the result is a sum over the keys. -/
theorem mixV_at (V : FVec Ideal S4x8448x4x128 .f32) (P : FVec Ideal S4x4x8192x8448 .f32) (b h : Fin 4) (s : Fin 8192) (d : Fin 128) :
    mixV V P (ix2 (Attn.row b s) (Attn.vcol h d)) = ∑ i, V (ix4 b i h d) * P (ix4 b h s i) := by
  have h0 : (Attn.row b s).val / 8192 = b.val := by unfold Attn.row; simp only; omega
  have h1 : (Attn.row b s).val % 8192 = s.val := by unfold Attn.row; simp only; omega
  have h2 : (Attn.vcol h d).val / 128 = h.val := by unfold Attn.vcol; simp only; omega
  have h3 : (Attn.vcol h d).val % 128 = d.val := by unfold Attn.vcol; simp only; omega
  pointwise [mixV, h0, h1, h2, h3]

variable (m : (ℓ : Loc nD τ sig) → Buf (Elt Ideal) ℓ)

/-- The reference's result is the composition of these steps. -/
theorem res_eq (c : Dev nD) : res_main_v30 m c
    = mixV (valsV (m ((c.tc : Thread nD τ).loc main_arg4)) (m ((c.tc : Thread nD τ).loc main_arg2)))
      (probV (expV (logitV (m ((c.tc : Thread nD τ).loc main_arg0)) (keysV (m ((c.tc : Thread nD τ).loc main_arg3)) (m ((c.tc : Thread nD τ).loc main_arg1))))
        (topV (logitV (m ((c.tc : Thread nD τ).loc main_arg0)) (keysV (m ((c.tc : Thread nD τ).loc main_arg3)) (m ((c.tc : Thread nD τ).loc main_arg1))))))) := rfl

/-- The reference's result at a position's row and a head's column, of finite queries and keys, is the formula. -/
theorem res_at (c : Dev nD) (hQ : ∀ i, Attn.IsReal (m ((c.tc : Thread nD τ).loc main_arg0) i))
    (hK : ∀ i, Attn.IsReal (m ((c.tc : Thread nD τ).loc main_arg1) i)) (hC : ∀ i, Attn.IsReal (m ((c.tc : Thread nD τ).loc main_arg3) i))
    (b h : Fin 4) (s : Fin 8192) (d : Fin 128) : res_main_v30 m c (ix2 (Attn.row b s) (Attn.vcol h d))
    = Attn.out (fun r x => m ((c.tc : Thread nD τ).loc main_arg0) (ix2 r x)) (fun r x => m ((c.tc : Thread nD τ).loc main_arg3) (ix2 r x))
        (fun r x => m ((c.tc : Thread nD τ).loc main_arg1) (ix2 r x)) (fun r x => m ((c.tc : Thread nD τ).loc main_arg4) (ix2 r x))
        (fun r x => m ((c.tc : Thread nD τ).loc main_arg2) (ix2 r x)) b h s d := by
  rw [res_eq]
  generalize hLL : logitV (m ((c.tc : Thread nD τ).loc main_arg0)) (keysV (m ((c.tc : Thread nD τ).loc main_arg3)) (m ((c.tc : Thread nD τ).loc main_arg1))) = L
  have hreal := fun b h s i => Attn.real_logit (Q := fun r x => m ((c.tc : Thread nD τ).loc main_arg0) (ix2 r x))
    (C := fun r x => m ((c.tc : Thread nD τ).loc main_arg3) (ix2 r x)) (K := fun r x => m ((c.tc : Thread nD τ).loc main_arg1) (ix2 r x))
    (fun r x => hQ _) (fun r x => hC _) (fun r x => hK _) b h s i
  unfold Attn.out
  set l := Attn.logit (fun r x => m ((c.tc : Thread nD τ).loc main_arg0) (ix2 r x)) (fun r x => m ((c.tc : Thread nD τ).loc main_arg3) (ix2 r x))
    (fun r x => m ((c.tc : Thread nD τ).loc main_arg1) (ix2 r x)) with hl
  have eL : ∀ b h s i, L (ix4 b h s i) = (((l b h s i).toReal : ℝ) : EReal) * (Real.log 2 : ℝ) := fun b h s i => by
    rw [← hLL, logitV_at, log_two, ← (hreal b h s i).eq, hl]
    simp only [keysV_at]
    rfl
  have hL : ∀ i, Attn.IsReal (L i) := fun i => by
    obtain ⟨b, h, s, i, rfl⟩ : ∃ b h s k, i = ix4 b h s k := ⟨i 0, i 1, i 2, i 3, eq_ix4 i⟩
    rw [eL, ← EReal.coe_mul]; exact ⟨_, rfl⟩
  obtain ⟨t, ht⟩ := real_topV L hL (ix3 b h s)
  refine (mixV_at _ _ b h s d).trans ?_
  unfold Attn.mix
  refine Finset.sum_congr rfl fun i _ => ?_
  have hp : probV (expV L (topV L)) (ix4 b h s i) = Attn.share (fun i => (l b h s i).toReal) i := by
    rw [probV_at]
    simp only [expV_at, ht, eL]
    exact Attn.softmax_eq (fun i => (l b h s i).toReal) t i
  rw [hp, valsV_at]
  exact mul_comm (G := EReal) _ _

end Cert.ReferenceIdeal.Attn

end
-- ==== Proof.Attn.Pre.lean ====
module

public import proofs.«01_k».proof.Proof.Attn.Spec
public import proofs.«01_k».proof.Proof.Gen.Pre_finite_qk
public import Idealize.ShloMosaic.Lib.Pipeline.ValueKit
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Pre_finite_qk

open Cert.Pre_finite_qk.Gen

/-- Plus infinity, as the precondition writes it. -/
theorem top_bits : Ideal.ofBits .f32 0x7F800000#32 = ⊤ := by
  simp [Ideal.ofBits, Ideal.ieee]

/-- An array of any shape whose entries' absolute values are all below infinity holds finite numbers. -/
theorem real_of_all {s u : Shape} {axes : List (Fin s.rank)} [Subsingleton u.Idx] (x : FVec Ideal s .bf16) (hb : FTy.bits .bf16 < FTy.bits .f32)
    (dims : Fin u.rank → Fin s.rank) (hd : u.BroadcastsInDim s dims) (h : s.ReducesTo axes u) (hu : 0 < u.numel) (one : IVec u 1) (j : u.Idx)
    (e : Host.reduce IntOp.andi (cmpf .olt (Host.absf (extf .f32 x hb)) (broadcastInDim s dims hd (constant u .f32 0x7F800000#32))) one h hu j = 1#1)
    (i : s.Idx) : Attn.IsReal (x i) := by
  have h1 := Host.reduce_andi_all _ _ h hu j e i
  have h2 : Ideal.cmp .olt (max (x i) (-(x i))) (Ideal.ofBits .f32 0x7F800000#32) = 1#1 := h1
  rw [top_bits] at h2
  refine Attn.real_of ?_
  by_contra hn
  simp [Ideal.cmp, hn] at h2

/-- What the precondition says: the queries, the latent keys and the context keys are finite. -/
theorem real_of_pre (q k : FVec Ideal S32768x1024 .bf16) (v : FVec Ideal S32768x512 .bf16) (kc : FVec Ideal S1024x1024 .bf16)
    (vc : FVec Ideal S1024x512 .bf16) (h : fn (F := Ideal) q k v kc vc = fun _ => 1#1) :
    (∀ i, Attn.IsReal (q i)) ∧ (∀ i, Attn.IsReal (k i)) ∧ ∀ i, Attn.IsReal (kc i) := by
  haveI : Subsingleton S_.Idx := ⟨fun a b => funext fun x => x.elim0⟩
  have e := congrFun h (fun a => a.elim0)
  obtain ⟨e1, e2⟩ := IntOp.andi_eq_one.1 e
  obtain ⟨e3, e4⟩ := IntOp.andi_eq_one.1 e1
  exact ⟨fun i => real_of_all q _ _ _ _ _ _ _ e3 i, fun i => real_of_all k _ _ _ _ _ _ _ e4 i, fun i => real_of_all kc _ _ _ _ _ _ _ e2 i⟩

end Cert.Pre_finite_qk

end
-- ==== Proof.Attn.Claim.lean ====
module

public import proofs.«01_k».proof.Defs
public import proofs.«01_k».proof.Proof.Attn.Final
public import proofs.«01_k».proof.Proof.Attn.Ref
public import proofs.«01_k».proof.Proof.Attn.Pre
public import Idealize.ShloMosaic.Lib.Claim

@[expose] public section

set_option maxRecDepth 16384

noncomputable section

open Idealize.ShloMosaic Idealize.ShloMosaic.TcCoe Idealize.SL.Sem

/-- The attention kernel and its reference end with the same array, read over the extended reals, when queries and keys are finite. -/
theorem Attn.algebraic : Cert.algebraic_KernelIdeal_ReferenceIdeal_pre_finite_qk := by
  pair_intro
  · run_from Cert.KernelIdeal.Gen.run_main m g
  · run_from Cert.ReferenceIdeal.Value.run m' g'
    obtain ⟨h0, h1, h2, h3, h4⟩ := hagree c
    obtain ⟨hQ, hK, hC⟩ := Cert.Pre_finite_qk.real_of_pre _ _ _ _ _ (hpre c)
    refine Eq.trans ?_ (Cert.KernelIdeal.Attn.final m c (fun r x => hQ _) (fun r x => hK _) (fun r x => hC _)).symm
    funext j
    obtain ⟨r, n, rfl⟩ : ∃ (r : Fin 32768) (n : Fin 512), j = ix2 r n := ⟨j 0, j 1, eq_ix2 j⟩
    have e0 : Attn.row (Cert.KernelIdeal.Attn.bat r) (Cert.KernelIdeal.Attn.at' r) = r :=
      Fin.ext (by unfold Attn.row Cert.KernelIdeal.Attn.bat Cert.KernelIdeal.Attn.at'; simp only; omega)
    have e1 : Attn.vcol (Cert.KernelIdeal.Attn.head n) (Cert.KernelIdeal.Attn.feat n) = n :=
      Fin.ext (by unfold Attn.vcol Cert.KernelIdeal.Attn.head Cert.KernelIdeal.Attn.feat; simp only; omega)
    have h := Cert.ReferenceIdeal.Attn.res_at m' c (by rw [h0]; exact hQ) (by rw [h1]; exact hK) (by rw [h3]; exact hC)
      (Cert.KernelIdeal.Attn.bat r) (Cert.KernelIdeal.Attn.head n) (Cert.KernelIdeal.Attn.at' r) (Cert.KernelIdeal.Attn.feat n)
    rw [e0, e1] at h
    refine h.trans ?_
    rw [h0, h1, h2, h3, h4]
    rfl

end
-- ==== Proof.Ffn.Spec.lean ====
module

public import Idealize.ShloMosaic.Lib.Pointwise

@[expose] public section

set_option maxRecDepth 16384

noncomputable section

open Idealize.ShloMosaic

/-! The feed-forward block with the final norm, over the extended reals: the formula that both programs are read as. -/

namespace Ffn

/-- The squared rectified hidden unit `l` of row `r`. -/
def hidden (H : Fin 32768 → Fin 2048 → EReal) (W : Fin 2048 → Fin 8192 → EReal) (r : Fin 32768) (l : Fin 8192) : EReal :=
  max (∑ d, H r d * W d l) 0 * max (∑ d, H r d * W d l) 0

/-- The block's output before the residual. -/
def down (H : Fin 32768 → Fin 2048 → EReal) (W : Fin 2048 → Fin 8192 → EReal) (U : Fin 8192 → Fin 2048 → EReal)
    (r : Fin 32768) (n : Fin 2048) : EReal :=
  ∑ l, hidden H W r l * U l n

/-- The batch entry of a row. -/
def batch (r : Fin 32768) : Fin 4 := ⟨r.val / 8192, by omega⟩

/-- The gated residual. -/
def resid (X Y : Fin 32768 → Fin 2048 → EReal) (G : Fin 4 → Fin 2048 → EReal) (r : Fin 32768) (n : Fin 2048) : EReal :=
  X r n + G (batch r) n * Y r n

/-- A row `z` divided by its root mean square and scaled by `g`. -/
def rms (z g : Fin 2048 → EReal) (n : Fin 2048) : EReal :=
  z n * Ideal.rsqrt (Ideal.div (∑ k, z k * z k) (Ideal.ofBits .f32 0x45000000#32) + Ideal.ofBits .f32 0x358637BD#32) * g n

/-- The result: the normed residual stream. -/
def out (X H : Fin 32768 → Fin 2048 → EReal) (G : Fin 4 → Fin 2048 → EReal) (g : Fin 2048 → EReal)
    (W : Fin 2048 → Fin 8192 → EReal) (U : Fin 8192 → Fin 2048 → EReal) (r : Fin 32768) (n : Fin 2048) : EReal :=
  rms (resid X (down H W U) G r) g n

/-- The literal is the number 2048. -/
theorem ofBits_2048 : Ideal.ofBits .f32 0x45000000#32 = ((2048 : ℝ) : EReal) := by
  simp [Ideal.ofBits, Ideal.ieee]
  rw [← EReal.coe_mul, EReal.coe_eq_coe_iff]
  norm_num

/-- The literal is the number 1/2048, exactly. -/
theorem ofBits_inv2048 : Ideal.ofBits .f32 0x3A000000#32 = ((1 / 2048 : ℝ) : EReal) := by
  simp [Ideal.ofBits, Ideal.ieee]
  rw [← EReal.coe_mul, EReal.coe_eq_coe_iff]
  norm_num

/-- Dividing by 2048 is multiplying by its reciprocal, which is a value of the format. -/
theorem mean_eq (x : EReal) : Ideal.div x (Ideal.ofBits .f32 0x45000000#32) = x * Ideal.ofBits .f32 0x3A000000#32 := by
  rw [ofBits_2048, ofBits_inv2048, Ideal.div_coe (by norm_num)]

/-- A sum over 2048 columns is the sum of its four quarters. -/
theorem sum_quarters (f : Fin 2048 → EReal) :
    ∑ k, f k = (∑ k : Fin 512, f ⟨k.val, by omega⟩) + (∑ k : Fin 512, f ⟨512 + k.val, by omega⟩)
      + (∑ k : Fin 512, f ⟨1024 + k.val, by omega⟩) + ∑ k : Fin 512, f ⟨1536 + k.val, by omega⟩ := by
  rw [Fin.sum_univ_tiles 4 512 rfl, Fin.sum_univ_four]
  simp

/-- A sum over 8192 hidden units is the sum of its four blocks of 2048. -/
theorem sum_blocks (f : Fin 8192 → EReal) :
    ∑ k, f k = (∑ k : Fin 2048, f ⟨k.val, by omega⟩) + (∑ k : Fin 2048, f ⟨2048 + k.val, by omega⟩)
      + (∑ k : Fin 2048, f ⟨4096 + k.val, by omega⟩) + ∑ k : Fin 2048, f ⟨6144 + k.val, by omega⟩ := by
  rw [Fin.sum_univ_tiles 4 2048 rfl, Fin.sum_univ_four]
  simp

end Ffn

end
-- ==== Proof.Ffn.Pay.lean ====
module

public import proofs.«01_k».proof.Proof.Gen.Kernel2Ideal.Value
public import proofs.«01_k».proof.Proof.Ffn.Spec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- One block of the hidden axis: its part of the second product. -/
theorem pay2_at (h : FVec Ideal S512x2048 .bf16) (w : FVec Ideal S1x2048x2048 .bf16) (u : FVec Ideal S1x2048x2048 .bf16)
    (r : Fin 512) (n : Fin 2048) : k0_pay2 (F := Ideal) h w u (ix2 r n)
    = ∑ k : Fin 2048, max (∑ d, h (ix2 r d) * w (ix3 0 d k)) 0 * max (∑ d, h (ix2 r d) * w (ix3 0 d k)) 0 * u (ix3 0 k n) := by
  pointwise [k0_pay2, k0_pay1]

/-- Adding a block's part to what is there. -/
theorem pay3_at (h : FVec Ideal S512x2048 .bf16) (w : FVec Ideal S1x2048x2048 .bf16) (o : FVec Ideal S512x2048 .f32)
    (u : FVec Ideal S1x2048x2048 .bf16) (r : Fin 512) (n : Fin 2048) :
    k0_pay3 (F := Ideal) h w o u (ix2 r n) = o (ix2 r n) + k0_pay2 (F := Ideal) h w u (ix2 r n) := by
  pointwise [k0_pay3, k0_pay2, k0_pay1]

/-- A row of the residual stream inside a block. -/
def zrow (x y : FVec Ideal S512x2048 .f32) (g : FVec Ideal S1x1x2048 .f32) (r : Fin 512) (n : Fin 2048) : EReal :=
  x (ix2 r n) + g (ix3 0 0 n) * y (ix2 r n)

/-- The scale's row. -/
def scale (g : FVec Ideal S1x2048 .f32) (n : Fin 2048) : EReal := g (ix2 0 n)

/-- Every later piece of a list is hidden where an earlier part already covers. -/
theorem canon_append {S : Shape} {e : EltTy} : ∀ (L K : List (View.Piece (Elt Ideal) S e)) (y : S.Idx),
    (∃ p ∈ L, y ∈ p.1.set) → View.canon (L ++ K) y = View.canon L y
  | [], _, _, h => by obtain ⟨p, hp, _⟩ := h; exact absurd hp List.not_mem_nil
  | p :: L, K, y, h => by
    by_cases hm : y ∈ p.1.set
    · obtain ⟨x, rfl⟩ := p.1.exists_idx_of_mem hm
      obtain ⟨r, w⟩ := p
      rw [List.cons_append, show r.idx x = r.emb x from rfl, View.canon_cons_emb, View.canon_cons_emb]
    · rw [List.cons_append, View.canon_cons_of_not_mem _ _ hm, View.canon_cons_of_not_mem _ _ hm]
      refine canon_append L K y ?_
      obtain ⟨q, hq, hyq⟩ := h
      rcases List.mem_cons.mp hq with rfl | hq'
      · exact absurd hyq hm
      · exact ⟨q, hq', hyq⟩

end Cert.Kernel2Ideal.Ffn

end
-- ==== Proof.Ffn.Cases.lean ====
module

public import proofs.«01_k».proof.Proof.Ffn.Pay

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

/-- After the first block of the hidden axis, a point leaves the plain product. -/
theorem left_A (c : Dev nD) (t : Fin cfg0.N) (h0 : t.val % 4 = 0) (h1 : ¬1 ≤ t.val % 4) (h2 : ¬t.val % 4 = 3) :
    outsAt0 m c t.val t.isLt = k0_pay2 (F := Ideal) (iblk m c 1 t) (iblk m c 4 t) (iblk m c 5 t) := by
  rw [outsAt0_A m c t h0 h1 h2]; frame_out

/-- A middle block of the hidden axis adds its product to what the point before left. -/
theorem left_B (c : Dev nD) (t : Fin cfg0.N) (h0 : ¬t.val % 4 = 0) (h1 : 1 ≤ t.val % 4) (h2 : ¬t.val % 4 = 3) :
    outsAt0 m c t.val t.isLt = k0_pay3 (F := Ideal) (iblk m c 1 t) (iblk m c 4 t)
      (outsAt0 m c (t.val - 1) (Nat.lt_of_le_of_lt (Nat.sub_le _ _) t.isLt)) (iblk m c 5 t) := by
  rw [outsAt0_B m c t h0 h1 h2]; frame_out

/-- The last block adds its product too; then each row is normed in place, four column chunks at a time. -/
theorem left_C (c : Dev nD) (t : Fin cfg0.N) (h0 : ¬t.val % 4 = 0) (h1 : 1 ≤ t.val % 4) (h2 : t.val % 4 = 3)
    (r : Fin 512) (n : Fin 2048) :
    outsAt0 m c t.val t.isLt (ix2 r n)
      = Ffn.rms (zrow (iblk m c 0 t) (k0_pay3 (F := Ideal) (iblk m c 1 t) (iblk m c 4 t)
      (outsAt0 m c (t.val - 1) (Nat.lt_of_le_of_lt (Nat.sub_le _ _) t.isLt)) (iblk m c 5 t)) (iblk m c 2 t) r)
        (scale (iblk m c 3 t)) n := by
  rw [outsAt0_C m c t h0 h1 h2]; frame_open
  simp (disch := decide) only [↓ View.readCov_skip, ↓ View.readCov_cons_toLoadRect, ↓ View.readCov_fill]
  frame_out
  generalize k0_pay3 (F := Ideal) (iblk m c 1 t) (iblk m c 4 t)
      (outsAt0 m c (t.val - 1) (Nat.lt_of_le_of_lt (Nat.sub_le _ _) t.isLt)) (iblk m c 5 t) = Y
  refine (canon_append [_, _, _, _] [_, _, _, _, _] (ix2 r n) (View.cover_of_tiled_head _ _ _ rfl _)).trans ?_
  canon_tiles x h
  all_goals
    open_payloads
    have hr : r = x 0 := Fin.ext h0
    subst hr
    have h1' : (n : ℕ) = _ := h1
    have hn : n = ⟨_, h1' ▸ n.isLt⟩ := Fin.ext h1'
    rw [hn]
    pointwise [Ffn.rms, Ffn.sum_quarters, Ffn.mean_eq, zrow, scale]

end Cert.Kernel2Ideal.Ffn

end
-- ==== Proof.Ffn.Final.lean ====
module

public import proofs.«01_k».proof.Proof.Ffn.Cases

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

/-- Which block each window is on at a point: the row block is the point's quotient by 4, the hidden block its rest. -/
theorem idx : ∀ t : Fin cfg0.N, win0_0.index t = ![t.val / 4, 0] ∧ win0_1.index t = ![t.val / 4, 0]
    ∧ win0_2.index t = ![t.val / 64, 0, 0] ∧ win0_3.index t = ![0, 0] ∧ win0_4.index t = ![3, 0, t.val % 4]
    ∧ win0_5.index t = ![3, t.val % 4, 0] ∧ win0_6.index t = ![t.val / 4, 0] :=
  (by decide +kernel : ∀ t : Fin grid0.N, _)

/-! The arguments, by their coordinates. -/

/-- The residual stream, row and column. -/
def rows (x : FVec Ideal S32768x2048 .f32) (r : Fin 32768) (n : Fin 2048) : EReal := x (ix2 r n)
/-- The normed rows that the block reads. -/
def rows' (x : FVec Ideal S32768x2048 .bf16) (r : Fin 32768) (n : Fin 2048) : EReal := x (ix2 r n)
/-- The gate of a batch entry. -/
def gate (x : FVec Ideal S4x1x2048 .f32) (b : Fin 4) (n : Fin 2048) : EReal := x (ix3 b 0 n)
/-- Layer 3 of the first weight. -/
def upw (x : FVec Ideal S4x2048x8192 .bf16) (d : Fin 2048) (l : Fin 8192) : EReal := x (ix3 3 d l)
/-- Layer 3 of the second weight. -/
def dnw (x : FVec Ideal S4x8192x2048 .bf16) (l : Fin 8192) (n : Fin 2048) : EReal := x (ix3 3 l n)

/-- The residual stream that the device is given. -/
abbrev X (c : Dev nD) := rows (m ((c.tc : Thread nD τ).loc main_arg0))
/-- The normed rows that the device is given. -/
abbrev H (c : Dev nD) := rows' (m ((c.tc : Thread nD τ).loc main_arg1))
/-- The gates that the device is given. -/
abbrev G (c : Dev nD) := gate (m ((c.tc : Thread nD τ).loc main_arg2))
/-- The final norm's scale that the device is given. -/
abbrev g (c : Dev nD) := scale (m ((c.tc : Thread nD τ).loc main_arg3))
/-- The first weight that the device is given. -/
abbrev W (c : Dev nD) := upw (m ((c.tc : Thread nD τ).loc main_arg4))
/-- The second weight that the device is given. -/
abbrev U (c : Dev nD) := dnw (m ((c.tc : Thread nD τ).loc main_arg5))

/-- The part of the second product that a point computes: the sum over its block of the hidden axis. -/
theorem part_at (c : Dev nD) (t : Fin cfg0.N) (p q : ℕ) (hp : t.val / 4 = p) (hq : t.val % 4 = q) (hp' : p < 64) (hq' : q < 4) (r : Fin 512) (n : Fin 2048) :
    k0_pay2 (F := Ideal) (iblk m c 1 t) (iblk m c 4 t) (iblk m c 5 t) (ix2 r n)
      = ∑ k : Fin 2048, Ffn.hidden (H m c) (W m c) ⟨p * 512 + r.val, by omega⟩ ⟨q * 2048 + k.val, by omega⟩
          * U m c ⟨q * 2048 + k.val, by omega⟩ n := by
  subst hp hq
  refine (pay2_at _ _ _ r n).trans ?_
  unfold Ffn.hidden H W U rows' upw dnw
  blk_point [iblk, V, idx t]

/-- What the last point of a row block has added up: the whole second product. -/
theorem acc_at (c : Dev nD) (t : Fin cfg0.N) (h2 : t.val % 4 = 3) (ht : t.val / 4 < 64) (r : Fin 512) (n : Fin 2048) :
    k0_pay3 (F := Ideal) (iblk m c 1 t) (iblk m c 4 t)
      (outsAt0 m c (t.val - 1) (Nat.lt_of_le_of_lt (Nat.sub_le _ _) t.isLt)) (iblk m c 5 t) (ix2 r n)
      = Ffn.down (H m c) (W m c) (U m c) ⟨t.val / 4 * 512 + r.val, by omega⟩ n := by
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have e1 := left_B m c ⟨t.val - 1, l1⟩ (by simp only; omega) (by simp only; omega) (by simp only; omega)
  have e2 := left_B m c ⟨t.val - 1 - 1, l2⟩ (by simp only; omega) (by simp only; omega) (by simp only; omega)
  have e3 := left_A m c ⟨t.val - 1 - 1 - 1, l3⟩ (by simp only; omega) (by simp only; omega) (by simp only; omega)
  dsimp only at e1 e2 e3
  rw [e1, e2, e3, pay3_at, pay3_at, pay3_at,
    part_at m c t (t.val / 4) 3 rfl h2 ht (by omega), part_at m c ⟨t.val - 1, l1⟩ (t.val / 4) 2 (by simp only; omega) (by simp only; omega) ht (by omega),
    part_at m c ⟨t.val - 1 - 1, l2⟩ (t.val / 4) 1 (by simp only; omega) (by simp only; omega) ht (by omega),
    part_at m c ⟨t.val - 1 - 1 - 1, l3⟩ (t.val / 4) 0 (by simp only; omega) (by simp only; omega) ht (by omega)]
  unfold Ffn.down
  rw [Ffn.sum_blocks]
  simp only [Nat.zero_mul, Nat.zero_add, Nat.one_mul, Nat.reduceMul]

/-- What the last point of a row block leaves: the formula at its rows. -/
theorem point (c : Dev nD) (t : Fin cfg0.N) (h2 : t.val % 4 = 3) (ht : t.val / 4 < 64) (r : Fin 512) (n : Fin 2048) :
    outsAt0 m c t.val t.isLt (ix2 r n)
      = Ffn.out (X m c) (H m c) (G m c) (g m c) (W m c) (U m c) ⟨t.val / 4 * 512 + r.val, by omega⟩ n := by
  rw [left_C m c t (by omega) (by omega) h2 r n]
  unfold Ffn.out
  congr 1
  · funext k
    unfold zrow
    rw [acc_at m c t h2 ht]
    unfold Ffn.resid Ffn.batch X G rows gate
    blk_point [iblk, V, idx t]
  · funext k
    unfold g scale
    blk_point [iblk, V, idx t]

/-- The result array after the run, index by index. -/
theorem final (c : Dev nD) : (dats m 0 c).arrAt 6 (cfgs 0).N
    = fun j : S32768x2048.Idx => Ffn.out (X m c) (H m c) (G m c) (g m c) (W m c) (U m c) (j 0) (j 1) := by
  refine (dats m 0 c).arrAt_eq_of_covers 6 _ (by decide +kernel) fun t hf y => ?_
  have h2 : t.val % 4 = 3 := (flush0_6 t).mp hf
  have ht : t.val / 4 < 64 := by have := t.isLt; have hN : cfg0.grid.N = 256 := N_0; omega
  blk_simp
  rw [after0_6]
  revert y
  intro (y : S512x2048.Idx)
  obtain ⟨r, n, rfl⟩ : ∃ r n, y = ix2 r n := ⟨y 0, y 1, eq_ix2 y⟩
  have e0 : (win0_6.blk t).view.emb (ix2 r n) 0 = (⟨t.val / 4 * 512 + r.val, by omega⟩ : Fin 32768) :=
    Fin.ext (by blk_simp [idx t])
  have e1 : (win0_6.blk t).view.emb (ix2 r n) 1 = n := Fin.ext (by blk_simp [idx t])
  rw [point m c t h2 ht r n]
  exact congrArg₂ _ e0.symm e1.symm

end Cert.Kernel2Ideal.Ffn

end
-- ==== Proof.Ffn.Ref.lean ====
module

public import proofs.«01_k».proof.Proof.Gen.Reference2Ideal.Run
public import proofs.«01_k».proof.Proof.Ffn.Spec

@[expose] public section

set_option maxRecDepth 16384

noncomputable section

open Idealize.ShloMosaic Idealize.ShloMosaic.TcCoe Idealize.SL.Sem

namespace Cert.Reference2Ideal.Ffn

open Cert.Reference2Ideal Cert.Reference2Ideal.Gen Cert.Reference2Ideal.Value

/-- The rectified hidden layer, as the reference computes it. -/
def hidV (H : FVec Ideal S32768x2048 .bf16) (W : FVec Ideal S4x2048x8192 .bf16) : FVec Ideal S32768x8192 .f32 :=
  maximumf (Host.dotGeneral dot_S32768x2048_S2048x8192_S32768x8192_1_0_0_1_n_n none (extf .f32 H bitsLt_bf16_f32)
    (extf .f32 (shapeCast _ (extractStridedSlice S1x2048x8192 ![3, 0, 0] W slices_S4x2048x8192_S1x2048x8192_3_0_0)
      shapeCasts_S1x2048x8192_S2048x8192) bitsLt_bf16_f32))
    (broadcastInDim S32768x8192 ![] bcast_S_S32768x8192 (constant S_ .f32 0x00000000#32))

/-- A rectified hidden unit is the inner product of a row and a column of layer 3's weight, cut off at 0. -/
theorem hidV_at (H : FVec Ideal S32768x2048 .bf16) (W : FVec Ideal S4x2048x8192 .bf16) (r : Fin 32768) (l : Fin 8192) :
    hidV H W (ix2 r l) = max (∑ d, H (ix2 r d) * W (ix3 3 d l)) 0 := by
  pointwise [hidV]

/-- The product with the second weight. -/
def downV (A : FVec Ideal S32768x8192 .f32) (U : FVec Ideal S4x8192x2048 .bf16) : FVec Ideal S32768x2048 .f32 :=
  Host.dotGeneral dot_S32768x8192_S8192x2048_S32768x2048_1_0_0_1_n_n none (mulf A A)
    (extf .f32 (shapeCast _ (extractStridedSlice S1x8192x2048 ![3, 0, 0] U slices_S4x8192x2048_S1x8192x2048_3_0_0)
      shapeCasts_S1x8192x2048_S8192x2048) bitsLt_bf16_f32)

/-- An entry of the second product: the squared hidden units against a column of the second weight. -/
theorem downV_at (A : FVec Ideal S32768x8192 .f32) (U : FVec Ideal S4x8192x2048 .bf16) (r : Fin 32768) (n : Fin 2048) :
    downV A U (ix2 r n) = ∑ l, A (ix2 r l) * A (ix2 r l) * U (ix3 3 l n) := by
  pointwise [downV]

/-- The gated residual. -/
def residV (X Y : FVec Ideal S32768x2048 .f32) (G : FVec Ideal S4x1x2048 .f32) : FVec Ideal S4x8192x2048 .f32 :=
  addf (shapeCast _ X shapeCasts_S32768x2048_S4x8192x2048)
    (mulf (broadcastInDim S4x8192x2048 ![0, 1, 2] bcast_S4x1x2048_S4x8192x2048_0_1_2 G)
      (shapeCast _ Y shapeCasts_S32768x2048_S4x8192x2048))

/-- The array row of position `s` of batch entry `b`. -/
def row (b : Fin 4) (s : Fin 8192) : Fin 32768 := ⟨b.val * 8192 + s.val, by omega⟩

/-- An entry of the gated residual. -/
theorem residV_at (X Y : FVec Ideal S32768x2048 .f32) (G : FVec Ideal S4x1x2048 .f32) (b : Fin 4) (s : Fin 8192) (n : Fin 2048) :
    residV X Y G (ix3 b s n) = X (ix2 (row b s) n) + G (ix3 b 0 n) * Y (ix2 (row b s) n) := by
  pointwise [residV, row]

/-- The norm of every row, scaled. -/
def normV (Z : FVec Ideal S4x8192x2048 .f32) (g : FVec Ideal S1x2048 .f32) : FVec Ideal S32768x2048 .f32 :=
  shapeCast _ (mulf (mulf Z (broadcastInDim S4x8192x2048 ![0, 1, 2] bcast_S4x8192x1_S4x8192x2048_0_1_2
    (Host.rsqrt (addf (Host.divf (broadcastInDim S4x8192x1 ![0, 1] bcast_S4x8192_S4x8192x1_0_1
      (Host.reduceAdd (mulf Z Z) (constant S_ .f32 0x00000000#32) reducesTo_S4x8192x2048_S4x8192_d2 h_S_))
      (broadcastInDim S4x8192x1 ![] bcast_S_S4x8192x1 (constant S_ .f32 0x45000000#32)))
      (broadcastInDim S4x8192x1 ![] bcast_S_S4x8192x1 (constant S_ .f32 0x358637BD#32))))))
    (broadcastInDim S4x8192x2048 ![0, 1, 2] bcast_S1x1x2048_S4x8192x2048_0_1_2
      (broadcastInDim S1x1x2048 ![2] bcast_S2048_S1x1x2048_2 (shapeCast _ g shapeCasts_S1x2048_S2048))))
    shapeCasts_S4x8192x2048_S32768x2048

/-- An entry of the normed array: the row's root-mean-square norm. -/
theorem normV_at (Z : FVec Ideal S4x8192x2048 .f32) (g : FVec Ideal S1x2048 .f32) (b : Fin 4) (s : Fin 8192) (n : Fin 2048) :
    normV Z g (ix2 (row b s) n) = Ffn.rms (fun k => Z (ix3 b s k)) (fun k => g (ix2 0 k)) n := by
  have h0 : (row b s).val / 8192 = b.val := by unfold row; simp only; omega
  have h1 : (row b s).val % 8192 = s.val := by unfold row; simp only; omega
  pointwise [normV, Ffn.rms, h0, h1]

variable (m : (ℓ : Loc nD τ sig) → Buf (Elt Ideal) ℓ)

/-- The reference's result is the four stages one after the other. -/
theorem res_eq (c : Dev nD) : res_main_v30 m c
    = normV (residV (m ((c.tc : Thread nD τ).loc main_arg0))
        (downV (hidV (m ((c.tc : Thread nD τ).loc main_arg1)) (m ((c.tc : Thread nD τ).loc main_arg4))) (m ((c.tc : Thread nD τ).loc main_arg5)))
        (m ((c.tc : Thread nD τ).loc main_arg2))) (m ((c.tc : Thread nD τ).loc main_arg3)) := rfl

/-- The reference's result, read at row `r` and column `n`, is the formula. -/
theorem res_at (c : Dev nD) (r : Fin 32768) (n : Fin 2048) : res_main_v30 m c (ix2 r n)
    = Ffn.out (fun r d => m ((c.tc : Thread nD τ).loc main_arg0) (ix2 r d)) (fun r d => m ((c.tc : Thread nD τ).loc main_arg1) (ix2 r d))
        (fun b n => m ((c.tc : Thread nD τ).loc main_arg2) (ix3 b 0 n)) (fun n => m ((c.tc : Thread nD τ).loc main_arg3) (ix2 0 n))
        (fun d l => m ((c.tc : Thread nD τ).loc main_arg4) (ix3 3 d l)) (fun l n => m ((c.tc : Thread nD τ).loc main_arg5) (ix3 3 l n)) r n := by
  obtain ⟨b, s, rfl⟩ : ∃ b s, r = row b s := ⟨⟨r.val / 8192, by omega⟩, ⟨r.val % 8192, by omega⟩, Fin.ext (by simp only [row]; omega)⟩
  have hb : Ffn.batch (row b s) = b := Fin.ext (by simp only [row, Ffn.batch]; omega)
  rw [res_eq, normV_at]
  unfold Ffn.out
  congr 1
  funext k
  rw [residV_at, downV_at]
  simp only [hidV_at, Ffn.resid, Ffn.down, Ffn.hidden, hb]

end Cert.Reference2Ideal.Ffn

end
-- ==== Proof.Ffn.Claim.lean ====
module

public import proofs.«01_k».proof.Defs
public import proofs.«01_k».proof.Proof.Ffn.Final
public import proofs.«01_k».proof.Proof.Ffn.Ref
public import Idealize.ShloMosaic.Lib.Claim

@[expose] public section

set_option maxRecDepth 16384

noncomputable section

open Idealize.ShloMosaic Idealize.ShloMosaic.TcCoe Idealize.SL.Sem

/-- The feed-forward kernel and its reference end with the same array, read over the extended reals. -/
theorem Ffn.algebraic : Cert.algebraic_Kernel2Ideal_Reference2Ideal := by
  pair_intro
  · run_from Cert.Kernel2Ideal.Gen.run_main m g
  · run_from Cert.Reference2Ideal.Value.run m' g'
    refine Eq.trans ?_ (Cert.Kernel2Ideal.Ffn.final m c).symm
    funext j
    obtain ⟨r, n, rfl⟩ : ∃ (r : Fin 32768) (n : Fin 2048), j = ix2 r n := ⟨j 0, j 1, eq_ix2 j⟩
    refine (Cert.Reference2Ideal.Ffn.res_at m' c r n).trans ?_
    obtain ⟨h0, h1, h2, h3, h4, h5⟩ := hagree c
    rw [h0, h1, h2, h3, h4, h5]
    rfl

end
-- ==== Proof.OutProj.Spec.lean ====
/- The formula of the output projection: head norm, gate, projection, gated residual, modulated norm. -/
module

public import proofs.«01_k».proof.Proof.Ffn.Spec

@[expose] public section

set_option maxRecDepth 16384

noncomputable section

open Idealize.ShloMosaic Idealize.ShloMosaic.TcCoe Idealize.SL.Sem

namespace OutProj

/-- One gated entry of head `h`: the two directions' sum, normed over the head's 128 entries and scaled, times the
    logistic function of the gate. -/
def gated (f b g o : Fin 512 → EReal) (h : Fin 4) (e : Fin 128) : EReal :=
  (f ⟨h.val * 128 + e.val, by omega⟩ + b ⟨h.val * 128 + e.val, by omega⟩)
    * Ideal.rsqrt (Ideal.div (∑ k : Fin 128, (f ⟨h.val * 128 + k.val, by omega⟩ + b ⟨h.val * 128 + k.val, by omega⟩)
        * (f ⟨h.val * 128 + k.val, by omega⟩ + b ⟨h.val * 128 + k.val, by omega⟩)) (Ideal.ofBits .f32 0x43000000#32)
      + Ideal.ofBits .f32 0x358637BD#32)
    * g ⟨h.val * 128 + e.val, by omega⟩ * Ideal.logistic (o ⟨h.val * 128 + e.val, by omega⟩)

/-- The three branches' entries against a column of the weight. -/
def mixed (a : Fin 512 → EReal) (s : Fin 1024 → EReal) (f b g o : Fin 512 → EReal) (W : Fin 2048 → EReal) : EReal :=
  (∑ k : Fin 512, a k * W ⟨k.val, by omega⟩) + (∑ k : Fin 1024, s k * W ⟨512 + k.val, by omega⟩)
    + ∑ h : Fin 4, ∑ e : Fin 128, gated f b g o h e * W ⟨1536 + (h.val * 128 + e.val), by omega⟩

/-- A row `z` divided by its root mean square, scaled by `g`, then stretched by `1 + sc` and moved by `sh`. -/
def modnorm (z g sc sh : Fin 2048 → EReal) (n : Fin 2048) : EReal := Ffn.rms z g n * (1 + sc n) + sh n

/-- Scaling before the division by the root mean square is scaling after it. -/
theorem modnorm_eq (z g sc sh : Fin 2048 → EReal) (n : Fin 2048) :
    modnorm z g sc sh n = z n * (g n * (1 + sc n))
      * Ideal.rsqrt (Ideal.div (∑ k, z k * z k) (Ideal.ofBits .f32 0x45000000#32) + Ideal.ofBits .f32 0x358637BD#32) + sh n := by
  unfold modnorm Ffn.rms
  rw [mul_assoc, mul_assoc, mul_assoc, mul_comm (Ideal.rsqrt _)]

/-- A sum over the joined row is the sum over its branches, the last one head by head. -/
theorem sum_branches (f : Fin 2048 → EReal) :
    ∑ k, f k = (∑ k : Fin 512, f ⟨k.val, by omega⟩) + (∑ k : Fin 1024, f ⟨512 + k.val, by omega⟩)
      + ∑ h : Fin 4, ∑ e : Fin 128, f ⟨1536 + (h.val * 128 + e.val), by omega⟩ := by
  have e1 := Fin.sum_univ_tiles 2 512 rfl fun k : Fin 1024 => f ⟨512 + k.val, by omega⟩
  have e2 := Fin.sum_univ_tiles 4 128 rfl fun k : Fin 512 => f ⟨1536 + k.val, by omega⟩
  rw [Ffn.sum_quarters, e1, ← e2, Fin.sum_univ_two]
  simp [← add_assoc]

end OutProj

end
-- ==== Proof.OutProj.Cases.lean ====
/- What a grid point of the output projection kernel leaves in its two blocks. -/
module

public import proofs.«01_k».proof.Proof.Gen.Kernel3Ideal.Value
public import proofs.«01_k».proof.Proof.Ffn.Pay
public import proofs.«01_k».proof.Proof.OutProj.Spec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.OutProj

open Cert.Kernel3Ideal Cert.Kernel3Ideal.Gen

variable (m : (ℓ : Loc nD τ sig) → Buf (Elt Ideal) ℓ)

/-- The row of a point's block that enters the product: the two attention branches, then the four gated heads. -/
def yrow (c : Dev nD) (t : Fin cfg0.N) : FVec Ideal S512x2048 .bf16 :=
  k0_pay8
    (k0_pay3 (View.ld (iblk m c 2 t) (Rect.unit ![0, 0] ![512, 128] inb_S512x512_S512x128_0_0)) (View.ld (iblk m c 3 t) (Rect.unit ![0, 0] ![512, 128] inb_S512x512_S512x128_0_0))
      (View.ld (iblk m c 5 t) (Rect.unit ![0, 0] ![1, 128] inb_S1x512_S1x128_0_0)) (View.ld (iblk m c 4 t) (Rect.unit ![0, 0] ![512, 128] inb_S512x512_S512x128_0_0)))
    (k0_pay5 (k0_pay4 (View.ld (iblk m c 2 t) (Rect.unit ![0, 128] ![512, 128] inb_S512x512_S512x128_0_128)) (View.ld (iblk m c 3 t) (Rect.unit ![0, 128] ![512, 128] inb_S512x512_S512x128_0_128))
      (View.ld (iblk m c 5 t) (Rect.unit ![0, 128] ![1, 128] inb_S1x512_S1x128_0_128))) (View.ld (iblk m c 4 t) (Rect.unit ![0, 128] ![512, 128] inb_S512x512_S512x128_0_128)))
    (k0_pay6 (View.ld (iblk m c 2 t) (Rect.unit ![0, 256] ![512, 128] inb_S512x512_S512x128_0_256)) (View.ld (iblk m c 3 t) (Rect.unit ![0, 256] ![512, 128] inb_S512x512_S512x128_0_256))
      (View.ld (iblk m c 5 t) (Rect.unit ![0, 256] ![1, 128] inb_S1x512_S1x128_0_256)) (View.ld (iblk m c 4 t) (Rect.unit ![0, 256] ![512, 128] inb_S512x512_S512x128_0_256)))
    (k0_pay7 (View.ld (iblk m c 2 t) (Rect.unit ![0, 384] ![512, 128] inb_S512x512_S512x128_0_384)) (View.ld (iblk m c 3 t) (Rect.unit ![0, 384] ![512, 128] inb_S512x512_S512x128_0_384)))
    (View.ld (iblk m c 5 t) (Rect.unit ![0, 384] ![1, 128] inb_S1x512_S1x128_0_384)) (View.ld (iblk m c 4 t) (Rect.unit ![0, 384] ![512, 128] inb_S512x512_S512x128_0_384))
    (iblk m c 0 t) (iblk m c 1 t)

/-- The row against a column: the formula's sum. -/
theorem yrow_sum (c : Dev nD) (t : Fin cfg0.N) (W : Fin 2048 → EReal) (r : Fin 512) :
    ∑ k, yrow m c t (ix2 r k) * W k
      = OutProj.mixed (fun k => (iblk m c 0 t : FVec Ideal S512x512 .bf16) (ix2 r k)) (fun k => (iblk m c 1 t : FVec Ideal S512x1024 .bf16) (ix2 r k))
          (fun k => (iblk m c 2 t : FVec Ideal S512x512 .f32) (ix2 r k)) (fun k => (iblk m c 3 t : FVec Ideal S512x512 .f32) (ix2 r k))
          (fun k => (iblk m c 5 t : FVec Ideal S1x512 .f32) (ix2 0 k)) (fun k => (iblk m c 4 t : FVec Ideal S512x512 .bf16) (ix2 r k)) W := by
  rw [OutProj.sum_branches]
  pointwise [yrow, k0_pay3, k0_pay4, k0_pay5, k0_pay6, k0_pay7, k0_pay8, OutProj.mixed, OutProj.gated, Fin.sum_univ_four]
  have a (x : ℕ) : 512 + x - 512 = x := by omega
  have b0 (x : ℕ) : 1536 + x - 512 - 1024 = x := by omega
  have b1 (x : ℕ) : 128 + x - 128 = x := by omega
  have b2 (x : ℕ) : 256 + x - 128 - 128 = x := by omega
  have b3 (x : ℕ) : 384 + x - 128 - 128 - 128 = x := by omega
  simp (disch := omega) only [dif_neg, dif_pos, a, b0, b1, b2, b3]

/-- The residual's entry inside a block. -/
def zrow (x : FVec Ideal S512x2048 .f32) (g : FVec Ideal S1x1x2048 .f32) (y : FVec Ideal S512x2048 .bf16) (w : FVec Ideal S1x2048x2048 .bf16)
    (r : Fin 512) (n : Fin 2048) : EReal :=
  x (ix2 r n) + g (ix3 0 0 n) * ∑ k, y (ix2 r k) * w (ix3 0 k n)

/-- The row of a batch entry's vector. -/
def vrow (g : FVec Ideal S1x1x2048 .f32) (n : Fin 2048) : EReal := g (ix3 0 0 n)

/-- The first block's entry: the gated residual. -/
theorem left12 (c : Dev nD) (t : Fin cfg0.N) (r : Fin 512) (n : Fin 2048) :
    (outsAt0 m c t).1 (ix2 r n) = zrow (iblk m c 7 t) (iblk m c 8 t) (yrow m c t) (iblk m c 6 t) r n := by
  unfold outsAt0; frame_open
  simp (disch := decide) only [↓ View.readCov_skip, ↓ View.readCov_cons_toLoadRect, ↓ View.readCov_fill]
  frame_out
  canon_tiles x h
  all_goals
    try simp only [k0_pay9]
    conv in (occs := *) k0_pay8 _ _ _ _ _ _ _ _ => all_goals change yrow m c t
    generalize yrow m c t = Y
    have hr : r = x 0 := Fin.ext h0
    subst hr
    have h1' : (n : ℕ) = _ := h1
    have hn : n = ⟨_, h1' ▸ n.isLt⟩ := Fin.ext h1'
    rw [hn]
    pointwise [zrow, k0_pay12, k0_pay15, k0_pay16, k0_pay19]

/-- The second block's entry: the modulated norm of the first block's row. -/
theorem left13 (c : Dev nD) (t : Fin cfg0.N) (r : Fin 512) (n : Fin 2048) :
    (outsAt0 m c t).2 (ix2 r n) = OutProj.modnorm (zrow (iblk m c 7 t) (iblk m c 8 t) (yrow m c t) (iblk m c 6 t) r)
      (Cert.Kernel2Ideal.Ffn.scale (iblk m c 11 t)) (vrow (iblk m c 10 t)) (vrow (iblk m c 9 t)) n := by
  unfold outsAt0; frame_open
  simp (disch := decide) only [↓ View.readCov_skip, ↓ View.readCov_cons_toLoadRect, ↓ View.readCov_fill]
  frame_out
  rw [OutProj.modnorm_eq, Ffn.sum_quarters, Ffn.mean_eq]
  canon_tiles x h
  all_goals
    simp only [k0_pay9, k0_pay10, k0_pay11]
    conv in (occs := *) k0_pay8 _ _ _ _ _ _ _ _ => all_goals change yrow m c t
    generalize yrow m c t = Y
    have hr : r = x 0 := Fin.ext h0
    subst hr
    have h1' : (n : ℕ) = _ := h1
    have hn : n = ⟨_, h1' ▸ n.isLt⟩ := Fin.ext h1'
    rw [hn]
    pointwise [zrow, vrow, Cert.Kernel2Ideal.Ffn.scale, k0_pay12, k0_pay13, k0_pay14, k0_pay15, k0_pay16, k0_pay17, k0_pay18, k0_pay19, k0_pay20, k0_pay21, k0_pay22, k0_pay23, k0_pay1, k0_pay2]

end Cert.Kernel3Ideal.OutProj

end
-- ==== Proof.OutProj.Final.lean ====
/- The two result arrays of the output projection kernel. -/
module

public import proofs.«01_k».proof.Proof.OutProj.Cases

@[expose] public section

set_option maxRecDepth 16384

noncomputable section

open Idealize.ShloMosaic Idealize.ShloMosaic.TcCoe Idealize.SL.Sem
open Idealize.ShloMosaic.Pipeline (Dat)

namespace Cert.Kernel3Ideal.OutProj

open Cert.Kernel3Ideal Cert.Kernel3Ideal.Gen

variable (m : (ℓ : Loc nD τ sig) → Buf (Elt Ideal) ℓ)

/-- Which block each window is on at a point: the point's own rows, the batch entry of those rows, layer 0 of the weight. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0, 0]
    ∧ win0_7.index t = ![t.val, 0] ∧ win0_8.index t = ![t.val / 16, 0, 0] ∧ win0_9.index t = ![t.val / 16, 0, 0]
    ∧ win0_10.index t = ![t.val / 16, 0, 0] ∧ win0_11.index t = ![0, 0] ∧ win0_12.index t = ![t.val, 0] ∧ win0_13.index t = ![t.val, 0] :=
  (by decide +kernel : ∀ t : Fin grid0.N, _)

/-- Window 0 holds the point's rows of its argument. -/
theorem blk0 (c : Dev nD) (t : Fin cfg0.N) (ht : t.val < 64) (r : Fin 512) (k : Fin 512) :
    (iblk m c 0 t : FVec Ideal S512x512 .bf16) (ix2 r k) = m ((c.tc : Thread nD τ).loc main_arg0) (ix2 ⟨t.val * 512 + r.val, by omega⟩ k) := by
  blk_point [iblk, V, idx t]

/-- Window 1 holds the point's rows of its argument. -/
theorem blk1 (c : Dev nD) (t : Fin cfg0.N) (ht : t.val < 64) (r : Fin 512) (k : Fin 1024) :
    (iblk m c 1 t : FVec Ideal S512x1024 .bf16) (ix2 r k) = m ((c.tc : Thread nD τ).loc main_arg1) (ix2 ⟨t.val * 512 + r.val, by omega⟩ k) := by
  blk_point [iblk, V, idx t]

/-- Window 2 holds the point's rows of its argument. -/
theorem blk2 (c : Dev nD) (t : Fin cfg0.N) (ht : t.val < 64) (r : Fin 512) (k : Fin 512) :
    (iblk m c 2 t : FVec Ideal S512x512 .f32) (ix2 r k) = m ((c.tc : Thread nD τ).loc main_arg2) (ix2 ⟨t.val * 512 + r.val, by omega⟩ k) := by
  blk_point [iblk, V, idx t]

/-- Window 3 holds the point's rows of its argument. -/
theorem blk3 (c : Dev nD) (t : Fin cfg0.N) (ht : t.val < 64) (r : Fin 512) (k : Fin 512) :
    (iblk m c 3 t : FVec Ideal S512x512 .f32) (ix2 r k) = m ((c.tc : Thread nD τ).loc main_arg3) (ix2 ⟨t.val * 512 + r.val, by omega⟩ k) := by
  blk_point [iblk, V, idx t]

/-- Window 4 holds the point's rows of its argument. -/
theorem blk4 (c : Dev nD) (t : Fin cfg0.N) (ht : t.val < 64) (r : Fin 512) (k : Fin 512) :
    (iblk m c 4 t : FVec Ideal S512x512 .bf16) (ix2 r k) = m ((c.tc : Thread nD τ).loc main_arg4) (ix2 ⟨t.val * 512 + r.val, by omega⟩ k) := by
  blk_point [iblk, V, idx t]

/-- Window 7 holds the point's rows of its argument. -/
theorem blk7 (c : Dev nD) (t : Fin cfg0.N) (ht : t.val < 64) (r : Fin 512) (k : Fin 2048) :
    (iblk m c 7 t : FVec Ideal S512x2048 .f32) (ix2 r k) = m ((c.tc : Thread nD τ).loc main_arg7) (ix2 ⟨t.val * 512 + r.val, by omega⟩ k) := by
  blk_point [iblk, V, idx t]

/-- Window 8 holds the vector of the rows' batch entry. -/
theorem blk8 (c : Dev nD) (t : Fin cfg0.N) (ht : t.val < 64) (k : Fin 2048) :
    (iblk m c 8 t : FVec Ideal S1x1x2048 .f32) (ix3 0 0 k) = m ((c.tc : Thread nD τ).loc main_arg8) (ix3 ⟨t.val / 16, by omega⟩ 0 k) := by
  blk_point [iblk, V, idx t]

/-- Window 9 holds the vector of the rows' batch entry. -/
theorem blk9 (c : Dev nD) (t : Fin cfg0.N) (ht : t.val < 64) (k : Fin 2048) :
    (iblk m c 9 t : FVec Ideal S1x1x2048 .f32) (ix3 0 0 k) = m ((c.tc : Thread nD τ).loc main_arg9) (ix3 ⟨t.val / 16, by omega⟩ 0 k) := by
  blk_point [iblk, V, idx t]

/-- Window 10 holds the vector of the rows' batch entry. -/
theorem blk10 (c : Dev nD) (t : Fin cfg0.N) (ht : t.val < 64) (k : Fin 2048) :
    (iblk m c 10 t : FVec Ideal S1x1x2048 .f32) (ix3 0 0 k) = m ((c.tc : Thread nD τ).loc main_arg10) (ix3 ⟨t.val / 16, by omega⟩ 0 k) := by
  blk_point [iblk, V, idx t]

/-- Window 5 holds the whole scale. -/
theorem blk5 (c : Dev nD) (t : Fin cfg0.N) (k : Fin 512) :
    (iblk m c 5 t : FVec Ideal S1x512 .f32) (ix2 0 k) = m ((c.tc : Thread nD τ).loc main_arg5) (ix2 0 k) := by
  blk_point [iblk, V, idx t]

/-- Window 11 holds the whole scale. -/
theorem blk11 (c : Dev nD) (t : Fin cfg0.N) (k : Fin 2048) :
    (iblk m c 11 t : FVec Ideal S1x2048 .f32) (ix2 0 k) = m ((c.tc : Thread nD τ).loc main_arg11) (ix2 0 k) := by
  blk_point [iblk, V, idx t]

/-- Window 6 holds layer 0 of the weight. -/
theorem blk6 (c : Dev nD) (t : Fin cfg0.N) (k n : Fin 2048) :
    (iblk m c 6 t : FVec Ideal S1x2048x2048 .bf16) (ix3 0 k n) = m ((c.tc : Thread nD τ).loc main_arg6) (ix3 0 k n) := by
  blk_point [iblk, V, idx t]

/-- The gated residual by the arguments' coordinates. -/
def resid (a : FVec Ideal S32768x512 .bf16) (s : FVec Ideal S32768x1024 .bf16) (f b : FVec Ideal S32768x512 .f32)
    (o : FVec Ideal S32768x512 .bf16) (g : FVec Ideal S1x512 .f32) (W : FVec Ideal S4x2048x2048 .bf16) (X : FVec Ideal S32768x2048 .f32)
    (G : FVec Ideal S4x1x2048 .f32) (r : Fin 32768) (n : Fin 2048) : EReal :=
  X (ix2 r n) + G (ix3 (Ffn.batch r) 0 n) * OutProj.mixed (fun k => a (ix2 r k)) (fun k => s (ix2 r k)) (fun k => f (ix2 r k))
    (fun k => b (ix2 r k)) (fun k => g (ix2 0 k)) (fun k => o (ix2 r k)) (fun k => W (ix3 0 k n))

/-- The gated residual of the arguments that the device is given. -/
abbrev Z (c : Dev nD) := resid (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8))

/-- The modulation by the arguments' coordinates. -/
def modn (z : Fin 32768 → Fin 2048 → EReal) (sh sc : FVec Ideal S4x1x2048 .f32) (g : FVec Ideal S1x2048 .f32) (r : Fin 32768) (n : Fin 2048) : EReal :=
  OutProj.modnorm (z r) (fun n => g (ix2 0 n)) (fun n => sc (ix3 (Ffn.batch r) 0 n)) (fun n => sh (ix3 (Ffn.batch r) 0 n)) n

/-- The modulated norm of the gated residual. -/
abbrev H (c : Dev nD) := modn (Z m c) (m ((c.tc : Thread nD τ).loc main_arg9)) (m ((c.tc : Thread nD τ).loc main_arg10)) (m ((c.tc : Thread nD τ).loc main_arg11))

/-- A block's gated residual is that of its rows. -/
theorem zrow_at (c : Dev nD) (t : Fin cfg0.N) (ht : t.val < 64) (r : Fin 512) (n : Fin 2048) :
    zrow (iblk m c 7 t) (iblk m c 8 t) (yrow m c t) (iblk m c 6 t) r n = Z m c ⟨t.val * 512 + r.val, by omega⟩ n := by
  unfold zrow
  rw [yrow_sum m c t (fun k => (iblk m c 6 t : FVec Ideal S1x2048x2048 .bf16) (ix3 0 k n)) r]
  have hb : (t.val * 512 + r.val) / 8192 = t.val / 16 := by omega
  unfold Z resid Ffn.batch
  simp only [blk0 m c t ht, blk1 m c t ht, blk2 m c t ht, blk3 m c t ht, blk4 m c t ht, blk5 m c t, blk6 m c t, blk7 m c t ht, blk8 m c t ht, hb]

/-- A block's second result is the modulated norm of its rows. -/
theorem mod_at (c : Dev nD) (t : Fin cfg0.N) (ht : t.val < 64) (r : Fin 512) (n : Fin 2048) :
    (outsAt0 m c t).2 (ix2 r n) = H m c ⟨t.val * 512 + r.val, by omega⟩ n := by
  have hz : zrow (iblk m c 7 t) (iblk m c 8 t) (yrow m c t) (iblk m c 6 t) r = Z m c ⟨t.val * 512 + r.val, by omega⟩ :=
    funext fun n => zrow_at m c t ht r n
  rw [left13, hz]
  have hb : (t.val * 512 + r.val) / 8192 = t.val / 16 := by omega
  unfold H modn
  generalize Z m c = z
  unfold Cert.Kernel2Ideal.Ffn.scale vrow Ffn.batch
  simp only [blk9 m c t ht, blk10 m c t ht, blk11 m c t, hb]

/-- The first result array after the run, index by index. -/
theorem final12 (c : Dev nD) : (dats m 0 c).arrAt 12 (cfgs 0).N = fun j : S32768x2048.Idx => Z m c (j 0) (j 1) := by
  refine (dats m 0 c).arrAt_eq_of_covers 12 _ (by decide +kernel) fun t hf y => ?_
  have ht : t.val < 64 := by have := t.isLt; have hN : cfg0.grid.N = 64 := N_0; omega
  blk_simp
  rw [after0_12]
  revert y
  intro (y : S512x2048.Idx)
  obtain ⟨r, n, rfl⟩ : ∃ r n, y = ix2 r n := ⟨y 0, y 1, eq_ix2 y⟩
  have e0 : (win0_12.blk t).view.emb (ix2 r n) 0 = (⟨t.val * 512 + r.val, by omega⟩ : Fin 32768) :=
    Fin.ext (by blk_simp [idx t])
  have e1 : (win0_12.blk t).view.emb (ix2 r n) 1 = n := Fin.ext (by blk_simp [idx t])
  rw [left12 m c t r n, zrow_at m c t ht]
  exact congrArg₂ _ e0.symm e1.symm

/-- The second result array after the run, index by index. -/
theorem final13 (c : Dev nD) : (dats m 0 c).arrAt 13 (cfgs 0).N = fun j : S32768x2048.Idx => H m c (j 0) (j 1) := by
  refine (dats m 0 c).arrAt_eq_of_covers 13 _ (by decide +kernel) fun t hf y => ?_
  have ht : t.val < 64 := by have := t.isLt; have hN : cfg0.grid.N = 64 := N_0; omega
  blk_simp
  rw [after0_13]
  revert y
  intro (y : S512x2048.Idx)
  obtain ⟨r, n, rfl⟩ : ∃ r n, y = ix2 r n := ⟨y 0, y 1, eq_ix2 y⟩
  have e0 : (win0_13.blk t).view.emb (ix2 r n) 0 = (⟨t.val * 512 + r.val, by omega⟩ : Fin 32768) :=
    Fin.ext (by blk_simp [idx t])
  have e1 : (win0_13.blk t).view.emb (ix2 r n) 1 = n := Fin.ext (by blk_simp [idx t])
  rw [mod_at m c t ht r n]
  exact congrArg₂ _ e0.symm e1.symm

end Cert.Kernel3Ideal.OutProj

end
-- ==== Proof.OutProj.Ref.lean ====
/- The reference of the output projection, read at an index. -/
module

public import proofs.«01_k».proof.Proof.Gen.Reference3Ideal.Run
public import proofs.«01_k».proof.Proof.OutProj.Spec

@[expose] public section

set_option maxRecDepth 16384

noncomputable section

open Idealize.ShloMosaic Idealize.ShloMosaic.TcCoe Idealize.SL.Sem

namespace Cert.Reference3Ideal.OutProj

open Cert.Reference3Ideal Cert.Reference3Ideal.Gen Cert.Reference3Ideal.Value

/-- The two directions' sum, split into heads, normed head by head and scaled. -/
def headV (f b : FVec Ideal S32768x512 .f32) (g : FVec Ideal S1x512 .f32) : FVec Ideal S32768x4x128 .f32 :=
  mulf (mulf (shapeCast _ (addf f b) shapeCasts_S32768x512_S32768x4x128)
    (broadcastInDim S32768x4x128 ![0, 1, 2] bcast_S32768x4x1_S32768x4x128_0_1_2 (Host.rsqrt (addf (Host.divf
      (broadcastInDim S32768x4x1 ![0, 1] bcast_S32768x4_S32768x4x1_0_1 (Host.reduceAdd
        (mulf (shapeCast _ (addf f b) shapeCasts_S32768x512_S32768x4x128) (shapeCast _ (addf f b) shapeCasts_S32768x512_S32768x4x128))
        (constant S_ .f32 0x00000000#32) reducesTo_S32768x4x128_S32768x4_d2 h_S_))
      (broadcastInDim S32768x4x1 ![] bcast_S_S32768x4x1 (constant S_ .f32 0x43000000#32)))
      (broadcastInDim S32768x4x1 ![] bcast_S_S32768x4x1 (constant S_ .f32 0x358637BD#32))))))
    (broadcastInDim S32768x4x128 ![0, 1, 2] bcast_S1x4x128_S32768x4x128_0_1_2
      (broadcastInDim S1x4x128 ![1, 2] bcast_S4x128_S1x4x128_1_2 (shapeCast _ g shapeCasts_S1x512_S4x128)))

/-- The heads laid side by side and gated. -/
def gatedV (y : FVec Ideal S32768x4x128 .f32) (o : FVec Ideal S32768x512 .bf16) : FVec Ideal S32768x512 .f32 :=
  mulf (shapeCast _ y shapeCasts_S32768x4x128_S32768x512)
    (Host.divf (broadcastInDim S32768x512 ![] bcast_S_S32768x512 (constant S_ .f32 0x3F800000#32))
      (addf (broadcastInDim S32768x512 ![] bcast_S_S32768x512 (constant S_ .f32 0x3F800000#32))
        (Host.exp (Host.negf (extf .f32 o bitsLt_bf16_f32)))))

/-- The three branches side by side. -/
def joinV (a : FVec Ideal S32768x512 .bf16) (s : FVec Ideal S32768x1024 .bf16) (y : FVec Ideal S32768x512 .f32) :
    FVec Ideal S32768x2048 .f32 :=
  concatenate S32768x2048 1 [⟨S32768x512, extf .f32 a bitsLt_bf16_f32⟩, ⟨S32768x1024, extf .f32 s bitsLt_bf16_f32⟩, ⟨S32768x512, y⟩]
    concatenates_S32768x512_S32768x1024_S32768x512_S32768x2048_d1

/-- The projection. -/
def projV (y : FVec Ideal S32768x2048 .f32) (W : FVec Ideal S4x2048x2048 .bf16) : FVec Ideal S32768x2048 .f32 :=
  Host.dotGeneral dot_S32768x2048_S2048x2048_S32768x2048_1_0_0_1_n_n none y
    (extf .f32 (shapeCast _ (extractStridedSlice S1x2048x2048 ![0, 0, 0] W slices_S4x2048x2048_S1x2048x2048_0_0_0)
      shapeCasts_S1x2048x2048_S2048x2048) bitsLt_bf16_f32)

/-- The gated residual, by batch entry. -/
def residV (X P : FVec Ideal S32768x2048 .f32) (G : FVec Ideal S4x1x2048 .f32) : FVec Ideal S4x8192x2048 .f32 :=
  addf (shapeCast _ X shapeCasts_S32768x2048_S4x8192x2048)
    (mulf (broadcastInDim S4x8192x2048 ![0, 1, 2] bcast_S4x1x2048_S4x8192x2048_0_1_2 G)
      (shapeCast _ P shapeCasts_S32768x2048_S4x8192x2048))

/-- The residual's rows. -/
def flatV (Z : FVec Ideal S4x8192x2048 .f32) : FVec Ideal S32768x2048 .f32 := shapeCast _ Z shapeCasts_S4x8192x2048_S32768x2048

/-- The modulated norm of the residual. -/
def normV (Z : FVec Ideal S4x8192x2048 .f32) (g : FVec Ideal S1x2048 .f32) (sc sh : FVec Ideal S4x1x2048 .f32) : FVec Ideal S32768x2048 .bf16 :=
  truncf .bf16 (shapeCast _ (addf (mulf (mulf (mulf Z
    (broadcastInDim S4x8192x2048 ![0, 1, 2] bcast_S4x8192x1_S4x8192x2048_0_1_2 (Host.rsqrt (addf (Host.divf
      (broadcastInDim S4x8192x1 ![0, 1] bcast_S4x8192_S4x8192x1_0_1 (Host.reduceAdd (mulf Z Z)
        (constant S_ .f32 0x00000000#32) reducesTo_S4x8192x2048_S4x8192_d2 h_S_))
      (broadcastInDim S4x8192x1 ![] bcast_S_S4x8192x1 (constant S_ .f32 0x45000000#32)))
      (broadcastInDim S4x8192x1 ![] bcast_S_S4x8192x1 (constant S_ .f32 0x358637BD#32))))))
    (broadcastInDim S4x8192x2048 ![0, 1, 2] bcast_S1x1x2048_S4x8192x2048_0_1_2
      (broadcastInDim S1x1x2048 ![2] bcast_S2048_S1x1x2048_2 (shapeCast _ g shapeCasts_S1x2048_S2048))))
    (broadcastInDim S4x8192x2048 ![0, 1, 2] bcast_S4x1x2048_S4x8192x2048_0_1_2
      (addf (broadcastInDim S4x1x2048 ![] bcast_S_S4x1x2048 (constant S_ .f32 0x3F800000#32)) sc)))
    (broadcastInDim S4x8192x2048 ![0, 1, 2] bcast_S4x1x2048_S4x8192x2048_0_1_2 sh)) shapeCasts_S4x8192x2048_S32768x2048) bitsLt_bf16_f32

/-- A gated entry: the formula's. -/
theorem gatedV_at (f b : FVec Ideal S32768x512 .f32) (g : FVec Ideal S1x512 .f32) (o : FVec Ideal S32768x512 .bf16)
    (r : Fin 32768) (h : Fin 4) (e : Fin 128) :
    gatedV (headV f b g) o (ix2 r ⟨h.val * 128 + e.val, by omega⟩)
      = OutProj.gated (fun k => f (ix2 r k)) (fun k => b (ix2 r k)) (fun k => g (ix2 0 k)) (fun k => o (ix2 r k)) h e := by
  have e1 : (h.val * 128 + e.val) / 128 = h.val := by omega
  have e2 : (h.val * 128 + e.val) % 128 = e.val := by omega
  pointwise [gatedV, headV, OutProj.gated, Ideal.logistic, e1, e2]

/-- An entry of the joined row: which branch it is from. -/
theorem joinV_at (a : FVec Ideal S32768x512 .bf16) (s : FVec Ideal S32768x1024 .bf16) (y : FVec Ideal S32768x512 .f32)
    (r : Fin 32768) (k : Fin 2048) :
    joinV a s y (ix2 r k) = if h : k.val < 512 then a (ix2 r ⟨k.val, h⟩)
      else if h : k.val - 512 < 1024 then s (ix2 r ⟨k.val - 512, h⟩) else y (ix2 r ⟨k.val - 512 - 1024, by omega⟩) := by
  pointwise [joinV]

/-- An entry of the projection. -/
theorem projV_at (y : FVec Ideal S32768x2048 .f32) (W : FVec Ideal S4x2048x2048 .bf16) (r : Fin 32768) (n : Fin 2048) :
    projV y W (ix2 r n) = ∑ k, y (ix2 r k) * W (ix3 0 k n) := by
  pointwise [projV]

/-- An entry of the projection of the joined row: the formula's. -/
theorem mix_at (a : FVec Ideal S32768x512 .bf16) (s : FVec Ideal S32768x1024 .bf16) (f b : FVec Ideal S32768x512 .f32)
    (g : FVec Ideal S1x512 .f32) (o : FVec Ideal S32768x512 .bf16) (W : FVec Ideal S4x2048x2048 .bf16) (r : Fin 32768) (n : Fin 2048) :
    projV (joinV a s (gatedV (headV f b g) o)) W (ix2 r n)
      = OutProj.mixed (fun k => a (ix2 r k)) (fun k => s (ix2 r k)) (fun k => f (ix2 r k)) (fun k => b (ix2 r k))
          (fun k => g (ix2 0 k)) (fun k => o (ix2 r k)) (fun k => W (ix3 0 k n)) := by
  rw [projV_at, OutProj.sum_branches]
  unfold OutProj.mixed
  simp only [joinV_at]
  have a0 (x : ℕ) : 512 + x - 512 = x := by omega
  have b0 (x : ℕ) : 1536 + x - 512 - 1024 = x := by omega
  simp (disch := omega) only [dif_neg, dif_pos, Fin.is_lt, dite_true, a0, b0, gatedV_at]

/-- An entry of the gated residual: the gate is that of the row's batch entry. -/
theorem flatV_at (X P : FVec Ideal S32768x2048 .f32) (G : FVec Ideal S4x1x2048 .f32) (r : Fin 32768) (n : Fin 2048) :
    flatV (residV X P G) (ix2 r n) = X (ix2 r n) + G (ix3 (Ffn.batch r) 0 n) * P (ix2 r n) := by
  have h : r.val / 8192 * 8192 + r.val % 8192 = r.val := by omega
  pointwise [flatV, residV, Ffn.batch, h]

/-- An entry of the modulated norm. -/
theorem normV_at (Z : FVec Ideal S4x8192x2048 .f32) (g : FVec Ideal S1x2048 .f32) (sc sh : FVec Ideal S4x1x2048 .f32) (r : Fin 32768) (n : Fin 2048) :
    normV Z g sc sh (ix2 r n) = OutProj.modnorm (fun n => flatV Z (ix2 r n)) (fun n => g (ix2 0 n))
      (fun n => sc (ix3 (Ffn.batch r) 0 n)) (fun n => sh (ix3 (Ffn.batch r) 0 n)) n := by
  pointwise [flatV, normV, OutProj.modnorm, Ffn.rms, Ffn.batch]

end Cert.Reference3Ideal.OutProj

end
-- ==== Proof.OutProj.Claim.lean ====
/- The claim about the output projection: both results are the reference's. -/
module

public import proofs.«01_k».proof.Defs
public import proofs.«01_k».proof.Proof.OutProj.Final
public import proofs.«01_k».proof.Proof.OutProj.Ref
public import Idealize.ShloMosaic.Lib.Claim

@[expose] public section

set_option maxRecDepth 16384

noncomputable section

open Idealize.ShloMosaic Idealize.ShloMosaic.TcCoe Idealize.SL.Sem

namespace Cert.Reference3Ideal.OutProj

open Cert.Reference3Ideal Cert.Reference3Ideal.Gen Cert.Reference3Ideal.Value

/-- The reference's residual, by the formula. -/
theorem first_at (a : FVec Ideal S32768x512 .bf16) (s : FVec Ideal S32768x1024 .bf16) (f b : FVec Ideal S32768x512 .f32)
    (o : FVec Ideal S32768x512 .bf16) (g : FVec Ideal S1x512 .f32) (W : FVec Ideal S4x2048x2048 .bf16) (X : FVec Ideal S32768x2048 .f32)
    (G : FVec Ideal S4x1x2048 .f32) (r : Fin 32768) (n : Fin 2048) :
    flatV (residV X (projV (joinV a s (gatedV (headV f b g) o)) W) G) (ix2 r n)
      = Cert.Kernel3Ideal.OutProj.resid a s f b o g W X G r n := by
  rw [flatV_at, mix_at]
  rfl

/-- The reference's modulated norm, by the formula. -/
theorem second_at (a : FVec Ideal S32768x512 .bf16) (s : FVec Ideal S32768x1024 .bf16) (f b : FVec Ideal S32768x512 .f32)
    (o : FVec Ideal S32768x512 .bf16) (g : FVec Ideal S1x512 .f32) (W : FVec Ideal S4x2048x2048 .bf16) (X : FVec Ideal S32768x2048 .f32)
    (G sh sc : FVec Ideal S4x1x2048 .f32) (g2 : FVec Ideal S1x2048 .f32) (r : Fin 32768) (n : Fin 2048) :
    normV (residV X (projV (joinV a s (gatedV (headV f b g) o)) W) G) g2 sc sh (ix2 r n)
      = Cert.Kernel3Ideal.OutProj.modn (Cert.Kernel3Ideal.OutProj.resid a s f b o g W X G) sh sc g2 r n := by
  rw [normV_at]
  simp only [first_at]
  rfl

/-- The run of the reference, its results told stage by stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = flatV (residV (m ((c.tc : Thread nD τ).loc main_arg7)) (projV (joinV (m ((c.tc : Thread nD τ).loc main_arg0)) (m ((c.tc : Thread nD τ).loc main_arg1)) (gatedV (headV (m ((c.tc : Thread nD τ).loc main_arg2)) (m ((c.tc : Thread nD τ).loc main_arg3)) (m ((c.tc : Thread nD τ).loc main_arg5))) (m ((c.tc : Thread nD τ).loc main_arg4)))) (m ((c.tc : Thread nD τ).loc main_arg6))) (m ((c.tc : Thread nD τ).loc main_arg8)))
      ∧ r.2.mem ((c.tc : Thread nD τ).loc main_v59) = normV (residV (m ((c.tc : Thread nD τ).loc main_arg7)) (projV (joinV (m ((c.tc : Thread nD τ).loc main_arg0)) (m ((c.tc : Thread nD τ).loc main_arg1)) (gatedV (headV (m ((c.tc : Thread nD τ).loc main_arg2)) (m ((c.tc : Thread nD τ).loc main_arg3)) (m ((c.tc : Thread nD τ).loc main_arg5))) (m ((c.tc : Thread nD τ).loc main_arg4)))) (m ((c.tc : Thread nD τ).loc main_arg6))) (m ((c.tc : Thread nD τ).loc main_arg8))) (m ((c.tc : Thread nD τ).loc main_arg11)) (m ((c.tc : Thread nD τ).loc main_arg10)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  run m ρ

/-- The run of the reference, its results told by the formula. -/
theorem run_formula (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = (fun j : S32768x2048.Idx => (Cert.Kernel3Ideal.OutProj.resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (j 0) (j 1))
      ∧ r.2.mem ((c.tc : Thread nD τ).loc main_v59) = (fun j : S32768x2048.Idx => Cert.Kernel3Ideal.OutProj.modn (Cert.Kernel3Ideal.OutProj.resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run _ _ _).mono (fun r h c => ?_) (run_stages m ρ)
  obtain ⟨h0, h1, hr⟩ := h c
  refine ⟨h0.trans (funext fun j => ?_), h1.trans (funext fun j => ?_), hr⟩
  · obtain ⟨r, n, rfl⟩ : ∃ (r : Fin 32768) (n : Fin 2048), j = ix2 r n := ⟨j 0, j 1, eq_ix2 j⟩
    exact first_at _ _ _ _ _ _ _ _ _ r n
  · obtain ⟨r, n, rfl⟩ : ∃ (r : Fin 32768) (n : Fin 2048), j = ix2 r n := ⟨j 0, j 1, eq_ix2 j⟩
    exact second_at _ _ _ _ _ _ _ _ _ _ _ _ r n

end Cert.Reference3Ideal.OutProj

set_option maxHeartbeats 4000000 in
/-- The output projection kernel and its reference end with the same two arrays, read over the extended reals. -/
theorem OutProj.algebraic : Cert.algebraic_Kernel3Ideal_Reference3Ideal := by
  pair_intro
  · run_from Cert.Kernel3Ideal.Gen.run_main m g
  · refine (θ_run _ _ _).mono (fun r h c => ?_) (Cert.Reference3Ideal.OutProj.run_formula m' g')
    obtain ⟨h0, h1, hr⟩ := h c
    obtain ⟨a0, a1, a2, a3, a4, a5, a6, a7, a8, a9, a10, a11⟩ := hagree c
    rw [a0, a1, a2, a3, a4, a5, a6, a7, a8] at h0
    rw [a0, a1, a2, a3, a4, a5, a6, a7, a8, a9, a10, a11] at h1
    exact ⟨h0.trans (Cert.Kernel3Ideal.OutProj.final12 m c).symm, h1.trans (Cert.Kernel3Ideal.OutProj.final13 m c).symm, hr⟩

end
-- ==== Proof.Mlp.Cases.lean ====
/- What a grid point of the unnormed feed-forward kernel leaves in its block. -/
module

public import proofs.«01_k».proof.Proof.Gen.Kernel4Ideal.Value
public import proofs.«01_k».proof.Proof.Ffn.Pay

@[expose] public section

set_option maxRecDepth 16384

noncomputable section

open Idealize.ShloMosaic Idealize.ShloMosaic.TcCoe Idealize.SL.Sem

open Idealize.ShloMosaic.Pipeline (Dat)

namespace Cert.Kernel4Ideal.Mlp

open Cert.Kernel4Ideal Cert.Kernel4Ideal.Gen

/-- One block of the hidden axis: its part of the second product. -/
theorem pay2_at (h : FVec Ideal S512x2048 .bf16) (w : FVec Ideal S1x2048x2048 .bf16) (u : FVec Ideal S1x2048x2048 .bf16)
    (r : Fin 512) (n : Fin 2048) : k0_pay2 (F := Ideal) h w u (ix2 r n)
    = ∑ k : Fin 2048, max (∑ d, h (ix2 r d) * w (ix3 0 d k)) 0 * max (∑ d, h (ix2 r d) * w (ix3 0 d k)) 0 * u (ix3 0 k n) := by
  pointwise [k0_pay2, k0_pay1]

/-- Adding a block's part to what is there. -/
theorem pay3_at (h : FVec Ideal S512x2048 .bf16) (w : FVec Ideal S1x2048x2048 .bf16) (o : FVec Ideal S512x2048 .f32)
    (u : FVec Ideal S1x2048x2048 .bf16) (r : Fin 512) (n : Fin 2048) :
    k0_pay3 (F := Ideal) h w o u (ix2 r n) = o (ix2 r n) + k0_pay2 (F := Ideal) h w u (ix2 r n) := by
  pointwise [k0_pay3, k0_pay2, k0_pay1]

/-- A row of the gated residual inside a block. -/
def zrow (x y : FVec Ideal S512x2048 .f32) (g : FVec Ideal S1x1x2048 .f32) (r : Fin 512) (n : Fin 2048) : EReal :=
  x (ix2 r n) + g (ix3 0 0 n) * y (ix2 r n)

variable (m : (ℓ : Loc nD τ sig) → Buf (Elt Ideal) ℓ)

/-- After the first block of the hidden axis, a point leaves the plain product. -/
theorem left_A (c : Dev nD) (t : Fin cfg0.N) (h0 : t.val % 4 = 0) (h1 : ¬1 ≤ t.val % 4) (h2 : ¬t.val % 4 = 3) :
    outsAt0 m c t.val t.isLt = k0_pay2 (F := Ideal) (iblk m c 1 t) (iblk m c 4 t) (iblk m c 5 t) := by
  rw [outsAt0_A m c t h0 h1 h2]; frame_out

/-- A middle block of the hidden axis adds its product to what the point before left. -/
theorem left_B (c : Dev nD) (t : Fin cfg0.N) (h0 : ¬t.val % 4 = 0) (h1 : 1 ≤ t.val % 4) (h2 : ¬t.val % 4 = 3) :
    outsAt0 m c t.val t.isLt = k0_pay3 (F := Ideal) (iblk m c 1 t) (iblk m c 4 t)
      (outsAt0 m c (t.val - 1) (Nat.lt_of_le_of_lt (Nat.sub_le _ _) t.isLt)) (iblk m c 5 t) := by
  rw [outsAt0_B m c t h0 h1 h2]; frame_out

/-- The last block adds its product too; then the gated residual is formed in place, four column chunks one by one. -/
theorem left_C (c : Dev nD) (t : Fin cfg0.N) (h0 : ¬t.val % 4 = 0) (h1 : 1 ≤ t.val % 4) (h2 : t.val % 4 = 3)
    (r : Fin 512) (n : Fin 2048) :
    outsAt0 m c t.val t.isLt (ix2 r n)
      = zrow (iblk m c 0 t) (k0_pay3 (F := Ideal) (iblk m c 1 t) (iblk m c 4 t)
          (outsAt0 m c (t.val - 1) (Nat.lt_of_le_of_lt (Nat.sub_le _ _) t.isLt)) (iblk m c 5 t)) (iblk m c 2 t) r n := by
  rw [outsAt0_C m c t h0 h1 h2]; frame_open
  simp (disch := decide) only [↓ View.readCov_skip, ↓ View.readCov_cons_toLoadRect, ↓ View.readCov_fill]
  frame_out
  generalize k0_pay3 (F := Ideal) (iblk m c 1 t) (iblk m c 4 t)
      (outsAt0 m c (t.val - 1) (Nat.lt_of_le_of_lt (Nat.sub_le _ _) t.isLt)) (iblk m c 5 t) = Y
  refine (Cert.Kernel2Ideal.Ffn.canon_append [_, _, _, _] [_] (ix2 r n) (View.cover_of_tiled_head _ _ _ rfl _)).trans ?_
  canon_tiles x h
  all_goals
    open_payloads
    have hr : r = x 0 := Fin.ext h0
    subst hr
    have h1' : (n : ℕ) = _ := h1
    have hn : n = ⟨_, h1' ▸ n.isLt⟩ := Fin.ext h1'
    rw [hn]
    pointwise [zrow]

end Cert.Kernel4Ideal.Mlp

end
-- ==== Proof.Mlp.Final.lean ====
/- The result array of the unnormed feed-forward kernel. -/
module

public import proofs.«01_k».proof.Proof.Mlp.Cases

@[expose] public section

set_option maxRecDepth 16384

noncomputable section

open Idealize.ShloMosaic Idealize.ShloMosaic.TcCoe Idealize.SL.Sem
open Idealize.ShloMosaic.Pipeline (Dat)

namespace Cert.Kernel4Ideal.Mlp

open Cert.Kernel4Ideal Cert.Kernel4Ideal.Gen

variable (m : (ℓ : Loc nD τ sig) → Buf (Elt Ideal) ℓ)

/-- Which block each window is on at a point: the row block is the point's quotient by 4, the hidden block its rest. -/
theorem idx : ∀ t : Fin cfg0.N, win0_0.index t = ![t.val / 4, 0] ∧ win0_1.index t = ![t.val / 4, 0]
    ∧ win0_2.index t = ![t.val / 64, 0, 0] ∧ win0_3.index t = ![0, 0] ∧ win0_4.index t = ![0, 0, t.val % 4]
    ∧ win0_5.index t = ![0, t.val % 4, 0] ∧ win0_6.index t = ![t.val / 4, 0] :=
  (by decide +kernel : ∀ t : Fin grid0.N, _)

/-! The arguments, by their coordinates. -/

/-- The residual stream, row and column. -/
def rows (x : FVec Ideal S32768x2048 .f32) (r : Fin 32768) (n : Fin 2048) : EReal := x (ix2 r n)
/-- The normed rows that the block reads. -/
def rows' (x : FVec Ideal S32768x2048 .bf16) (r : Fin 32768) (n : Fin 2048) : EReal := x (ix2 r n)
/-- The gate of a batch entry. -/
def gate (x : FVec Ideal S4x1x2048 .f32) (b : Fin 4) (n : Fin 2048) : EReal := x (ix3 b 0 n)
/-- Layer 0 of the first weight. -/
def upw (x : FVec Ideal S4x2048x8192 .bf16) (d : Fin 2048) (l : Fin 8192) : EReal := x (ix3 0 d l)
/-- Layer 0 of the second weight. -/
def dnw (x : FVec Ideal S4x8192x2048 .bf16) (l : Fin 8192) (n : Fin 2048) : EReal := x (ix3 0 l n)

/-- The residual stream that the device is given. -/
abbrev X (c : Dev nD) := rows (m ((c.tc : Thread nD τ).loc main_arg0))
/-- The normed rows that the device is given. -/
abbrev H (c : Dev nD) := rows' (m ((c.tc : Thread nD τ).loc main_arg1))
/-- The gates that the device is given. -/
abbrev G (c : Dev nD) := gate (m ((c.tc : Thread nD τ).loc main_arg2))
/-- The first weight that the device is given. -/
abbrev W (c : Dev nD) := upw (m ((c.tc : Thread nD τ).loc main_arg4))
/-- The second weight that the device is given. -/
abbrev U (c : Dev nD) := dnw (m ((c.tc : Thread nD τ).loc main_arg5))

/-- The part of the second product that a point computes: the sum over its block of the hidden axis. -/
theorem part_at (c : Dev nD) (t : Fin cfg0.N) (p q : ℕ) (hp : t.val / 4 = p) (hq : t.val % 4 = q) (hp' : p < 64) (hq' : q < 4) (r : Fin 512) (n : Fin 2048) :
    k0_pay2 (F := Ideal) (iblk m c 1 t) (iblk m c 4 t) (iblk m c 5 t) (ix2 r n)
      = ∑ k : Fin 2048, Ffn.hidden (H m c) (W m c) ⟨p * 512 + r.val, by omega⟩ ⟨q * 2048 + k.val, by omega⟩
          * U m c ⟨q * 2048 + k.val, by omega⟩ n := by
  subst hp hq
  refine (pay2_at _ _ _ r n).trans ?_
  unfold Ffn.hidden H W U rows' upw dnw
  blk_point [iblk, V, idx t]

/-- What the last point of a row block has added up: the whole second product. -/
theorem acc_at (c : Dev nD) (t : Fin cfg0.N) (h2 : t.val % 4 = 3) (ht : t.val / 4 < 64) (r : Fin 512) (n : Fin 2048) :
    k0_pay3 (F := Ideal) (iblk m c 1 t) (iblk m c 4 t)
      (outsAt0 m c (t.val - 1) (Nat.lt_of_le_of_lt (Nat.sub_le _ _) t.isLt)) (iblk m c 5 t) (ix2 r n)
      = Ffn.down (H m c) (W m c) (U m c) ⟨t.val / 4 * 512 + r.val, by omega⟩ n := by
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have e1 := left_B m c ⟨t.val - 1, l1⟩ (by simp only; omega) (by simp only; omega) (by simp only; omega)
  have e2 := left_B m c ⟨t.val - 1 - 1, l2⟩ (by simp only; omega) (by simp only; omega) (by simp only; omega)
  have e3 := left_A m c ⟨t.val - 1 - 1 - 1, l3⟩ (by simp only; omega) (by simp only; omega) (by simp only; omega)
  dsimp only at e1 e2 e3
  rw [e1, e2, e3, pay3_at, pay3_at, pay3_at,
    part_at m c t (t.val / 4) 3 rfl h2 ht (by omega), part_at m c ⟨t.val - 1, l1⟩ (t.val / 4) 2 (by simp only; omega) (by simp only; omega) ht (by omega),
    part_at m c ⟨t.val - 1 - 1, l2⟩ (t.val / 4) 1 (by simp only; omega) (by simp only; omega) ht (by omega),
    part_at m c ⟨t.val - 1 - 1 - 1, l3⟩ (t.val / 4) 0 (by simp only; omega) (by simp only; omega) ht (by omega)]
  unfold Ffn.down
  rw [Ffn.sum_blocks]
  simp only [Nat.zero_mul, Nat.zero_add, Nat.one_mul, Nat.reduceMul]

/-- What the last point of a row block leaves: the formula at its rows. -/
theorem point (c : Dev nD) (t : Fin cfg0.N) (h2 : t.val % 4 = 3) (ht : t.val / 4 < 64) (r : Fin 512) (n : Fin 2048) :
    outsAt0 m c t.val t.isLt (ix2 r n)
      = Ffn.resid (X m c) (Ffn.down (H m c) (W m c) (U m c)) (G m c) ⟨t.val / 4 * 512 + r.val, by omega⟩ n := by
  rw [left_C m c t (by omega) (by omega) h2 r n]
  unfold zrow
  rw [acc_at m c t h2 ht]
  unfold Ffn.resid Ffn.batch X G rows gate
  blk_point [iblk, V, idx t]

/-- The result array after the run, index by index. -/
theorem final (c : Dev nD) : (dats m 0 c).arrAt 6 (cfgs 0).N
    = fun j : S32768x2048.Idx => Ffn.resid (X m c) (Ffn.down (H m c) (W m c) (U m c)) (G m c) (j 0) (j 1) := by
  refine (dats m 0 c).arrAt_eq_of_covers 6 _ (by decide +kernel) fun t hf y => ?_
  have h2 : t.val % 4 = 3 := (flush0_6 t).mp hf
  have ht : t.val / 4 < 64 := by have := t.isLt; have hN : cfg0.grid.N = 256 := N_0; omega
  blk_simp
  rw [after0_6]
  revert y
  intro (y : S512x2048.Idx)
  obtain ⟨r, n, rfl⟩ : ∃ r n, y = ix2 r n := ⟨y 0, y 1, eq_ix2 y⟩
  have e0 : (win0_6.blk t).view.emb (ix2 r n) 0 = (⟨t.val / 4 * 512 + r.val, by omega⟩ : Fin 32768) :=
    Fin.ext (by blk_simp [idx t])
  have e1 : (win0_6.blk t).view.emb (ix2 r n) 1 = n := Fin.ext (by blk_simp [idx t])
  rw [point m c t h2 ht r n]
  exact congrArg₂ _ e0.symm e1.symm

end Cert.Kernel4Ideal.Mlp

end
-- ==== Proof.Mlp.Ref.lean ====
/- The reference of the unnormed feed-forward block, read at an index. -/
module

public import proofs.«01_k».proof.Proof.Gen.Reference4Ideal.Run
public import proofs.«01_k».proof.Proof.Ffn.Spec

@[expose] public section

set_option maxRecDepth 16384

noncomputable section

open Idealize.ShloMosaic Idealize.ShloMosaic.TcCoe Idealize.SL.Sem

namespace Cert.Reference4Ideal.Mlp

open Cert.Reference4Ideal Cert.Reference4Ideal.Gen Cert.Reference4Ideal.Value

/-- The rectified hidden layer, as the reference computes it. -/
def hidV (H : FVec Ideal S32768x2048 .bf16) (W : FVec Ideal S4x2048x8192 .bf16) : FVec Ideal S32768x8192 .f32 :=
  maximumf (Host.dotGeneral dot_S32768x2048_S2048x8192_S32768x8192_1_0_0_1_n_n none (extf .f32 H bitsLt_bf16_f32)
    (extf .f32 (shapeCast _ (extractStridedSlice S1x2048x8192 ![0, 0, 0] W slices_S4x2048x8192_S1x2048x8192_0_0_0)
      shapeCasts_S1x2048x8192_S2048x8192) bitsLt_bf16_f32))
    (broadcastInDim S32768x8192 ![] bcast_S_S32768x8192 (constant S_ .f32 0x00000000#32))

/-- A rectified hidden unit is the inner product of a row and a column of layer 0's weight, cut off at 0. -/
theorem hidV_at (H : FVec Ideal S32768x2048 .bf16) (W : FVec Ideal S4x2048x8192 .bf16) (r : Fin 32768) (l : Fin 8192) :
    hidV H W (ix2 r l) = max (∑ d, H (ix2 r d) * W (ix3 0 d l)) 0 := by
  pointwise [hidV]

/-- The product with the second weight. -/
def downV (A : FVec Ideal S32768x8192 .f32) (U : FVec Ideal S4x8192x2048 .bf16) : FVec Ideal S32768x2048 .f32 :=
  Host.dotGeneral dot_S32768x8192_S8192x2048_S32768x2048_1_0_0_1_n_n none (mulf A A)
    (extf .f32 (shapeCast _ (extractStridedSlice S1x8192x2048 ![0, 0, 0] U slices_S4x8192x2048_S1x8192x2048_0_0_0)
      shapeCasts_S1x8192x2048_S8192x2048) bitsLt_bf16_f32)

/-- An entry of the second product: the squared hidden units against a column of the second weight. -/
theorem downV_at (A : FVec Ideal S32768x8192 .f32) (U : FVec Ideal S4x8192x2048 .bf16) (r : Fin 32768) (n : Fin 2048) :
    downV A U (ix2 r n) = ∑ l, A (ix2 r l) * A (ix2 r l) * U (ix3 0 l n) := by
  pointwise [downV]

/-- The gated residual. -/
def residV (X Y : FVec Ideal S32768x2048 .f32) (G : FVec Ideal S4x1x2048 .f32) : FVec Ideal S32768x2048 .f32 :=
  shapeCast _ (addf (shapeCast _ X shapeCasts_S32768x2048_S4x8192x2048)
    (mulf (broadcastInDim S4x8192x2048 ![0, 1, 2] bcast_S4x1x2048_S4x8192x2048_0_1_2 G)
      (shapeCast _ Y shapeCasts_S32768x2048_S4x8192x2048))) shapeCasts_S4x8192x2048_S32768x2048

/-- An entry of the gated residual: the gate is that of the row's batch entry. -/
theorem residV_at (X Y : FVec Ideal S32768x2048 .f32) (G : FVec Ideal S4x1x2048 .f32) (r : Fin 32768) (n : Fin 2048) :
    residV X Y G (ix2 r n) = X (ix2 r n) + G (ix3 (Ffn.batch r) 0 n) * Y (ix2 r n) := by
  have h : r.val / 8192 * 8192 + r.val % 8192 = r.val := by omega
  pointwise [residV, Ffn.batch, h]

/-- The three stages one after the other are the formula. -/
theorem res_at (X : FVec Ideal S32768x2048 .f32) (H : FVec Ideal S32768x2048 .bf16) (G : FVec Ideal S4x1x2048 .f32)
    (W : FVec Ideal S4x2048x8192 .bf16) (U : FVec Ideal S4x8192x2048 .bf16) (r : Fin 32768) (n : Fin 2048) :
    residV X (downV (hidV H W) U) G (ix2 r n)
      = Ffn.resid (fun r d => X (ix2 r d)) (Ffn.down (fun r d => H (ix2 r d)) (fun d l => W (ix3 0 d l)) fun l n => U (ix3 0 l n))
          (fun b n => G (ix3 b 0 n)) r n := by
  rw [residV_at, downV_at]
  simp only [hidV_at, Ffn.resid, Ffn.down, Ffn.hidden]

end Cert.Reference4Ideal.Mlp

end
-- ==== Proof.Mlp.Claim.lean ====
module

public import proofs.«01_k».proof.Defs
public import proofs.«01_k».proof.Proof.Mlp.Final
public import proofs.«01_k».proof.Proof.Mlp.Ref
public import Idealize.ShloMosaic.Lib.Claim

@[expose] public section

set_option maxRecDepth 16384

noncomputable section

open Idealize.ShloMosaic Idealize.ShloMosaic.TcCoe Idealize.SL.Sem

/-- The unnormed feed-forward kernel and its reference end with the same array, read over the extended reals. -/
theorem Mlp.algebraic : Cert.algebraic_Kernel4Ideal_Reference4Ideal := by
  pair_intro
  · run_from Cert.Kernel4Ideal.Gen.run_main m g
  · run_from Cert.Reference4Ideal.Value.run m' g'
    refine Eq.trans ?_ (Cert.Kernel4Ideal.Mlp.final m c).symm
    funext j
    obtain ⟨r, n, rfl⟩ : ∃ (r : Fin 32768) (n : Fin 2048), j = ix2 r n := ⟨j 0, j 1, eq_ix2 j⟩
    exact Cert.Reference4Ideal.Mlp.res_at (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5)) r n

end
-- ==== Proof.InProj.Spec.lean ====
/- The formulas of the input projection: the modulated norm of a row, its projection, the low-rank query and key rows,
   and the rotation of the position tables. -/
module

public import proofs.«01_k».proof.Proof.OutProj.Spec

@[expose] public section

set_option maxRecDepth 16384

noncomputable section

open Idealize.ShloMosaic Idealize.ShloMosaic.TcCoe Idealize.SL.Sem

namespace InProj

/-- A row divided by its root mean square, its mean taken by the divisor `N`, and scaled by `g`. -/
def rms {n : ℕ} (N : EReal) (y g : Fin n → EReal) (k : Fin n) : EReal :=
  y k * Ideal.rsqrt (Ideal.div (∑ j, y j * y j) N + Ideal.ofBits .f32 0x358637BD#32) * g k

/-- The query row: the first 512 entries of the projection `z`, normed, against the query weight. -/
def query (z : Fin 3712 → EReal) (g : Fin 512 → EReal) (W : Fin 512 → Fin 1024 → EReal) (n : Fin 1024) : EReal :=
  ∑ k, rms (Ideal.ofBits .f32 0x44000000#32) (fun j : Fin 512 => z ⟨j.val, by omega⟩) g k * W k n

/-- The key and value row: the next 256 entries, normed, against the key and value weight. -/
def keyval (z : Fin 3712 → EReal) (g : Fin 256 → EReal) (W : Fin 256 → Fin 1024 → EReal) (n : Fin 1024) : EReal :=
  ∑ k, rms (Ideal.ofBits .f32 0x43800000#32) (fun j : Fin 256 => z ⟨512 + j.val, by omega⟩) g k * W k n

/-- The rotation of a head of 64 entries by its position's tables: in each half of 32 the first 16 entries are paired
    with the last 16. -/
def rope (C S t : Fin 64 → EReal) (e : Fin 64) : EReal :=
  t e * C e + (if h : e.val % 32 < 16 then -t ⟨e.val + 16, by omega⟩ else t ⟨e.val - 16, by omega⟩) * S e

/-- The four quarters laid out for the rotation, one after another: in each half the neighbour 16 places off, the
    first with its sign changed. -/
theorem quarters (t : Fin 64 → EReal) (e : Fin 64) :
    (if h1 : e.val < 16 then -t ⟨16 + e.val, by omega⟩
      else if h2 : e.val - 16 < 16 then t ⟨e.val - 16, by omega⟩
      else if h3 : e.val - 16 - 16 < 16 then -t ⟨48 + (e.val - 16 - 16), by omega⟩
      else t ⟨32 + (e.val - 16 - 16 - 16), by omega⟩)
      = if h : e.val % 32 < 16 then -t ⟨e.val + 16, by omega⟩ else t ⟨e.val - 16, by omega⟩ := by
  split_ifs <;> first
    | omega
    | exact congrArg (fun i => -t i) (Fin.ext (by simp only []; omega))
    | exact congrArg t (Fin.ext (by simp only []; omega))
    | exact congrArg t rfl

/-- Two heads side by side, each rotated. -/
def rope2 (C S : Fin 64 → EReal) (t : Fin 128 → EReal) (x : Fin 128) : EReal :=
  rope C S (fun i => t ⟨x.val / 64 * 64 + i.val, by omega⟩) ⟨x.val % 64, by omega⟩

/-- A row against three tables: the entry, the one 16 places on and the one 16 places back, around the end. -/
def roll3 (c a b t : Fin 128 → EReal) (x : Fin 128) : EReal :=
  t x * c x + t ⟨(x.val + 16) % 128, by omega⟩ * a x + t ⟨(x.val + 112) % 128, by omega⟩ * b x

/-- With the tables repeated and masked, that is the rotation of the two heads: the neighbour from beyond the pair has
    the factor zero. -/
theorem roll3_eq (C S : Fin 64 → EReal) (c a b : Fin 128 → EReal) (hc : ∀ x, c x = C ⟨x.val % 64, by omega⟩)
    (ha : ∀ x, a x = if x.val % 32 < 16 then -S ⟨x.val % 64, by omega⟩ else 0)
    (hb : ∀ x, b x = if x.val % 32 < 16 then 0 else S ⟨x.val % 64, by omega⟩) :
    roll3 c a b = rope2 C S := by
  funext t x
  unfold roll3 rope2 rope
  rw [hc, ha, hb]
  have e0 : x.val / 64 * 64 + x.val % 64 = x.val := by omega
  by_cases h : x.val % 32 < 16
  · have h' : x.val % 64 % 32 < 16 := by omega
    have e1 : (x.val + 16) % 128 = x.val / 64 * 64 + (x.val % 64 + 16) := by omega
    simp only [h, h', if_true, dite_true, mul_zero, add_zero, e0, e1, mul_neg, neg_mul]
  · have h' : ¬x.val % 64 % 32 < 16 := by omega
    have e1 : (x.val + 112) % 128 = x.val / 64 * 64 + (x.val % 64 - 16) := by omega
    simp only [h, h', if_false, dite_false, mul_zero, add_zero, e0, e1]

/-- A factor that is a nonnegative number may be taken before or after the rotation. -/
theorem rope_scale (C S t : Fin 64 → EReal) (s : EReal) (h0 : 0 ≤ s) (h1 : s ≠ ⊤) (e : Fin 64) :
    rope C S (fun i => t i * s) e = rope C S t e * s := by
  unfold rope
  rw [EReal.right_distrib_of_nonneg_of_ne_top h0 h1]
  congr 1
  · rw [mul_right_comm]
  · split_ifs
    · rw [← neg_mul, mul_right_comm]
    · rw [mul_right_comm]

/-- What queries of `w` entries are scaled by: one over the root of `w`, and over the logarithm of two, as the attention's
    powers are powers of two. -/
def scale (w : ℝ) : ℝ := (Real.sqrt w)⁻¹ * (Real.log 2)⁻¹

/-- To divide by the root and the logarithm is to scale. -/
theorem div_scale {w : ℝ} (hw : 0 < w) (x : EReal) :
    Ideal.div x (Ideal.sqrt (w : EReal) * Ideal.log ((2 : ℝ) : EReal)) = x * (scale w : EReal) := by
  have h1 : Real.sqrt w ≠ 0 := (Real.sqrt_pos.mpr hw).ne'
  have h2 : Real.log 2 ≠ 0 := (Real.log_pos (by norm_num)).ne'
  rw [Ideal.sqrt_coe, if_neg hw.not_gt, Ideal.log_coe, if_neg (by norm_num), ← EReal.coe_mul, Ideal.div_coe (mul_ne_zero h1 h2),
    one_div, mul_inv]
  rfl

/-- The scale of the latent attention's queries. -/
abbrev qscale : EReal := (scale 192 : EReal)

/-- The scale of the windowed attention's queries. -/
abbrev nscale : EReal := (scale 64 : EReal)

theorem qscale_nonneg : 0 ≤ qscale := by
  rw [qscale, EReal.coe_nonneg]
  exact mul_nonneg (inv_nonneg.mpr (Real.sqrt_nonneg _)) (inv_nonneg.mpr (Real.log_nonneg (by norm_num)))

theorem qscale_ne_top : qscale ≠ ⊤ := EReal.coe_ne_top _

/-- A query entry, by the query row and a rotation `R` of 128 entries: per head 128 entries without position, 64 with
    it, 64 zeros. -/
def qm (R : (Fin 128 → EReal) → Fin 128 → EReal) (q : Fin 1024 → EReal) (n : Fin 1024) : EReal :=
  if n.val % 256 < 128 then q n
  else if n.val % 256 < 192 then R (fun i => q ⟨n.val / 256 * 256 + 128 + i.val, by omega⟩) ⟨n.val % 256 % 128, by omega⟩
  else 0

/-- A key entry: per head 128 entries of its own, 64 rotated ones shared by the heads, 64 zeros. -/
def km (R : (Fin 128 → EReal) → Fin 128 → EReal) (z : Fin 3712 → EReal) (kv : Fin 1024 → EReal) (n : Fin 1024) : EReal :=
  if h : n.val % 256 < 128 then kv ⟨n.val / 256 * 128 + n.val % 256, by omega⟩
  else if n.val % 256 < 192 then R (fun i => z ⟨3584 + i.val, by omega⟩) ⟨n.val % 256 % 128, by omega⟩
  else 0

/-- An entry of the windowed attention's queries: rotated, then scaled. -/
def qs (R : (Fin 128 → EReal) → Fin 128 → EReal) (z : Fin 3712 → EReal) (n : Fin 1024) : EReal :=
  R (fun i => z ⟨768 + (n.val / 128 * 128 + i.val), by omega⟩) ⟨n.val % 128, by omega⟩ * nscale

/-- The entry of two heads that a place among four holds: the heads, then the heads in the other order. -/
def pair (n : Fin 256) : Fin 128 := ⟨(n.val + n.val / 128 * 64) % 128, by omega⟩

/-- An entry of the windowed attention's keys. -/
def ks (R : (Fin 128 → EReal) → Fin 128 → EReal) (z : Fin 3712 → EReal) (n : Fin 256) : EReal :=
  R (fun i => z ⟨1792 + i.val, by omega⟩) (pair n)

/-- An entry of the windowed attention's values. -/
def vs (z : Fin 3712 → EReal) (n : Fin 256) : EReal := z ⟨1920 + (pair n).val, by have := (pair n).isLt; omega⟩

/-- A piece without position of the queries. -/
theorem qm_low (R : (Fin 128 → EReal) → Fin 128 → EReal) (q : Fin 1024 → EReal) (h : Fin 4) (n : Fin 1024) (x : Fin 128)
    (hn : n.val = h.val * 256 + x.val) : qm R q n = q n := by
  unfold qm
  rw [if_pos (by omega)]

/-- A piece with position of the queries. -/
theorem qm_high (R : (Fin 128 → EReal) → Fin 128 → EReal) (q : Fin 1024 → EReal) (h : Fin 4) (n : Fin 1024) (x : Fin 128)
    (hn : n.val = h.val * 256 + 128 + x.val) :
    qm R q n = if x.val < 64 then R (fun i => q ⟨h.val * 256 + 128 + i.val, by omega⟩) x else 0 := by
  unfold qm
  have e1 : n.val / 256 = h.val := by omega
  have e2 : n.val % 256 % 128 = x.val := by omega
  have e3 : (n.val % 256 < 192) = (x.val < 64) := by apply propext; omega
  rw [if_neg (by omega)]
  simp only [e1, e2, e3]

/-- A piece of the keys that is the head's own. -/
theorem km_low (R : (Fin 128 → EReal) → Fin 128 → EReal) (z : Fin 3712 → EReal) (kv : Fin 1024 → EReal) (h : Fin 4) (n : Fin 1024)
    (x : Fin 128) (hn : n.val = h.val * 256 + x.val) : km R z kv n = kv ⟨h.val * 128 + x.val, by omega⟩ := by
  unfold km
  have e1 : n.val / 256 = h.val := by omega
  have e2 : n.val % 256 = x.val := by omega
  rw [dif_pos (by omega)]
  simp only [e1, e2]

/-- A piece of the keys that the heads share. -/
theorem km_high (R : (Fin 128 → EReal) → Fin 128 → EReal) (z : Fin 3712 → EReal) (kv : Fin 1024 → EReal) (h : Fin 4) (n : Fin 1024)
    (x : Fin 128) (hn : n.val = h.val * 256 + 128 + x.val) :
    km R z kv n = if x.val < 64 then R (fun i => z ⟨3584 + i.val, by omega⟩) x else 0 := by
  unfold km
  have e2 : n.val % 256 % 128 = x.val := by omega
  have e3 : (n.val % 256 < 192) = (x.val < 64) := by apply propext; omega
  rw [dif_neg (by omega)]
  simp only [e2, e3]

/-- A piece of the windowed attention's queries. -/
theorem qs_piece (R : (Fin 128 → EReal) → Fin 128 → EReal) (z : Fin 3712 → EReal) (p : Fin 8) (n : Fin 1024) (x : Fin 128)
    (hn : n.val = p.val * 128 + x.val) :
    qs R z n = R (fun i => z ⟨768 + (p.val * 128 + i.val), by omega⟩) x * nscale := by
  unfold qs
  have e1 : n.val / 128 = p.val := by omega
  have e2 : n.val % 128 = x.val := by omega
  simp only [e1, e2]

theorem pair_low (n : Fin 256) (x : Fin 128) (hn : n.val = x.val) : pair n = x := by
  apply Fin.ext
  simp only [pair]
  omega

theorem pair_high (n : Fin 256) (x : Fin 128) (hn : n.val = 128 + x.val) :
    pair n = ⟨(x.val + 64) % 128, by omega⟩ := by
  apply Fin.ext
  simp only [pair]
  omega

/-- The first piece of the windowed attention's keys. -/
theorem ks_low (R : (Fin 128 → EReal) → Fin 128 → EReal) (z : Fin 3712 → EReal) (n : Fin 256) (x : Fin 128)
    (hn : n.val = x.val) : ks R z n = R (fun i => z ⟨1792 + i.val, by omega⟩) x := by
  unfold ks
  rw [pair_low n x hn]

/-- The second piece of the windowed attention's keys. -/
theorem ks_high (R : (Fin 128 → EReal) → Fin 128 → EReal) (z : Fin 3712 → EReal) (n : Fin 256) (x : Fin 128)
    (hn : n.val = 128 + x.val) :
    ks R z n = R (fun i => z ⟨1792 + i.val, by omega⟩) ⟨(x.val + 64) % 128, by omega⟩ := by
  unfold ks
  rw [pair_high n x hn]

/-- The first piece of the windowed attention's values. -/
theorem vs_low (z : Fin 3712 → EReal) (n : Fin 256) (x : Fin 128) (hn : n.val = x.val) :
    vs z n = z ⟨1920 + x.val, by omega⟩ := by
  unfold vs
  simp only [pair_low n x hn]

/-- The second piece of the windowed attention's values. -/
theorem vs_high (z : Fin 3712 → EReal) (n : Fin 256) (x : Fin 128) (hn : n.val = 128 + x.val) :
    vs z n = z ⟨1920 + (x.val + 64) % 128, by omega⟩ := by
  unfold vs
  simp only [pair_high n x hn]

end InProj

end
-- ==== Proof.InProj.Cases.lean ====
/- What a grid point of the input projection kernel leaves in its eleven blocks. -/
module

public import proofs.«01_k».proof.Proof.Gen.Kernel5Ideal.Value
public import proofs.«01_k».proof.Proof.InProj.Spec
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.InProj

open Cert.Kernel5Ideal Cert.Kernel5Ideal.Gen

/-- The projection of a block's row. -/
def zrow (H : FVec Ideal S512x2048 .bf16) (x4 : FVec Ideal S1x2048x3712 .bf16) (r : Fin 512) (n : Fin 3712) : EReal :=
  ∑ k, H (ix2 r k) * x4 (ix3 0 k n)

/-- A row of a block's table. -/
def tab (x : FVec Ideal S512x128 .f32) (r : Fin 512) (i : Fin 128) : EReal := x (ix2 r i)

/-- The rotation by a block's three tables. -/
def rot (x9 x10 x11 : FVec Ideal S512x128 .f32) (r : Fin 512) : (Fin 128 → EReal) → Fin 128 → EReal :=
  InProj.roll3 (tab x9 r) (tab x10 r) (tab x11 r)

variable (x0 : FVec Ideal S512x2048 .f32) (x1 x2 : FVec Ideal S1x1x2048 .f32) (x3 : FVec Ideal S1x2048 .f32)
  (x4 : FVec Ideal S1x2048x3712 .bf16) (x5 : FVec Ideal S1x512 .f32) (x6 : FVec Ideal S1x512x1024 .bf16)
  (x7 : FVec Ideal S1x256 .f32) (x8 : FVec Ideal S1x256x1024 .bf16) (x9 x10 x11 : FVec Ideal S512x128 .f32)

/-- The modulated norm of a block's rows, as the kernel writes it. -/
abbrev hid : FVec Ideal S512x2048 .bf16 := k0_pay57 (F := Ideal) x0 x1 x2 x3 x4 x5 x6 x7 x8 x9 x10 x11

/-- The scaled query rows, as the kernel writes them. -/
abbrev qry : FVec Ideal S512x1024 .f32 := k0_pay63 (F := Ideal) x0 x1 x2 x3 x4 x5 x6 x7 x8 x9 x10 x11

/-- An entry of the modulated norm. -/
theorem hid_at (r : Fin 512) (k : Fin 2048) :
    hid x0 x1 x2 x3 x4 x5 x6 x7 x8 x9 x10 x11 (ix2 r k)
      = OutProj.modnorm (fun n => x0 (ix2 r n)) (fun n => x3 (ix2 0 n)) (fun n => x2 (ix3 0 0 n)) (fun n => x1 (ix3 0 0 n)) k := by
  pointwise [hid, k0_pay57, k0_pay2, OutProj.modnorm, Ffn.rms]

/-- The constant the latent attention's queries are multiplied by. -/
theorem mla_scale : Named.named (F := Ideal) κ "mla_scale" (φ := .f32) 0x3DD53B95#32 = InProj.qscale :=
  IdealRules.named_const.ideal_named_scalar _ _ _ _ rfl

/-- The constant the windowed attention's queries are multiplied by. -/
theorem swa_scale : Named.named (F := Ideal) κ "swa_scale" (φ := .f32) 0x3E38AA3B#32 = InProj.nscale :=
  IdealRules.named_const.ideal_named_scalar _ _ _ _ rfl

/-- An entry of the scaled query rows. -/
theorem qry_at (r : Fin 512) (n : Fin 1024) :
    qry x0 x1 x2 x3 x4 x5 x6 x7 x8 x9 x10 x11 (ix2 r n)
      = InProj.query (zrow (hid x0 x1 x2 x3 x4 x5 x6 x7 x8 x9 x10 x11) x4 r) (fun k => x5 (ix2 0 k)) (fun k n => x6 (ix3 0 k n)) n * InProj.qscale := by
  unfold qry hid k0_pay63
  generalize k0_pay57 (F := Ideal) x0 x1 x2 x3 x4 x5 x6 x7 x8 x9 x10 x11 = H
  pointwise [k0_pay9, InProj.query, InProj.rms, zrow, mla_scale]

/-- The lane mask "lane below 64", as a case distinction. -/
theorem lane_select (v : ℕ) (hv : v < 128) (a b : EReal) :
    Scalar.select (IntOp.cmpi .slt (BitVec.ofNat 32 v) 64#32) a b = if v < 64 then a else b := by
  have h : ∀ v : Fin 128, IntOp.cmpi .slt (BitVec.ofNat 32 (v : ℕ)) 64#32
      = if (v : ℕ) < 64 then 1#1 else 0#1 := by decide +kernel
  rw [h ⟨v, hv⟩]
  split <;> rfl

/-- The queries' block. -/
theorem left12 (r : Fin 512) (n : Fin 1024) :
    out0_12 (F := Ideal) x0 x1 x2 x3 x4 x5 x6 x7 x8 x9 x10 x11 (ix2 r n)
      = InProj.qm (rot x9 x10 x11 r) (fun n => qry x0 x1 x2 x3 x4 x5 x6 x7 x8 x9 x10 x11 (ix2 r n)) n := by
  unfold out0_12 qry
  simp only [k0_pay11, k0_pay10, k0_pay63]
  generalize k0_pay9 (F := Ideal) _ _ _ _ = Q
  canon_tiles x h
  all_goals
    have hr : r = x 0 := Fin.ext h0
    subst hr
    have hn : (n : ℕ) = _ := h1
  case piece0 =>
    rw [InProj.qm_high _ _ 3 n (x 1) (by simp only [hn]; rfl)]
    pointwise [k0_pay23, k0_pay21, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece1 =>
    rw [InProj.qm_low _ _ 3 n (x 1) (by simp only [hn]; rfl)]
    have hc : n = ⟨_, hn ▸ n.isLt⟩ := Fin.ext hn
    rw [hc]
    pointwise [k0_pay22, k0_pay21]
  case piece2 =>
    rw [InProj.qm_high _ _ 2 n (x 1) (by simp only [hn]; rfl)]
    pointwise [k0_pay20, k0_pay19, k0_pay18, k0_pay16, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece3 =>
    rw [InProj.qm_low _ _ 2 n (x 1) (by simp only [hn]; rfl)]
    have hc : n = ⟨_, hn ▸ n.isLt⟩ := Fin.ext hn
    rw [hc]
    pointwise [k0_pay17, k0_pay16]
  case piece4 =>
    rw [InProj.qm_high _ _ 1 n (x 1) (by simp only [hn]; rfl)]
    pointwise [k0_pay15, k0_pay13, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece5 =>
    rw [InProj.qm_low _ _ 1 n (x 1) (by simp only [hn]; rfl)]
    have hc : n = ⟨_, hn ▸ n.isLt⟩ := Fin.ext hn
    rw [hc]
    pointwise [k0_pay14, k0_pay13]
  case piece6 =>
    rw [InProj.qm_high _ _ 0 n (x 1) (by simp only [hn]; rfl)]
    pointwise [k0_pay12, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece7 =>
    rw [InProj.qm_low _ _ 0 n (x 1) (by simp [hn])]
    have hc : n = ⟨_, hn ▸ n.isLt⟩ := Fin.ext hn
    rw [hc]
    pointwise []

/-- The normed latents put through the key-value matrix: one row. -/
theorem kv_at (r : Fin 512) (n : Fin 1024) :
    k0_pay26 (F := Ideal) (k0_pay64 (F := Ideal) x0 x1 x2 x3 x4 x5 x6 x7 x8 x9 x10 x11) (k0_pay65 (F := Ideal) x0 x1 x2 x3 x4 x5 x6 x7 x8 x9 x10 x11) (View.ld x8 r0_18) (ix2 r n)
      = InProj.keyval (zrow (hid x0 x1 x2 x3 x4 x5 x6 x7 x8 x9 x10 x11) x4 r) (fun k => x7 (ix2 0 k)) (fun k n => x8 (ix3 0 k n)) n := by
  unfold hid
  simp only [k0_pay64, k0_pay65]
  generalize k0_pay57 (F := Ideal) x0 x1 x2 x3 x4 x5 x6 x7 x8 x9 x10 x11 = H
  pointwise [k0_pay26, k0_pay24, k0_pay25, InProj.keyval, InProj.rms, zrow]

/-- The keys' block. -/
theorem left13 (r : Fin 512) (n : Fin 1024) :
    out0_13 (F := Ideal) x0 x1 x2 x3 x4 x5 x6 x7 x8 x9 x10 x11 (ix2 r n)
      = InProj.km (rot x9 x10 x11 r) (zrow (hid x0 x1 x2 x3 x4 x5 x6 x7 x8 x9 x10 x11) x4 r)
          (InProj.keyval (zrow (hid x0 x1 x2 x3 x4 x5 x6 x7 x8 x9 x10 x11) x4 r) (fun k => x7 (ix2 0 k)) (fun k n => x8 (ix3 0 k n))) n := by
  have hkv : InProj.keyval (zrow (hid x0 x1 x2 x3 x4 x5 x6 x7 x8 x9 x10 x11) x4 r) (fun k => x7 (ix2 0 k)) (fun k n => x8 (ix3 0 k n))
      = fun n => k0_pay26 (F := Ideal) (k0_pay64 (F := Ideal) x0 x1 x2 x3 x4 x5 x6 x7 x8 x9 x10 x11) (k0_pay65 (F := Ideal) x0 x1 x2 x3 x4 x5 x6 x7 x8 x9 x10 x11)
          (View.ld x8 r0_18) (ix2 r n) := funext fun n => (kv_at x0 x1 x2 x3 x4 x5 x6 x7 x8 x9 x10 x11 r n).symm
  rw [hkv]
  unfold out0_13 hid
  simp only [k0_pay27, k0_pay28, k0_pay29, k0_pay30, k0_pay62]
  generalize k0_pay26 (F := Ideal) _ _ _ = Q
  generalize k0_pay57 (F := Ideal) x0 x1 x2 x3 x4 x5 x6 x7 x8 x9 x10 x11 = H
  canon_tiles x h
  all_goals
    have hr : r = x 0 := Fin.ext h0
    subst hr
    have hn : (n : ℕ) = _ := h1
  case piece0 =>
    rw [InProj.km_high _ _ _ 3 n (x 1) (by simp only [hn]; rfl)]
    pointwise [k0_pay8, k0_pay7, zrow, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece1 =>
    rw [InProj.km_low _ _ _ 3 n (x 1) (by simp only [hn]; rfl)]
    pointwise [truncf]
  case piece2 =>
    rw [InProj.km_high _ _ _ 2 n (x 1) (by simp only [hn]; rfl)]
    pointwise [k0_pay8, k0_pay7, zrow, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece3 =>
    rw [InProj.km_low _ _ _ 2 n (x 1) (by simp only [hn]; rfl)]
    pointwise [truncf]
  case piece4 =>
    rw [InProj.km_high _ _ _ 1 n (x 1) (by simp only [hn]; rfl)]
    pointwise [k0_pay8, k0_pay7, zrow, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece5 =>
    rw [InProj.km_low _ _ _ 1 n (x 1) (by simp only [hn]; rfl)]
    pointwise [truncf]
  case piece6 =>
    rw [InProj.km_high _ _ _ 0 n (x 1) (by simp only [hn]; rfl)]
    pointwise [k0_pay8, k0_pay7, zrow, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece7 =>
    rw [InProj.km_low _ _ _ 0 n (x 1) (by simp [hn])]
    pointwise [truncf]

/-- The block of the windowed attention's queries. -/
theorem left15 (r : Fin 512) (n : Fin 1024) :
    out0_15 (F := Ideal) x0 x1 x2 x3 x4 x5 x6 x7 x8 x9 x10 x11 (ix2 r n) = InProj.qs (rot x9 x10 x11 r) (zrow (hid x0 x1 x2 x3 x4 x5 x6 x7 x8 x9 x10 x11) x4 r) n := by
  unfold out0_15 hid
  simp only [k0_pay66]
  generalize k0_pay57 (F := Ideal) x0 x1 x2 x3 x4 x5 x6 x7 x8 x9 x10 x11 = H
  canon_tiles x h
  all_goals
    have hr : r = x 0 := Fin.ext h0
    subst hr
    have hn : (n : ℕ) = _ := h1
  case piece0 =>
    rw [InProj.qs_piece _ _ 7 n (x 1) (by simp only [hn]; rfl)]
    pointwise [k0_pay47, k0_pay41, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece1 =>
    rw [InProj.qs_piece _ _ 6 n (x 1) (by simp only [hn]; rfl)]
    pointwise [k0_pay46, k0_pay44, k0_pay45, k0_pay41, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece2 =>
    rw [InProj.qs_piece _ _ 5 n (x 1) (by simp only [hn]; rfl)]
    pointwise [k0_pay43, k0_pay41, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece3 =>
    rw [InProj.qs_piece _ _ 4 n (x 1) (by simp only [hn]; rfl)]
    pointwise [k0_pay42, k0_pay41, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece4 =>
    rw [InProj.qs_piece _ _ 3 n (x 1) (by simp only [hn]; rfl)]
    pointwise [k0_pay40, k0_pay37, k0_pay38, k0_pay39, k0_pay33, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece5 =>
    rw [InProj.qs_piece _ _ 2 n (x 1) (by simp only [hn]; rfl)]
    pointwise [k0_pay36, k0_pay33, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece6 =>
    rw [InProj.qs_piece _ _ 1 n (x 1) (by simp only [hn]; rfl)]
    pointwise [k0_pay35, k0_pay33, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece7 =>
    rw [InProj.qs_piece _ _ 0 n (x 1) (by simp [hn])]
    pointwise [k0_pay34, k0_pay33, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]

/-- The block of the windowed attention's keys. -/
theorem left16 (r : Fin 512) (n : Fin 256) :
    out0_16 (F := Ideal) x0 x1 x2 x3 x4 x5 x6 x7 x8 x9 x10 x11 (ix2 r n) = InProj.ks (rot x9 x10 x11 r) (zrow (hid x0 x1 x2 x3 x4 x5 x6 x7 x8 x9 x10 x11) x4 r) n := by
  unfold out0_16 hid
  generalize k0_pay57 (F := Ideal) x0 x1 x2 x3 x4 x5 x6 x7 x8 x9 x10 x11 = H
  canon_tiles x h
  all_goals
    have hr : r = x 0 := Fin.ext h0
    subst hr
    have hn : (n : ℕ) = _ := h1
  case piece0 =>
    rw [InProj.ks_high _ _ n (x 1) hn]
    pointwise [k0_pay50, k0_pay51, k0_pay48, zrow, k0_pay58, k0_pay59, k0_pay60, k0_pay61, k0_pay3, k0_pay4, k0_pay5, k0_pay6, rot, InProj.roll3, tab]
    have e0 : (x 1 : ℕ) + 128 - 64 = x 1 + 64 := by omega
    have e1 : ((x 1 : ℕ) + 64) % 128 + 128 - 112 = (x 1 + 64) % 128 + 16 := by omega
    have e2 : ((x 1 : ℕ) + 64) % 128 + 128 - 16 = (x 1 + 64) % 128 + 112 := by omega
    simp only [e0, e1, e2]
  case piece1 =>
    rw [InProj.ks_low _ _ n (x 1) hn]
    pointwise [k0_pay50, k0_pay51, k0_pay48, zrow, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [e1, e2, ← Nat.add_assoc, Nat.reduceAdd]

/-- The block of the windowed attention's values. -/
theorem left17 (r : Fin 512) (n : Fin 256) :
    out0_17 (F := Ideal) x0 x1 x2 x3 x4 x5 x6 x7 x8 x9 x10 x11 (ix2 r n) = InProj.vs (zrow (hid x0 x1 x2 x3 x4 x5 x6 x7 x8 x9 x10 x11) x4 r) n := by
  unfold out0_17 hid
  simp only [k0_pay67]
  generalize k0_pay57 (F := Ideal) x0 x1 x2 x3 x4 x5 x6 x7 x8 x9 x10 x11 = H
  canon_tiles x h
  all_goals
    have hr : r = x 0 := Fin.ext h0
    subst hr
    have hn : (n : ℕ) = _ := h1
  case piece0 =>
    rw [InProj.vs_high _ n (x 1) hn]
    have e0 : (x 1 : ℕ) + 128 - 64 = x 1 + 64 := by omega
    pointwise [k0_pay52, k0_pay53, k0_pay49, zrow]
    simp only [e0]
  case piece1 =>
    rw [InProj.vs_low _ n (x 1) hn]
    pointwise [k0_pay52, k0_pay53, k0_pay49, zrow]

/-- The block of the third attention's queries: scaled. -/
theorem left18 (r : Fin 512) (n : Fin 256) :
    out0_18 (F := Ideal) x0 x1 x2 x3 x4 x5 x6 x7 x8 x9 x10 x11 (ix2 r n) = zrow (hid x0 x1 x2 x3 x4 x5 x6 x7 x8 x9 x10 x11) x4 r ⟨2048 + n, by omega⟩ * Ideal.ofBits .f32 0x3E000000#32 := by
  unfold out0_18 hid
  generalize k0_pay57 (F := Ideal) x0 x1 x2 x3 x4 x5 x6 x7 x8 x9 x10 x11 = H
  canon_tiles x h
  all_goals
    have hr : r = x 0 := Fin.ext h0
    subst hr
    have hn : (n : ℕ) = _ := h1
    have hc : n = ⟨_, hn ▸ n.isLt⟩ := Fin.ext hn
    rw [hc]
    pointwise [k0_pay54, zrow]

/-- The block of the third attention's keys. -/
theorem left19 (r : Fin 512) (n : Fin 256) :
    out0_19 (F := Ideal) x0 x1 x2 x3 x4 x5 x6 x7 x8 x9 x10 x11 (ix2 r n) = zrow (hid x0 x1 x2 x3 x4 x5 x6 x7 x8 x9 x10 x11) x4 r ⟨2304 + n, by omega⟩ := by
  unfold out0_19 hid
  generalize k0_pay57 (F := Ideal) x0 x1 x2 x3 x4 x5 x6 x7 x8 x9 x10 x11 = H
  canon_tiles x h
  all_goals
    have hr : r = x 0 := Fin.ext h0
    subst hr
    have hn : (n : ℕ) = _ := h1
    have hc : n = ⟨_, hn ▸ n.isLt⟩ := Fin.ext hn
    rw [hc]
    pointwise [k0_pay55, zrow]

/-- The block of the third attention's values. -/
theorem left20 (r : Fin 512) (n : Fin 512) :
    out0_20 (F := Ideal) x0 x1 x2 x3 x4 x5 x6 x7 x8 x9 x10 x11 (ix2 r n) = zrow (hid x0 x1 x2 x3 x4 x5 x6 x7 x8 x9 x10 x11) x4 r ⟨2560 + n, by omega⟩ := by
  unfold out0_20 hid
  generalize k0_pay57 (F := Ideal) x0 x1 x2 x3 x4 x5 x6 x7 x8 x9 x10 x11 = H
  canon_tiles x h
  all_goals
    have hr : r = x 0 := Fin.ext h0
    subst hr
    have hn : (n : ℕ) = _ := h1
    have hc : n = ⟨_, hn ▸ n.isLt⟩ := Fin.ext hn
    rw [hc]
    pointwise [k0_pay56, zrow]

/-- The block of the third attention's gates. -/
theorem left21 (r : Fin 512) (n : Fin 512) :
    out0_21 (F := Ideal) x0 x1 x2 x3 x4 x5 x6 x7 x8 x9 x10 x11 (ix2 r n) = zrow (hid x0 x1 x2 x3 x4 x5 x6 x7 x8 x9 x10 x11) x4 r ⟨3072 + n, by omega⟩ := by
  unfold out0_21 hid
  generalize k0_pay57 (F := Ideal) x0 x1 x2 x3 x4 x5 x6 x7 x8 x9 x10 x11 = H
  canon_tiles x h
  all_goals
    have hr : r = x 0 := Fin.ext h0
    subst hr
    have hn : (n : ℕ) = _ := h1
    have hc : n = ⟨_, hn ▸ n.isLt⟩ := Fin.ext hn
    rw [hc]
    pointwise [k0_pay1, zrow]

/-- The block of the last columns. -/
theorem left22 (r : Fin 512) (n : Fin 128) :
    out0_22 (F := Ideal) x0 x1 x2 x3 x4 x5 x6 x7 x8 x9 x10 x11 (ix2 r n) = zrow (hid x0 x1 x2 x3 x4 x5 x6 x7 x8 x9 x10 x11) x4 r ⟨3584 + n, by omega⟩ := by
  unfold out0_22 hid
  generalize k0_pay57 (F := Ideal) x0 x1 x2 x3 x4 x5 x6 x7 x8 x9 x10 x11 = H
  canon_tiles x h
  all_goals
    have hr : r = x 0 := Fin.ext h0
    subst hr
    have hn : (n : ℕ) = _ := h1
    have hc : n = ⟨_, hn ▸ n.isLt⟩ := Fin.ext hn
    rw [hc]
    pointwise [k0_pay7, zrow]

/-- The values' block: the last half of the key and value row. -/
theorem left14 (r : Fin 512) (n : Fin 512) :
    out0_14 (F := Ideal) x0 x1 x2 x3 x4 x5 x6 x7 x8 x9 x10 x11 (ix2 r n)
      = InProj.keyval (zrow (hid x0 x1 x2 x3 x4 x5 x6 x7 x8 x9 x10 x11) x4 r) (fun k => x7 (ix2 0 k)) (fun k n => x8 (ix3 0 k n)) ⟨512 + n, by omega⟩ := by
  rw [← kv_at x0 x1 x2 x3 x4 x5 x6 x7 x8 x9 x10 x11 r]
  unfold out0_14
  simp only [k0_pay31]
  generalize k0_pay26 (F := Ideal) _ _ _ = Q
  canon_tiles x h
  all_goals
    have hr : r = x 0 := Fin.ext h0
    subst hr
    have hn : (n : ℕ) = _ := h1
    have hc : n = ⟨_, hn ▸ n.isLt⟩ := Fin.ext hn
    rw [hc]
    pointwise [truncf]

end Cert.Kernel5Ideal.InProj

end
-- ==== Proof.InProj.Tables.lean ====
/- The three tables that the input projection kernel is given, by position and lane: the host builds them from the cosines and
   the sines. -/
module

public import proofs.«01_k».proof.Proof.InProj.Cases
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.InProj

open Cert.Kernel5Ideal Cert.Kernel5Ideal.Gen

variable (m : (ℓ : Loc nD τ sig) → Buf (Elt Ideal) ℓ)

/-- The lanes' divisor, 32 put through the guard against zero. -/
def divisor : IVec S_ 32 :=
  select (cmpi .eq (constantI S_ 32 32#32) (constantI S_ 32 0#32)) (constantI S_ 32 1#32) (constantI S_ 32 32#32)

/-- The lanes' remainders before their sign is corrected. -/
def rest : IVec S128 32 := Host.remsi (iotaInDim S128 32 0) (broadcastInDim S128 ![] bcast_S_S128 divisor)

/-- The lanes that lie in the first half of their 32. -/
def mask : IVec S128 1 :=
  cmpi .slt (select
    (andi (cmpi .ne (cmpi .slt rest (broadcastInDim S128 ![] bcast_S_S128 (constantI S_ 32 0#32)))
        (broadcastInDim S128 ![] bcast_S_S128 (cmpi .slt divisor (constantI S_ 32 0#32))))
      (cmpi .ne rest (broadcastInDim S128 ![] bcast_S_S128 (constantI S_ 32 0#32))))
    (addi rest (broadcastInDim S128 ![] bcast_S_S128 divisor)) rest)
    (broadcastInDim S128 ![] bcast_S_S128 (constantI S_ 32 16#32))

/-- The mask at a lane. -/
theorem mask_at (k : Fin 128) : mask (ix1 k) = if k.val % 32 < 16 then 1#1 else 0#1 := by
  pointwise [mask, rest, divisor]
  revert k
  decide +kernel

/-- A table twice side by side. -/
def twice (x : FVec Ideal S8192x64 .f32) : FVec Ideal S8192x128 .f32 :=
  concatenate S8192x128 1 [⟨S8192x64, x⟩, ⟨S8192x64, x⟩] concatenates_S8192x64_S8192x64_S8192x128_d1

/-- An entry of it. -/
theorem twice_at (x : FVec Ideal S8192x64 .f32) (s : Fin 8192) (k : Fin 128) :
    twice x (ix2 s k) = x (ix2 s ⟨k.val % 64, by omega⟩) := by
  pointwise [twice]
  by_cases h : k.val < 64
  · rw [dif_pos h]
    exact congrArg (fun i => x (ix2 s i)) (Fin.ext (by simp only []; omega))
  · rw [dif_neg h]
    exact congrArg (fun i => x (ix2 s i)) (Fin.ext (by simp only []; omega))

/-- The cosines that the device is given. -/
abbrev cosOf (c : Dev nD) : FVec Ideal S8192x64 .f32 := m ((c.tc : Thread nD τ).loc main_arg9)

/-- The sines that the device is given. -/
abbrev sinOf (c : Dev nD) : FVec Ideal S8192x64 .f32 := m ((c.tc : Thread nD τ).loc main_arg10)

/-- The first table: the cosines, twice. -/
theorem tab0 (c : Dev nD) : V m c main_v0 = twice (m ((c.tc : Thread nD τ).loc main_arg9)) := by
  unfold V
  simp only [hostOps0, hostOps0_1, hostOps0_2, hostOps0_3, hostOps0_4, hostOps0_5, List.flatten_cons, List.flatten_nil,
    List.cons_append, List.nil_append, List.append_nil]
  entry_read
  rfl

/-- The second table: the sines negated, twice, on the masked lanes. -/
theorem tab1 (c : Dev nD) : V m c main_v7 = select (broadcastInDim S8192x128 ![1] bcast_S128_S8192x128_1 mask)
    (Host.negf (twice (m ((c.tc : Thread nD τ).loc main_arg10)))) (broadcastInDim S8192x128 ![] bcast_S_S8192x128 (constant S_ .f32 0x00000000#32)) := by
  unfold V
  simp only [hostOps0, hostOps0_1, hostOps0_2, hostOps0_3, hostOps0_4, hostOps0_5, List.flatten_cons, List.flatten_nil,
    List.cons_append, List.nil_append, List.append_nil]
  entry_read
  simp only [StableHlo.TRef.ofBuf_toBuf]
  rfl

/-- The third table: the sines, twice, on the other lanes. -/
theorem tab2 (c : Dev nD) : V m c main_v8 = select (broadcastInDim S8192x128 ![1] bcast_S128_S8192x128_1 mask)
    (broadcastInDim S8192x128 ![] bcast_S_S8192x128 (constant S_ .f32 0x00000000#32)) (twice (m ((c.tc : Thread nD τ).loc main_arg10))) := by
  unfold V
  simp only [hostOps0, hostOps0_1, hostOps0_2, hostOps0_3, hostOps0_4, hostOps0_5, List.flatten_cons, List.flatten_nil,
    List.cons_append, List.nil_append, List.append_nil]
  entry_read
  simp only [StableHlo.TRef.ofBuf_toBuf]
  rfl

/-- The first table at a position and a lane: the cosine. -/
theorem cos_at (c : Dev nD) (s : Fin 8192) (k : Fin 128) :
    (V m c main_v0 : FVec Ideal S8192x128 .f32) (ix2 s k) = cosOf m c (ix2 s ⟨k.val % 64, by omega⟩) := by
  rw [tab0]
  exact twice_at _ s k

/-- The choice by the lane mask. -/
theorem mask_select (k : Fin 128) (a b : EReal) :
    Scalar.select (if k.val % 32 < 16 then 1#1 else 0#1) a b = if k.val % 32 < 16 then a else b := by
  split <;> rfl

/-- The second table at a position and a lane: the sine's negation in the first half of each 32 lanes, else zero. -/
theorem low_at (c : Dev nD) (s : Fin 8192) (k : Fin 128) :
    (V m c main_v7 : FVec Ideal S8192x128 .f32) (ix2 s k)
      = (if k.val % 32 < 16 then -sinOf m c (ix2 s ⟨k.val % 64, by omega⟩) else 0 : EReal) := by
  rw [tab1]
  pointwise []
  rw [twice_at, mask_at]
  exact mask_select k _ _

/-- The third table at a position and a lane: the sine in the second half of each 32 lanes, else zero. -/
theorem high_at (c : Dev nD) (s : Fin 8192) (k : Fin 128) :
    (V m c main_v8 : FVec Ideal S8192x128 .f32) (ix2 s k)
      = (if k.val % 32 < 16 then 0 else sinOf m c (ix2 s ⟨k.val % 64, by omega⟩) : EReal) := by
  rw [tab2]
  pointwise []
  rw [twice_at, mask_at]
  exact mask_select k _ _

end Cert.Kernel5Ideal.InProj

end
-- ==== Proof.InProj.Final.lean ====
/- The eleven result arrays of the input projection kernel. -/
module

public import proofs.«01_k».proof.Proof.InProj.Tables
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.InProj

open Cert.Kernel5Ideal Cert.Kernel5Ideal.Gen

variable (m : (ℓ : Loc nD τ sig) → Buf (Elt Ideal) ℓ)

/-- Which block each window is on at a point: the point's own rows, the batch entry of those rows, layer 0 of the
    weights, the rows' positions in the tables. -/
theorem idx : ∀ t : Fin cfg0.N, win0_0.index t = ![t.val, 0] ∧ win0_1.index t = ![t.val / 16, 0, 0] ∧ win0_2.index t = ![t.val / 16, 0, 0] ∧ win0_3.index t = ![0, 0]
    ∧ win0_4.index t = ![0, 0, 0] ∧ win0_5.index t = ![0, 0] ∧ win0_6.index t = ![0, 0, 0] ∧ win0_7.index t = ![0, 0]
    ∧ win0_8.index t = ![0, 0, 0] ∧ win0_9.index t = ![t.val % 16, 0] ∧ win0_10.index t = ![t.val % 16, 0] ∧ win0_11.index t = ![t.val % 16, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![t.val, 0] ∧ win0_21.index t = ![t.val, 0] ∧ win0_22.index t = ![t.val, 0] :=
  (by decide +kernel : ∀ t : Fin grid0.N, _)

/-- Window 0 holds the point's rows. -/
theorem blk0 (c : Dev nD) (t : Fin cfg0.N) (ht : t.val < 64) (r : Fin 512) (k : Fin 2048) :
    (iblk m c 0 t : FVec Ideal S512x2048 .f32) (ix2 r k) = m ((c.tc : Thread nD τ).loc main_arg0) (ix2 ⟨t.val * 512 + r.val, by omega⟩ k) := by
  blk_point [iblk, V, idx t]

/-- Window 1 holds the vector of the rows' batch entry. -/
theorem blk1 (c : Dev nD) (t : Fin cfg0.N) (ht : t.val < 64) (k : Fin 2048) :
    (iblk m c 1 t : FVec Ideal S1x1x2048 .f32) (ix3 0 0 k) = m ((c.tc : Thread nD τ).loc main_arg1) (ix3 ⟨t.val / 16, by omega⟩ 0 k) := by
  blk_point [iblk, V, idx t]

/-- Window 2 holds the vector of the rows' batch entry. -/
theorem blk2 (c : Dev nD) (t : Fin cfg0.N) (ht : t.val < 64) (k : Fin 2048) :
    (iblk m c 2 t : FVec Ideal S1x1x2048 .f32) (ix3 0 0 k) = m ((c.tc : Thread nD τ).loc main_arg2) (ix3 ⟨t.val / 16, by omega⟩ 0 k) := by
  blk_point [iblk, V, idx t]

/-- Window 3 holds the whole scale. -/
theorem blk3 (c : Dev nD) (t : Fin cfg0.N) (k : Fin 2048) :
    (iblk m c 3 t : FVec Ideal S1x2048 .f32) (ix2 0 k) = m ((c.tc : Thread nD τ).loc main_arg3) (ix2 0 k) := by
  blk_point [iblk, V, idx t]

/-- Window 5 holds the whole scale. -/
theorem blk5 (c : Dev nD) (t : Fin cfg0.N) (k : Fin 512) :
    (iblk m c 5 t : FVec Ideal S1x512 .f32) (ix2 0 k) = m ((c.tc : Thread nD τ).loc main_arg5) (ix2 0 k) := by
  blk_point [iblk, V, idx t]

/-- Window 7 holds the whole scale. -/
theorem blk7 (c : Dev nD) (t : Fin cfg0.N) (k : Fin 256) :
    (iblk m c 7 t : FVec Ideal S1x256 .f32) (ix2 0 k) = m ((c.tc : Thread nD τ).loc main_arg7) (ix2 0 k) := by
  blk_point [iblk, V, idx t]

/-- Window 4 holds layer 0 of its weight. -/
theorem blk4 (c : Dev nD) (t : Fin cfg0.N) (k : Fin 2048) (n : Fin 3712) :
    (iblk m c 4 t : FVec Ideal S1x2048x3712 .bf16) (ix3 0 k n) = m ((c.tc : Thread nD τ).loc main_arg4) (ix3 0 k n) := by
  blk_point [iblk, V, idx t]

/-- Window 6 holds layer 0 of its weight. -/
theorem blk6 (c : Dev nD) (t : Fin cfg0.N) (k : Fin 512) (n : Fin 1024) :
    (iblk m c 6 t : FVec Ideal S1x512x1024 .bf16) (ix3 0 k n) = m ((c.tc : Thread nD τ).loc main_arg6) (ix3 0 k n) := by
  blk_point [iblk, V, idx t]

/-- Window 8 holds layer 0 of its weight. -/
theorem blk8 (c : Dev nD) (t : Fin cfg0.N) (k : Fin 256) (n : Fin 1024) :
    (iblk m c 8 t : FVec Ideal S1x256x1024 .bf16) (ix3 0 k n) = m ((c.tc : Thread nD τ).loc main_arg8) (ix3 0 k n) := by
  blk_point [iblk, V, idx t]

/-- Window 9 holds, at the rows' positions, the cosines, twice side by side. -/
theorem blk9 (c : Dev nD) (t : Fin cfg0.N) (ht : t.val < 64) (r : Fin 512) (k : Fin 128) :
    (iblk m c 9 t : FVec Ideal S512x128 .f32) (ix2 r k) = cosOf m c (ix2 ⟨t.val % 16 * 512 + r.val, by omega⟩ ⟨k.val % 64, by omega⟩) := by
  rw [← cos_at m c ⟨t.val % 16 * 512 + r.val, by omega⟩ k]
  blk_point [iblk, idx t]

/-- Window 10 holds, at the rows' positions, the negated sines where the lane is in the first half of its 32, else zero. -/
theorem blk10 (c : Dev nD) (t : Fin cfg0.N) (ht : t.val < 64) (r : Fin 512) (k : Fin 128) :
    (iblk m c 10 t : FVec Ideal S512x128 .f32) (ix2 r k) = (if k.val % 32 < 16 then -sinOf m c (ix2 ⟨t.val % 16 * 512 + r.val, by omega⟩ ⟨k.val % 64, by omega⟩) else 0 : EReal) := by
  rw [← low_at m c ⟨t.val % 16 * 512 + r.val, by omega⟩ k]
  blk_point [iblk, idx t]

/-- Window 11 holds, at the rows' positions, the sines where the lane is in the second half of its 32, else zero. -/
theorem blk11 (c : Dev nD) (t : Fin cfg0.N) (ht : t.val < 64) (r : Fin 512) (k : Fin 128) :
    (iblk m c 11 t : FVec Ideal S512x128 .f32) (ix2 r k) = (if k.val % 32 < 16 then 0 else sinOf m c (ix2 ⟨t.val % 16 * 512 + r.val, by omega⟩ ⟨k.val % 64, by omega⟩) : EReal) := by
  rw [← high_at m c ⟨t.val % 16 * 512 + r.val, by omega⟩ k]
  blk_point [iblk, idx t]

/-- The projection of the rows' modulated norm, by the arguments' coordinates. -/
def proj (X : FVec Ideal S32768x2048 .f32) (sh sc : FVec Ideal S4x1x2048 .f32) (g : FVec Ideal S1x2048 .f32) (W : FVec Ideal S4x2048x3712 .bf16)
    (r : Fin 32768) (n : Fin 3712) : EReal :=
  ∑ k, OutProj.modnorm (fun n => X (ix2 r n)) (fun n => g (ix2 0 n)) (fun n => sc (ix3 (Ffn.batch r) 0 n))
    (fun n => sh (ix3 (Ffn.batch r) 0 n)) k * W (ix3 0 k n)

/-- The rotation at a row's position. -/
def turn (C S : FVec Ideal S8192x64 .f32) (r : Fin 32768) : (Fin 128 → EReal) → Fin 128 → EReal :=
  InProj.rope2 (fun i => C (ix2 ⟨r.val % 8192, by omega⟩ i)) (fun i => S (ix2 ⟨r.val % 8192, by omega⟩ i))

/-- The queries by coordinates. -/
def queries (z : Fin 32768 → Fin 3712 → EReal) (g : FVec Ideal S1x512 .f32) (W : FVec Ideal S4x512x1024 .bf16) (C S : FVec Ideal S8192x64 .f32)
    (r : Fin 32768) (n : Fin 1024) : EReal :=
  InProj.qm (turn C S r) (fun n => InProj.query (z r) (fun k => g (ix2 0 k)) (fun k n => W (ix3 0 k n)) n * InProj.qscale) n

/-- The keys by coordinates. -/
def keys (z : Fin 32768 → Fin 3712 → EReal) (g : FVec Ideal S1x256 .f32) (W : FVec Ideal S4x256x1024 .bf16) (C S : FVec Ideal S8192x64 .f32)
    (r : Fin 32768) (n : Fin 1024) : EReal :=
  InProj.km (turn C S r) (z r) (InProj.keyval (z r) (fun k => g (ix2 0 k)) (fun k n => W (ix3 0 k n))) n

/-- The values by coordinates. -/
def values (z : Fin 32768 → Fin 3712 → EReal) (g : FVec Ideal S1x256 .f32) (W : FVec Ideal S4x256x1024 .bf16) (r : Fin 32768) (n : Fin 512) : EReal :=
  InProj.keyval (z r) (fun k => g (ix2 0 k)) (fun k n => W (ix3 0 k n)) ⟨512 + n.val, by omega⟩

/-- The windowed attention's queries by coordinates. -/
def nearQueries (z : Fin 32768 → Fin 3712 → EReal) (C S : FVec Ideal S8192x64 .f32) (r : Fin 32768) (n : Fin 1024) : EReal :=
  InProj.qs (turn C S r) (z r) n

/-- The windowed attention's keys by coordinates. -/
def nearKeys (z : Fin 32768 → Fin 3712 → EReal) (C S : FVec Ideal S8192x64 .f32) (r : Fin 32768) (n : Fin 256) : EReal :=
  InProj.ks (turn C S r) (z r) n

/-- The windowed attention's values by coordinates. -/
def nearValues (z : Fin 32768 → Fin 3712 → EReal) (r : Fin 32768) (n : Fin 256) : EReal := InProj.vs (z r) n

/-- The third attention's scaled queries by coordinates. -/
def statQueries (z : Fin 32768 → Fin 3712 → EReal) (r : Fin 32768) (n : Fin 256) : EReal :=
  z r ⟨2048 + n.val, by omega⟩ * Ideal.ofBits .f32 0x3E000000#32

/-- The third attention's keys by coordinates. -/
def statKeys (z : Fin 32768 → Fin 3712 → EReal) (r : Fin 32768) (n : Fin 256) : EReal := z r ⟨2304 + n.val, by omega⟩

/-- The third attention's values by coordinates. -/
def statValues (z : Fin 32768 → Fin 3712 → EReal) (r : Fin 32768) (n : Fin 512) : EReal := z r ⟨2560 + n.val, by omega⟩

/-- The third attention's gates by coordinates. -/
def statGates (z : Fin 32768 → Fin 3712 → EReal) (r : Fin 32768) (n : Fin 512) : EReal := z r ⟨3072 + n.val, by omega⟩

/-- The last columns by coordinates. -/
def lastCols (z : Fin 32768 → Fin 3712 → EReal) (r : Fin 32768) (n : Fin 128) : EReal := z r ⟨3584 + n.val, by omega⟩

/-- The projection of the arguments that the device is given. -/
abbrev Z (c : Dev nD) := proj (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

/-- A block's projection is that of its rows. -/
theorem zrow_at (c : Dev nD) (t : Fin cfg0.N) (ht : t.val < 64) (r : Fin 512) :
    zrow (hid (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 4 t) r = Z m c ⟨t.val * 512 + r.val, by omega⟩ := by
  funext n
  unfold zrow
  have hb : (t.val * 512 + r.val) / 8192 = t.val / 16 := by omega
  unfold Z proj Ffn.batch
  simp only [hid_at, blk0 m c t ht, blk1 m c t ht, blk2 m c t ht, blk3 m c t, blk4 m c t, hb]

/-- A block's rotation is that at its rows' positions. -/
theorem rot_at (c : Dev nD) (t : Fin cfg0.N) (ht : t.val < 64) (r : Fin 512) :
    rot (iblk m c 9 t) (iblk m c 10 t) (iblk m c 11 t) r = turn (cosOf m c) (sinOf m c) ⟨t.val * 512 + r.val, by omega⟩ := by
  have hp : (t.val * 512 + r.val) % 8192 = t.val % 16 * 512 + r.val := by omega
  unfold rot turn
  simp only [hp]
  exact InProj.roll3_eq _ _ _ _ _ (fun k => blk9 m c t ht r k) (fun k => blk10 m c t ht r k) (fun k => blk11 m c t ht r k)

/-- A block's queries are those of its rows. -/
theorem point12 (c : Dev nD) (t : Fin cfg0.N) (ht : t.val < 64) (r : Fin 512) (n : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = queries (Z m c) (m ((c.tc : Thread nD τ).loc main_arg5)) (m ((c.tc : Thread nD τ).loc main_arg6)) (cosOf m c) (sinOf m c) ⟨t.val * 512 + r.val, by omega⟩ n := by
  rw [left12]
  simp only [qry_at, zrow_at m c t ht, rot_at m c t ht, blk5 m c t, blk6 m c t]
  rfl

/-- A block's keys are those of its rows. -/
theorem point13 (c : Dev nD) (t : Fin cfg0.N) (ht : t.val < 64) (r : Fin 512) (n : Fin 1024) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = keys (Z m c) (m ((c.tc : Thread nD τ).loc main_arg7)) (m ((c.tc : Thread nD τ).loc main_arg8)) (cosOf m c) (sinOf m c) ⟨t.val * 512 + r.val, by omega⟩ n := by
  rw [left13]
  simp only [zrow_at m c t ht, rot_at m c t ht, blk7 m c t, blk8 m c t]
  rfl

/-- A block's values are those of its rows. -/
theorem point14 (c : Dev nD) (t : Fin cfg0.N) (ht : t.val < 64) (r : Fin 512) (n : Fin 512) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = values (Z m c) (m ((c.tc : Thread nD τ).loc main_arg7)) (m ((c.tc : Thread nD τ).loc main_arg8)) ⟨t.val * 512 + r.val, by omega⟩ n := by
  rw [left14]
  simp only [zrow_at m c t ht, blk7 m c t, blk8 m c t]
  rfl

/-- A block's windowed attention's queries are those of its rows. -/
theorem point15 (c : Dev nD) (t : Fin cfg0.N) (ht : t.val < 64) (r : Fin 512) (n : Fin 1024) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = nearQueries (Z m c) (cosOf m c) (sinOf m c) ⟨t.val * 512 + r.val, by omega⟩ n := by
  rw [left15]
  simp only [zrow_at m c t ht, rot_at m c t ht]
  rfl

/-- A block's windowed attention's keys are those of its rows. -/
theorem point16 (c : Dev nD) (t : Fin cfg0.N) (ht : t.val < 64) (r : Fin 512) (n : Fin 256) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = nearKeys (Z m c) (cosOf m c) (sinOf m c) ⟨t.val * 512 + r.val, by omega⟩ n := by
  rw [left16]
  simp only [zrow_at m c t ht, rot_at m c t ht]
  rfl

/-- A block's windowed attention's values are those of its rows. -/
theorem point17 (c : Dev nD) (t : Fin cfg0.N) (ht : t.val < 64) (r : Fin 512) (n : Fin 256) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = nearValues (Z m c) ⟨t.val * 512 + r.val, by omega⟩ n := by
  rw [left17]
  simp only [zrow_at m c t ht]
  rfl

/-- A block's third attention's queries are those of its rows. -/
theorem point18 (c : Dev nD) (t : Fin cfg0.N) (ht : t.val < 64) (r : Fin 512) (n : Fin 256) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = statQueries (Z m c) ⟨t.val * 512 + r.val, by omega⟩ n := by
  rw [left18]
  simp only [zrow_at m c t ht]
  rfl

/-- A block's third attention's keys are those of its rows. -/
theorem point19 (c : Dev nD) (t : Fin cfg0.N) (ht : t.val < 64) (r : Fin 512) (n : Fin 256) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = statKeys (Z m c) ⟨t.val * 512 + r.val, by omega⟩ n := by
  rw [left19]
  simp only [zrow_at m c t ht]
  rfl

/-- A block's third attention's values are those of its rows. -/
theorem point20 (c : Dev nD) (t : Fin cfg0.N) (ht : t.val < 64) (r : Fin 512) (n : Fin 512) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = statValues (Z m c) ⟨t.val * 512 + r.val, by omega⟩ n := by
  rw [left20]
  simp only [zrow_at m c t ht]
  rfl

/-- A block's third attention's gates are those of its rows. -/
theorem point21 (c : Dev nD) (t : Fin cfg0.N) (ht : t.val < 64) (r : Fin 512) (n : Fin 512) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = statGates (Z m c) ⟨t.val * 512 + r.val, by omega⟩ n := by
  rw [left21]
  simp only [zrow_at m c t ht]
  rfl

/-- A block's last columns are those of its rows. -/
theorem point22 (c : Dev nD) (t : Fin cfg0.N) (ht : t.val < 64) (r : Fin 512) (n : Fin 128) :
    out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = lastCols (Z m c) ⟨t.val * 512 + r.val, by omega⟩ n := by
  rw [left22]
  simp only [zrow_at m c t ht]
  rfl

/-- The queries after the run, index by index. -/
theorem final12 (c : Dev nD) : (dats m 0 c).arrAt 12 (cfgs 0).N = fun j : S32768x1024.Idx => queries (Z m c) (m ((c.tc : Thread nD τ).loc main_arg5)) (m ((c.tc : Thread nD τ).loc main_arg6)) (cosOf m c) (sinOf m c) (j 0) (j 1) := by
  refine (dats m 0 c).arrAt_eq_of_covers 12 _ (by decide +kernel) fun t hf y => ?_
  have ht : t.val < 64 := by have := t.isLt; have hN : cfg0.grid.N = 64 := N_0; omega
  blk_simp
  rw [after0_12]
  revert y
  intro (y : S512x1024.Idx)
  obtain ⟨r, n, rfl⟩ : ∃ r n, y = ix2 r n := ⟨y 0, y 1, eq_ix2 y⟩
  have e0 : (win0_12.blk t).view.emb (ix2 r n) 0 = (⟨t.val * 512 + r.val, by omega⟩ : Fin 32768) :=
    Fin.ext (by blk_simp [idx t])
  have e1 : (win0_12.blk t).view.emb (ix2 r n) 1 = n := Fin.ext (by blk_simp [idx t])
  rw [point12 m c t ht r n]
  exact congrArg₂ _ e0.symm e1.symm

/-- The keys after the run, index by index. -/
theorem final13 (c : Dev nD) : (dats m 0 c).arrAt 13 (cfgs 0).N = fun j : S32768x1024.Idx => keys (Z m c) (m ((c.tc : Thread nD τ).loc main_arg7)) (m ((c.tc : Thread nD τ).loc main_arg8)) (cosOf m c) (sinOf m c) (j 0) (j 1) := by
  refine (dats m 0 c).arrAt_eq_of_covers 13 _ (by decide +kernel) fun t hf y => ?_
  have ht : t.val < 64 := by have := t.isLt; have hN : cfg0.grid.N = 64 := N_0; omega
  blk_simp
  rw [after0_13]
  revert y
  intro (y : S512x1024.Idx)
  obtain ⟨r, n, rfl⟩ : ∃ r n, y = ix2 r n := ⟨y 0, y 1, eq_ix2 y⟩
  have e0 : (win0_13.blk t).view.emb (ix2 r n) 0 = (⟨t.val * 512 + r.val, by omega⟩ : Fin 32768) :=
    Fin.ext (by blk_simp [idx t])
  have e1 : (win0_13.blk t).view.emb (ix2 r n) 1 = n := Fin.ext (by blk_simp [idx t])
  rw [point13 m c t ht r n]
  exact congrArg₂ _ e0.symm e1.symm

/-- The values after the run, index by index. -/
theorem final14 (c : Dev nD) : (dats m 0 c).arrAt 14 (cfgs 0).N = fun j : S32768x512.Idx => values (Z m c) (m ((c.tc : Thread nD τ).loc main_arg7)) (m ((c.tc : Thread nD τ).loc main_arg8)) (j 0) (j 1) := by
  refine (dats m 0 c).arrAt_eq_of_covers 14 _ (by decide +kernel) fun t hf y => ?_
  have ht : t.val < 64 := by have := t.isLt; have hN : cfg0.grid.N = 64 := N_0; omega
  blk_simp
  rw [after0_14]
  revert y
  intro (y : S512x512.Idx)
  obtain ⟨r, n, rfl⟩ : ∃ r n, y = ix2 r n := ⟨y 0, y 1, eq_ix2 y⟩
  have e0 : (win0_14.blk t).view.emb (ix2 r n) 0 = (⟨t.val * 512 + r.val, by omega⟩ : Fin 32768) :=
    Fin.ext (by blk_simp [idx t])
  have e1 : (win0_14.blk t).view.emb (ix2 r n) 1 = n := Fin.ext (by blk_simp [idx t])
  rw [point14 m c t ht r n]
  exact congrArg₂ _ e0.symm e1.symm

/-- The windowed attention's queries after the run, index by index. -/
theorem final15 (c : Dev nD) : (dats m 0 c).arrAt 15 (cfgs 0).N = fun j : S32768x1024.Idx => nearQueries (Z m c) (cosOf m c) (sinOf m c) (j 0) (j 1) := by
  refine (dats m 0 c).arrAt_eq_of_covers 15 _ (by decide +kernel) fun t hf y => ?_
  have ht : t.val < 64 := by have := t.isLt; have hN : cfg0.grid.N = 64 := N_0; omega
  blk_simp
  rw [after0_15]
  revert y
  intro (y : S512x1024.Idx)
  obtain ⟨r, n, rfl⟩ : ∃ r n, y = ix2 r n := ⟨y 0, y 1, eq_ix2 y⟩
  have e0 : (win0_15.blk t).view.emb (ix2 r n) 0 = (⟨t.val * 512 + r.val, by omega⟩ : Fin 32768) :=
    Fin.ext (by blk_simp [idx t])
  have e1 : (win0_15.blk t).view.emb (ix2 r n) 1 = n := Fin.ext (by blk_simp [idx t])
  rw [point15 m c t ht r n]
  exact congrArg₂ _ e0.symm e1.symm

/-- The windowed attention's keys after the run, index by index. -/
theorem final16 (c : Dev nD) : (dats m 0 c).arrAt 16 (cfgs 0).N = fun j : S32768x256.Idx => nearKeys (Z m c) (cosOf m c) (sinOf m c) (j 0) (j 1) := by
  refine (dats m 0 c).arrAt_eq_of_covers 16 _ (by decide +kernel) fun t hf y => ?_
  have ht : t.val < 64 := by have := t.isLt; have hN : cfg0.grid.N = 64 := N_0; omega
  blk_simp
  rw [after0_16]
  revert y
  intro (y : S512x256.Idx)
  obtain ⟨r, n, rfl⟩ : ∃ r n, y = ix2 r n := ⟨y 0, y 1, eq_ix2 y⟩
  have e0 : (win0_16.blk t).view.emb (ix2 r n) 0 = (⟨t.val * 512 + r.val, by omega⟩ : Fin 32768) :=
    Fin.ext (by blk_simp [idx t])
  have e1 : (win0_16.blk t).view.emb (ix2 r n) 1 = n := Fin.ext (by blk_simp [idx t])
  rw [point16 m c t ht r n]
  exact congrArg₂ _ e0.symm e1.symm

/-- The windowed attention's values after the run, index by index. -/
theorem final17 (c : Dev nD) : (dats m 0 c).arrAt 17 (cfgs 0).N = fun j : S32768x256.Idx => nearValues (Z m c) (j 0) (j 1) := by
  refine (dats m 0 c).arrAt_eq_of_covers 17 _ (by decide +kernel) fun t hf y => ?_
  have ht : t.val < 64 := by have := t.isLt; have hN : cfg0.grid.N = 64 := N_0; omega
  blk_simp
  rw [after0_17]
  revert y
  intro (y : S512x256.Idx)
  obtain ⟨r, n, rfl⟩ : ∃ r n, y = ix2 r n := ⟨y 0, y 1, eq_ix2 y⟩
  have e0 : (win0_17.blk t).view.emb (ix2 r n) 0 = (⟨t.val * 512 + r.val, by omega⟩ : Fin 32768) :=
    Fin.ext (by blk_simp [idx t])
  have e1 : (win0_17.blk t).view.emb (ix2 r n) 1 = n := Fin.ext (by blk_simp [idx t])
  rw [point17 m c t ht r n]
  exact congrArg₂ _ e0.symm e1.symm

/-- The third attention's queries after the run, index by index. -/
theorem final18 (c : Dev nD) : (dats m 0 c).arrAt 18 (cfgs 0).N = fun j : S32768x256.Idx => statQueries (Z m c) (j 0) (j 1) := by
  refine (dats m 0 c).arrAt_eq_of_covers 18 _ (by decide +kernel) fun t hf y => ?_
  have ht : t.val < 64 := by have := t.isLt; have hN : cfg0.grid.N = 64 := N_0; omega
  blk_simp
  rw [after0_18]
  revert y
  intro (y : S512x256.Idx)
  obtain ⟨r, n, rfl⟩ : ∃ r n, y = ix2 r n := ⟨y 0, y 1, eq_ix2 y⟩
  have e0 : (win0_18.blk t).view.emb (ix2 r n) 0 = (⟨t.val * 512 + r.val, by omega⟩ : Fin 32768) :=
    Fin.ext (by blk_simp [idx t])
  have e1 : (win0_18.blk t).view.emb (ix2 r n) 1 = n := Fin.ext (by blk_simp [idx t])
  rw [point18 m c t ht r n]
  exact congrArg₂ _ e0.symm e1.symm

/-- The third attention's keys after the run, index by index. -/
theorem final19 (c : Dev nD) : (dats m 0 c).arrAt 19 (cfgs 0).N = fun j : S32768x256.Idx => statKeys (Z m c) (j 0) (j 1) := by
  refine (dats m 0 c).arrAt_eq_of_covers 19 _ (by decide +kernel) fun t hf y => ?_
  have ht : t.val < 64 := by have := t.isLt; have hN : cfg0.grid.N = 64 := N_0; omega
  blk_simp
  rw [after0_19]
  revert y
  intro (y : S512x256.Idx)
  obtain ⟨r, n, rfl⟩ : ∃ r n, y = ix2 r n := ⟨y 0, y 1, eq_ix2 y⟩
  have e0 : (win0_19.blk t).view.emb (ix2 r n) 0 = (⟨t.val * 512 + r.val, by omega⟩ : Fin 32768) :=
    Fin.ext (by blk_simp [idx t])
  have e1 : (win0_19.blk t).view.emb (ix2 r n) 1 = n := Fin.ext (by blk_simp [idx t])
  rw [point19 m c t ht r n]
  exact congrArg₂ _ e0.symm e1.symm

/-- The third attention's values after the run, index by index. -/
theorem final20 (c : Dev nD) : (dats m 0 c).arrAt 20 (cfgs 0).N = fun j : S32768x512.Idx => statValues (Z m c) (j 0) (j 1) := by
  refine (dats m 0 c).arrAt_eq_of_covers 20 _ (by decide +kernel) fun t hf y => ?_
  have ht : t.val < 64 := by have := t.isLt; have hN : cfg0.grid.N = 64 := N_0; omega
  blk_simp
  rw [after0_20]
  revert y
  intro (y : S512x512.Idx)
  obtain ⟨r, n, rfl⟩ : ∃ r n, y = ix2 r n := ⟨y 0, y 1, eq_ix2 y⟩
  have e0 : (win0_20.blk t).view.emb (ix2 r n) 0 = (⟨t.val * 512 + r.val, by omega⟩ : Fin 32768) :=
    Fin.ext (by blk_simp [idx t])
  have e1 : (win0_20.blk t).view.emb (ix2 r n) 1 = n := Fin.ext (by blk_simp [idx t])
  rw [point20 m c t ht r n]
  exact congrArg₂ _ e0.symm e1.symm

/-- The third attention's gates after the run, index by index. -/
theorem final21 (c : Dev nD) : (dats m 0 c).arrAt 21 (cfgs 0).N = fun j : S32768x512.Idx => statGates (Z m c) (j 0) (j 1) := by
  refine (dats m 0 c).arrAt_eq_of_covers 21 _ (by decide +kernel) fun t hf y => ?_
  have ht : t.val < 64 := by have := t.isLt; have hN : cfg0.grid.N = 64 := N_0; omega
  blk_simp
  rw [after0_21]
  revert y
  intro (y : S512x512.Idx)
  obtain ⟨r, n, rfl⟩ : ∃ r n, y = ix2 r n := ⟨y 0, y 1, eq_ix2 y⟩
  have e0 : (win0_21.blk t).view.emb (ix2 r n) 0 = (⟨t.val * 512 + r.val, by omega⟩ : Fin 32768) :=
    Fin.ext (by blk_simp [idx t])
  have e1 : (win0_21.blk t).view.emb (ix2 r n) 1 = n := Fin.ext (by blk_simp [idx t])
  rw [point21 m c t ht r n]
  exact congrArg₂ _ e0.symm e1.symm

/-- The last columns after the run, index by index. -/
theorem final22 (c : Dev nD) : (dats m 0 c).arrAt 22 (cfgs 0).N = fun j : S32768x128.Idx => lastCols (Z m c) (j 0) (j 1) := by
  refine (dats m 0 c).arrAt_eq_of_covers 22 _ (by decide +kernel) fun t hf y => ?_
  have ht : t.val < 64 := by have := t.isLt; have hN : cfg0.grid.N = 64 := N_0; omega
  blk_simp
  rw [after0_22]
  revert y
  intro (y : S512x128.Idx)
  obtain ⟨r, n, rfl⟩ : ∃ r n, y = ix2 r n := ⟨y 0, y 1, eq_ix2 y⟩
  have e0 : (win0_22.blk t).view.emb (ix2 r n) 0 = (⟨t.val * 512 + r.val, by omega⟩ : Fin 32768) :=
    Fin.ext (by blk_simp [idx t])
  have e1 : (win0_22.blk t).view.emb (ix2 r n) 1 = n := Fin.ext (by blk_simp [idx t])
  rw [point22 m c t ht r n]
  exact congrArg₂ _ e0.symm e1.symm

end Cert.Kernel5Ideal.InProj

end
-- ==== Proof.InProj.Ref.lean ====
/- The reference of the input projection, read at an index. -/
module

public import proofs.«01_k».proof.Proof.Gen.Reference5Ideal.Run
public import proofs.«01_k».proof.Proof.InProj.Spec

@[expose] public section

set_option maxRecDepth 16384

noncomputable section

open Idealize.ShloMosaic Idealize.ShloMosaic.TcCoe Idealize.SL.Sem

namespace Cert.Reference5Ideal.InProj

open Cert.Reference5Ideal Cert.Reference5Ideal.Gen Cert.Reference5Ideal.Value

/-- The rotation of 4 heads of 64 entries. -/
def turn4 (T : FVec Ideal S4x8192x4x64 .f32) (C S : FVec Ideal S8192x64 .f32) : FVec Ideal S4x8192x4x64 .f32 :=
  addf (mulf T (broadcastInDim S4x8192x4x64 ![0, 1, 2, 3] bcast_S1x8192x1x64_S4x8192x4x64_0_1_2_3 (broadcastInDim S1x8192x1x64 ![1, 2, 3] bcast_S8192x1x64_S1x8192x1x64_1_2_3
      (broadcastInDim S8192x1x64 ![0, 2] bcast_S8192x64_S8192x1x64_0_2 C))))
    (mulf (concatenate S4x8192x4x64 3 [⟨S4x8192x4x16, Host.negf (extractStridedSlice S4x8192x4x16 ![0, 0, 0, 16] T slices_S4x8192x4x64_S4x8192x4x16_0_0_0_16)⟩,
      ⟨S4x8192x4x16, (extractStridedSlice S4x8192x4x16 ![0, 0, 0, 0] T slices_S4x8192x4x64_S4x8192x4x16_0_0_0_0)⟩,
      ⟨S4x8192x4x16, Host.negf (extractStridedSlice S4x8192x4x16 ![0, 0, 0, 48] T slices_S4x8192x4x64_S4x8192x4x16_0_0_0_48)⟩,
      ⟨S4x8192x4x16, (extractStridedSlice S4x8192x4x16 ![0, 0, 0, 32] T slices_S4x8192x4x64_S4x8192x4x16_0_0_0_32)⟩]
      concatenates_S4x8192x4x16_S4x8192x4x16_S4x8192x4x16_S4x8192x4x16_S4x8192x4x64_d3)
      (broadcastInDim S4x8192x4x64 ![0, 1, 2, 3] bcast_S1x8192x1x64_S4x8192x4x64_0_1_2_3 (broadcastInDim S1x8192x1x64 ![1, 2, 3] bcast_S8192x1x64_S1x8192x1x64_1_2_3
      (broadcastInDim S8192x1x64 ![0, 2] bcast_S8192x64_S8192x1x64_0_2 S))))

/-- A rotated entry: the rotation of its head by its position's tables. -/
theorem turn4_at (T : FVec Ideal S4x8192x4x64 .f32) (C S : FVec Ideal S8192x64 .f32) (b : Fin 4) (s : Fin 8192) (h : Fin 4) (e : Fin 64) :
    turn4 T C S (ix4 b s h e)
      = InProj.rope (fun i => C (ix2 s i)) (fun i => S (ix2 s i)) (fun i => T (ix4 b s h i)) e := by
  unfold InProj.rope
  pointwise [turn4]
  exact congrArg (fun y => T (ix4 b s h e) * C (ix2 s e) + y * S (ix2 s e)) (InProj.quarters (fun i => T (ix4 b s h i)) e)

/-- The rotation of 1 head of 64 entries. -/
def turn1 (T : FVec Ideal S4x8192x1x64 .f32) (C S : FVec Ideal S8192x64 .f32) : FVec Ideal S4x8192x1x64 .f32 :=
  addf (mulf T (broadcastInDim S4x8192x1x64 ![0, 1, 2, 3] bcast_S1x8192x1x64_S4x8192x1x64_0_1_2_3 (broadcastInDim S1x8192x1x64 ![1, 2, 3] bcast_S8192x1x64_S1x8192x1x64_1_2_3
      (broadcastInDim S8192x1x64 ![0, 2] bcast_S8192x64_S8192x1x64_0_2 C))))
    (mulf (concatenate S4x8192x1x64 3 [⟨S4x8192x1x16, Host.negf (extractStridedSlice S4x8192x1x16 ![0, 0, 0, 16] T slices_S4x8192x1x64_S4x8192x1x16_0_0_0_16)⟩,
      ⟨S4x8192x1x16, (extractStridedSlice S4x8192x1x16 ![0, 0, 0, 0] T slices_S4x8192x1x64_S4x8192x1x16_0_0_0_0)⟩,
      ⟨S4x8192x1x16, Host.negf (extractStridedSlice S4x8192x1x16 ![0, 0, 0, 48] T slices_S4x8192x1x64_S4x8192x1x16_0_0_0_48)⟩,
      ⟨S4x8192x1x16, (extractStridedSlice S4x8192x1x16 ![0, 0, 0, 32] T slices_S4x8192x1x64_S4x8192x1x16_0_0_0_32)⟩]
      concatenates_S4x8192x1x16_S4x8192x1x16_S4x8192x1x16_S4x8192x1x16_S4x8192x1x64_d3)
      (broadcastInDim S4x8192x1x64 ![0, 1, 2, 3] bcast_S1x8192x1x64_S4x8192x1x64_0_1_2_3 (broadcastInDim S1x8192x1x64 ![1, 2, 3] bcast_S8192x1x64_S1x8192x1x64_1_2_3
      (broadcastInDim S8192x1x64 ![0, 2] bcast_S8192x64_S8192x1x64_0_2 S))))

/-- A rotated entry: the rotation of its head by its position's tables. -/
theorem turn1_at (T : FVec Ideal S4x8192x1x64 .f32) (C S : FVec Ideal S8192x64 .f32) (b : Fin 4) (s : Fin 8192) (h : Fin 1) (e : Fin 64) :
    turn1 T C S (ix4 b s h e)
      = InProj.rope (fun i => C (ix2 s i)) (fun i => S (ix2 s i)) (fun i => T (ix4 b s h i)) e := by
  obtain rfl : h = 0 := Subsingleton.elim _ _
  unfold InProj.rope
  pointwise [turn1]
  exact congrArg (fun y => T (ix4 b s 0 e) * C (ix2 s e) + y * S (ix2 s e)) (InProj.quarters (fun i => T (ix4 b s 0 i)) e)

/-- The rotation of 16 heads of 64 entries. -/
def turn16 (T : FVec Ideal S4x8192x16x64 .f32) (C S : FVec Ideal S8192x64 .f32) : FVec Ideal S4x8192x16x64 .f32 :=
  addf (mulf T (broadcastInDim S4x8192x16x64 ![0, 1, 2, 3] bcast_S1x8192x1x64_S4x8192x16x64_0_1_2_3 (broadcastInDim S1x8192x1x64 ![1, 2, 3] bcast_S8192x1x64_S1x8192x1x64_1_2_3
      (broadcastInDim S8192x1x64 ![0, 2] bcast_S8192x64_S8192x1x64_0_2 C))))
    (mulf (concatenate S4x8192x16x64 3 [⟨S4x8192x16x16, Host.negf (extractStridedSlice S4x8192x16x16 ![0, 0, 0, 16] T slices_S4x8192x16x64_S4x8192x16x16_0_0_0_16)⟩,
      ⟨S4x8192x16x16, (extractStridedSlice S4x8192x16x16 ![0, 0, 0, 0] T slices_S4x8192x16x64_S4x8192x16x16_0_0_0_0)⟩,
      ⟨S4x8192x16x16, Host.negf (extractStridedSlice S4x8192x16x16 ![0, 0, 0, 48] T slices_S4x8192x16x64_S4x8192x16x16_0_0_0_48)⟩,
      ⟨S4x8192x16x16, (extractStridedSlice S4x8192x16x16 ![0, 0, 0, 32] T slices_S4x8192x16x64_S4x8192x16x16_0_0_0_32)⟩]
      concatenates_S4x8192x16x16_S4x8192x16x16_S4x8192x16x16_S4x8192x16x16_S4x8192x16x64_d3)
      (broadcastInDim S4x8192x16x64 ![0, 1, 2, 3] bcast_S1x8192x1x64_S4x8192x16x64_0_1_2_3 (broadcastInDim S1x8192x1x64 ![1, 2, 3] bcast_S8192x1x64_S1x8192x1x64_1_2_3
      (broadcastInDim S8192x1x64 ![0, 2] bcast_S8192x64_S8192x1x64_0_2 S))))

/-- A rotated entry: the rotation of its head by its position's tables. -/
theorem turn16_at (T : FVec Ideal S4x8192x16x64 .f32) (C S : FVec Ideal S8192x64 .f32) (b : Fin 4) (s : Fin 8192) (h : Fin 16) (e : Fin 64) :
    turn16 T C S (ix4 b s h e)
      = InProj.rope (fun i => C (ix2 s i)) (fun i => S (ix2 s i)) (fun i => T (ix4 b s h i)) e := by
  unfold InProj.rope
  pointwise [turn16]
  exact congrArg (fun y => T (ix4 b s h e) * C (ix2 s e) + y * S (ix2 s e)) (InProj.quarters (fun i => T (ix4 b s h i)) e)

/-- The rotation of 2 heads of 64 entries. -/
def turn2 (T : FVec Ideal S4x8192x2x64 .f32) (C S : FVec Ideal S8192x64 .f32) : FVec Ideal S4x8192x2x64 .f32 :=
  addf (mulf T (broadcastInDim S4x8192x2x64 ![0, 1, 2, 3] bcast_S1x8192x1x64_S4x8192x2x64_0_1_2_3 (broadcastInDim S1x8192x1x64 ![1, 2, 3] bcast_S8192x1x64_S1x8192x1x64_1_2_3
      (broadcastInDim S8192x1x64 ![0, 2] bcast_S8192x64_S8192x1x64_0_2 C))))
    (mulf (concatenate S4x8192x2x64 3 [⟨S4x8192x2x16, Host.negf (extractStridedSlice S4x8192x2x16 ![0, 0, 0, 16] T slices_S4x8192x2x64_S4x8192x2x16_0_0_0_16)⟩,
      ⟨S4x8192x2x16, (extractStridedSlice S4x8192x2x16 ![0, 0, 0, 0] T slices_S4x8192x2x64_S4x8192x2x16_0_0_0_0)⟩,
      ⟨S4x8192x2x16, Host.negf (extractStridedSlice S4x8192x2x16 ![0, 0, 0, 48] T slices_S4x8192x2x64_S4x8192x2x16_0_0_0_48)⟩,
      ⟨S4x8192x2x16, (extractStridedSlice S4x8192x2x16 ![0, 0, 0, 32] T slices_S4x8192x2x64_S4x8192x2x16_0_0_0_32)⟩]
      concatenates_S4x8192x2x16_S4x8192x2x16_S4x8192x2x16_S4x8192x2x16_S4x8192x2x64_d3)
      (broadcastInDim S4x8192x2x64 ![0, 1, 2, 3] bcast_S1x8192x1x64_S4x8192x2x64_0_1_2_3 (broadcastInDim S1x8192x1x64 ![1, 2, 3] bcast_S8192x1x64_S1x8192x1x64_1_2_3
      (broadcastInDim S8192x1x64 ![0, 2] bcast_S8192x64_S8192x1x64_0_2 S))))

/-- A rotated entry: the rotation of its head by its position's tables. -/
theorem turn2_at (T : FVec Ideal S4x8192x2x64 .f32) (C S : FVec Ideal S8192x64 .f32) (b : Fin 4) (s : Fin 8192) (h : Fin 2) (e : Fin 64) :
    turn2 T C S (ix4 b s h e)
      = InProj.rope (fun i => C (ix2 s i)) (fun i => S (ix2 s i)) (fun i => T (ix4 b s h i)) e := by
  unfold InProj.rope
  pointwise [turn2]
  exact congrArg (fun y => T (ix4 b s h e) * C (ix2 s e) + y * S (ix2 s e)) (InProj.quarters (fun i => T (ix4 b s h i)) e)

/-- The modulated norm of the rows, by batch entry. -/
def modV (Y : FVec Ideal S4x8192x2048 .f32) (g : FVec Ideal S1x2048 .f32) (sc sh : FVec Ideal S4x1x2048 .f32) : FVec Ideal S4x8192x2048 .f32 :=
  addf (mulf (mulf (mulf Y (broadcastInDim S4x8192x2048 ![0, 1, 2] bcast_S4x8192x1_S4x8192x2048_0_1_2 (Host.rsqrt (addf (Host.divf
      (broadcastInDim S4x8192x1 ![0, 1] bcast_S4x8192_S4x8192x1_0_1 (Host.reduceAdd (mulf Y Y)
        (constant S_ .f32 0x00000000#32) reducesTo_S4x8192x2048_S4x8192_d2 h_S_))
      (broadcastInDim S4x8192x1 ![] bcast_S_S4x8192x1 (constant S_ .f32 0x45000000#32)))
      (broadcastInDim S4x8192x1 ![] bcast_S_S4x8192x1 (constant S_ .f32 0x358637BD#32))))))
    (broadcastInDim S4x8192x2048 ![0, 1, 2] bcast_S1x1x2048_S4x8192x2048_0_1_2
      (broadcastInDim S1x1x2048 ![2] bcast_S2048_S1x1x2048_2 (shapeCast _ g shapeCasts_S1x2048_S2048))))
    (broadcastInDim S4x8192x2048 ![0, 1, 2] bcast_S4x1x2048_S4x8192x2048_0_1_2
      (addf (broadcastInDim S4x1x2048 ![] bcast_S_S4x1x2048 (constant S_ .f32 0x3F800000#32)) sc)))
    (broadcastInDim S4x8192x2048 ![0, 1, 2] bcast_S4x1x2048_S4x8192x2048_0_1_2 sh)

/-- The rows by batch entry. -/
def foldV (X : FVec Ideal S32768x2048 .f32) : FVec Ideal S4x8192x2048 .f32 := shapeCast _ X shapeCasts_S32768x2048_S4x8192x2048

/-- The projection. -/
def projV (H : FVec Ideal S4x8192x2048 .f32) (W : FVec Ideal S4x2048x3712 .bf16) : FVec Ideal S4x8192x3712 .f32 :=
  Host.dotGeneral dot_S4x8192x2048_S2048x3712_S4x8192x3712_2_0_01_1_n_n none H
    (extf .f32 (shapeCast _ (extractStridedSlice S1x2048x3712 ![0, 0, 0] W slices_S4x2048x3712_S1x2048x3712_0_0_0)
      shapeCasts_S1x2048x3712_S2048x3712) bitsLt_bf16_f32)

/-- The query row of normed latents `Y`, by heads. -/
def queryV (Y : FVec Ideal S4x8192x512 .f32) (g : FVec Ideal S1x512 .f32) (W : FVec Ideal S4x512x1024 .bf16) : FVec Ideal S4x8192x4x256 .f32 :=
  shapeCast _ (Host.dotGeneral dot_S4x8192x512_S512x1024_S4x8192x1024_2_0_01_1_n_n none (mulf (mulf Y (broadcastInDim S4x8192x512 ![0, 1, 2] bcast_S4x8192x1_S4x8192x512_0_1_2 (Host.rsqrt (addf (Host.divf
      (broadcastInDim S4x8192x1 ![0, 1] bcast_S4x8192_S4x8192x1_0_1 (Host.reduceAdd (mulf Y Y)
        (constant S_ .f32 0x00000000#32) reducesTo_S4x8192x512_S4x8192_d2 h_S_))
      (broadcastInDim S4x8192x1 ![] bcast_S_S4x8192x1 (constant S_ .f32 0x44000000#32)))
      (broadcastInDim S4x8192x1 ![] bcast_S_S4x8192x1 (constant S_ .f32 0x358637BD#32))))))
    (broadcastInDim S4x8192x512 ![0, 1, 2] bcast_S1x1x512_S4x8192x512_0_1_2
      (broadcastInDim S1x1x512 ![2] bcast_S512_S1x1x512_2 (shapeCast _ g shapeCasts_S1x512_S512))))
    (extf .f32 (shapeCast _ (extractStridedSlice S1x512x1024 ![0, 0, 0] W slices_S4x512x1024_S1x512x1024_0_0_0)
      shapeCasts_S1x512x1024_S512x1024) bitsLt_bf16_f32)) shapeCasts_S4x8192x1024_S4x8192x4x256

/-- The key and value row of normed latents `Y`. -/
def keyvalV (Y : FVec Ideal S4x8192x256 .f32) (g : FVec Ideal S1x256 .f32) (W : FVec Ideal S4x256x1024 .bf16) : FVec Ideal S4x8192x1024 .f32 :=
  Host.dotGeneral dot_S4x8192x256_S256x1024_S4x8192x1024_2_0_01_1_n_n none (mulf (mulf Y (broadcastInDim S4x8192x256 ![0, 1, 2] bcast_S4x8192x1_S4x8192x256_0_1_2 (Host.rsqrt (addf (Host.divf
      (broadcastInDim S4x8192x1 ![0, 1] bcast_S4x8192_S4x8192x1_0_1 (Host.reduceAdd (mulf Y Y)
        (constant S_ .f32 0x00000000#32) reducesTo_S4x8192x256_S4x8192_d2 h_S_))
      (broadcastInDim S4x8192x1 ![] bcast_S_S4x8192x1 (constant S_ .f32 0x43800000#32)))
      (broadcastInDim S4x8192x1 ![] bcast_S_S4x8192x1 (constant S_ .f32 0x358637BD#32))))))
    (broadcastInDim S4x8192x256 ![0, 1, 2] bcast_S1x1x256_S4x8192x256_0_1_2
      (broadcastInDim S1x1x256 ![2] bcast_S256_S1x1x256_2 (shapeCast _ g shapeCasts_S1x256_S256))))
    (extf .f32 (shapeCast _ (extractStridedSlice S1x256x1024 ![0, 0, 0] W slices_S4x256x1024_S1x256x1024_0_0_0)
      shapeCasts_S1x256x1024_S256x1024) bitsLt_bf16_f32)

/-- The columns of the projection that hold the query latents, and those that hold the key and value latents. -/
def latQ (Z : FVec Ideal S4x8192x3712 .f32) : FVec Ideal S4x8192x512 .f32 :=
  extractStridedSlice S4x8192x512 ![0, 0, 0] Z slices_S4x8192x3712_S4x8192x512_0_0_0

@[inherit_doc latQ] def latK (Z : FVec Ideal S4x8192x3712 .f32) : FVec Ideal S4x8192x256 .f32 :=
  extractStridedSlice S4x8192x256 ![0, 0, 512] Z slices_S4x8192x3712_S4x8192x256_0_0_512

/-- The last columns of the projection. -/
def smallV (Z : FVec Ideal S4x8192x3712 .f32) : FVec Ideal S4x8192x128 .f32 :=
  extractStridedSlice S4x8192x128 ![0, 0, 3584] Z slices_S4x8192x3712_S4x8192x128_0_0_3584

/-- 64 zeros per head. -/
def padV : FVec Ideal S4x8192x4x64 .f32 := broadcastInDim S4x8192x4x64 ![] bcast_S_S4x8192x4x64 (constant S_ .f32 0x00000000#32)

/-- The position part of the queries, before the rotation. -/
def qposV (Q : FVec Ideal S4x8192x4x256 .f32) : FVec Ideal S4x8192x4x64 .f32 :=
  extractStridedSlice S4x8192x4x64 ![0, 0, 0, 128] Q slices_S4x8192x4x256_S4x8192x4x64_0_0_0_128

/-- The shared position part of the keys, before the rotation. -/
def kposV (Z : FVec Ideal S4x8192x3712 .f32) : FVec Ideal S4x8192x1x64 .f32 :=
  broadcastInDim S4x8192x1x64 ![0, 1, 3] bcast_S4x8192x64_S4x8192x1x64_0_1_3
    (extractStridedSlice S4x8192x64 ![0, 0, 0] (smallV Z) slices_S4x8192x128_S4x8192x64_0_0_0)

/-- Result 0: the scaled queries, from their heads and the rotated position part. -/
def res0 (Q : FVec Ideal S4x8192x4x256 .f32) (P : FVec Ideal S4x8192x4x64 .f32) : FVec Ideal S32768x1024 .bf16 :=
  truncf .bf16 (shapeCast _ (Host.divf (concatenate S4x8192x4x256 3
    [⟨S4x8192x4x128, extractStridedSlice S4x8192x4x128 ![0, 0, 0, 0] Q slices_S4x8192x4x256_S4x8192x4x128_0_0_0_0⟩,
      ⟨S4x8192x4x64, P⟩, ⟨S4x8192x4x64, padV⟩]
    concatenates_S4x8192x4x128_S4x8192x4x64_S4x8192x4x64_S4x8192x4x256_d3)
    (broadcastInDim S4x8192x4x256 ![] bcast_S_S4x8192x4x256 (mulf (Host.sqrt (constant S_ .f32 0x43400000#32)) (Host.log (constant S_ .f32 0x40000000#32)))))
    shapeCasts_S4x8192x4x256_S32768x1024) bitsLt_bf16_f32

/-- Result 1: the keys, from the key and value row and the rotated position part. -/
def res1 (K : FVec Ideal S4x8192x1024 .f32) (P : FVec Ideal S4x8192x1x64 .f32) : FVec Ideal S32768x1024 .bf16 :=
  truncf .bf16 (shapeCast _ (concatenate S4x8192x4x256 3
    [⟨S4x8192x4x128, shapeCast _ (extractStridedSlice S4x8192x512 ![0, 0, 0] K slices_S4x8192x1024_S4x8192x512_0_0_0)
        shapeCasts_S4x8192x512_S4x8192x4x128⟩,
      ⟨S4x8192x4x64, broadcastInDim S4x8192x4x64 ![0, 1, 2, 3] bcast_S4x8192x1x64_S4x8192x4x64_0_1_2_3 P⟩, ⟨S4x8192x4x64, padV⟩]
    concatenates_S4x8192x4x128_S4x8192x4x64_S4x8192x4x64_S4x8192x4x256_d3)
    shapeCasts_S4x8192x4x256_S32768x1024) bitsLt_bf16_f32

/-- Result 2: the values. -/
def res2 (K : FVec Ideal S4x8192x1024 .f32) : FVec Ideal S32768x512 .bf16 :=
  truncf .bf16 (shapeCast _ (extractStridedSlice S4x8192x512 ![0, 0, 512] K slices_S4x8192x1024_S4x8192x512_0_0_512)
    shapeCasts_S4x8192x512_S32768x512) bitsLt_bf16_f32

/-- The heads of the windowed attention: its queries, its keys and its values. -/
def winQ (Z : FVec Ideal S4x8192x3712 .f32) : FVec Ideal S4x8192x16x64 .f32 :=
  shapeCast _ (extractStridedSlice S4x8192x1024 ![0, 0, 768] Z slices_S4x8192x3712_S4x8192x1024_0_0_768) shapeCasts_S4x8192x1024_S4x8192x16x64

@[inherit_doc winQ] def winK (Z : FVec Ideal S4x8192x3712 .f32) : FVec Ideal S4x8192x2x64 .f32 :=
  shapeCast _ (extractStridedSlice S4x8192x128 ![0, 0, 1792] Z slices_S4x8192x3712_S4x8192x128_0_0_1792) shapeCasts_S4x8192x128_S4x8192x2x64

@[inherit_doc winQ] def winV (Z : FVec Ideal S4x8192x3712 .f32) : FVec Ideal S4x8192x2x64 .f32 :=
  shapeCast _ (extractStridedSlice S4x8192x128 ![0, 0, 1920] Z slices_S4x8192x3712_S4x8192x128_0_0_1920) shapeCasts_S4x8192x128_S4x8192x2x64

/-- Result 3: the windowed attention's queries, scaled. -/
def res3 (P : FVec Ideal S4x8192x16x64 .f32) : FVec Ideal S32768x1024 .bf16 :=
  truncf .bf16 (shapeCast _ (Host.divf P (broadcastInDim S4x8192x16x64 ![] bcast_S_S4x8192x16x64
    (mulf (Host.sqrt (constant S_ .f32 0x42800000#32)) (Host.log (constant S_ .f32 0x40000000#32)))))
    shapeCasts_S4x8192x16x64_S32768x1024) bitsLt_bf16_f32

/-- Results 4 and 5: two heads, and after them the two in the other order. -/
def res4 (P : FVec Ideal S4x8192x2x64 .f32) : FVec Ideal S32768x256 .bf16 :=
  truncf .bf16 (shapeCast _ (concatenate S4x8192x4x64 2 [⟨S4x8192x2x64, P⟩, ⟨S4x8192x2x64, Host.reverse [2] P⟩]
    concatenates_S4x8192x2x64_S4x8192x2x64_S4x8192x4x64_d2) shapeCasts_S4x8192x4x64_S32768x256) bitsLt_bf16_f32

/-- Result 6: the third attention's queries, scaled. -/
def res6 (Z : FVec Ideal S4x8192x3712 .f32) : FVec Ideal S32768x256 .bf16 :=
  truncf .bf16 (shapeCast _ (mulf (extractStridedSlice S4x8192x256 ![0, 0, 2048] Z slices_S4x8192x3712_S4x8192x256_0_0_2048)
    (broadcastInDim S4x8192x256 ![] bcast_S_S4x8192x256 (constant S_ .f32 0x3E000000#32))) shapeCasts_S4x8192x256_S32768x256) bitsLt_bf16_f32

/-- Result 7: its keys. -/
def res7 (Z : FVec Ideal S4x8192x3712 .f32) : FVec Ideal S32768x256 .bf16 :=
  truncf .bf16 (shapeCast _ (extractStridedSlice S4x8192x256 ![0, 0, 2304] Z slices_S4x8192x3712_S4x8192x256_0_0_2304)
    shapeCasts_S4x8192x256_S32768x256) bitsLt_bf16_f32

/-- Result 8: its values. -/
def res8 (Z : FVec Ideal S4x8192x3712 .f32) : FVec Ideal S32768x512 .bf16 :=
  truncf .bf16 (shapeCast _ (extractStridedSlice S4x8192x512 ![0, 0, 2560] Z slices_S4x8192x3712_S4x8192x512_0_0_2560)
    shapeCasts_S4x8192x512_S32768x512) bitsLt_bf16_f32

/-- Result 9: its gates. -/
def res9 (Z : FVec Ideal S4x8192x3712 .f32) : FVec Ideal S32768x512 .bf16 :=
  truncf .bf16 (shapeCast _ (extractStridedSlice S4x8192x512 ![0, 0, 3072] Z slices_S4x8192x3712_S4x8192x512_0_0_3072)
    shapeCasts_S4x8192x512_S32768x512) bitsLt_bf16_f32

/-- Result 10: the last columns. -/
def res10 (Z : FVec Ideal S4x8192x3712 .f32) : FVec Ideal S32768x128 .f32 := shapeCast _ (smallV Z) shapeCasts_S4x8192x128_S32768x128

/-- The place of a row in its batch entry. -/
abbrev pos (r : Fin 32768) : Fin 8192 := ⟨r.val % 8192, by omega⟩

/-- An entry of the projection: the modulated norm of the row against the weight's column. -/
theorem proj_at (X : FVec Ideal S32768x2048 .f32) (g : FVec Ideal S1x2048 .f32) (sc sh : FVec Ideal S4x1x2048 .f32)
    (W : FVec Ideal S4x2048x3712 .bf16) (r : Fin 32768) (n : Fin 3712) :
    projV (modV (foldV X) g sc sh) W (ix3 (Ffn.batch r) (pos r) n)
      = ∑ k, OutProj.modnorm (fun n => X (ix2 r n)) (fun n => g (ix2 0 n)) (fun n => sc (ix3 (Ffn.batch r) 0 n))
          (fun n => sh (ix3 (Ffn.batch r) 0 n)) k * W (ix3 0 k n) := by
  have h : r.val / 8192 * 8192 + r.val % 8192 = r.val := by omega
  pointwise [projV, modV, foldV, OutProj.modnorm, Ffn.rms, Ffn.batch, h]

/-- An entry of the query heads. -/
theorem queryV_at (Z : FVec Ideal S4x8192x3712 .f32) (g : FVec Ideal S1x512 .f32) (W : FVec Ideal S4x512x1024 .bf16)
    (b : Fin 4) (s : Fin 8192) (h : Fin 4) (e : Fin 256) :
    queryV (latQ Z) g W (ix4 b s h e)
      = InProj.query (fun n => Z (ix3 b s n)) (fun k => g (ix2 0 k)) (fun k n => W (ix3 0 k n)) ⟨h.val * 256 + e.val, by omega⟩ := by
  pointwise [queryV, latQ, InProj.query, InProj.rms]

/-- An entry of the key and value row. -/
theorem keyvalV_at (Z : FVec Ideal S4x8192x3712 .f32) (g : FVec Ideal S1x256 .f32) (W : FVec Ideal S4x256x1024 .bf16)
    (b : Fin 4) (s : Fin 8192) (n : Fin 1024) :
    keyvalV (latK Z) g W (ix3 b s n)
      = InProj.keyval (fun n => Z (ix3 b s n)) (fun k => g (ix2 0 k)) (fun k n => W (ix3 0 k n)) n := by
  pointwise [keyvalV, latK, InProj.keyval, InProj.rms]

/-- What the latent attention's queries are divided by. -/
theorem latent_div (x : EReal) :
    Ideal.div x (Ideal.sqrt (Ideal.ofBits .f32 0x43400000#32) * Ideal.log (Ideal.ofBits .f32 0x40000000#32)) = x * InProj.qscale := by
  have h1 : Ideal.ofBits .f32 0x43400000#32 = ((192 : ℝ) : EReal) := by
    simp [Ideal.ofBits, Ideal.ieee]; rw [← EReal.coe_mul, EReal.coe_eq_coe_iff]; norm_num
  have h2 : Ideal.ofBits .f32 0x40000000#32 = ((2 : ℝ) : EReal) := by
    simp [Ideal.ofBits, Ideal.ieee]; rw [← EReal.coe_mul, EReal.coe_eq_coe_iff]; norm_num
  rw [h1, h2, InProj.div_scale (by norm_num)]

/-- What the windowed attention's queries are divided by. -/
theorem near_div (x : EReal) :
    Ideal.div x (Ideal.sqrt (Ideal.ofBits .f32 0x42800000#32) * Ideal.log (Ideal.ofBits .f32 0x40000000#32)) = x * InProj.nscale := by
  have h1 : Ideal.ofBits .f32 0x42800000#32 = ((64 : ℝ) : EReal) := by
    simp [Ideal.ofBits, Ideal.ieee]; rw [← EReal.coe_mul, EReal.coe_eq_coe_iff]; norm_num
  have h2 : Ideal.ofBits .f32 0x40000000#32 = ((2 : ℝ) : EReal) := by
    simp [Ideal.ofBits, Ideal.ieee]; rw [← EReal.coe_mul, EReal.coe_eq_coe_iff]; norm_num
  rw [h1, h2, InProj.div_scale (by norm_num)]

/-- Result 0 at an index. -/
theorem res0_at (Q : FVec Ideal S4x8192x4x256 .f32) (P : FVec Ideal S4x8192x4x64 .f32) (r : Fin 32768) (n : Fin 1024) :
    res0 Q P (ix2 r n) = (if h : n.val % 256 < 128 then Q (ix4 (Ffn.batch r) (pos r) ⟨n.val / 256, by omega⟩ ⟨n.val % 256, by omega⟩)
      else if h : n.val % 256 - 128 < 64 then P (ix4 (Ffn.batch r) (pos r) ⟨n.val / 256, by omega⟩ ⟨n.val % 256 - 128, by omega⟩)
      else 0) * InProj.qscale := by
  rw [← latent_div]
  pointwise [res0, padV, Ffn.batch]

/-- Result 1 at an index. -/
theorem res1_at (K : FVec Ideal S4x8192x1024 .f32) (P : FVec Ideal S4x8192x1x64 .f32) (r : Fin 32768) (n : Fin 1024) :
    res1 K P (ix2 r n) = if h : n.val % 256 < 128 then K (ix3 (Ffn.batch r) (pos r) ⟨n.val / 256 * 128 + n.val % 256, by omega⟩)
      else if h : n.val % 256 - 128 < 64 then P (ix4 (Ffn.batch r) (pos r) 0 ⟨n.val % 256 - 128, by omega⟩)
      else 0 := by
  pointwise [res1, padV, Ffn.batch]

/-- Result 2 at an index. -/
theorem res2_at (K : FVec Ideal S4x8192x1024 .f32) (r : Fin 32768) (n : Fin 512) :
    res2 K (ix2 r n) = K (ix3 (Ffn.batch r) (pos r) ⟨512 + n.val, by omega⟩) := by
  pointwise [res2, Ffn.batch]

/-- Result 3 at an index. -/
theorem res3_at (P : FVec Ideal S4x8192x16x64 .f32) (r : Fin 32768) (n : Fin 1024) :
    res3 P (ix2 r n) = P (ix4 (Ffn.batch r) (pos r) ⟨n.val / 64, by omega⟩ ⟨n.val % 64, by omega⟩) * InProj.nscale := by
  rw [← near_div]
  pointwise [res3, Ffn.batch]

/-- Results 4 and 5 at an index. -/
theorem res4_at (P : FVec Ideal S4x8192x2x64 .f32) (r : Fin 32768) (n : Fin 256) :
    res4 P (ix2 r n) = P (ix4 (Ffn.batch r) (pos r) ⟨(InProj.pair n).val / 64, by have := (InProj.pair n).isLt; omega⟩ ⟨n.val % 64, by omega⟩) := by
  pointwise [res4, Ffn.batch]
  have hp : ∀ n : Fin 256, (n.val / 64 < 2 → (InProj.pair n).val / 64 = n.val / 64)
      ∧ (¬n.val / 64 < 2 → (InProj.pair n).val / 64 = 2 - (n.val / 64 - 2 + 1)) := by decide +kernel
  by_cases h : n.val / 64 < 2
  · have e : (InProj.pair n).val / 64 = n.val / 64 := (hp n).1 h
    simp only [h, dite_true, e]
  · have e : (InProj.pair n).val / 64 = 2 - (n.val / 64 - 2 + 1) := (hp n).2 h
    simp [h, Fin.rev, e]

/-- Results 6 to 10 at an index. -/
theorem res6_at (Z : FVec Ideal S4x8192x3712 .f32) (r : Fin 32768) (n : Fin 256) :
    res6 Z (ix2 r n) = Z (ix3 (Ffn.batch r) (pos r) ⟨2048 + n.val, by omega⟩) * Ideal.ofBits .f32 0x3E000000#32 := by
  pointwise [res6, Ffn.batch]

@[inherit_doc res6_at] theorem res7_at (Z : FVec Ideal S4x8192x3712 .f32) (r : Fin 32768) (n : Fin 256) :
    res7 Z (ix2 r n) = Z (ix3 (Ffn.batch r) (pos r) ⟨2304 + n.val, by omega⟩) := by
  pointwise [res7, Ffn.batch]

@[inherit_doc res6_at] theorem res8_at (Z : FVec Ideal S4x8192x3712 .f32) (r : Fin 32768) (n : Fin 512) :
    res8 Z (ix2 r n) = Z (ix3 (Ffn.batch r) (pos r) ⟨2560 + n.val, by omega⟩) := by
  pointwise [res8, Ffn.batch]

@[inherit_doc res6_at] theorem res9_at (Z : FVec Ideal S4x8192x3712 .f32) (r : Fin 32768) (n : Fin 512) :
    res9 Z (ix2 r n) = Z (ix3 (Ffn.batch r) (pos r) ⟨3072 + n.val, by omega⟩) := by
  pointwise [res9, Ffn.batch]

@[inherit_doc res6_at] theorem res10_at (Z : FVec Ideal S4x8192x3712 .f32) (r : Fin 32768) (n : Fin 128) :
    res10 Z (ix2 r n) = Z (ix3 (Ffn.batch r) (pos r) ⟨3584 + n.val, by omega⟩) := by
  pointwise [res10, smallV, Ffn.batch]

/-- The windowed attention's heads at an index. -/
theorem winQ_at (Z : FVec Ideal S4x8192x3712 .f32) (b : Fin 4) (s : Fin 8192) (h : Fin 16) (e : Fin 64) :
    winQ Z (ix4 b s h e) = Z (ix3 b s ⟨768 + (h.val * 64 + e.val), by omega⟩) := by
  pointwise [winQ]

@[inherit_doc winQ_at] theorem winK_at (Z : FVec Ideal S4x8192x3712 .f32) (b : Fin 4) (s : Fin 8192) (h : Fin 2) (e : Fin 64) :
    winK Z (ix4 b s h e) = Z (ix3 b s ⟨1792 + (h.val * 64 + e.val), by omega⟩) := by
  pointwise [winK]

@[inherit_doc winQ_at] theorem winV_at (Z : FVec Ideal S4x8192x3712 .f32) (b : Fin 4) (s : Fin 8192) (h : Fin 2) (e : Fin 64) :
    winV Z (ix4 b s h e) = Z (ix3 b s ⟨1920 + (h.val * 64 + e.val), by omega⟩) := by
  pointwise [winV]

/-- The position parts at an index. -/
theorem qposV_at (Q : FVec Ideal S4x8192x4x256 .f32) (b : Fin 4) (s : Fin 8192) (h : Fin 4) (e : Fin 64) :
    qposV Q (ix4 b s h e) = Q (ix4 b s h ⟨128 + e.val, by omega⟩) := by
  pointwise [qposV]

@[inherit_doc qposV_at] theorem kposV_at (Z : FVec Ideal S4x8192x3712 .f32) (b : Fin 4) (s : Fin 8192) (e : Fin 64) :
    kposV Z (ix4 b s 0 e) = Z (ix3 b s ⟨3584 + e.val, by omega⟩) := by
  pointwise [kposV, smallV]

/-- The row of the projection. -/
abbrev zr (Z : FVec Ideal S4x8192x3712 .f32) (r : Fin 32768) (n : Fin 3712) : EReal := Z (ix3 (Ffn.batch r) (pos r) n)

/-- The rotation at the row's position. -/
abbrev rt (C S : FVec Ideal S8192x64 .f32) (r : Fin 32768) : (Fin 128 → EReal) → Fin 128 → EReal :=
  InProj.rope2 (fun i => C (ix2 (pos r) i)) (fun i => S (ix2 (pos r) i))

/-- The queries, by the formula: the reference scales after the rotation, the formula before it. -/
theorem first_at (Z : FVec Ideal S4x8192x3712 .f32) (g : FVec Ideal S1x512 .f32) (W : FVec Ideal S4x512x1024 .bf16)
    (C S : FVec Ideal S8192x64 .f32) (r : Fin 32768) (n : Fin 1024) :
    res0 (queryV (latQ Z) g W) (turn4 (qposV (queryV (latQ Z) g W)) C S) (ix2 r n)
      = InProj.qm (rt C S r) (fun n => InProj.query (zr Z r) (fun k => g (ix2 0 k)) (fun k n => W (ix3 0 k n)) n * InProj.qscale) n := by
  rw [res0_at]
  unfold InProj.qm
  split_ifs with h1 h2 h3 h4
  · rw [queryV_at]
    congr 2
    apply Fin.ext
    simp only []
    omega
  · rw [turn4_at]
    simp only [qposV_at, queryV_at]
    rw [← InProj.rope_scale _ _ _ _ InProj.qscale_nonneg InProj.qscale_ne_top]
    unfold rt InProj.rope2
    have e1 : n.val % 256 % 128 / 64 = 0 := by omega
    have e2 : n.val % 256 % 128 % 64 = n.val % 256 - 128 := by omega
    simp only [e1, e2, zero_mul, zero_add, Nat.add_assoc]
  · omega
  · omega
  · rw [zero_mul]

/-- The keys, by the formula. -/
theorem second_at (Z : FVec Ideal S4x8192x3712 .f32) (g : FVec Ideal S1x256 .f32) (W : FVec Ideal S4x256x1024 .bf16)
    (C S : FVec Ideal S8192x64 .f32) (r : Fin 32768) (n : Fin 1024) :
    res1 (keyvalV (latK Z) g W) (turn1 (kposV Z) C S) (ix2 r n)
      = InProj.km (rt C S r) (zr Z r) (InProj.keyval (zr Z r) (fun k => g (ix2 0 k)) (fun k n => W (ix3 0 k n))) n := by
  rw [res1_at]
  unfold InProj.km
  split_ifs with h1 h2 h3 h4
  · rw [keyvalV_at]
  · rw [turn1_at]
    simp only [kposV_at]
    unfold rt InProj.rope2
    have e1 : n.val % 256 % 128 / 64 = 0 := by omega
    have e2 : n.val % 256 % 128 % 64 = n.val % 256 - 128 := by omega
    simp only [e1, e2, zero_mul, zero_add]
  · omega
  · omega
  · rfl

/-- The values, by the formula. -/
theorem third_at (Z : FVec Ideal S4x8192x3712 .f32) (g : FVec Ideal S1x256 .f32) (W : FVec Ideal S4x256x1024 .bf16)
    (r : Fin 32768) (n : Fin 512) :
    res2 (keyvalV (latK Z) g W) (ix2 r n)
      = InProj.keyval (zr Z r) (fun k => g (ix2 0 k)) (fun k n => W (ix3 0 k n)) ⟨512 + n.val, by omega⟩ := by
  rw [res2_at, keyvalV_at]

/-- The windowed attention's queries, by the formula. -/
theorem fourth_at (Z : FVec Ideal S4x8192x3712 .f32) (C S : FVec Ideal S8192x64 .f32) (r : Fin 32768) (n : Fin 1024) :
    res3 (turn16 (winQ Z) C S) (ix2 r n) = InProj.qs (rt C S r) (zr Z r) n := by
  rw [res3_at, turn16_at]
  simp only [winQ_at]
  unfold InProj.qs rt InProj.rope2
  have e1 (i : ℕ) : n.val / 128 * 128 + (n.val % 128 / 64 * 64 + i) = n.val / 64 * 64 + i := by omega
  have e2 : n.val % 128 % 64 = n.val % 64 := by omega
  simp only [e1, e2]

/-- The windowed attention's keys, by the formula. -/
theorem fifth_at (Z : FVec Ideal S4x8192x3712 .f32) (C S : FVec Ideal S8192x64 .f32) (r : Fin 32768) (n : Fin 256) :
    res4 (turn2 (winK Z) C S) (ix2 r n) = InProj.ks (rt C S r) (zr Z r) n := by
  rw [res4_at, turn2_at]
  simp only [winK_at]
  unfold InProj.ks rt InProj.rope2
  have e2 : (InProj.pair n).val % 64 = n.val % 64 := by
    have hp : (InProj.pair n).val = (n.val + n.val / 128 * 64) % 128 := rfl
    omega
  simp only [e2]

/-- The windowed attention's values, by the formula. -/
theorem sixth_at (Z : FVec Ideal S4x8192x3712 .f32) (r : Fin 32768) (n : Fin 256) :
    res4 (winV Z) (ix2 r n) = InProj.vs (zr Z r) n := by
  rw [res4_at, winV_at]
  unfold InProj.vs
  have e2 : (InProj.pair n).val / 64 * 64 + n.val % 64 = (InProj.pair n).val := by
    have hp : (InProj.pair n).val = (n.val + n.val / 128 * 64) % 128 := rfl
    omega
  simp only [e2]

end Cert.Reference5Ideal.InProj

end
-- ==== Proof.InProj.Claim.lean ====
/- The claim about the input projection: all eleven results are the reference's. -/
module

public import proofs.«01_k».proof.Defs
public import proofs.«01_k».proof.Proof.InProj.Final
public import proofs.«01_k».proof.Proof.InProj.Ref
public import Idealize.ShloMosaic.Lib.Claim

@[expose] public section

set_option maxRecDepth 16384

noncomputable section

open Idealize.ShloMosaic Idealize.ShloMosaic.TcCoe Idealize.SL.Sem

namespace Cert.Reference5Ideal.InProj

open Cert.Reference5Ideal Cert.Reference5Ideal.Gen Cert.Reference5Ideal.Value

/-- The projection's row in the reference, by the formula. -/
theorem zr_eq (X : FVec Ideal S32768x2048 .f32) (sh sc : FVec Ideal S4x1x2048 .f32) (g : FVec Ideal S1x2048 .f32)
    (W : FVec Ideal S4x2048x3712 .bf16) (r : Fin 32768) :
    zr (projV (modV (foldV X) g sc sh) W) r = Cert.Kernel5Ideal.InProj.proj X sh sc g W r :=
  funext fun n => proj_at X g sc sh W r n

/-- The run of the reference, its results told stage by stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v167) = res0 (queryV (latQ (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4)))) (m ((c.tc : Thread nD τ).loc main_arg5)) (m ((c.tc : Thread nD τ).loc main_arg6))) (turn4 (qposV (queryV (latQ (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4)))) (m ((c.tc : Thread nD τ).loc main_arg5)) (m ((c.tc : Thread nD τ).loc main_arg6)))) (m ((c.tc : Thread nD τ).loc main_arg9)) (m ((c.tc : Thread nD τ).loc main_arg10)))
      ∧ r.2.mem ((c.tc : Thread nD τ).loc main_v169) = res1 (keyvalV (latK (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4)))) (m ((c.tc : Thread nD τ).loc main_arg7)) (m ((c.tc : Thread nD τ).loc main_arg8))) (turn1 (kposV (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4)))) (m ((c.tc : Thread nD τ).loc main_arg9)) (m ((c.tc : Thread nD τ).loc main_arg10)))
      ∧ r.2.mem ((c.tc : Thread nD τ).loc main_v171) = res2 (keyvalV (latK (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4)))) (m ((c.tc : Thread nD τ).loc main_arg7)) (m ((c.tc : Thread nD τ).loc main_arg8)))
      ∧ r.2.mem ((c.tc : Thread nD τ).loc main_v173) = res3 (turn16 (winQ (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4)))) (m ((c.tc : Thread nD τ).loc main_arg9)) (m ((c.tc : Thread nD τ).loc main_arg10)))
      ∧ r.2.mem ((c.tc : Thread nD τ).loc main_v175) = res4 (turn2 (winK (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4)))) (m ((c.tc : Thread nD τ).loc main_arg9)) (m ((c.tc : Thread nD τ).loc main_arg10)))
      ∧ r.2.mem ((c.tc : Thread nD τ).loc main_v177) = res4 (winV (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4))))
      ∧ r.2.mem ((c.tc : Thread nD τ).loc main_v179) = res6 (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4)))
      ∧ r.2.mem ((c.tc : Thread nD τ).loc main_v181) = res7 (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4)))
      ∧ r.2.mem ((c.tc : Thread nD τ).loc main_v183) = res8 (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4)))
      ∧ r.2.mem ((c.tc : Thread nD τ).loc main_v185) = res9 (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4)))
      ∧ r.2.mem ((c.tc : Thread nD τ).loc main_v186) = res10 (projV (modV (foldV (m ((c.tc : Thread nD τ).loc main_arg0))) (m ((c.tc : Thread nD τ).loc main_arg3)) (m ((c.tc : Thread nD τ).loc main_arg2)) (m ((c.tc : Thread nD τ).loc main_arg1))) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  run m ρ

/-- The run of the reference, its results told by the formula. -/
theorem run_formula (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v167) = (fun j : S32768x1024.Idx => Cert.Kernel5Ideal.InProj.queries (Cert.Kernel5Ideal.InProj.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) (m ((c.tc : Thread nD τ).loc main_arg9)) (m ((c.tc : Thread nD τ).loc main_arg10)) (j 0) (j 1))
      ∧ r.2.mem ((c.tc : Thread nD τ).loc main_v169) = (fun j : S32768x1024.Idx => Cert.Kernel5Ideal.InProj.keys (Cert.Kernel5Ideal.InProj.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg7)) (m ((c.tc : Thread nD τ).loc main_arg8)) (m ((c.tc : Thread nD τ).loc main_arg9)) (m ((c.tc : Thread nD τ).loc main_arg10)) (j 0) (j 1))
      ∧ r.2.mem ((c.tc : Thread nD τ).loc main_v171) = (fun j : S32768x512.Idx => Cert.Kernel5Ideal.InProj.values (Cert.Kernel5Ideal.InProj.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg7)) (m ((c.tc : Thread nD τ).loc main_arg8)) (j 0) (j 1))
      ∧ r.2.mem ((c.tc : Thread nD τ).loc main_v173) = (fun j : S32768x1024.Idx => Cert.Kernel5Ideal.InProj.nearQueries (Cert.Kernel5Ideal.InProj.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg9)) (m ((c.tc : Thread nD τ).loc main_arg10)) (j 0) (j 1))
      ∧ r.2.mem ((c.tc : Thread nD τ).loc main_v175) = (fun j : S32768x256.Idx => Cert.Kernel5Ideal.InProj.nearKeys (Cert.Kernel5Ideal.InProj.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg9)) (m ((c.tc : Thread nD τ).loc main_arg10)) (j 0) (j 1))
      ∧ r.2.mem ((c.tc : Thread nD τ).loc main_v177) = (fun j : S32768x256.Idx => Cert.Kernel5Ideal.InProj.nearValues (Cert.Kernel5Ideal.InProj.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_v179) = (fun j : S32768x256.Idx => Cert.Kernel5Ideal.InProj.statQueries (Cert.Kernel5Ideal.InProj.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_v181) = (fun j : S32768x256.Idx => Cert.Kernel5Ideal.InProj.statKeys (Cert.Kernel5Ideal.InProj.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_v183) = (fun j : S32768x512.Idx => Cert.Kernel5Ideal.InProj.statValues (Cert.Kernel5Ideal.InProj.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_v185) = (fun j : S32768x512.Idx => Cert.Kernel5Ideal.InProj.statGates (Cert.Kernel5Ideal.InProj.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_v186) = (fun j : S32768x128.Idx => Cert.Kernel5Ideal.InProj.lastCols (Cert.Kernel5Ideal.InProj.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run _ _ _).mono (fun r h c => ?_) (run_stages m ρ)
  obtain ⟨h0, h1, h2, h3, h4, h5, h6, h7, h8, h9, h10, hr⟩ := h c
  refine ⟨h0.trans (funext fun j => ?_), h1.trans (funext fun j => ?_), h2.trans (funext fun j => ?_), h3.trans (funext fun j => ?_), h4.trans (funext fun j => ?_), h5.trans (funext fun j => ?_), h6.trans (funext fun j => ?_), h7.trans (funext fun j => ?_), h8.trans (funext fun j => ?_), h9.trans (funext fun j => ?_), h10.trans (funext fun j => ?_), hr⟩
  · obtain ⟨r, n, rfl⟩ : ∃ (r : Fin 32768) (n : Fin 1024), j = ix2 r n := ⟨j 0, j 1, eq_ix2 j⟩
    exact (first_at _ _ _ _ _ r n).trans (by rw [zr_eq]; rfl)
  · obtain ⟨r, n, rfl⟩ : ∃ (r : Fin 32768) (n : Fin 1024), j = ix2 r n := ⟨j 0, j 1, eq_ix2 j⟩
    exact (second_at _ _ _ _ _ r n).trans (by rw [zr_eq]; rfl)
  · obtain ⟨r, n, rfl⟩ : ∃ (r : Fin 32768) (n : Fin 512), j = ix2 r n := ⟨j 0, j 1, eq_ix2 j⟩
    exact (third_at _ _ _ r n).trans (by rw [zr_eq]; rfl)
  · obtain ⟨r, n, rfl⟩ : ∃ (r : Fin 32768) (n : Fin 1024), j = ix2 r n := ⟨j 0, j 1, eq_ix2 j⟩
    exact (fourth_at _ _ _ r n).trans (by rw [zr_eq]; rfl)
  · obtain ⟨r, n, rfl⟩ : ∃ (r : Fin 32768) (n : Fin 256), j = ix2 r n := ⟨j 0, j 1, eq_ix2 j⟩
    exact (fifth_at _ _ _ r n).trans (by rw [zr_eq]; rfl)
  · obtain ⟨r, n, rfl⟩ : ∃ (r : Fin 32768) (n : Fin 256), j = ix2 r n := ⟨j 0, j 1, eq_ix2 j⟩
    exact (sixth_at _ r n).trans (by rw [zr_eq]; rfl)
  · obtain ⟨r, n, rfl⟩ : ∃ (r : Fin 32768) (n : Fin 256), j = ix2 r n := ⟨j 0, j 1, eq_ix2 j⟩
    exact (res6_at _ r n).trans (congrArg (· * Ideal.ofBits .f32 0x3E000000#32) (congrFun (zr_eq _ _ _ _ _ r) _))
  · obtain ⟨r, n, rfl⟩ : ∃ (r : Fin 32768) (n : Fin 256), j = ix2 r n := ⟨j 0, j 1, eq_ix2 j⟩
    exact (res7_at _ r n).trans (congrFun (zr_eq _ _ _ _ _ r) _)
  · obtain ⟨r, n, rfl⟩ : ∃ (r : Fin 32768) (n : Fin 512), j = ix2 r n := ⟨j 0, j 1, eq_ix2 j⟩
    exact (res8_at _ r n).trans (congrFun (zr_eq _ _ _ _ _ r) _)
  · obtain ⟨r, n, rfl⟩ : ∃ (r : Fin 32768) (n : Fin 512), j = ix2 r n := ⟨j 0, j 1, eq_ix2 j⟩
    exact (res9_at _ r n).trans (congrFun (zr_eq _ _ _ _ _ r) _)
  · obtain ⟨r, n, rfl⟩ : ∃ (r : Fin 32768) (n : Fin 128), j = ix2 r n := ⟨j 0, j 1, eq_ix2 j⟩
    exact (res10_at _ r n).trans (congrFun (zr_eq _ _ _ _ _ r) _)

end Cert.Reference5Ideal.InProj

/-- The two named constants are the scales that the table gives. -/
theorem InProj.preserves : Cert.preserves_Kernel5_Kernel5Ideal :=
  ⟨IdealRules.named_const.statement _ _ _ _ _ rfl, IdealRules.named_const.statement _ _ _ _ _ rfl⟩

set_option maxHeartbeats 4000000 in
/-- The input projection kernel and its reference end with the same eleven arrays, read over the extended reals. -/
theorem InProj.algebraic : Cert.algebraic_Kernel5Ideal_Reference5Ideal := by
  intro m g m' g' hpre hagree
  refine ⟨fun c => (Cert.Kernel5Ideal.Gen.dats m 0 c).arrAt 12 (Cert.Kernel5Ideal.cfgs 0).N, fun c => (Cert.Kernel5Ideal.Gen.dats m 0 c).arrAt 13 (Cert.Kernel5Ideal.cfgs 0).N, fun c => (Cert.Kernel5Ideal.Gen.dats m 0 c).arrAt 14 (Cert.Kernel5Ideal.cfgs 0).N, fun c => (Cert.Kernel5Ideal.Gen.dats m 0 c).arrAt 15 (Cert.Kernel5Ideal.cfgs 0).N, fun c => (Cert.Kernel5Ideal.Gen.dats m 0 c).arrAt 16 (Cert.Kernel5Ideal.cfgs 0).N, fun c => (Cert.Kernel5Ideal.Gen.dats m 0 c).arrAt 17 (Cert.Kernel5Ideal.cfgs 0).N, fun c => (Cert.Kernel5Ideal.Gen.dats m 0 c).arrAt 18 (Cert.Kernel5Ideal.cfgs 0).N, fun c => (Cert.Kernel5Ideal.Gen.dats m 0 c).arrAt 19 (Cert.Kernel5Ideal.cfgs 0).N, fun c => (Cert.Kernel5Ideal.Gen.dats m 0 c).arrAt 20 (Cert.Kernel5Ideal.cfgs 0).N, fun c => (Cert.Kernel5Ideal.Gen.dats m 0 c).arrAt 21 (Cert.Kernel5Ideal.cfgs 0).N, fun c => (Cert.Kernel5Ideal.Gen.dats m 0 c).arrAt 22 (Cert.Kernel5Ideal.cfgs 0).N, ?_, ?_⟩
  · exact (θ_run _ _ _).mono (fun r h c => h c) (Cert.Kernel5Ideal.Value.run_blocks m g)
  · refine (θ_run _ _ _).mono (fun r h c => ?_) (Cert.Reference5Ideal.InProj.run_formula m' g')
    obtain ⟨h0, h1, h2, h3, h4, h5, h6, h7, h8, h9, h10, hr⟩ := h c
    obtain ⟨a0, a1, a2, a3, a4, a5, a6, a7, a8, a9, a10⟩ := hagree c
    rw [a0, a1, a2, a3, a4, a5, a6, a9, a10] at h0
    rw [a0, a1, a2, a3, a4, a7, a8, a9, a10] at h1
    rw [a0, a1, a2, a3, a4, a7, a8] at h2
    rw [a0, a1, a2, a3, a4, a9, a10] at h3
    rw [a0, a1, a2, a3, a4, a9, a10] at h4
    rw [a0, a1, a2, a3, a4] at h5
    rw [a0, a1, a2, a3, a4] at h6
    rw [a0, a1, a2, a3, a4] at h7
    rw [a0, a1, a2, a3, a4] at h8
    rw [a0, a1, a2, a3, a4] at h9
    rw [a0, a1, a2, a3, a4] at h10
    exact ⟨h0.trans (Cert.Kernel5Ideal.InProj.final12 m c).symm, h1.trans (Cert.Kernel5Ideal.InProj.final13 m c).symm, h2.trans (Cert.Kernel5Ideal.InProj.final14 m c).symm, h3.trans (Cert.Kernel5Ideal.InProj.final15 m c).symm, h4.trans (Cert.Kernel5Ideal.InProj.final16 m c).symm, h5.trans (Cert.Kernel5Ideal.InProj.final17 m c).symm, h6.trans (Cert.Kernel5Ideal.InProj.final18 m c).symm, h7.trans (Cert.Kernel5Ideal.InProj.final19 m c).symm, h8.trans (Cert.Kernel5Ideal.InProj.final20 m c).symm, h9.trans (Cert.Kernel5Ideal.InProj.final21 m c).symm, h10.trans (Cert.Kernel5Ideal.InProj.final22 m c).symm, hr⟩

end
-- ==== Proof.CtxMlp.Cases.lean ====
/- What a grid point of the feed-forward kernel of the context rows leaves in its block. -/
module

public import proofs.«01_k».proof.Proof.Gen.Kernel6Ideal.Value
public import proofs.«01_k».proof.Proof.Ffn.Pay

@[expose] public section

set_option maxRecDepth 16384

noncomputable section

open Idealize.ShloMosaic Idealize.ShloMosaic.TcCoe Idealize.SL.Sem

open Idealize.ShloMosaic.Pipeline (Dat)

namespace Cert.Kernel6Ideal.CtxMlp

open Cert.Kernel6Ideal Cert.Kernel6Ideal.Gen

/-- One block of the hidden axis: its part of the second product. -/
theorem pay2_at (h : FVec Ideal S1024x2048 .bf16) (w : FVec Ideal S1x2048x512 .bf16) (u : FVec Ideal S1x512x2048 .bf16)
    (r : Fin 1024) (n : Fin 2048) : k0_pay2 (F := Ideal) h w u (ix2 r n)
    = ∑ k : Fin 512, max (∑ d, h (ix2 r d) * w (ix3 0 d k)) 0 * max (∑ d, h (ix2 r d) * w (ix3 0 d k)) 0 * u (ix3 0 k n) := by
  pointwise [k0_pay2, k0_pay1]

/-- Adding a block's part to what is there. -/
theorem pay3_at (h : FVec Ideal S1024x2048 .bf16) (w : FVec Ideal S1x2048x512 .bf16) (o : FVec Ideal S1024x2048 .f32)
    (u : FVec Ideal S1x512x2048 .bf16) (r : Fin 1024) (n : Fin 2048) :
    k0_pay3 (F := Ideal) h w o u (ix2 r n) = o (ix2 r n) + k0_pay2 (F := Ideal) h w u (ix2 r n) := by
  pointwise [k0_pay3, k0_pay2, k0_pay1]

/-- A row of the gated residual inside a block. -/
def zrow (x y : FVec Ideal S1024x2048 .f32) (g : FVec Ideal S1x1x2048 .f32) (r : Fin 1024) (n : Fin 2048) : EReal :=
  x (ix2 r n) + g (ix3 0 0 n) * y (ix2 r n)

variable (m : (ℓ : Loc nD τ sig) → Buf (Elt Ideal) ℓ)

/-- After the first block of the hidden axis, a point leaves the plain product. -/
theorem left_A (c : Dev nD) (t : Fin cfg0.N) (h0 : t.val % 16 = 0) (h1 : ¬1 ≤ t.val) (h2 : ¬t.val % 16 = 15) :
    outsAt0 m c t.val t.isLt = k0_pay2 (F := Ideal) (iblk m c 1 t) (iblk m c 4 t) (iblk m c 5 t) := by
  rw [outsAt0_A m c t h0 h1 h2]; frame_out

/-- A middle block of the hidden axis adds its product to what the point before left. -/
theorem left_B (c : Dev nD) (t : Fin cfg0.N) (h0 : ¬t.val % 16 = 0) (h1 : 1 ≤ t.val) (h2 : ¬t.val % 16 = 15) :
    outsAt0 m c t.val t.isLt = k0_pay3 (F := Ideal) (iblk m c 1 t) (iblk m c 4 t)
      (outsAt0 m c (t.val - 1) (Nat.lt_of_le_of_lt (Nat.sub_le _ _) t.isLt)) (iblk m c 5 t) := by
  rw [outsAt0_B m c t h0 h1 h2]; frame_out

/-- The last block adds its product too; then the gated residual is formed in place, four column chunks one by one. -/
theorem left_C (c : Dev nD) (t : Fin cfg0.N) (h0 : ¬t.val % 16 = 0) (h1 : 1 ≤ t.val) (h2 : t.val % 16 = 15)
    (r : Fin 1024) (n : Fin 2048) :
    outsAt0 m c t.val t.isLt (ix2 r n)
      = zrow (iblk m c 0 t) (k0_pay3 (F := Ideal) (iblk m c 1 t) (iblk m c 4 t)
          (outsAt0 m c (t.val - 1) (Nat.lt_of_le_of_lt (Nat.sub_le _ _) t.isLt)) (iblk m c 5 t)) (iblk m c 2 t) r n := by
  rw [outsAt0_C m c t h0 h1 h2]; frame_open
  simp (disch := decide) only [↓ View.readCov_skip, ↓ View.readCov_cons_toLoadRect, ↓ View.readCov_fill]
  frame_out
  generalize k0_pay3 (F := Ideal) (iblk m c 1 t) (iblk m c 4 t)
      (outsAt0 m c (t.val - 1) (Nat.lt_of_le_of_lt (Nat.sub_le _ _) t.isLt)) (iblk m c 5 t) = Y
  refine (Cert.Kernel2Ideal.Ffn.canon_append [_, _, _, _] [_] (ix2 r n) (View.cover_of_tiled_head _ _ _ rfl _)).trans ?_
  canon_tiles x h
  all_goals
    open_payloads
    have hr : r = x 0 := Fin.ext h0
    subst hr
    have h1' : (n : ℕ) = _ := h1
    have hn : n = ⟨_, h1' ▸ n.isLt⟩ := Fin.ext h1'
    rw [hn]
    pointwise [zrow]

end Cert.Kernel6Ideal.CtxMlp

end
-- ==== Proof.CtxMlp.Final.lean ====
/- The result array of the feed-forward kernel of the context rows. -/
module

public import proofs.«01_k».proof.Proof.CtxMlp.Cases

@[expose] public section

set_option maxRecDepth 16384

noncomputable section

open Idealize.ShloMosaic Idealize.ShloMosaic.TcCoe Idealize.SL.Sem
open Idealize.ShloMosaic.Pipeline (Dat)

namespace Cert.Kernel6Ideal.CtxMlp

open Cert.Kernel6Ideal Cert.Kernel6Ideal.Gen

/-- Block `q`, of 512, of a sum over the hidden axis. -/
def blockSum (f : Fin 8192 → EReal) (q : ℕ) : EReal := ∑ k : Fin 512, f ⟨(q * 512 + k.val) % 8192, by omega⟩

/-- A sum over the hidden axis is the sum of its 16 blocks. -/
theorem sum_blockSum (f : Fin 8192 → EReal) : ∑ l, f l = ∑ q ∈ Finset.range 16, blockSum f q := by
  rw [Fin.sum_univ_tiles 16 512 rfl, Finset.sum_range]
  refine Finset.sum_congr rfl fun q _ => Finset.sum_congr rfl fun k _ => congrArg f (Fin.ext ?_)
  simp only []
  omega

variable (m : (ℓ : Loc nD τ sig) → Buf (Elt Ideal) ℓ)

/-- Which block each window is on at a point: the point is the block of the hidden axis. -/
theorem idx : ∀ t : Fin cfg0.N, win0_0.index t = ![0, 0] ∧ win0_1.index t = ![0, 0]
    ∧ win0_2.index t = ![0, 0, 0] ∧ win0_3.index t = ![0, 0] ∧ win0_4.index t = ![0, 0, t.val]
    ∧ win0_5.index t = ![0, t.val, 0] ∧ win0_6.index t = ![0, 0] :=
  (by decide +kernel : ∀ t : Fin grid0.N, _)

/-! The arguments, by their coordinates. -/

/-- The residual stream, row and column. -/
def rows (x : FVec Ideal S1024x2048 .f32) (r : Fin 1024) (n : Fin 2048) : EReal := x (ix2 r n)

/-- The gate. -/
def gate (x : FVec Ideal S1x1x2048 .f32) (n : Fin 2048) : EReal := x (ix3 0 0 n)

/-- What hidden unit `l` adds to an entry of the second product. -/
def term (H : FVec Ideal S1024x2048 .bf16) (W : FVec Ideal S4x2048x8192 .bf16) (U : FVec Ideal S4x8192x2048 .bf16)
    (r : Fin 1024) (n : Fin 2048) (l : Fin 8192) : EReal :=
  max (∑ d, H (ix2 r d) * W (ix3 0 d l)) 0 * max (∑ d, H (ix2 r d) * W (ix3 0 d l)) 0 * U (ix3 0 l n)

/-- The same of the arguments that the device is given. -/
abbrev trm (c : Dev nD) := term (m ((c.tc : Thread nD τ).loc main_arg1)) (m ((c.tc : Thread nD τ).loc main_arg4)) (m ((c.tc : Thread nD τ).loc main_arg5))

/-- The residual stream that the device is given. -/
abbrev X (c : Dev nD) := rows (m ((c.tc : Thread nD τ).loc main_arg0))

/-- The gate that the device is given. -/
abbrev G (c : Dev nD) := gate (m ((c.tc : Thread nD τ).loc main_arg2))

/-- The part of the second product that a point computes: the sum over its block of the hidden axis. -/
theorem part_at (c : Dev nD) (t : Fin cfg0.N) (q : ℕ) (hq : t.val = q) (hq' : q < 16) (r : Fin 1024) (n : Fin 2048) :
    k0_pay2 (F := Ideal) (iblk m c 1 t) (iblk m c 4 t) (iblk m c 5 t) (ix2 r n) = blockSum (trm m c r n) q := by
  subst hq
  refine (pay2_at _ _ _ r n).trans ?_
  unfold blockSum trm term
  have e (k : Fin 512) : (t.val * 512 + k.val) % 8192 = t.val * 512 + k.val := by omega
  simp only [e]
  blk_point [iblk, V, idx t]

/-- Before the last point the block holds the sum so far. -/
theorem acc_at (c : Dev nD) (r : Fin 1024) (n : Fin 2048) : ∀ (q : ℕ) (hq : q < 15) (h : q < cfg0.N),
    outsAt0 m c q h (ix2 r n) = ∑ p ∈ Finset.range (q + 1), blockSum (trm m c r n) p
  | 0, _, h => by
    have e := left_A m c ⟨0, h⟩ (by simp) (by simp) (by simp)
    dsimp only at e
    rw [e, part_at m c ⟨0, h⟩ 0 rfl (by omega)]
    exact (Finset.sum_range_one _).symm
  | q + 1, hq, h => by
    have e := left_B m c ⟨q + 1, h⟩ (by simp only; omega) (by simp only; omega) (by simp only; omega)
    dsimp only [Nat.add_sub_cancel] at e
    rw [e, pay3_at, part_at m c ⟨q + 1, h⟩ (q + 1) rfl (by omega), Finset.sum_range_succ _ (q + 1)]
    exact congrArg (· + blockSum (trm m c r n) (q + 1)) (acc_at c r n q (by omega) (by omega))

/-- What the last point leaves: the formula. -/
theorem point (c : Dev nD) (t : Fin cfg0.N) (h2 : t.val = 15) (r : Fin 1024) (n : Fin 2048) :
    outsAt0 m c t.val t.isLt (ix2 r n) = X m c r n + G m c n * ∑ l, trm m c r n l := by
  rw [left_C m c t (by omega) (by omega) (by omega) r n, sum_blockSum, Finset.sum_range_succ]
  unfold zrow
  have e : ∀ (q : ℕ) (hq : q = 14) (h : q < cfg0.N), outsAt0 m c q h (ix2 r n) = ∑ p ∈ Finset.range 15, blockSum (trm m c r n) p :=
    fun q hq h => by subst hq; exact acc_at m c r n 14 (by omega) h
  rw [pay3_at, part_at m c t 15 h2 (by omega), e _ (by omega)]
  congr 1
  · unfold X rows
    blk_point [iblk, V, idx t]
  · congr 1
    unfold G gate
    blk_point [iblk, V, idx t]

/-- The result array after the run, index by index. -/
theorem final (c : Dev nD) : (dats m 0 c).arrAt 6 (cfgs 0).N
    = fun j : S1024x2048.Idx => X m c (j 0) (j 1) + G m c (j 1) * ∑ l, trm m c (j 0) (j 1) l := by
  refine (dats m 0 c).arrAt_eq_of_covers 6 _ (by decide +kernel) fun t hf y => ?_
  have h2 : t.val % 16 = 15 := (flush0_6 t).mp hf
  have ht : t.val = 15 := by have := t.isLt; have hN : cfg0.grid.N = 16 := N_0; omega
  blk_simp
  rw [after0_6]
  revert y
  intro (y : S1024x2048.Idx)
  obtain ⟨r, n, rfl⟩ : ∃ r n, y = ix2 r n := ⟨y 0, y 1, eq_ix2 y⟩
  have e0 : (win0_6.blk t).view.emb (ix2 r n) 0 = r := Fin.ext (by blk_simp [idx t])
  have e1 : (win0_6.blk t).view.emb (ix2 r n) 1 = n := Fin.ext (by blk_simp [idx t])
  rw [point m c t ht r n]
  exact congrArg₂ (fun a b => X m c a b + G m c b * ∑ l, trm m c a b l) e0.symm e1.symm

end Cert.Kernel6Ideal.CtxMlp

end
-- ==== Proof.CtxMlp.Ref.lean ====
/- The reference of the context rows' feed-forward block, read at an index. -/
module

public import proofs.«01_k».proof.Proof.Gen.Reference6Ideal.Run
public import proofs.«01_k».proof.Proof.Ffn.Spec

@[expose] public section

set_option maxRecDepth 16384

noncomputable section

open Idealize.ShloMosaic Idealize.ShloMosaic.TcCoe Idealize.SL.Sem

namespace Cert.Reference6Ideal.CtxMlp

open Cert.Reference6Ideal Cert.Reference6Ideal.Gen Cert.Reference6Ideal.Value

/-- The rectified hidden layer, as the reference computes it. -/
def hidV (H : FVec Ideal S1024x2048 .bf16) (W : FVec Ideal S4x2048x8192 .bf16) : FVec Ideal S1024x8192 .f32 :=
  maximumf (Host.dotGeneral dot_S1024x2048_S2048x8192_S1024x8192_1_0_0_1_n_n none (extf .f32 H bitsLt_bf16_f32)
    (extf .f32 (shapeCast _ (extractStridedSlice S1x2048x8192 ![0, 0, 0] W slices_S4x2048x8192_S1x2048x8192_0_0_0)
      shapeCasts_S1x2048x8192_S2048x8192) bitsLt_bf16_f32))
    (broadcastInDim S1024x8192 ![] bcast_S_S1024x8192 (constant S_ .f32 0x00000000#32))

/-- A rectified hidden unit is the inner product of a row and a column of layer 0's weight, cut off at 0. -/
theorem hidV_at (H : FVec Ideal S1024x2048 .bf16) (W : FVec Ideal S4x2048x8192 .bf16) (r : Fin 1024) (l : Fin 8192) :
    hidV H W (ix2 r l) = max (∑ d, H (ix2 r d) * W (ix3 0 d l)) 0 := by
  pointwise [hidV]

/-- The product with the second weight. -/
def downV (A : FVec Ideal S1024x8192 .f32) (U : FVec Ideal S4x8192x2048 .bf16) : FVec Ideal S1024x2048 .f32 :=
  Host.dotGeneral dot_S1024x8192_S8192x2048_S1024x2048_1_0_0_1_n_n none (mulf A A)
    (extf .f32 (shapeCast _ (extractStridedSlice S1x8192x2048 ![0, 0, 0] U slices_S4x8192x2048_S1x8192x2048_0_0_0)
      shapeCasts_S1x8192x2048_S8192x2048) bitsLt_bf16_f32)

/-- An entry of the second product: the squared hidden units against a column of the second weight. -/
theorem downV_at (A : FVec Ideal S1024x8192 .f32) (U : FVec Ideal S4x8192x2048 .bf16) (r : Fin 1024) (n : Fin 2048) :
    downV A U (ix2 r n) = ∑ l, A (ix2 r l) * A (ix2 r l) * U (ix3 0 l n) := by
  pointwise [downV]

/-- The gated residual: one gate for all rows. -/
def residV (X Y : FVec Ideal S1024x2048 .f32) (G : FVec Ideal S1x1x2048 .f32) : FVec Ideal S1024x2048 .f32 :=
  addf X (mulf (broadcastInDim S1024x2048 ![0, 1] bcast_S1x2048_S1024x2048_0_1
    (shapeCast _ G shapeCasts_S1x1x2048_S1x2048)) Y)

/-- An entry of the gated residual. -/
theorem residV_at (X Y : FVec Ideal S1024x2048 .f32) (G : FVec Ideal S1x1x2048 .f32) (r : Fin 1024) (n : Fin 2048) :
    residV X Y G (ix2 r n) = X (ix2 r n) + G (ix3 0 0 n) * Y (ix2 r n) := by
  pointwise [residV]

/-- The three stages one after the other are the formula. -/
theorem res_at (X : FVec Ideal S1024x2048 .f32) (H : FVec Ideal S1024x2048 .bf16) (G : FVec Ideal S1x1x2048 .f32)
    (W : FVec Ideal S4x2048x8192 .bf16) (U : FVec Ideal S4x8192x2048 .bf16) (r : Fin 1024) (n : Fin 2048) :
    residV X (downV (hidV H W) U) G (ix2 r n)
      = X (ix2 r n) + G (ix3 0 0 n) * ∑ l, max (∑ d, H (ix2 r d) * W (ix3 0 d l)) 0 * max (∑ d, H (ix2 r d) * W (ix3 0 d l)) 0
          * U (ix3 0 l n) := by
  rw [residV_at, downV_at]
  simp only [hidV_at]

end Cert.Reference6Ideal.CtxMlp

end
-- ==== Proof.CtxMlp.Claim.lean ====
module

public import proofs.«01_k».proof.Defs
public import proofs.«01_k».proof.Proof.CtxMlp.Final
public import proofs.«01_k».proof.Proof.CtxMlp.Ref
public import Idealize.ShloMosaic.Lib.Claim

@[expose] public section

set_option maxRecDepth 16384

noncomputable section

open Idealize.ShloMosaic Idealize.ShloMosaic.TcCoe Idealize.SL.Sem

/-- The feed-forward kernel of the context rows and its reference end with the same array, read over the extended reals. -/
theorem CtxMlp.algebraic : Cert.algebraic_Kernel6Ideal_Reference6Ideal := by
  pair_intro
  · run_from Cert.Kernel6Ideal.Gen.run_main m g
  · run_from Cert.Reference6Ideal.Value.run m' g'
    refine Eq.trans ?_ (Cert.Kernel6Ideal.CtxMlp.final m c).symm
    funext j
    obtain ⟨r, n, rfl⟩ : ∃ (r : Fin 1024) (n : Fin 2048), j = ix2 r n := ⟨j 0, j 1, eq_ix2 j⟩
    exact Cert.Reference6Ideal.CtxMlp.res_at (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5)) r n

end
-- ==== Proof.CtxOut.Cases.lean ====
/- What a grid point of the context rows' output projection kernel leaves in its two blocks. -/
module

public import proofs.«01_k».proof.Proof.Gen.Kernel7Ideal.Value
public import proofs.«01_k».proof.Proof.Ffn.Pay
public import proofs.«01_k».proof.Proof.OutProj.Spec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel7Ideal.CtxOut

open Cert.Kernel7Ideal Cert.Kernel7Ideal.Gen

variable (m : (ℓ : Loc nD τ sig) → Buf (Elt Ideal) ℓ)

/-- The row of a point's block that enters the product: the two attention branches, then the four gated heads. -/
def yrow (c : Dev nD) (t : Fin cfg0.N) : FVec Ideal S256x2048 .bf16 :=
  k0_pay8
    (k0_pay3 (View.ld (iblk m c 2 t) (Rect.unit ![0, 0] ![256, 128] inb_S256x512_S256x128_0_0)) (View.ld (iblk m c 3 t) (Rect.unit ![0, 0] ![256, 128] inb_S256x512_S256x128_0_0))
      (View.ld (iblk m c 5 t) (Rect.unit ![0, 0] ![1, 128] inb_S1x512_S1x128_0_0)) (View.ld (iblk m c 4 t) (Rect.unit ![0, 0] ![256, 128] inb_S256x512_S256x128_0_0)))
    (k0_pay5 (k0_pay4 (View.ld (iblk m c 2 t) (Rect.unit ![0, 128] ![256, 128] inb_S256x512_S256x128_0_128)) (View.ld (iblk m c 3 t) (Rect.unit ![0, 128] ![256, 128] inb_S256x512_S256x128_0_128))
      (View.ld (iblk m c 5 t) (Rect.unit ![0, 128] ![1, 128] inb_S1x512_S1x128_0_128))) (View.ld (iblk m c 4 t) (Rect.unit ![0, 128] ![256, 128] inb_S256x512_S256x128_0_128)))
    (k0_pay6 (View.ld (iblk m c 2 t) (Rect.unit ![0, 256] ![256, 128] inb_S256x512_S256x128_0_256)) (View.ld (iblk m c 3 t) (Rect.unit ![0, 256] ![256, 128] inb_S256x512_S256x128_0_256))
      (View.ld (iblk m c 5 t) (Rect.unit ![0, 256] ![1, 128] inb_S1x512_S1x128_0_256)) (View.ld (iblk m c 4 t) (Rect.unit ![0, 256] ![256, 128] inb_S256x512_S256x128_0_256)))
    (k0_pay7 (View.ld (iblk m c 2 t) (Rect.unit ![0, 384] ![256, 128] inb_S256x512_S256x128_0_384)) (View.ld (iblk m c 3 t) (Rect.unit ![0, 384] ![256, 128] inb_S256x512_S256x128_0_384)))
    (View.ld (iblk m c 5 t) (Rect.unit ![0, 384] ![1, 128] inb_S1x512_S1x128_0_384)) (View.ld (iblk m c 4 t) (Rect.unit ![0, 384] ![256, 128] inb_S256x512_S256x128_0_384))
    (iblk m c 0 t) (iblk m c 1 t)

/-- The row against a column: the formula's sum. -/
theorem yrow_sum (c : Dev nD) (t : Fin cfg0.N) (W : Fin 2048 → EReal) (r : Fin 256) :
    ∑ k, yrow m c t (ix2 r k) * W k
      = OutProj.mixed (fun k => (iblk m c 0 t : FVec Ideal S256x512 .bf16) (ix2 r k)) (fun k => (iblk m c 1 t : FVec Ideal S256x1024 .bf16) (ix2 r k))
          (fun k => (iblk m c 2 t : FVec Ideal S256x512 .f32) (ix2 r k)) (fun k => (iblk m c 3 t : FVec Ideal S256x512 .f32) (ix2 r k))
          (fun k => (iblk m c 5 t : FVec Ideal S1x512 .f32) (ix2 0 k)) (fun k => (iblk m c 4 t : FVec Ideal S256x512 .bf16) (ix2 r k)) W := by
  rw [OutProj.sum_branches]
  pointwise [yrow, k0_pay3, k0_pay4, k0_pay5, k0_pay6, k0_pay7, k0_pay8, OutProj.mixed, OutProj.gated, Fin.sum_univ_four]
  have a (x : ℕ) : 512 + x - 512 = x := by omega
  have b0 (x : ℕ) : 1536 + x - 512 - 1024 = x := by omega
  have b1 (x : ℕ) : 128 + x - 128 = x := by omega
  have b2 (x : ℕ) : 256 + x - 128 - 128 = x := by omega
  have b3 (x : ℕ) : 384 + x - 128 - 128 - 128 = x := by omega
  simp (disch := omega) only [dif_neg, dif_pos, a, b0, b1, b2, b3]

/-- The residual's entry inside a block. -/
def zrow (x : FVec Ideal S256x2048 .f32) (g : FVec Ideal S1x1x2048 .f32) (y : FVec Ideal S256x2048 .bf16) (w : FVec Ideal S1x2048x2048 .bf16)
    (r : Fin 256) (n : Fin 2048) : EReal :=
  x (ix2 r n) + g (ix3 0 0 n) * ∑ k, y (ix2 r k) * w (ix3 0 k n)

/-- The row of the batch entry's vector. -/
def vrow (g : FVec Ideal S1x1x2048 .f32) (n : Fin 2048) : EReal := g (ix3 0 0 n)

/-- The first block's entry: the gated residual. -/
theorem left12 (c : Dev nD) (t : Fin cfg0.N) (r : Fin 256) (n : Fin 2048) :
    (outsAt0 m c t).1 (ix2 r n) = zrow (iblk m c 7 t) (iblk m c 8 t) (yrow m c t) (iblk m c 6 t) r n := by
  unfold outsAt0; frame_open
  simp (disch := decide) only [↓ View.readCov_skip, ↓ View.readCov_cons_toLoadRect, ↓ View.readCov_fill]
  frame_out
  canon_tiles x h
  all_goals
    try simp only [k0_pay9]
    conv in (occs := *) k0_pay8 _ _ _ _ _ _ _ _ => all_goals change yrow m c t
    generalize yrow m c t = Y
    have hr : r = x 0 := Fin.ext h0
    subst hr
    have h1' : (n : ℕ) = _ := h1
    have hn : n = ⟨_, h1' ▸ n.isLt⟩ := Fin.ext h1'
    rw [hn]
    pointwise [zrow, k0_pay12, k0_pay15, k0_pay16, k0_pay19]

/-- The second block's entry: the modulated norm of the first block's row. -/
theorem left13 (c : Dev nD) (t : Fin cfg0.N) (r : Fin 256) (n : Fin 2048) :
    (outsAt0 m c t).2 (ix2 r n) = OutProj.modnorm (zrow (iblk m c 7 t) (iblk m c 8 t) (yrow m c t) (iblk m c 6 t) r)
      (Cert.Kernel2Ideal.Ffn.scale (iblk m c 11 t)) (vrow (iblk m c 10 t)) (vrow (iblk m c 9 t)) n := by
  unfold outsAt0; frame_open
  simp (disch := decide) only [↓ View.readCov_skip, ↓ View.readCov_cons_toLoadRect, ↓ View.readCov_fill]
  frame_out
  rw [OutProj.modnorm_eq, Ffn.sum_quarters, Ffn.mean_eq]
  canon_tiles x h
  all_goals
    simp only [k0_pay9, k0_pay10, k0_pay11]
    conv in (occs := *) k0_pay8 _ _ _ _ _ _ _ _ => all_goals change yrow m c t
    generalize yrow m c t = Y
    have hr : r = x 0 := Fin.ext h0
    subst hr
    have h1' : (n : ℕ) = _ := h1
    have hn : n = ⟨_, h1' ▸ n.isLt⟩ := Fin.ext h1'
    rw [hn]
    pointwise [zrow, vrow, Cert.Kernel2Ideal.Ffn.scale, k0_pay12, k0_pay13, k0_pay14, k0_pay15, k0_pay16, k0_pay17, k0_pay18, k0_pay19, k0_pay20, k0_pay21, k0_pay22, k0_pay23, k0_pay1, k0_pay2]

end Cert.Kernel7Ideal.CtxOut

end
-- ==== Proof.CtxOut.Final.lean ====
/- The two result arrays of the context rows' output projection kernel. -/
module

public import proofs.«01_k».proof.Proof.CtxOut.Cases

@[expose] public section

set_option maxRecDepth 16384

noncomputable section

open Idealize.ShloMosaic Idealize.ShloMosaic.TcCoe Idealize.SL.Sem
open Idealize.ShloMosaic.Pipeline (Dat)

namespace Cert.Kernel7Ideal.CtxOut

open Cert.Kernel7Ideal Cert.Kernel7Ideal.Gen

variable (m : (ℓ : Loc nD τ sig) → Buf (Elt Ideal) ℓ)

/-- Which block each window is on at a point: the point's own rows, the vectors, layer 0 of the weight. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0, 0]
    ∧ win0_7.index t = ![t.val, 0] ∧ win0_8.index t = ![0, 0, 0] ∧ win0_9.index t = ![0, 0, 0]
    ∧ win0_10.index t = ![0, 0, 0] ∧ win0_11.index t = ![0, 0] ∧ win0_12.index t = ![t.val, 0] ∧ win0_13.index t = ![t.val, 0] :=
  (by decide +kernel : ∀ t : Fin grid0.N, _)

/-- Window 0 holds the point's rows of its argument. -/
theorem blk0 (c : Dev nD) (t : Fin cfg0.N) (ht : t.val < 4) (r : Fin 256) (k : Fin 512) :
    (iblk m c 0 t : FVec Ideal S256x512 .bf16) (ix2 r k) = m ((c.tc : Thread nD τ).loc main_arg0) (ix2 ⟨t.val * 256 + r.val, by omega⟩ k) := by
  blk_point [iblk, V, idx t]

/-- Window 1 holds the point's rows of its argument. -/
theorem blk1 (c : Dev nD) (t : Fin cfg0.N) (ht : t.val < 4) (r : Fin 256) (k : Fin 1024) :
    (iblk m c 1 t : FVec Ideal S256x1024 .bf16) (ix2 r k) = m ((c.tc : Thread nD τ).loc main_arg1) (ix2 ⟨t.val * 256 + r.val, by omega⟩ k) := by
  blk_point [iblk, V, idx t]

/-- Window 2 holds the point's rows of its argument. -/
theorem blk2 (c : Dev nD) (t : Fin cfg0.N) (ht : t.val < 4) (r : Fin 256) (k : Fin 512) :
    (iblk m c 2 t : FVec Ideal S256x512 .f32) (ix2 r k) = m ((c.tc : Thread nD τ).loc main_arg2) (ix2 ⟨t.val * 256 + r.val, by omega⟩ k) := by
  blk_point [iblk, V, idx t]

/-- Window 3 holds the point's rows of its argument. -/
theorem blk3 (c : Dev nD) (t : Fin cfg0.N) (ht : t.val < 4) (r : Fin 256) (k : Fin 512) :
    (iblk m c 3 t : FVec Ideal S256x512 .f32) (ix2 r k) = m ((c.tc : Thread nD τ).loc main_arg3) (ix2 ⟨t.val * 256 + r.val, by omega⟩ k) := by
  blk_point [iblk, V, idx t]

/-- Window 4 holds the point's rows of its argument. -/
theorem blk4 (c : Dev nD) (t : Fin cfg0.N) (ht : t.val < 4) (r : Fin 256) (k : Fin 512) :
    (iblk m c 4 t : FVec Ideal S256x512 .bf16) (ix2 r k) = m ((c.tc : Thread nD τ).loc main_arg4) (ix2 ⟨t.val * 256 + r.val, by omega⟩ k) := by
  blk_point [iblk, V, idx t]

/-- Window 7 holds the point's rows of its argument. -/
theorem blk7 (c : Dev nD) (t : Fin cfg0.N) (ht : t.val < 4) (r : Fin 256) (k : Fin 2048) :
    (iblk m c 7 t : FVec Ideal S256x2048 .f32) (ix2 r k) = m ((c.tc : Thread nD τ).loc main_arg7) (ix2 ⟨t.val * 256 + r.val, by omega⟩ k) := by
  blk_point [iblk, V, idx t]

/-- Window 8 holds the whole vector. -/
theorem blk8 (c : Dev nD) (t : Fin cfg0.N) (k : Fin 2048) :
    (iblk m c 8 t : FVec Ideal S1x1x2048 .f32) (ix3 0 0 k) = m ((c.tc : Thread nD τ).loc main_arg8) (ix3 0 0 k) := by
  blk_point [iblk, V, idx t]

/-- Window 9 holds the whole vector. -/
theorem blk9 (c : Dev nD) (t : Fin cfg0.N) (k : Fin 2048) :
    (iblk m c 9 t : FVec Ideal S1x1x2048 .f32) (ix3 0 0 k) = m ((c.tc : Thread nD τ).loc main_arg9) (ix3 0 0 k) := by
  blk_point [iblk, V, idx t]

/-- Window 10 holds the whole vector. -/
theorem blk10 (c : Dev nD) (t : Fin cfg0.N) (k : Fin 2048) :
    (iblk m c 10 t : FVec Ideal S1x1x2048 .f32) (ix3 0 0 k) = m ((c.tc : Thread nD τ).loc main_arg10) (ix3 0 0 k) := by
  blk_point [iblk, V, idx t]

/-- Window 5 holds the whole scale. -/
theorem blk5 (c : Dev nD) (t : Fin cfg0.N) (k : Fin 512) :
    (iblk m c 5 t : FVec Ideal S1x512 .f32) (ix2 0 k) = m ((c.tc : Thread nD τ).loc main_arg5) (ix2 0 k) := by
  blk_point [iblk, V, idx t]

/-- Window 11 holds the whole scale. -/
theorem blk11 (c : Dev nD) (t : Fin cfg0.N) (k : Fin 2048) :
    (iblk m c 11 t : FVec Ideal S1x2048 .f32) (ix2 0 k) = m ((c.tc : Thread nD τ).loc main_arg11) (ix2 0 k) := by
  blk_point [iblk, V, idx t]

/-- Window 6 holds layer 0 of the weight. -/
theorem blk6 (c : Dev nD) (t : Fin cfg0.N) (k n : Fin 2048) :
    (iblk m c 6 t : FVec Ideal S1x2048x2048 .bf16) (ix3 0 k n) = m ((c.tc : Thread nD τ).loc main_arg6) (ix3 0 k n) := by
  blk_point [iblk, V, idx t]

/-- The gated residual by the arguments' coordinates. -/
def resid (a : FVec Ideal S1024x512 .bf16) (s : FVec Ideal S1024x1024 .bf16) (f b : FVec Ideal S1024x512 .f32)
    (o : FVec Ideal S1024x512 .bf16) (g : FVec Ideal S1x512 .f32) (W : FVec Ideal S4x2048x2048 .bf16) (X : FVec Ideal S1024x2048 .f32)
    (G : FVec Ideal S1x1x2048 .f32) (r : Fin 1024) (n : Fin 2048) : EReal :=
  X (ix2 r n) + G (ix3 0 0 n) * OutProj.mixed (fun k => a (ix2 r k)) (fun k => s (ix2 r k)) (fun k => f (ix2 r k))
    (fun k => b (ix2 r k)) (fun k => g (ix2 0 k)) (fun k => o (ix2 r k)) (fun k => W (ix3 0 k n))

/-- The gated residual of the arguments that the device is given. -/
abbrev Z (c : Dev nD) := resid (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8))

/-- The modulation by the arguments' coordinates. -/
def modn (z : Fin 1024 → Fin 2048 → EReal) (sh sc : FVec Ideal S1x1x2048 .f32) (g : FVec Ideal S1x2048 .f32) (r : Fin 1024) (n : Fin 2048) : EReal :=
  OutProj.modnorm (z r) (fun n => g (ix2 0 n)) (fun n => sc (ix3 0 0 n)) (fun n => sh (ix3 0 0 n)) n

/-- The modulated norm of the gated residual. -/
abbrev H (c : Dev nD) := modn (Z m c) (m ((c.tc : Thread nD τ).loc main_arg9)) (m ((c.tc : Thread nD τ).loc main_arg10)) (m ((c.tc : Thread nD τ).loc main_arg11))

/-- A block's gated residual is that of its rows. -/
theorem zrow_at (c : Dev nD) (t : Fin cfg0.N) (ht : t.val < 4) (r : Fin 256) (n : Fin 2048) :
    zrow (iblk m c 7 t) (iblk m c 8 t) (yrow m c t) (iblk m c 6 t) r n = Z m c ⟨t.val * 256 + r.val, by omega⟩ n := by
  unfold zrow
  rw [yrow_sum m c t (fun k => (iblk m c 6 t : FVec Ideal S1x2048x2048 .bf16) (ix3 0 k n)) r]
  unfold Z resid
  simp only [blk0 m c t ht, blk1 m c t ht, blk2 m c t ht, blk3 m c t ht, blk4 m c t ht, blk5 m c t, blk6 m c t, blk7 m c t ht, blk8 m c t]

/-- A block's second result is the modulated norm of its rows. -/
theorem mod_at (c : Dev nD) (t : Fin cfg0.N) (ht : t.val < 4) (r : Fin 256) (n : Fin 2048) :
    (outsAt0 m c t).2 (ix2 r n) = H m c ⟨t.val * 256 + r.val, by omega⟩ n := by
  have hz : zrow (iblk m c 7 t) (iblk m c 8 t) (yrow m c t) (iblk m c 6 t) r = Z m c ⟨t.val * 256 + r.val, by omega⟩ :=
    funext fun n => zrow_at m c t ht r n
  rw [left13, hz]
  unfold H modn
  generalize Z m c = z
  unfold Cert.Kernel2Ideal.Ffn.scale vrow
  simp only [blk9 m c t, blk10 m c t, blk11 m c t]

/-- The first result array after the run, index by index. -/
theorem final12 (c : Dev nD) : (dats m 0 c).arrAt 12 (cfgs 0).N = fun j : S1024x2048.Idx => Z m c (j 0) (j 1) := by
  refine (dats m 0 c).arrAt_eq_of_covers 12 _ (by decide +kernel) fun t hf y => ?_
  have ht : t.val < 4 := by have := t.isLt; have hN : cfg0.grid.N = 4 := N_0; omega
  blk_simp
  rw [after0_12]
  revert y
  intro (y : S256x2048.Idx)
  obtain ⟨r, n, rfl⟩ : ∃ r n, y = ix2 r n := ⟨y 0, y 1, eq_ix2 y⟩
  have e0 : (win0_12.blk t).view.emb (ix2 r n) 0 = (⟨t.val * 256 + r.val, by omega⟩ : Fin 1024) :=
    Fin.ext (by blk_simp [idx t])
  have e1 : (win0_12.blk t).view.emb (ix2 r n) 1 = n := Fin.ext (by blk_simp [idx t])
  rw [left12 m c t r n, zrow_at m c t ht]
  exact congrArg₂ _ e0.symm e1.symm

/-- The second result array after the run, index by index. -/
theorem final13 (c : Dev nD) : (dats m 0 c).arrAt 13 (cfgs 0).N = fun j : S1024x2048.Idx => H m c (j 0) (j 1) := by
  refine (dats m 0 c).arrAt_eq_of_covers 13 _ (by decide +kernel) fun t hf y => ?_
  have ht : t.val < 4 := by have := t.isLt; have hN : cfg0.grid.N = 4 := N_0; omega
  blk_simp
  rw [after0_13]
  revert y
  intro (y : S256x2048.Idx)
  obtain ⟨r, n, rfl⟩ : ∃ r n, y = ix2 r n := ⟨y 0, y 1, eq_ix2 y⟩
  have e0 : (win0_13.blk t).view.emb (ix2 r n) 0 = (⟨t.val * 256 + r.val, by omega⟩ : Fin 1024) :=
    Fin.ext (by blk_simp [idx t])
  have e1 : (win0_13.blk t).view.emb (ix2 r n) 1 = n := Fin.ext (by blk_simp [idx t])
  rw [mod_at m c t ht r n]
  exact congrArg₂ _ e0.symm e1.symm

end Cert.Kernel7Ideal.CtxOut

end
-- ==== Proof.CtxOut.Ref.lean ====
/- The reference of the context rows' output projection, read at an index. -/
module

public import proofs.«01_k».proof.Proof.Gen.Reference7Ideal.Run
public import proofs.«01_k».proof.Proof.OutProj.Spec

@[expose] public section

set_option maxRecDepth 16384

noncomputable section

open Idealize.ShloMosaic Idealize.ShloMosaic.TcCoe Idealize.SL.Sem

namespace Cert.Reference7Ideal.CtxOut

open Cert.Reference7Ideal Cert.Reference7Ideal.Gen Cert.Reference7Ideal.Value

/-- The two directions' sum, split into heads, normed head by head and scaled. -/
def headV (f b : FVec Ideal S1024x512 .f32) (g : FVec Ideal S1x512 .f32) : FVec Ideal S1024x4x128 .f32 :=
  mulf (mulf (shapeCast _ (addf f b) shapeCasts_S1024x512_S1024x4x128)
    (broadcastInDim S1024x4x128 ![0, 1, 2] bcast_S1024x4x1_S1024x4x128_0_1_2 (Host.rsqrt (addf (Host.divf
      (broadcastInDim S1024x4x1 ![0, 1] bcast_S1024x4_S1024x4x1_0_1 (Host.reduceAdd
        (mulf (shapeCast _ (addf f b) shapeCasts_S1024x512_S1024x4x128) (shapeCast _ (addf f b) shapeCasts_S1024x512_S1024x4x128))
        (constant S_ .f32 0x00000000#32) reducesTo_S1024x4x128_S1024x4_d2 h_S_))
      (broadcastInDim S1024x4x1 ![] bcast_S_S1024x4x1 (constant S_ .f32 0x43000000#32)))
      (broadcastInDim S1024x4x1 ![] bcast_S_S1024x4x1 (constant S_ .f32 0x358637BD#32))))))
    (broadcastInDim S1024x4x128 ![0, 1, 2] bcast_S1x4x128_S1024x4x128_0_1_2
      (broadcastInDim S1x4x128 ![1, 2] bcast_S4x128_S1x4x128_1_2 (shapeCast _ g shapeCasts_S1x512_S4x128)))

/-- The heads laid side by side and gated. -/
def gatedV (y : FVec Ideal S1024x4x128 .f32) (o : FVec Ideal S1024x512 .bf16) : FVec Ideal S1024x512 .f32 :=
  mulf (shapeCast _ y shapeCasts_S1024x4x128_S1024x512)
    (Host.divf (broadcastInDim S1024x512 ![] bcast_S_S1024x512 (constant S_ .f32 0x3F800000#32))
      (addf (broadcastInDim S1024x512 ![] bcast_S_S1024x512 (constant S_ .f32 0x3F800000#32))
        (Host.exp (Host.negf (extf .f32 o bitsLt_bf16_f32)))))

/-- The three branches side by side. -/
def joinV (a : FVec Ideal S1024x512 .bf16) (s : FVec Ideal S1024x1024 .bf16) (y : FVec Ideal S1024x512 .f32) :
    FVec Ideal S1024x2048 .f32 :=
  concatenate S1024x2048 1 [⟨S1024x512, extf .f32 a bitsLt_bf16_f32⟩, ⟨S1024x1024, extf .f32 s bitsLt_bf16_f32⟩, ⟨S1024x512, y⟩]
    concatenates_S1024x512_S1024x1024_S1024x512_S1024x2048_d1

/-- The projection. -/
def projV (y : FVec Ideal S1024x2048 .f32) (W : FVec Ideal S4x2048x2048 .bf16) : FVec Ideal S1024x2048 .f32 :=
  Host.dotGeneral dot_S1024x2048_S2048x2048_S1024x2048_1_0_0_1_n_n none y
    (extf .f32 (shapeCast _ (extractStridedSlice S1x2048x2048 ![0, 0, 0] W slices_S4x2048x2048_S1x2048x2048_0_0_0)
      shapeCasts_S1x2048x2048_S2048x2048) bitsLt_bf16_f32)

/-- The gated residual. -/
def residV (X P : FVec Ideal S1024x2048 .f32) (G : FVec Ideal S1x1x2048 .f32) : FVec Ideal S1024x2048 .f32 :=
  addf X (mulf (broadcastInDim S1024x2048 ![0, 1] bcast_S1x2048_S1024x2048_0_1 (shapeCast _ G shapeCasts_S1x1x2048_S1x2048)) P)

/-- The modulated norm of the residual. -/
def normV (Z : FVec Ideal S1024x2048 .f32) (g : FVec Ideal S1x2048 .f32) (sc sh : FVec Ideal S1x1x2048 .f32) : FVec Ideal S1024x2048 .bf16 :=
  truncf .bf16 (addf (mulf (mulf (mulf Z
    (broadcastInDim S1024x2048 ![0, 1] bcast_S1024x1_S1024x2048_0_1 (Host.rsqrt (addf (Host.divf
      (broadcastInDim S1024x1 ![0] bcast_S1024_S1024x1_0 (Host.reduceAdd (mulf Z Z)
        (constant S_ .f32 0x00000000#32) reducesTo_S1024x2048_S1024_d1 h_S_))
      (broadcastInDim S1024x1 ![] bcast_S_S1024x1 (constant S_ .f32 0x45000000#32)))
      (broadcastInDim S1024x1 ![] bcast_S_S1024x1 (constant S_ .f32 0x358637BD#32))))))
    (broadcastInDim S1024x2048 ![0, 1] bcast_S1x2048_S1024x2048_0_1
      (broadcastInDim S1x2048 ![1] bcast_S2048_S1x2048_1 (shapeCast _ g shapeCasts_S1x2048_S2048))))
    (broadcastInDim S1024x2048 ![0, 1] bcast_S1x2048_S1024x2048_0_1
      (addf (broadcastInDim S1x2048 ![] bcast_S_S1x2048 (constant S_ .f32 0x3F800000#32)) (shapeCast _ sc shapeCasts_S1x1x2048_S1x2048))))
    (broadcastInDim S1024x2048 ![0, 1] bcast_S1x2048_S1024x2048_0_1 (shapeCast _ sh shapeCasts_S1x1x2048_S1x2048))) bitsLt_bf16_f32

/-- A gated entry: the formula's. -/
theorem gatedV_at (f b : FVec Ideal S1024x512 .f32) (g : FVec Ideal S1x512 .f32) (o : FVec Ideal S1024x512 .bf16)
    (r : Fin 1024) (h : Fin 4) (e : Fin 128) :
    gatedV (headV f b g) o (ix2 r ⟨h.val * 128 + e.val, by omega⟩)
      = OutProj.gated (fun k => f (ix2 r k)) (fun k => b (ix2 r k)) (fun k => g (ix2 0 k)) (fun k => o (ix2 r k)) h e := by
  have e1 : (h.val * 128 + e.val) / 128 = h.val := by omega
  have e2 : (h.val * 128 + e.val) % 128 = e.val := by omega
  pointwise [gatedV, headV, OutProj.gated, Ideal.logistic, e1, e2]

/-- An entry of the joined row: which branch it is from. -/
theorem joinV_at (a : FVec Ideal S1024x512 .bf16) (s : FVec Ideal S1024x1024 .bf16) (y : FVec Ideal S1024x512 .f32)
    (r : Fin 1024) (k : Fin 2048) :
    joinV a s y (ix2 r k) = if h : k.val < 512 then a (ix2 r ⟨k.val, h⟩)
      else if h : k.val - 512 < 1024 then s (ix2 r ⟨k.val - 512, h⟩) else y (ix2 r ⟨k.val - 512 - 1024, by omega⟩) := by
  pointwise [joinV]

/-- An entry of the projection. -/
theorem projV_at (y : FVec Ideal S1024x2048 .f32) (W : FVec Ideal S4x2048x2048 .bf16) (r : Fin 1024) (n : Fin 2048) :
    projV y W (ix2 r n) = ∑ k, y (ix2 r k) * W (ix3 0 k n) := by
  pointwise [projV]

/-- An entry of the projection of the joined row: the formula's. -/
theorem mix_at (a : FVec Ideal S1024x512 .bf16) (s : FVec Ideal S1024x1024 .bf16) (f b : FVec Ideal S1024x512 .f32)
    (g : FVec Ideal S1x512 .f32) (o : FVec Ideal S1024x512 .bf16) (W : FVec Ideal S4x2048x2048 .bf16) (r : Fin 1024) (n : Fin 2048) :
    projV (joinV a s (gatedV (headV f b g) o)) W (ix2 r n)
      = OutProj.mixed (fun k => a (ix2 r k)) (fun k => s (ix2 r k)) (fun k => f (ix2 r k)) (fun k => b (ix2 r k))
          (fun k => g (ix2 0 k)) (fun k => o (ix2 r k)) (fun k => W (ix3 0 k n)) := by
  rw [projV_at, OutProj.sum_branches]
  unfold OutProj.mixed
  simp only [joinV_at]
  have a0 (x : ℕ) : 512 + x - 512 = x := by omega
  have b0 (x : ℕ) : 1536 + x - 512 - 1024 = x := by omega
  simp (disch := omega) only [dif_neg, dif_pos, Fin.is_lt, dite_true, a0, b0, gatedV_at]

/-- An entry of the gated residual. -/
theorem residV_at (X P : FVec Ideal S1024x2048 .f32) (G : FVec Ideal S1x1x2048 .f32) (r : Fin 1024) (n : Fin 2048) :
    residV X P G (ix2 r n) = X (ix2 r n) + G (ix3 0 0 n) * P (ix2 r n) := by
  pointwise [residV]

/-- An entry of the modulated norm. -/
theorem normV_at (Z : FVec Ideal S1024x2048 .f32) (g : FVec Ideal S1x2048 .f32) (sc sh : FVec Ideal S1x1x2048 .f32) (r : Fin 1024) (n : Fin 2048) :
    normV Z g sc sh (ix2 r n) = OutProj.modnorm (fun n => Z (ix2 r n)) (fun n => g (ix2 0 n))
      (fun n => sc (ix3 0 0 n)) (fun n => sh (ix3 0 0 n)) n := by
  pointwise [normV, OutProj.modnorm, Ffn.rms]

end Cert.Reference7Ideal.CtxOut

end
-- ==== Proof.CtxOut.Claim.lean ====
/- The claim about the context rows' output projection: both results are the reference's. -/
module

public import proofs.«01_k».proof.Defs
public import proofs.«01_k».proof.Proof.CtxOut.Final
public import proofs.«01_k».proof.Proof.CtxOut.Ref
public import Idealize.ShloMosaic.Lib.Claim

@[expose] public section

set_option maxRecDepth 16384

noncomputable section

open Idealize.ShloMosaic Idealize.ShloMosaic.TcCoe Idealize.SL.Sem

namespace Cert.Reference7Ideal.CtxOut

open Cert.Reference7Ideal Cert.Reference7Ideal.Gen Cert.Reference7Ideal.Value

/-- The reference's residual, by the formula. -/
theorem first_at (a : FVec Ideal S1024x512 .bf16) (s : FVec Ideal S1024x1024 .bf16) (f b : FVec Ideal S1024x512 .f32)
    (o : FVec Ideal S1024x512 .bf16) (g : FVec Ideal S1x512 .f32) (W : FVec Ideal S4x2048x2048 .bf16) (X : FVec Ideal S1024x2048 .f32)
    (G : FVec Ideal S1x1x2048 .f32) (r : Fin 1024) (n : Fin 2048) :
    residV X (projV (joinV a s (gatedV (headV f b g) o)) W) G (ix2 r n)
      = Cert.Kernel7Ideal.CtxOut.resid a s f b o g W X G r n := by
  rw [residV_at, mix_at]
  rfl

/-- The reference's modulated norm, by the formula. -/
theorem second_at (a : FVec Ideal S1024x512 .bf16) (s : FVec Ideal S1024x1024 .bf16) (f b : FVec Ideal S1024x512 .f32)
    (o : FVec Ideal S1024x512 .bf16) (g : FVec Ideal S1x512 .f32) (W : FVec Ideal S4x2048x2048 .bf16) (X : FVec Ideal S1024x2048 .f32)
    (G sh sc : FVec Ideal S1x1x2048 .f32) (g2 : FVec Ideal S1x2048 .f32) (r : Fin 1024) (n : Fin 2048) :
    normV (residV X (projV (joinV a s (gatedV (headV f b g) o)) W) G) g2 sc sh (ix2 r n)
      = Cert.Kernel7Ideal.CtxOut.modn (Cert.Kernel7Ideal.CtxOut.resid a s f b o g W X G) sh sc g2 r n := by
  rw [normV_at]
  simp only [first_at]
  rfl

/-- The run of the reference, its results told stage by stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = residV (m ((c.tc : Thread nD τ).loc main_arg7)) (projV (joinV (m ((c.tc : Thread nD τ).loc main_arg0)) (m ((c.tc : Thread nD τ).loc main_arg1)) (gatedV (headV (m ((c.tc : Thread nD τ).loc main_arg2)) (m ((c.tc : Thread nD τ).loc main_arg3)) (m ((c.tc : Thread nD τ).loc main_arg5))) (m ((c.tc : Thread nD τ).loc main_arg4)))) (m ((c.tc : Thread nD τ).loc main_arg6))) (m ((c.tc : Thread nD τ).loc main_arg8))
      ∧ r.2.mem ((c.tc : Thread nD τ).loc main_v58) = normV (residV (m ((c.tc : Thread nD τ).loc main_arg7)) (projV (joinV (m ((c.tc : Thread nD τ).loc main_arg0)) (m ((c.tc : Thread nD τ).loc main_arg1)) (gatedV (headV (m ((c.tc : Thread nD τ).loc main_arg2)) (m ((c.tc : Thread nD τ).loc main_arg3)) (m ((c.tc : Thread nD τ).loc main_arg5))) (m ((c.tc : Thread nD τ).loc main_arg4)))) (m ((c.tc : Thread nD τ).loc main_arg6))) (m ((c.tc : Thread nD τ).loc main_arg8))) (m ((c.tc : Thread nD τ).loc main_arg11)) (m ((c.tc : Thread nD τ).loc main_arg10)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  run m ρ

/-- The run of the reference, its results told by the formula. -/
theorem run_formula (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = (fun j : S1024x2048.Idx => (Cert.Kernel7Ideal.CtxOut.resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (j 0) (j 1))
      ∧ r.2.mem ((c.tc : Thread nD τ).loc main_v58) = (fun j : S1024x2048.Idx => Cert.Kernel7Ideal.CtxOut.modn (Cert.Kernel7Ideal.CtxOut.resid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run _ _ _).mono (fun r h c => ?_) (run_stages m ρ)
  obtain ⟨h0, h1, hr⟩ := h c
  refine ⟨h0.trans (funext fun j => ?_), h1.trans (funext fun j => ?_), hr⟩
  · obtain ⟨r, n, rfl⟩ : ∃ (r : Fin 1024) (n : Fin 2048), j = ix2 r n := ⟨j 0, j 1, eq_ix2 j⟩
    exact first_at _ _ _ _ _ _ _ _ _ r n
  · obtain ⟨r, n, rfl⟩ : ∃ (r : Fin 1024) (n : Fin 2048), j = ix2 r n := ⟨j 0, j 1, eq_ix2 j⟩
    exact second_at _ _ _ _ _ _ _ _ _ _ _ _ r n

end Cert.Reference7Ideal.CtxOut

set_option maxHeartbeats 4000000 in
/-- The context rows' output projection kernel and its reference end with the same two arrays, read over the extended reals. -/
theorem CtxOut.algebraic : Cert.algebraic_Kernel7Ideal_Reference7Ideal := by
  pair_intro
  · run_from Cert.Kernel7Ideal.Gen.run_main m g
  · refine (θ_run _ _ _).mono (fun r h c => ?_) (Cert.Reference7Ideal.CtxOut.run_formula m' g')
    obtain ⟨h0, h1, hr⟩ := h c
    obtain ⟨a0, a1, a2, a3, a4, a5, a6, a7, a8, a9, a10, a11⟩ := hagree c
    rw [a0, a1, a2, a3, a4, a5, a6, a7, a8] at h0
    rw [a0, a1, a2, a3, a4, a5, a6, a7, a8, a9, a10, a11] at h1
    exact ⟨h0.trans (Cert.Kernel7Ideal.CtxOut.final12 m c).symm, h1.trans (Cert.Kernel7Ideal.CtxOut.final13 m c).symm, hr⟩

end
-- ==== Proof.CtxIn.Spec.lean ====
/- Rows without position: the rotation is by nothing. -/
module

public import proofs.«01_k».proof.Proof.InProj.Spec

@[expose] public section

set_option maxRecDepth 16384

noncomputable section

open Idealize.ShloMosaic Idealize.ShloMosaic.TcCoe Idealize.SL.Sem

namespace CtxIn

/-- The rotation by nothing: every entry stays. -/
abbrev still : (Fin 128 → EReal) → Fin 128 → EReal := fun t => t

/-- A row against a table of ones and two of zeros is the row. -/
theorem roll3_still (c a b : Fin 128 → EReal) (hc : ∀ x, c x = 1) (ha : ∀ x, a x = 0) (hb : ∀ x, b x = 0) :
    InProj.roll3 c a b = still := by
  funext t x
  unfold InProj.roll3
  rw [hc, ha, hb, mul_one, mul_zero, mul_zero, add_zero, add_zero]

end CtxIn

end
-- ==== Proof.CtxIn.Cases.lean ====
/- What a grid point of the context rows' input projection kernel leaves in its eleven blocks. -/
module

public import proofs.«01_k».proof.Proof.Gen.Kernel8Ideal.Value
public import proofs.«01_k».proof.Proof.CtxIn.Spec
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.CtxIn

open Cert.Kernel8Ideal Cert.Kernel8Ideal.Gen

/-- The projection of a block's row. -/
def zrow (H : FVec Ideal S256x2048 .bf16) (x4 : FVec Ideal S1x2048x3712 .bf16) (r : Fin 256) (n : Fin 3712) : EReal :=
  ∑ k, H (ix2 r k) * x4 (ix3 0 k n)

/-- A row of a block's table. -/
def tab (x : FVec Ideal S256x128 .f32) (r : Fin 256) (i : Fin 128) : EReal := x (ix2 r i)

/-- The rotation by a block's three tables. -/
def rot (x9 x10 x11 : FVec Ideal S256x128 .f32) (r : Fin 256) : (Fin 128 → EReal) → Fin 128 → EReal :=
  InProj.roll3 (tab x9 r) (tab x10 r) (tab x11 r)

variable (x0 : FVec Ideal S256x2048 .f32) (x1 x2 : FVec Ideal S1x1x2048 .f32) (x3 : FVec Ideal S1x2048 .f32)
  (x4 : FVec Ideal S1x2048x3712 .bf16) (x5 : FVec Ideal S1x512 .f32) (x6 : FVec Ideal S1x512x1024 .bf16)
  (x7 : FVec Ideal S1x256 .f32) (x8 : FVec Ideal S1x256x1024 .bf16) (x9 x10 x11 : FVec Ideal S256x128 .f32)

/-- The modulated norm of a block's rows, as the kernel writes it. -/
abbrev hid : FVec Ideal S256x2048 .bf16 := k0_pay57 (F := Ideal) x0 x1 x2 x3 x4 x5 x6 x7 x8 x9 x10 x11

/-- The scaled query rows, as the kernel writes them. -/
abbrev qry : FVec Ideal S256x1024 .f32 := k0_pay63 (F := Ideal) x0 x1 x2 x3 x4 x5 x6 x7 x8 x9 x10 x11

/-- An entry of the modulated norm. -/
theorem hid_at (r : Fin 256) (k : Fin 2048) :
    hid x0 x1 x2 x3 x4 x5 x6 x7 x8 x9 x10 x11 (ix2 r k)
      = OutProj.modnorm (fun n => x0 (ix2 r n)) (fun n => x3 (ix2 0 n)) (fun n => x2 (ix3 0 0 n)) (fun n => x1 (ix3 0 0 n)) k := by
  pointwise [hid, k0_pay57, k0_pay2, OutProj.modnorm, Ffn.rms]

/-- The constant the latent attention's queries are multiplied by. -/
theorem mla_scale : Named.named (F := Ideal) κ "mla_scale" (φ := .f32) 0x3DD53B95#32 = InProj.qscale :=
  IdealRules.named_const.ideal_named_scalar _ _ _ _ rfl

/-- The constant the windowed attention's queries are multiplied by. -/
theorem swa_scale : Named.named (F := Ideal) κ "swa_scale" (φ := .f32) 0x3E38AA3B#32 = InProj.nscale :=
  IdealRules.named_const.ideal_named_scalar _ _ _ _ rfl

/-- An entry of the scaled query rows. -/
theorem qry_at (r : Fin 256) (n : Fin 1024) :
    qry x0 x1 x2 x3 x4 x5 x6 x7 x8 x9 x10 x11 (ix2 r n)
      = InProj.query (zrow (hid x0 x1 x2 x3 x4 x5 x6 x7 x8 x9 x10 x11) x4 r) (fun k => x5 (ix2 0 k)) (fun k n => x6 (ix3 0 k n)) n * InProj.qscale := by
  unfold qry hid k0_pay63
  generalize k0_pay57 (F := Ideal) x0 x1 x2 x3 x4 x5 x6 x7 x8 x9 x10 x11 = H
  pointwise [k0_pay9, InProj.query, InProj.rms, zrow, mla_scale]

/-- The lane mask "lane below 64", as a case distinction. -/
theorem lane_select (v : ℕ) (hv : v < 128) (a b : EReal) :
    Scalar.select (IntOp.cmpi .slt (BitVec.ofNat 32 v) 64#32) a b = if v < 64 then a else b := by
  have h : ∀ v : Fin 128, IntOp.cmpi .slt (BitVec.ofNat 32 (v : ℕ)) 64#32
      = if (v : ℕ) < 64 then 1#1 else 0#1 := by decide +kernel
  rw [h ⟨v, hv⟩]
  split <;> rfl

/-- The queries' block. -/
theorem left12 (r : Fin 256) (n : Fin 1024) :
    out0_12 (F := Ideal) x0 x1 x2 x3 x4 x5 x6 x7 x8 x9 x10 x11 (ix2 r n)
      = InProj.qm (rot x9 x10 x11 r) (fun n => qry x0 x1 x2 x3 x4 x5 x6 x7 x8 x9 x10 x11 (ix2 r n)) n := by
  unfold out0_12 qry
  simp only [k0_pay11, k0_pay10, k0_pay63]
  generalize k0_pay9 (F := Ideal) _ _ _ _ = Q
  canon_tiles x h
  all_goals
    have hr : r = x 0 := Fin.ext h0
    subst hr
    have hn : (n : ℕ) = _ := h1
  case piece0 =>
    rw [InProj.qm_high _ _ 3 n (x 1) (by simp only [hn]; rfl)]
    pointwise [k0_pay23, k0_pay21, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece1 =>
    rw [InProj.qm_low _ _ 3 n (x 1) (by simp only [hn]; rfl)]
    have hc : n = ⟨_, hn ▸ n.isLt⟩ := Fin.ext hn
    rw [hc]
    pointwise [k0_pay22, k0_pay21]
  case piece2 =>
    rw [InProj.qm_high _ _ 2 n (x 1) (by simp only [hn]; rfl)]
    pointwise [k0_pay20, k0_pay19, k0_pay18, k0_pay16, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece3 =>
    rw [InProj.qm_low _ _ 2 n (x 1) (by simp only [hn]; rfl)]
    have hc : n = ⟨_, hn ▸ n.isLt⟩ := Fin.ext hn
    rw [hc]
    pointwise [k0_pay17, k0_pay16]
  case piece4 =>
    rw [InProj.qm_high _ _ 1 n (x 1) (by simp only [hn]; rfl)]
    pointwise [k0_pay15, k0_pay13, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece5 =>
    rw [InProj.qm_low _ _ 1 n (x 1) (by simp only [hn]; rfl)]
    have hc : n = ⟨_, hn ▸ n.isLt⟩ := Fin.ext hn
    rw [hc]
    pointwise [k0_pay14, k0_pay13]
  case piece6 =>
    rw [InProj.qm_high _ _ 0 n (x 1) (by simp only [hn]; rfl)]
    pointwise [k0_pay12, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece7 =>
    rw [InProj.qm_low _ _ 0 n (x 1) (by simp [hn])]
    have hc : n = ⟨_, hn ▸ n.isLt⟩ := Fin.ext hn
    rw [hc]
    pointwise []

/-- The normed latents put through the key-value matrix: one row. -/
theorem kv_at (r : Fin 256) (n : Fin 1024) :
    k0_pay26 (F := Ideal) (k0_pay64 (F := Ideal) x0 x1 x2 x3 x4 x5 x6 x7 x8 x9 x10 x11) (k0_pay65 (F := Ideal) x0 x1 x2 x3 x4 x5 x6 x7 x8 x9 x10 x11) (View.ld x8 r0_18) (ix2 r n)
      = InProj.keyval (zrow (hid x0 x1 x2 x3 x4 x5 x6 x7 x8 x9 x10 x11) x4 r) (fun k => x7 (ix2 0 k)) (fun k n => x8 (ix3 0 k n)) n := by
  unfold hid
  simp only [k0_pay64, k0_pay65]
  generalize k0_pay57 (F := Ideal) x0 x1 x2 x3 x4 x5 x6 x7 x8 x9 x10 x11 = H
  pointwise [k0_pay26, k0_pay24, k0_pay25, InProj.keyval, InProj.rms, zrow]

/-- The keys' block. -/
theorem left13 (r : Fin 256) (n : Fin 1024) :
    out0_13 (F := Ideal) x0 x1 x2 x3 x4 x5 x6 x7 x8 x9 x10 x11 (ix2 r n)
      = InProj.km (rot x9 x10 x11 r) (zrow (hid x0 x1 x2 x3 x4 x5 x6 x7 x8 x9 x10 x11) x4 r)
          (InProj.keyval (zrow (hid x0 x1 x2 x3 x4 x5 x6 x7 x8 x9 x10 x11) x4 r) (fun k => x7 (ix2 0 k)) (fun k n => x8 (ix3 0 k n))) n := by
  have hkv : InProj.keyval (zrow (hid x0 x1 x2 x3 x4 x5 x6 x7 x8 x9 x10 x11) x4 r) (fun k => x7 (ix2 0 k)) (fun k n => x8 (ix3 0 k n))
      = fun n => k0_pay26 (F := Ideal) (k0_pay64 (F := Ideal) x0 x1 x2 x3 x4 x5 x6 x7 x8 x9 x10 x11) (k0_pay65 (F := Ideal) x0 x1 x2 x3 x4 x5 x6 x7 x8 x9 x10 x11)
          (View.ld x8 r0_18) (ix2 r n) := funext fun n => (kv_at x0 x1 x2 x3 x4 x5 x6 x7 x8 x9 x10 x11 r n).symm
  rw [hkv]
  unfold out0_13 hid
  simp only [k0_pay27, k0_pay28, k0_pay29, k0_pay30, k0_pay62]
  generalize k0_pay26 (F := Ideal) _ _ _ = Q
  generalize k0_pay57 (F := Ideal) x0 x1 x2 x3 x4 x5 x6 x7 x8 x9 x10 x11 = H
  canon_tiles x h
  all_goals
    have hr : r = x 0 := Fin.ext h0
    subst hr
    have hn : (n : ℕ) = _ := h1
  case piece0 =>
    rw [InProj.km_high _ _ _ 3 n (x 1) (by simp only [hn]; rfl)]
    pointwise [k0_pay8, k0_pay7, zrow, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece1 =>
    rw [InProj.km_low _ _ _ 3 n (x 1) (by simp only [hn]; rfl)]
    pointwise [truncf]
  case piece2 =>
    rw [InProj.km_high _ _ _ 2 n (x 1) (by simp only [hn]; rfl)]
    pointwise [k0_pay8, k0_pay7, zrow, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece3 =>
    rw [InProj.km_low _ _ _ 2 n (x 1) (by simp only [hn]; rfl)]
    pointwise [truncf]
  case piece4 =>
    rw [InProj.km_high _ _ _ 1 n (x 1) (by simp only [hn]; rfl)]
    pointwise [k0_pay8, k0_pay7, zrow, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece5 =>
    rw [InProj.km_low _ _ _ 1 n (x 1) (by simp only [hn]; rfl)]
    pointwise [truncf]
  case piece6 =>
    rw [InProj.km_high _ _ _ 0 n (x 1) (by simp only [hn]; rfl)]
    pointwise [k0_pay8, k0_pay7, zrow, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [lane_select _ x1_lt, e1, e2, ← Nat.add_assoc, Nat.reduceAdd]
  case piece7 =>
    rw [InProj.km_low _ _ _ 0 n (x 1) (by simp [hn])]
    pointwise [truncf]

/-- The block of the windowed attention's queries. -/
theorem left15 (r : Fin 256) (n : Fin 1024) :
    out0_15 (F := Ideal) x0 x1 x2 x3 x4 x5 x6 x7 x8 x9 x10 x11 (ix2 r n) = InProj.qs (rot x9 x10 x11 r) (zrow (hid x0 x1 x2 x3 x4 x5 x6 x7 x8 x9 x10 x11) x4 r) n := by
  unfold out0_15 hid
  simp only [k0_pay66]
  generalize k0_pay57 (F := Ideal) x0 x1 x2 x3 x4 x5 x6 x7 x8 x9 x10 x11 = H
  canon_tiles x h
  all_goals
    have hr : r = x 0 := Fin.ext h0
    subst hr
    have hn : (n : ℕ) = _ := h1
  case piece0 =>
    rw [InProj.qs_piece _ _ 7 n (x 1) (by simp only [hn]; rfl)]
    pointwise [k0_pay47, k0_pay41, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece1 =>
    rw [InProj.qs_piece _ _ 6 n (x 1) (by simp only [hn]; rfl)]
    pointwise [k0_pay46, k0_pay44, k0_pay45, k0_pay41, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece2 =>
    rw [InProj.qs_piece _ _ 5 n (x 1) (by simp only [hn]; rfl)]
    pointwise [k0_pay43, k0_pay41, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece3 =>
    rw [InProj.qs_piece _ _ 4 n (x 1) (by simp only [hn]; rfl)]
    pointwise [k0_pay42, k0_pay41, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece4 =>
    rw [InProj.qs_piece _ _ 3 n (x 1) (by simp only [hn]; rfl)]
    pointwise [k0_pay40, k0_pay37, k0_pay38, k0_pay39, k0_pay33, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece5 =>
    rw [InProj.qs_piece _ _ 2 n (x 1) (by simp only [hn]; rfl)]
    pointwise [k0_pay36, k0_pay33, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece6 =>
    rw [InProj.qs_piece _ _ 1 n (x 1) (by simp only [hn]; rfl)]
    pointwise [k0_pay35, k0_pay33, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]
  case piece7 =>
    rw [InProj.qs_piece _ _ 0 n (x 1) (by simp [hn])]
    pointwise [k0_pay34, k0_pay33, k0_pay32, zrow, k0_pay58, k0_pay59, k0_pay60, k0_pay61, k0_pay3, k0_pay4, k0_pay5, k0_pay6, rot, InProj.roll3, tab, swa_scale]
    have e1 : (x 1 : ℕ) + 128 - 112 = x 1 + 16 := by omega
    have e2 : (x 1 : ℕ) + 128 - 16 = x 1 + 112 := by omega
    simp only [e1, e2, ← Nat.add_assoc, Nat.reduceAdd]

/-- The block of the windowed attention's keys. -/
theorem left16 (r : Fin 256) (n : Fin 256) :
    out0_16 (F := Ideal) x0 x1 x2 x3 x4 x5 x6 x7 x8 x9 x10 x11 (ix2 r n) = InProj.ks (rot x9 x10 x11 r) (zrow (hid x0 x1 x2 x3 x4 x5 x6 x7 x8 x9 x10 x11) x4 r) n := by
  unfold out0_16 hid
  generalize k0_pay57 (F := Ideal) x0 x1 x2 x3 x4 x5 x6 x7 x8 x9 x10 x11 = H
  canon_tiles x h
  all_goals
    have hr : r = x 0 := Fin.ext h0
    subst hr
    have hn : (n : ℕ) = _ := h1
  case piece0 =>
    rw [InProj.ks_high _ _ n (x 1) hn]
    pointwise [k0_pay50, k0_pay51, k0_pay48, zrow, k0_pay58, k0_pay59, k0_pay60, k0_pay61, k0_pay3, k0_pay4, k0_pay5, k0_pay6, rot, InProj.roll3, tab]
    have e0 : (x 1 : ℕ) + 128 - 64 = x 1 + 64 := by omega
    have e1 : ((x 1 : ℕ) + 64) % 128 + 128 - 112 = (x 1 + 64) % 128 + 16 := by omega
    have e2 : ((x 1 : ℕ) + 64) % 128 + 128 - 16 = (x 1 + 64) % 128 + 112 := by omega
    simp only [e0, e1, e2]
  case piece1 =>
    rw [InProj.ks_low _ _ n (x 1) hn]
    pointwise [k0_pay50, k0_pay51, k0_pay48, zrow, k0_pay58, k0_pay59, k0_pay60, k0_pay61, k0_pay3, k0_pay4, k0_pay5, k0_pay6, rot, InProj.roll3, tab]
    have e1 : (x 1 : ℕ) + 128 - 112 = x 1 + 16 := by omega
    have e2 : (x 1 : ℕ) + 128 - 16 = x 1 + 112 := by omega
    simp only [e1, e2, ← Nat.add_assoc, Nat.reduceAdd]

/-- The block of the windowed attention's values. -/
theorem left17 (r : Fin 256) (n : Fin 256) :
    out0_17 (F := Ideal) x0 x1 x2 x3 x4 x5 x6 x7 x8 x9 x10 x11 (ix2 r n) = InProj.vs (zrow (hid x0 x1 x2 x3 x4 x5 x6 x7 x8 x9 x10 x11) x4 r) n := by
  unfold out0_17 hid
  simp only [k0_pay67]
  generalize k0_pay57 (F := Ideal) x0 x1 x2 x3 x4 x5 x6 x7 x8 x9 x10 x11 = H
  canon_tiles x h
  all_goals
    have hr : r = x 0 := Fin.ext h0
    subst hr
    have hn : (n : ℕ) = _ := h1
  case piece0 =>
    rw [InProj.vs_high _ n (x 1) hn]
    have e0 : (x 1 : ℕ) + 128 - 64 = x 1 + 64 := by omega
    pointwise [k0_pay52, k0_pay53, k0_pay49, zrow]
    simp only [e0]
  case piece1 =>
    rw [InProj.vs_low _ n (x 1) hn]
    pointwise [k0_pay52, k0_pay53, k0_pay49, zrow]

/-- The block of the third attention's queries: scaled. -/
theorem left18 (r : Fin 256) (n : Fin 256) :
    out0_18 (F := Ideal) x0 x1 x2 x3 x4 x5 x6 x7 x8 x9 x10 x11 (ix2 r n) = zrow (hid x0 x1 x2 x3 x4 x5 x6 x7 x8 x9 x10 x11) x4 r ⟨2048 + n, by omega⟩ * Ideal.ofBits .f32 0x3E000000#32 := by
  unfold out0_18 hid
  generalize k0_pay57 (F := Ideal) x0 x1 x2 x3 x4 x5 x6 x7 x8 x9 x10 x11 = H
  canon_tiles x h
  all_goals
    have hr : r = x 0 := Fin.ext h0
    subst hr
    have hn : (n : ℕ) = _ := h1
    have hc : n = ⟨_, hn ▸ n.isLt⟩ := Fin.ext hn
    rw [hc]
    pointwise [k0_pay54, zrow]

/-- The block of the third attention's keys. -/
theorem left19 (r : Fin 256) (n : Fin 256) :
    out0_19 (F := Ideal) x0 x1 x2 x3 x4 x5 x6 x7 x8 x9 x10 x11 (ix2 r n) = zrow (hid x0 x1 x2 x3 x4 x5 x6 x7 x8 x9 x10 x11) x4 r ⟨2304 + n, by omega⟩ := by
  unfold out0_19 hid
  generalize k0_pay57 (F := Ideal) x0 x1 x2 x3 x4 x5 x6 x7 x8 x9 x10 x11 = H
  canon_tiles x h
  all_goals
    have hr : r = x 0 := Fin.ext h0
    subst hr
    have hn : (n : ℕ) = _ := h1
    have hc : n = ⟨_, hn ▸ n.isLt⟩ := Fin.ext hn
    rw [hc]
    pointwise [k0_pay55, zrow]

/-- The block of the third attention's values. -/
theorem left20 (r : Fin 256) (n : Fin 512) :
    out0_20 (F := Ideal) x0 x1 x2 x3 x4 x5 x6 x7 x8 x9 x10 x11 (ix2 r n) = zrow (hid x0 x1 x2 x3 x4 x5 x6 x7 x8 x9 x10 x11) x4 r ⟨2560 + n, by omega⟩ := by
  unfold out0_20 hid
  generalize k0_pay57 (F := Ideal) x0 x1 x2 x3 x4 x5 x6 x7 x8 x9 x10 x11 = H
  canon_tiles x h
  all_goals
    have hr : r = x 0 := Fin.ext h0
    subst hr
    have hn : (n : ℕ) = _ := h1
    have hc : n = ⟨_, hn ▸ n.isLt⟩ := Fin.ext hn
    rw [hc]
    pointwise [k0_pay56, zrow]

/-- The block of the third attention's gates. -/
theorem left21 (r : Fin 256) (n : Fin 512) :
    out0_21 (F := Ideal) x0 x1 x2 x3 x4 x5 x6 x7 x8 x9 x10 x11 (ix2 r n) = zrow (hid x0 x1 x2 x3 x4 x5 x6 x7 x8 x9 x10 x11) x4 r ⟨3072 + n, by omega⟩ := by
  unfold out0_21 hid
  generalize k0_pay57 (F := Ideal) x0 x1 x2 x3 x4 x5 x6 x7 x8 x9 x10 x11 = H
  canon_tiles x h
  all_goals
    have hr : r = x 0 := Fin.ext h0
    subst hr
    have hn : (n : ℕ) = _ := h1
    have hc : n = ⟨_, hn ▸ n.isLt⟩ := Fin.ext hn
    rw [hc]
    pointwise [k0_pay1, zrow]

/-- The block of the last columns. -/
theorem left22 (r : Fin 256) (n : Fin 128) :
    out0_22 (F := Ideal) x0 x1 x2 x3 x4 x5 x6 x7 x8 x9 x10 x11 (ix2 r n) = zrow (hid x0 x1 x2 x3 x4 x5 x6 x7 x8 x9 x10 x11) x4 r ⟨3584 + n, by omega⟩ := by
  unfold out0_22 hid
  generalize k0_pay57 (F := Ideal) x0 x1 x2 x3 x4 x5 x6 x7 x8 x9 x10 x11 = H
  canon_tiles x h
  all_goals
    have hr : r = x 0 := Fin.ext h0
    subst hr
    have hn : (n : ℕ) = _ := h1
    have hc : n = ⟨_, hn ▸ n.isLt⟩ := Fin.ext hn
    rw [hc]
    pointwise [k0_pay7, zrow]

/-- The values' block: the last half of the key and value row. -/
theorem left14 (r : Fin 256) (n : Fin 512) :
    out0_14 (F := Ideal) x0 x1 x2 x3 x4 x5 x6 x7 x8 x9 x10 x11 (ix2 r n)
      = InProj.keyval (zrow (hid x0 x1 x2 x3 x4 x5 x6 x7 x8 x9 x10 x11) x4 r) (fun k => x7 (ix2 0 k)) (fun k n => x8 (ix3 0 k n)) ⟨512 + n, by omega⟩ := by
  rw [← kv_at x0 x1 x2 x3 x4 x5 x6 x7 x8 x9 x10 x11 r]
  unfold out0_14
  simp only [k0_pay31]
  generalize k0_pay26 (F := Ideal) _ _ _ = Q
  canon_tiles x h
  all_goals
    have hr : r = x 0 := Fin.ext h0
    subst hr
    have hn : (n : ℕ) = _ := h1
    have hc : n = ⟨_, hn ▸ n.isLt⟩ := Fin.ext hn
    rw [hc]
    pointwise [truncf]

end Cert.Kernel8Ideal.CtxIn

end
-- ==== Proof.CtxIn.Tables.lean ====
/- The tables that the context rows' input projection kernel is given: ones, and zeros. -/
module

public import proofs.«01_k».proof.Proof.CtxIn.Cases
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.CtxIn

open Cert.Kernel8Ideal Cert.Kernel8Ideal.Gen

variable (m : (ℓ : Loc nD τ sig) → Buf (Elt Ideal) ℓ)

/-- The first table, as the host writes it. -/
theorem tab0 (c : Dev nD) : V m c main_v0 = broadcastInDim S256x128 ![] bcast_S_S256x128 (constant (F := Ideal) S_ .f32 0x3F800000#32) := by
  unfold V
  simp only [hostOps0, List.flatten_cons, List.flatten_nil, List.cons_append, List.nil_append, List.append_nil]
  entry_read
  rfl

/-- The second table, as the host writes it. -/
theorem tab1 (c : Dev nD) : V m c main_v1 = broadcastInDim S256x128 ![] bcast_S_S256x128 (constant (F := Ideal) S_ .f32 0x00000000#32) := by
  unfold V
  simp only [hostOps0, List.flatten_cons, List.flatten_nil, List.cons_append, List.nil_append, List.append_nil]
  entry_read
  rfl

/-- The first table at an index. -/
theorem ones_at (c : Dev nD) (r : Fin 256) (k : Fin 128) : (V m c main_v0 : FVec Ideal S256x128 .f32) (ix2 r k) = (1 : EReal) := by
  rw [tab0]
  pointwise []

/-- The second table at an index. -/
theorem zeros_at (c : Dev nD) (r : Fin 256) (k : Fin 128) : (V m c main_v1 : FVec Ideal S256x128 .f32) (ix2 r k) = (0 : EReal) := by
  rw [tab1]
  pointwise []

end Cert.Kernel8Ideal.CtxIn

end
-- ==== Proof.CtxIn.Final.lean ====
/- The eleven result arrays of the context rows' input projection kernel. -/
module

public import proofs.«01_k».proof.Proof.CtxIn.Tables
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.CtxIn

open Cert.Kernel8Ideal Cert.Kernel8Ideal.Gen

variable (m : (ℓ : Loc nD τ sig) → Buf (Elt Ideal) ℓ)

/-- Which block each window is on at a point: the point's own rows, the vectors, layer 0 of the
    weights, the whole tables. -/
theorem idx : ∀ t : Fin cfg0.N, win0_0.index t = ![t.val, 0] ∧ win0_1.index t = ![0, 0, 0] ∧ win0_2.index t = ![0, 0, 0] ∧ win0_3.index t = ![0, 0]
    ∧ win0_4.index t = ![0, 0, 0] ∧ win0_5.index t = ![0, 0] ∧ win0_6.index t = ![0, 0, 0] ∧ win0_7.index t = ![0, 0]
    ∧ win0_8.index t = ![0, 0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![t.val, 0] ∧ win0_21.index t = ![t.val, 0] ∧ win0_22.index t = ![t.val, 0] :=
  (by decide +kernel : ∀ t : Fin grid0.N, _)

/-- Window 0 holds the point's rows. -/
theorem blk0 (c : Dev nD) (t : Fin cfg0.N) (ht : t.val < 4) (r : Fin 256) (k : Fin 2048) :
    (iblk m c 0 t : FVec Ideal S256x2048 .f32) (ix2 r k) = m ((c.tc : Thread nD τ).loc main_arg0) (ix2 ⟨t.val * 256 + r.val, by omega⟩ k) := by
  blk_point [iblk, V, idx t]

/-- Window 1 holds the whole vector. -/
theorem blk1 (c : Dev nD) (t : Fin cfg0.N) (k : Fin 2048) :
    (iblk m c 1 t : FVec Ideal S1x1x2048 .f32) (ix3 0 0 k) = m ((c.tc : Thread nD τ).loc main_arg1) (ix3 0 0 k) := by
  blk_point [iblk, V, idx t]

/-- Window 2 holds the whole vector. -/
theorem blk2 (c : Dev nD) (t : Fin cfg0.N) (k : Fin 2048) :
    (iblk m c 2 t : FVec Ideal S1x1x2048 .f32) (ix3 0 0 k) = m ((c.tc : Thread nD τ).loc main_arg2) (ix3 0 0 k) := by
  blk_point [iblk, V, idx t]

/-- Window 3 holds the whole scale. -/
theorem blk3 (c : Dev nD) (t : Fin cfg0.N) (k : Fin 2048) :
    (iblk m c 3 t : FVec Ideal S1x2048 .f32) (ix2 0 k) = m ((c.tc : Thread nD τ).loc main_arg3) (ix2 0 k) := by
  blk_point [iblk, V, idx t]

/-- Window 5 holds the whole scale. -/
theorem blk5 (c : Dev nD) (t : Fin cfg0.N) (k : Fin 512) :
    (iblk m c 5 t : FVec Ideal S1x512 .f32) (ix2 0 k) = m ((c.tc : Thread nD τ).loc main_arg5) (ix2 0 k) := by
  blk_point [iblk, V, idx t]

/-- Window 7 holds the whole scale. -/
theorem blk7 (c : Dev nD) (t : Fin cfg0.N) (k : Fin 256) :
    (iblk m c 7 t : FVec Ideal S1x256 .f32) (ix2 0 k) = m ((c.tc : Thread nD τ).loc main_arg7) (ix2 0 k) := by
  blk_point [iblk, V, idx t]

/-- Window 4 holds layer 0 of its weight. -/
theorem blk4 (c : Dev nD) (t : Fin cfg0.N) (k : Fin 2048) (n : Fin 3712) :
    (iblk m c 4 t : FVec Ideal S1x2048x3712 .bf16) (ix3 0 k n) = m ((c.tc : Thread nD τ).loc main_arg4) (ix3 0 k n) := by
  blk_point [iblk, V, idx t]

/-- Window 6 holds layer 0 of its weight. -/
theorem blk6 (c : Dev nD) (t : Fin cfg0.N) (k : Fin 512) (n : Fin 1024) :
    (iblk m c 6 t : FVec Ideal S1x512x1024 .bf16) (ix3 0 k n) = m ((c.tc : Thread nD τ).loc main_arg6) (ix3 0 k n) := by
  blk_point [iblk, V, idx t]

/-- Window 8 holds layer 0 of its weight. -/
theorem blk8 (c : Dev nD) (t : Fin cfg0.N) (k : Fin 256) (n : Fin 1024) :
    (iblk m c 8 t : FVec Ideal S1x256x1024 .bf16) (ix3 0 k n) = m ((c.tc : Thread nD τ).loc main_arg8) (ix3 0 k n) := by
  blk_point [iblk, V, idx t]

/-- Window 9 holds ones. -/
theorem blk9 (c : Dev nD) (t : Fin cfg0.N) (r : Fin 256) (k : Fin 128) :
    (iblk m c 9 t : FVec Ideal S256x128 .f32) (ix2 r k) = (1 : EReal) := by
  rw [← ones_at m c r k]
  blk_point [iblk, idx t]

/-- Window 10 holds zeros. -/
theorem blk10 (c : Dev nD) (t : Fin cfg0.N) (r : Fin 256) (k : Fin 128) :
    (iblk m c 10 t : FVec Ideal S256x128 .f32) (ix2 r k) = (0 : EReal) := by
  rw [← zeros_at m c r k]
  blk_point [iblk, idx t]

/-- Window 11 holds zeros. -/
theorem blk11 (c : Dev nD) (t : Fin cfg0.N) (r : Fin 256) (k : Fin 128) :
    (iblk m c 11 t : FVec Ideal S256x128 .f32) (ix2 r k) = (0 : EReal) := by
  rw [← zeros_at m c r k]
  blk_point [iblk, idx t]

/-- The projection of the rows' modulated norm, by the arguments' coordinates. -/
def proj (X : FVec Ideal S1024x2048 .f32) (sh sc : FVec Ideal S1x1x2048 .f32) (g : FVec Ideal S1x2048 .f32) (W : FVec Ideal S4x2048x3712 .bf16)
    (r : Fin 1024) (n : Fin 3712) : EReal :=
  ∑ k, OutProj.modnorm (fun n => X (ix2 r n)) (fun n => g (ix2 0 n)) (fun n => sc (ix3 0 0 n))
    (fun n => sh (ix3 0 0 n)) k * W (ix3 0 k n)

/-- The queries by coordinates. -/
def queries (z : Fin 1024 → Fin 3712 → EReal) (g : FVec Ideal S1x512 .f32) (W : FVec Ideal S4x512x1024 .bf16)
    (r : Fin 1024) (n : Fin 1024) : EReal :=
  InProj.qm CtxIn.still (fun n => InProj.query (z r) (fun k => g (ix2 0 k)) (fun k n => W (ix3 0 k n)) n * InProj.qscale) n

/-- The keys by coordinates. -/
def keys (z : Fin 1024 → Fin 3712 → EReal) (g : FVec Ideal S1x256 .f32) (W : FVec Ideal S4x256x1024 .bf16)
    (r : Fin 1024) (n : Fin 1024) : EReal :=
  InProj.km CtxIn.still (z r) (InProj.keyval (z r) (fun k => g (ix2 0 k)) (fun k n => W (ix3 0 k n))) n

/-- The values by coordinates. -/
def values (z : Fin 1024 → Fin 3712 → EReal) (g : FVec Ideal S1x256 .f32) (W : FVec Ideal S4x256x1024 .bf16) (r : Fin 1024) (n : Fin 512) : EReal :=
  InProj.keyval (z r) (fun k => g (ix2 0 k)) (fun k n => W (ix3 0 k n)) ⟨512 + n.val, by omega⟩

/-- The windowed attention's queries by coordinates. -/
def nearQueries (z : Fin 1024 → Fin 3712 → EReal) (r : Fin 1024) (n : Fin 1024) : EReal :=
  InProj.qs CtxIn.still (z r) n

/-- The windowed attention's keys by coordinates. -/
def nearKeys (z : Fin 1024 → Fin 3712 → EReal) (r : Fin 1024) (n : Fin 256) : EReal :=
  InProj.ks CtxIn.still (z r) n

/-- The windowed attention's values by coordinates. -/
def nearValues (z : Fin 1024 → Fin 3712 → EReal) (r : Fin 1024) (n : Fin 256) : EReal := InProj.vs (z r) n

/-- The third attention's scaled queries by coordinates. -/
def statQueries (z : Fin 1024 → Fin 3712 → EReal) (r : Fin 1024) (n : Fin 256) : EReal :=
  z r ⟨2048 + n.val, by omega⟩ * Ideal.ofBits .f32 0x3E000000#32

/-- The third attention's keys by coordinates. -/
def statKeys (z : Fin 1024 → Fin 3712 → EReal) (r : Fin 1024) (n : Fin 256) : EReal := z r ⟨2304 + n.val, by omega⟩

/-- The third attention's values by coordinates. -/
def statValues (z : Fin 1024 → Fin 3712 → EReal) (r : Fin 1024) (n : Fin 512) : EReal := z r ⟨2560 + n.val, by omega⟩

/-- The third attention's gates by coordinates. -/
def statGates (z : Fin 1024 → Fin 3712 → EReal) (r : Fin 1024) (n : Fin 512) : EReal := z r ⟨3072 + n.val, by omega⟩

/-- The last columns by coordinates. -/
def lastCols (z : Fin 1024 → Fin 3712 → EReal) (r : Fin 1024) (n : Fin 128) : EReal := z r ⟨3584 + n.val, by omega⟩

/-- The projection of the arguments that the device is given. -/
abbrev Z (c : Dev nD) := proj (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

/-- A block's projection is that of its rows. -/
theorem zrow_at (c : Dev nD) (t : Fin cfg0.N) (ht : t.val < 4) (r : Fin 256) :
    zrow (hid (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 4 t) r = Z m c ⟨t.val * 256 + r.val, by omega⟩ := by
  funext n
  unfold zrow
  unfold Z proj
  simp only [hid_at, blk0 m c t ht, blk1 m c t, blk2 m c t, blk3 m c t, blk4 m c t]

/-- A block's rotation is by nothing. -/
theorem rot_at (c : Dev nD) (t : Fin cfg0.N) (r : Fin 256) :
    rot (iblk m c 9 t) (iblk m c 10 t) (iblk m c 11 t) r = CtxIn.still :=
  CtxIn.roll3_still _ _ _ (fun k => blk9 m c t r k) (fun k => blk10 m c t r k) (fun k => blk11 m c t r k)

/-- A block's queries are those of its rows. -/
theorem point12 (c : Dev nD) (t : Fin cfg0.N) (ht : t.val < 4) (r : Fin 256) (n : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = queries (Z m c) (m ((c.tc : Thread nD τ).loc main_arg5)) (m ((c.tc : Thread nD τ).loc main_arg6)) ⟨t.val * 256 + r.val, by omega⟩ n := by
  rw [left12]
  simp only [qry_at, zrow_at m c t ht, rot_at m c t, blk5 m c t, blk6 m c t]
  rfl

/-- A block's keys are those of its rows. -/
theorem point13 (c : Dev nD) (t : Fin cfg0.N) (ht : t.val < 4) (r : Fin 256) (n : Fin 1024) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = keys (Z m c) (m ((c.tc : Thread nD τ).loc main_arg7)) (m ((c.tc : Thread nD τ).loc main_arg8)) ⟨t.val * 256 + r.val, by omega⟩ n := by
  rw [left13]
  simp only [zrow_at m c t ht, rot_at m c t, blk7 m c t, blk8 m c t]
  rfl

/-- A block's values are those of its rows. -/
theorem point14 (c : Dev nD) (t : Fin cfg0.N) (ht : t.val < 4) (r : Fin 256) (n : Fin 512) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = values (Z m c) (m ((c.tc : Thread nD τ).loc main_arg7)) (m ((c.tc : Thread nD τ).loc main_arg8)) ⟨t.val * 256 + r.val, by omega⟩ n := by
  rw [left14]
  simp only [zrow_at m c t ht, blk7 m c t, blk8 m c t]
  rfl

/-- A block's windowed attention's queries are those of its rows. -/
theorem point15 (c : Dev nD) (t : Fin cfg0.N) (ht : t.val < 4) (r : Fin 256) (n : Fin 1024) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = nearQueries (Z m c) ⟨t.val * 256 + r.val, by omega⟩ n := by
  rw [left15]
  simp only [zrow_at m c t ht, rot_at m c t]
  rfl

/-- A block's windowed attention's keys are those of its rows. -/
theorem point16 (c : Dev nD) (t : Fin cfg0.N) (ht : t.val < 4) (r : Fin 256) (n : Fin 256) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = nearKeys (Z m c) ⟨t.val * 256 + r.val, by omega⟩ n := by
  rw [left16]
  simp only [zrow_at m c t ht, rot_at m c t]
  rfl

/-- A block's windowed attention's values are those of its rows. -/
theorem point17 (c : Dev nD) (t : Fin cfg0.N) (ht : t.val < 4) (r : Fin 256) (n : Fin 256) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = nearValues (Z m c) ⟨t.val * 256 + r.val, by omega⟩ n := by
  rw [left17]
  simp only [zrow_at m c t ht]
  rfl

/-- A block's third attention's queries are those of its rows. -/
theorem point18 (c : Dev nD) (t : Fin cfg0.N) (ht : t.val < 4) (r : Fin 256) (n : Fin 256) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = statQueries (Z m c) ⟨t.val * 256 + r.val, by omega⟩ n := by
  rw [left18]
  simp only [zrow_at m c t ht]
  rfl

/-- A block's third attention's keys are those of its rows. -/
theorem point19 (c : Dev nD) (t : Fin cfg0.N) (ht : t.val < 4) (r : Fin 256) (n : Fin 256) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = statKeys (Z m c) ⟨t.val * 256 + r.val, by omega⟩ n := by
  rw [left19]
  simp only [zrow_at m c t ht]
  rfl

/-- A block's third attention's values are those of its rows. -/
theorem point20 (c : Dev nD) (t : Fin cfg0.N) (ht : t.val < 4) (r : Fin 256) (n : Fin 512) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = statValues (Z m c) ⟨t.val * 256 + r.val, by omega⟩ n := by
  rw [left20]
  simp only [zrow_at m c t ht]
  rfl

/-- A block's third attention's gates are those of its rows. -/
theorem point21 (c : Dev nD) (t : Fin cfg0.N) (ht : t.val < 4) (r : Fin 256) (n : Fin 512) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = statGates (Z m c) ⟨t.val * 256 + r.val, by omega⟩ n := by
  rw [left21]
  simp only [zrow_at m c t ht]
  rfl

/-- A block's last columns are those of its rows. -/
theorem point22 (c : Dev nD) (t : Fin cfg0.N) (ht : t.val < 4) (r : Fin 256) (n : Fin 128) :
    out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
      = lastCols (Z m c) ⟨t.val * 256 + r.val, by omega⟩ n := by
  rw [left22]
  simp only [zrow_at m c t ht]
  rfl

/-- The queries after the run, index by index. -/
theorem final12 (c : Dev nD) : (dats m 0 c).arrAt 12 (cfgs 0).N = fun j : S1024x1024.Idx => queries (Z m c) (m ((c.tc : Thread nD τ).loc main_arg5)) (m ((c.tc : Thread nD τ).loc main_arg6)) (j 0) (j 1) := by
  refine (dats m 0 c).arrAt_eq_of_covers 12 _ (by decide +kernel) fun t hf y => ?_
  have ht : t.val < 4 := by have := t.isLt; have hN : cfg0.grid.N = 4 := N_0; omega
  blk_simp
  rw [after0_12]
  revert y
  intro (y : S256x1024.Idx)
  obtain ⟨r, n, rfl⟩ : ∃ r n, y = ix2 r n := ⟨y 0, y 1, eq_ix2 y⟩
  have e0 : (win0_12.blk t).view.emb (ix2 r n) 0 = (⟨t.val * 256 + r.val, by omega⟩ : Fin 1024) :=
    Fin.ext (by blk_simp [idx t])
  have e1 : (win0_12.blk t).view.emb (ix2 r n) 1 = n := Fin.ext (by blk_simp [idx t])
  rw [point12 m c t ht r n]
  exact congrArg₂ _ e0.symm e1.symm

/-- The keys after the run, index by index. -/
theorem final13 (c : Dev nD) : (dats m 0 c).arrAt 13 (cfgs 0).N = fun j : S1024x1024.Idx => keys (Z m c) (m ((c.tc : Thread nD τ).loc main_arg7)) (m ((c.tc : Thread nD τ).loc main_arg8)) (j 0) (j 1) := by
  refine (dats m 0 c).arrAt_eq_of_covers 13 _ (by decide +kernel) fun t hf y => ?_
  have ht : t.val < 4 := by have := t.isLt; have hN : cfg0.grid.N = 4 := N_0; omega
  blk_simp
  rw [after0_13]
  revert y
  intro (y : S256x1024.Idx)
  obtain ⟨r, n, rfl⟩ : ∃ r n, y = ix2 r n := ⟨y 0, y 1, eq_ix2 y⟩
  have e0 : (win0_13.blk t).view.emb (ix2 r n) 0 = (⟨t.val * 256 + r.val, by omega⟩ : Fin 1024) :=
    Fin.ext (by blk_simp [idx t])
  have e1 : (win0_13.blk t).view.emb (ix2 r n) 1 = n := Fin.ext (by blk_simp [idx t])
  rw [point13 m c t ht r n]
  exact congrArg₂ _ e0.symm e1.symm

/-- The values after the run, index by index. -/
theorem final14 (c : Dev nD) : (dats m 0 c).arrAt 14 (cfgs 0).N = fun j : S1024x512.Idx => values (Z m c) (m ((c.tc : Thread nD τ).loc main_arg7)) (m ((c.tc : Thread nD τ).loc main_arg8)) (j 0) (j 1) := by
  refine (dats m 0 c).arrAt_eq_of_covers 14 _ (by decide +kernel) fun t hf y => ?_
  have ht : t.val < 4 := by have := t.isLt; have hN : cfg0.grid.N = 4 := N_0; omega
  blk_simp
  rw [after0_14]
  revert y
  intro (y : S256x512.Idx)
  obtain ⟨r, n, rfl⟩ : ∃ r n, y = ix2 r n := ⟨y 0, y 1, eq_ix2 y⟩
  have e0 : (win0_14.blk t).view.emb (ix2 r n) 0 = (⟨t.val * 256 + r.val, by omega⟩ : Fin 1024) :=
    Fin.ext (by blk_simp [idx t])
  have e1 : (win0_14.blk t).view.emb (ix2 r n) 1 = n := Fin.ext (by blk_simp [idx t])
  rw [point14 m c t ht r n]
  exact congrArg₂ _ e0.symm e1.symm

/-- The windowed attention's queries after the run, index by index. -/
theorem final15 (c : Dev nD) : (dats m 0 c).arrAt 15 (cfgs 0).N = fun j : S1024x1024.Idx => nearQueries (Z m c) (j 0) (j 1) := by
  refine (dats m 0 c).arrAt_eq_of_covers 15 _ (by decide +kernel) fun t hf y => ?_
  have ht : t.val < 4 := by have := t.isLt; have hN : cfg0.grid.N = 4 := N_0; omega
  blk_simp
  rw [after0_15]
  revert y
  intro (y : S256x1024.Idx)
  obtain ⟨r, n, rfl⟩ : ∃ r n, y = ix2 r n := ⟨y 0, y 1, eq_ix2 y⟩
  have e0 : (win0_15.blk t).view.emb (ix2 r n) 0 = (⟨t.val * 256 + r.val, by omega⟩ : Fin 1024) :=
    Fin.ext (by blk_simp [idx t])
  have e1 : (win0_15.blk t).view.emb (ix2 r n) 1 = n := Fin.ext (by blk_simp [idx t])
  rw [point15 m c t ht r n]
  exact congrArg₂ _ e0.symm e1.symm

/-- The windowed attention's keys after the run, index by index. -/
theorem final16 (c : Dev nD) : (dats m 0 c).arrAt 16 (cfgs 0).N = fun j : S1024x256.Idx => nearKeys (Z m c) (j 0) (j 1) := by
  refine (dats m 0 c).arrAt_eq_of_covers 16 _ (by decide +kernel) fun t hf y => ?_
  have ht : t.val < 4 := by have := t.isLt; have hN : cfg0.grid.N = 4 := N_0; omega
  blk_simp
  rw [after0_16]
  revert y
  intro (y : S256x256.Idx)
  obtain ⟨r, n, rfl⟩ : ∃ r n, y = ix2 r n := ⟨y 0, y 1, eq_ix2 y⟩
  have e0 : (win0_16.blk t).view.emb (ix2 r n) 0 = (⟨t.val * 256 + r.val, by omega⟩ : Fin 1024) :=
    Fin.ext (by blk_simp [idx t])
  have e1 : (win0_16.blk t).view.emb (ix2 r n) 1 = n := Fin.ext (by blk_simp [idx t])
  rw [point16 m c t ht r n]
  exact congrArg₂ _ e0.symm e1.symm

/-- The windowed attention's values after the run, index by index. -/
theorem final17 (c : Dev nD) : (dats m 0 c).arrAt 17 (cfgs 0).N = fun j : S1024x256.Idx => nearValues (Z m c) (j 0) (j 1) := by
  refine (dats m 0 c).arrAt_eq_of_covers 17 _ (by decide +kernel) fun t hf y => ?_
  have ht : t.val < 4 := by have := t.isLt; have hN : cfg0.grid.N = 4 := N_0; omega
  blk_simp
  rw [after0_17]
  revert y
  intro (y : S256x256.Idx)
  obtain ⟨r, n, rfl⟩ : ∃ r n, y = ix2 r n := ⟨y 0, y 1, eq_ix2 y⟩
  have e0 : (win0_17.blk t).view.emb (ix2 r n) 0 = (⟨t.val * 256 + r.val, by omega⟩ : Fin 1024) :=
    Fin.ext (by blk_simp [idx t])
  have e1 : (win0_17.blk t).view.emb (ix2 r n) 1 = n := Fin.ext (by blk_simp [idx t])
  rw [point17 m c t ht r n]
  exact congrArg₂ _ e0.symm e1.symm

/-- The third attention's queries after the run, index by index. -/
theorem final18 (c : Dev nD) : (dats m 0 c).arrAt 18 (cfgs 0).N = fun j : S1024x256.Idx => statQueries (Z m c) (j 0) (j 1) := by
  refine (dats m 0 c).arrAt_eq_of_covers 18 _ (by decide +kernel) fun t hf y => ?_
  have ht : t.val < 4 := by have := t.isLt; have hN : cfg0.grid.N = 4 := N_0; omega
  blk_simp
  rw [after0_18]
  revert y
  intro (y : S256x256.Idx)
  obtain ⟨r, n, rfl⟩ : ∃ r n, y = ix2 r n := ⟨y 0, y 1, eq_ix2 y⟩
  have e0 : (win0_18.blk t).view.emb (ix2 r n) 0 = (⟨t.val * 256 + r.val, by omega⟩ : Fin 1024) :=
    Fin.ext (by blk_simp [idx t])
  have e1 : (win0_18.blk t).view.emb (ix2 r n) 1 = n := Fin.ext (by blk_simp [idx t])
  rw [point18 m c t ht r n]
  exact congrArg₂ _ e0.symm e1.symm

/-- The third attention's keys after the run, index by index. -/
theorem final19 (c : Dev nD) : (dats m 0 c).arrAt 19 (cfgs 0).N = fun j : S1024x256.Idx => statKeys (Z m c) (j 0) (j 1) := by
  refine (dats m 0 c).arrAt_eq_of_covers 19 _ (by decide +kernel) fun t hf y => ?_
  have ht : t.val < 4 := by have := t.isLt; have hN : cfg0.grid.N = 4 := N_0; omega
  blk_simp
  rw [after0_19]
  revert y
  intro (y : S256x256.Idx)
  obtain ⟨r, n, rfl⟩ : ∃ r n, y = ix2 r n := ⟨y 0, y 1, eq_ix2 y⟩
  have e0 : (win0_19.blk t).view.emb (ix2 r n) 0 = (⟨t.val * 256 + r.val, by omega⟩ : Fin 1024) :=
    Fin.ext (by blk_simp [idx t])
  have e1 : (win0_19.blk t).view.emb (ix2 r n) 1 = n := Fin.ext (by blk_simp [idx t])
  rw [point19 m c t ht r n]
  exact congrArg₂ _ e0.symm e1.symm

/-- The third attention's values after the run, index by index. -/
theorem final20 (c : Dev nD) : (dats m 0 c).arrAt 20 (cfgs 0).N = fun j : S1024x512.Idx => statValues (Z m c) (j 0) (j 1) := by
  refine (dats m 0 c).arrAt_eq_of_covers 20 _ (by decide +kernel) fun t hf y => ?_
  have ht : t.val < 4 := by have := t.isLt; have hN : cfg0.grid.N = 4 := N_0; omega
  blk_simp
  rw [after0_20]
  revert y
  intro (y : S256x512.Idx)
  obtain ⟨r, n, rfl⟩ : ∃ r n, y = ix2 r n := ⟨y 0, y 1, eq_ix2 y⟩
  have e0 : (win0_20.blk t).view.emb (ix2 r n) 0 = (⟨t.val * 256 + r.val, by omega⟩ : Fin 1024) :=
    Fin.ext (by blk_simp [idx t])
  have e1 : (win0_20.blk t).view.emb (ix2 r n) 1 = n := Fin.ext (by blk_simp [idx t])
  rw [point20 m c t ht r n]
  exact congrArg₂ _ e0.symm e1.symm

/-- The third attention's gates after the run, index by index. -/
theorem final21 (c : Dev nD) : (dats m 0 c).arrAt 21 (cfgs 0).N = fun j : S1024x512.Idx => statGates (Z m c) (j 0) (j 1) := by
  refine (dats m 0 c).arrAt_eq_of_covers 21 _ (by decide +kernel) fun t hf y => ?_
  have ht : t.val < 4 := by have := t.isLt; have hN : cfg0.grid.N = 4 := N_0; omega
  blk_simp
  rw [after0_21]
  revert y
  intro (y : S256x512.Idx)
  obtain ⟨r, n, rfl⟩ : ∃ r n, y = ix2 r n := ⟨y 0, y 1, eq_ix2 y⟩
  have e0 : (win0_21.blk t).view.emb (ix2 r n) 0 = (⟨t.val * 256 + r.val, by omega⟩ : Fin 1024) :=
    Fin.ext (by blk_simp [idx t])
  have e1 : (win0_21.blk t).view.emb (ix2 r n) 1 = n := Fin.ext (by blk_simp [idx t])
  rw [point21 m c t ht r n]
  exact congrArg₂ _ e0.symm e1.symm

/-- The last columns after the run, index by index. -/
theorem final22 (c : Dev nD) : (dats m 0 c).arrAt 22 (cfgs 0).N = fun j : S1024x128.Idx => lastCols (Z m c) (j 0) (j 1) := by
  refine (dats m 0 c).arrAt_eq_of_covers 22 _ (by decide +kernel) fun t hf y => ?_
  have ht : t.val < 4 := by have := t.isLt; have hN : cfg0.grid.N = 4 := N_0; omega
  blk_simp
  rw [after0_22]
  revert y
  intro (y : S256x128.Idx)
  obtain ⟨r, n, rfl⟩ : ∃ r n, y = ix2 r n := ⟨y 0, y 1, eq_ix2 y⟩
  have e0 : (win0_22.blk t).view.emb (ix2 r n) 0 = (⟨t.val * 256 + r.val, by omega⟩ : Fin 1024) :=
    Fin.ext (by blk_simp [idx t])
  have e1 : (win0_22.blk t).view.emb (ix2 r n) 1 = n := Fin.ext (by blk_simp [idx t])
  rw [point22 m c t ht r n]
  exact congrArg₂ _ e0.symm e1.symm

end Cert.Kernel8Ideal.CtxIn

end
-- ==== Proof.CtxIn.Ref.lean ====
/- The reference of the context rows' input projection, read at an index. -/
module

public import proofs.«01_k».proof.Proof.Gen.Reference8Ideal.Run
public import proofs.«01_k».proof.Proof.CtxIn.Spec

@[expose] public section

set_option maxRecDepth 16384

noncomputable section

open Idealize.ShloMosaic Idealize.ShloMosaic.TcCoe Idealize.SL.Sem

namespace Cert.Reference8Ideal.CtxIn

open Cert.Reference8Ideal Cert.Reference8Ideal.Gen Cert.Reference8Ideal.Value

/-- The modulated norm of the rows. -/
def modV (Y : FVec Ideal S1024x2048 .f32) (g : FVec Ideal S1x2048 .f32) (sc sh : FVec Ideal S1x1x2048 .f32) : FVec Ideal S1024x2048 .f32 :=
  addf (mulf (mulf (mulf Y (broadcastInDim S1024x2048 ![0, 1] bcast_S1024x1_S1024x2048_0_1 (Host.rsqrt (addf (Host.divf
      (broadcastInDim S1024x1 ![0] bcast_S1024_S1024x1_0 (Host.reduceAdd (mulf Y Y)
        (constant S_ .f32 0x00000000#32) reducesTo_S1024x2048_S1024_d1 h_S_))
      (broadcastInDim S1024x1 ![] bcast_S_S1024x1 (constant S_ .f32 0x45000000#32)))
      (broadcastInDim S1024x1 ![] bcast_S_S1024x1 (constant S_ .f32 0x358637BD#32))))))
    (broadcastInDim S1024x2048 ![0, 1] bcast_S1x2048_S1024x2048_0_1
      (broadcastInDim S1x2048 ![1] bcast_S2048_S1x2048_1 (shapeCast _ g shapeCasts_S1x2048_S2048))))
    (broadcastInDim S1024x2048 ![0, 1] bcast_S1x2048_S1024x2048_0_1
      (addf (broadcastInDim S1x2048 ![] bcast_S_S1x2048 (constant S_ .f32 0x3F800000#32)) (shapeCast _ sc shapeCasts_S1x1x2048_S1x2048))))
    (broadcastInDim S1024x2048 ![0, 1] bcast_S1x2048_S1024x2048_0_1 (shapeCast _ sh shapeCasts_S1x1x2048_S1x2048))

/-- The projection. -/
def projV (H : FVec Ideal S1024x2048 .f32) (W : FVec Ideal S4x2048x3712 .bf16) : FVec Ideal S1024x3712 .f32 :=
  Host.dotGeneral dot_S1024x2048_S2048x3712_S1024x3712_1_0_0_1_n_n none H
    (extf .f32 (shapeCast _ (extractStridedSlice S1x2048x3712 ![0, 0, 0] W slices_S4x2048x3712_S1x2048x3712_0_0_0)
      shapeCasts_S1x2048x3712_S2048x3712) bitsLt_bf16_f32)

/-- The columns of the projection that hold the query latents, and those that hold the key and value latents. -/
def latQ (Z : FVec Ideal S1024x3712 .f32) : FVec Ideal S1024x512 .f32 :=
  extractStridedSlice S1024x512 ![0, 0] Z slices_S1024x3712_S1024x512_0_0

@[inherit_doc latQ] def latK (Z : FVec Ideal S1024x3712 .f32) : FVec Ideal S1024x256 .f32 :=
  extractStridedSlice S1024x256 ![0, 512] Z slices_S1024x3712_S1024x256_0_512

/-- The query row of normed latents `Y`, by heads. -/
def queryV (Y : FVec Ideal S1024x512 .f32) (g : FVec Ideal S1x512 .f32) (W : FVec Ideal S4x512x1024 .bf16) : FVec Ideal S1024x4x256 .f32 :=
  shapeCast _ (Host.dotGeneral dot_S1024x512_S512x1024_S1024x1024_1_0_0_1_n_n none (mulf (mulf Y (broadcastInDim S1024x512 ![0, 1] bcast_S1024x1_S1024x512_0_1 (Host.rsqrt (addf (Host.divf
      (broadcastInDim S1024x1 ![0] bcast_S1024_S1024x1_0 (Host.reduceAdd (mulf Y Y)
        (constant S_ .f32 0x00000000#32) reducesTo_S1024x512_S1024_d1 h_S_))
      (broadcastInDim S1024x1 ![] bcast_S_S1024x1 (constant S_ .f32 0x44000000#32)))
      (broadcastInDim S1024x1 ![] bcast_S_S1024x1 (constant S_ .f32 0x358637BD#32))))))
    (broadcastInDim S1024x512 ![0, 1] bcast_S1x512_S1024x512_0_1
      (broadcastInDim S1x512 ![1] bcast_S512_S1x512_1 (shapeCast _ g shapeCasts_S1x512_S512))))
    (extf .f32 (shapeCast _ (extractStridedSlice S1x512x1024 ![0, 0, 0] W slices_S4x512x1024_S1x512x1024_0_0_0)
      shapeCasts_S1x512x1024_S512x1024) bitsLt_bf16_f32)) shapeCasts_S1024x1024_S1024x4x256

/-- The key and value row of normed latents `Y`. -/
def keyvalV (Y : FVec Ideal S1024x256 .f32) (g : FVec Ideal S1x256 .f32) (W : FVec Ideal S4x256x1024 .bf16) : FVec Ideal S1024x1024 .f32 :=
  Host.dotGeneral dot_S1024x256_S256x1024_S1024x1024_1_0_0_1_n_n none (mulf (mulf Y (broadcastInDim S1024x256 ![0, 1] bcast_S1024x1_S1024x256_0_1 (Host.rsqrt (addf (Host.divf
      (broadcastInDim S1024x1 ![0] bcast_S1024_S1024x1_0 (Host.reduceAdd (mulf Y Y)
        (constant S_ .f32 0x00000000#32) reducesTo_S1024x256_S1024_d1 h_S_))
      (broadcastInDim S1024x1 ![] bcast_S_S1024x1 (constant S_ .f32 0x43800000#32)))
      (broadcastInDim S1024x1 ![] bcast_S_S1024x1 (constant S_ .f32 0x358637BD#32))))))
    (broadcastInDim S1024x256 ![0, 1] bcast_S1x256_S1024x256_0_1
      (broadcastInDim S1x256 ![1] bcast_S256_S1x256_1 (shapeCast _ g shapeCasts_S1x256_S256))))
    (extf .f32 (shapeCast _ (extractStridedSlice S1x256x1024 ![0, 0, 0] W slices_S4x256x1024_S1x256x1024_0_0_0)
      shapeCasts_S1x256x1024_S256x1024) bitsLt_bf16_f32)

/-- 64 zeros per head. -/
def padV : FVec Ideal S1024x4x64 .f32 := broadcastInDim S1024x4x64 ![] bcast_S_S1024x4x64 (constant S_ .f32 0x00000000#32)

/-- Result 0: the scaled queries: 192 entries of each head, and zeros. -/
def res0 (Q : FVec Ideal S1024x4x256 .f32) : FVec Ideal S1024x1024 .bf16 :=
  truncf .bf16 (shapeCast _ (Host.divf (concatenate S1024x4x256 2
    [⟨S1024x4x192, extractStridedSlice S1024x4x192 ![0, 0, 0] Q slices_S1024x4x256_S1024x4x192_0_0_0⟩, ⟨S1024x4x64, padV⟩]
    concatenates_S1024x4x192_S1024x4x64_S1024x4x256_d2)
    (broadcastInDim S1024x4x256 ![] bcast_S_S1024x4x256 (mulf (Host.sqrt (constant S_ .f32 0x43400000#32)) (Host.log (constant S_ .f32 0x40000000#32)))))
    shapeCasts_S1024x4x256_S1024x1024) bitsLt_bf16_f32

/-- Result 1: the keys: 128 entries of each head, 64 that the heads share, and zeros. -/
def res1 (K : FVec Ideal S1024x1024 .f32) (Z : FVec Ideal S1024x3712 .f32) : FVec Ideal S1024x1024 .bf16 :=
  truncf .bf16 (shapeCast _ (concatenate S1024x4x256 2
    [⟨S1024x4x128, shapeCast _ (extractStridedSlice S1024x512 ![0, 0] K slices_S1024x1024_S1024x512_0_0) shapeCasts_S1024x512_S1024x4x128⟩,
      ⟨S1024x4x64, broadcastInDim S1024x4x64 ![0, 1, 2] bcast_S1024x1x64_S1024x4x64_0_1_2
        (broadcastInDim S1024x1x64 ![0, 2] bcast_S1024x64_S1024x1x64_0_2 (extractStridedSlice S1024x64 ![0, 0]
          (extractStridedSlice S1024x128 ![0, 3584] Z slices_S1024x3712_S1024x128_0_3584) slices_S1024x128_S1024x64_0_0))⟩,
      ⟨S1024x4x64, padV⟩]
    concatenates_S1024x4x128_S1024x4x64_S1024x4x64_S1024x4x256_d2) shapeCasts_S1024x4x256_S1024x1024) bitsLt_bf16_f32

/-- Result 2: the values. -/
def res2 (K : FVec Ideal S1024x1024 .f32) : FVec Ideal S1024x512 .bf16 :=
  truncf .bf16 (extractStridedSlice S1024x512 ![0, 512] K slices_S1024x1024_S1024x512_0_512) bitsLt_bf16_f32

/-- Result 3: the windowed attention's queries, scaled. -/
def res3 (Z : FVec Ideal S1024x3712 .f32) : FVec Ideal S1024x1024 .bf16 :=
  truncf .bf16 (Host.divf (extractStridedSlice S1024x1024 ![0, 768] Z slices_S1024x3712_S1024x1024_0_768)
    (broadcastInDim S1024x1024 ![] bcast_S_S1024x1024
      (mulf (Host.sqrt (constant S_ .f32 0x42800000#32)) (Host.log (constant S_ .f32 0x40000000#32))))) bitsLt_bf16_f32

/-- The columns of the windowed attention's keys, and those of its values. -/
def winK (Z : FVec Ideal S1024x3712 .f32) : FVec Ideal S1024x128 .f32 :=
  extractStridedSlice S1024x128 ![0, 1792] Z slices_S1024x3712_S1024x128_0_1792

@[inherit_doc winK] def winV (Z : FVec Ideal S1024x3712 .f32) : FVec Ideal S1024x128 .f32 :=
  extractStridedSlice S1024x128 ![0, 1920] Z slices_S1024x3712_S1024x128_0_1920

/-- Results 4 and 5: two heads, and after them the two in the other order. -/
def res4 (P : FVec Ideal S1024x128 .f32) : FVec Ideal S1024x256 .bf16 :=
  truncf .bf16 (concatenate S1024x256 1 [⟨S1024x128, P⟩, ⟨S1024x128, shapeCast _ (Host.reverse [1]
    (shapeCast _ P shapeCasts_S1024x128_S1024x2x64)) shapeCasts_S1024x2x64_S1024x128⟩]
    concatenates_S1024x128_S1024x128_S1024x256_d1) bitsLt_bf16_f32

/-- Result 6: the third attention's queries, scaled. -/
def res6 (Z : FVec Ideal S1024x3712 .f32) : FVec Ideal S1024x256 .bf16 :=
  truncf .bf16 (mulf (extractStridedSlice S1024x256 ![0, 2048] Z slices_S1024x3712_S1024x256_0_2048)
    (broadcastInDim S1024x256 ![] bcast_S_S1024x256 (constant S_ .f32 0x3E000000#32))) bitsLt_bf16_f32

/-- Result 7: its keys. -/
def res7 (Z : FVec Ideal S1024x3712 .f32) : FVec Ideal S1024x256 .bf16 :=
  truncf .bf16 (extractStridedSlice S1024x256 ![0, 2304] Z slices_S1024x3712_S1024x256_0_2304) bitsLt_bf16_f32

/-- Result 8: its values. -/
def res8 (Z : FVec Ideal S1024x3712 .f32) : FVec Ideal S1024x512 .bf16 :=
  truncf .bf16 (extractStridedSlice S1024x512 ![0, 2560] Z slices_S1024x3712_S1024x512_0_2560) bitsLt_bf16_f32

/-- Result 9: its gates. -/
def res9 (Z : FVec Ideal S1024x3712 .f32) : FVec Ideal S1024x512 .bf16 :=
  truncf .bf16 (extractStridedSlice S1024x512 ![0, 3072] Z slices_S1024x3712_S1024x512_0_3072) bitsLt_bf16_f32

/-- Result 10: the last columns. -/
def res10 (Z : FVec Ideal S1024x3712 .f32) : FVec Ideal S1024x128 .f32 :=
  extractStridedSlice S1024x128 ![0, 3584] Z slices_S1024x3712_S1024x128_0_3584

/-- An entry of the projection: the modulated norm of the row against the weight's column. -/
theorem proj_at (X : FVec Ideal S1024x2048 .f32) (g : FVec Ideal S1x2048 .f32) (sc sh : FVec Ideal S1x1x2048 .f32)
    (W : FVec Ideal S4x2048x3712 .bf16) (r : Fin 1024) (n : Fin 3712) :
    projV (modV X g sc sh) W (ix2 r n)
      = ∑ k, OutProj.modnorm (fun n => X (ix2 r n)) (fun n => g (ix2 0 n)) (fun n => sc (ix3 0 0 n))
          (fun n => sh (ix3 0 0 n)) k * W (ix3 0 k n) := by
  pointwise [projV, modV, OutProj.modnorm, Ffn.rms]

/-- An entry of the query heads. -/
theorem queryV_at (Z : FVec Ideal S1024x3712 .f32) (g : FVec Ideal S1x512 .f32) (W : FVec Ideal S4x512x1024 .bf16)
    (r : Fin 1024) (h : Fin 4) (e : Fin 256) :
    queryV (latQ Z) g W (ix3 r h e)
      = InProj.query (fun n => Z (ix2 r n)) (fun k => g (ix2 0 k)) (fun k n => W (ix3 0 k n)) ⟨h.val * 256 + e.val, by omega⟩ := by
  pointwise [queryV, latQ, InProj.query, InProj.rms]

/-- An entry of the key and value row. -/
theorem keyvalV_at (Z : FVec Ideal S1024x3712 .f32) (g : FVec Ideal S1x256 .f32) (W : FVec Ideal S4x256x1024 .bf16)
    (r : Fin 1024) (n : Fin 1024) :
    keyvalV (latK Z) g W (ix2 r n)
      = InProj.keyval (fun n => Z (ix2 r n)) (fun k => g (ix2 0 k)) (fun k n => W (ix3 0 k n)) n := by
  pointwise [keyvalV, latK, InProj.keyval, InProj.rms]

/-- What the latent attention's queries are divided by. -/
theorem latent_div (x : EReal) :
    Ideal.div x (Ideal.sqrt (Ideal.ofBits .f32 0x43400000#32) * Ideal.log (Ideal.ofBits .f32 0x40000000#32)) = x * InProj.qscale := by
  have h1 : Ideal.ofBits .f32 0x43400000#32 = ((192 : ℝ) : EReal) := by
    simp [Ideal.ofBits, Ideal.ieee]; rw [← EReal.coe_mul, EReal.coe_eq_coe_iff]; norm_num
  have h2 : Ideal.ofBits .f32 0x40000000#32 = ((2 : ℝ) : EReal) := by
    simp [Ideal.ofBits, Ideal.ieee]; rw [← EReal.coe_mul, EReal.coe_eq_coe_iff]; norm_num
  rw [h1, h2, InProj.div_scale (by norm_num)]

/-- What the windowed attention's queries are divided by. -/
theorem near_div (x : EReal) :
    Ideal.div x (Ideal.sqrt (Ideal.ofBits .f32 0x42800000#32) * Ideal.log (Ideal.ofBits .f32 0x40000000#32)) = x * InProj.nscale := by
  have h1 : Ideal.ofBits .f32 0x42800000#32 = ((64 : ℝ) : EReal) := by
    simp [Ideal.ofBits, Ideal.ieee]; rw [← EReal.coe_mul, EReal.coe_eq_coe_iff]; norm_num
  have h2 : Ideal.ofBits .f32 0x40000000#32 = ((2 : ℝ) : EReal) := by
    simp [Ideal.ofBits, Ideal.ieee]; rw [← EReal.coe_mul, EReal.coe_eq_coe_iff]; norm_num
  rw [h1, h2, InProj.div_scale (by norm_num)]

/-- Result 0 at an index. -/
theorem res0_at (Q : FVec Ideal S1024x4x256 .f32) (r : Fin 1024) (n : Fin 1024) :
    res0 Q (ix2 r n) = (if h : n.val % 256 < 192 then Q (ix3 r ⟨n.val / 256, by omega⟩ ⟨n.val % 256, by omega⟩) else 0) * InProj.qscale := by
  rw [← latent_div]
  pointwise [res0, padV]

/-- Result 1 at an index. -/
theorem res1_at (K : FVec Ideal S1024x1024 .f32) (Z : FVec Ideal S1024x3712 .f32) (r : Fin 1024) (n : Fin 1024) :
    res1 K Z (ix2 r n) = if h : n.val % 256 < 128 then K (ix2 r ⟨n.val / 256 * 128 + n.val % 256, by omega⟩)
      else if h : n.val % 256 - 128 < 64 then Z (ix2 r ⟨3584 + (n.val % 256 - 128), by omega⟩)
      else 0 := by
  pointwise [res1, padV]

/-- Result 2 at an index. -/
theorem res2_at (K : FVec Ideal S1024x1024 .f32) (r : Fin 1024) (n : Fin 512) :
    res2 K (ix2 r n) = K (ix2 r ⟨512 + n.val, by omega⟩) := by
  pointwise [res2]

/-- Result 3 at an index. -/
theorem res3_at (Z : FVec Ideal S1024x3712 .f32) (r : Fin 1024) (n : Fin 1024) :
    res3 Z (ix2 r n) = Z (ix2 r ⟨768 + n.val, by omega⟩) * InProj.nscale := by
  rw [← near_div]
  pointwise [res3]

/-- Results 4 and 5 at an index. -/
theorem res4_at (P : FVec Ideal S1024x128 .f32) (r : Fin 1024) (n : Fin 256) :
    res4 P (ix2 r n) = P (ix2 r (InProj.pair n)) := by
  pointwise [res4]
  have hp : ∀ n : Fin 256, (n.val < 128 → (InProj.pair n).val = n.val)
      ∧ (¬n.val < 128 → (InProj.pair n).val = (2 - ((n.val - 128) / 64 + 1)) * 64 + (n.val - 128) % 64) := by decide +kernel
  by_cases h : n.val < 128
  · have e : InProj.pair n = ⟨n.val, h⟩ := Fin.ext ((hp n).1 h)
    simp only [h, dite_true, e]
  · have e : InProj.pair n = ⟨(2 - ((n.val - 128) / 64 + 1)) * 64 + (n.val - 128) % 64, by omega⟩ := Fin.ext ((hp n).2 h)
    simp [h, Fin.rev, e]

/-- Results 6 to 10 at an index. -/
theorem res6_at (Z : FVec Ideal S1024x3712 .f32) (r : Fin 1024) (n : Fin 256) :
    res6 Z (ix2 r n) = Z (ix2 r ⟨2048 + n.val, by omega⟩) * Ideal.ofBits .f32 0x3E000000#32 := by
  pointwise [res6]

@[inherit_doc res6_at] theorem res7_at (Z : FVec Ideal S1024x3712 .f32) (r : Fin 1024) (n : Fin 256) :
    res7 Z (ix2 r n) = Z (ix2 r ⟨2304 + n.val, by omega⟩) := by
  pointwise [res7]

@[inherit_doc res6_at] theorem res8_at (Z : FVec Ideal S1024x3712 .f32) (r : Fin 1024) (n : Fin 512) :
    res8 Z (ix2 r n) = Z (ix2 r ⟨2560 + n.val, by omega⟩) := by
  pointwise [res8]

@[inherit_doc res6_at] theorem res9_at (Z : FVec Ideal S1024x3712 .f32) (r : Fin 1024) (n : Fin 512) :
    res9 Z (ix2 r n) = Z (ix2 r ⟨3072 + n.val, by omega⟩) := by
  pointwise [res9]

@[inherit_doc res6_at] theorem res10_at (Z : FVec Ideal S1024x3712 .f32) (r : Fin 1024) (n : Fin 128) :
    res10 Z (ix2 r n) = Z (ix2 r ⟨3584 + n.val, by omega⟩) := by
  pointwise [res10]

/-- The windowed attention's columns at an index. -/
theorem winK_at (Z : FVec Ideal S1024x3712 .f32) (r : Fin 1024) (n : Fin 128) :
    winK Z (ix2 r n) = Z (ix2 r ⟨1792 + n.val, by omega⟩) := by
  pointwise [winK]

@[inherit_doc winK_at] theorem winV_at (Z : FVec Ideal S1024x3712 .f32) (r : Fin 1024) (n : Fin 128) :
    winV Z (ix2 r n) = Z (ix2 r ⟨1920 + n.val, by omega⟩) := by
  pointwise [winV]

/-- The row of the projection. -/
abbrev zr (Z : FVec Ideal S1024x3712 .f32) (r : Fin 1024) (n : Fin 3712) : EReal := Z (ix2 r n)

/-- The queries, by the formula. -/
theorem first_at (Z : FVec Ideal S1024x3712 .f32) (g : FVec Ideal S1x512 .f32) (W : FVec Ideal S4x512x1024 .bf16)
    (r : Fin 1024) (n : Fin 1024) :
    res0 (queryV (latQ Z) g W) (ix2 r n)
      = InProj.qm CtxIn.still (fun n => InProj.query (zr Z r) (fun k => g (ix2 0 k)) (fun k n => W (ix3 0 k n)) n * InProj.qscale) n := by
  rw [res0_at]
  unfold InProj.qm
  split_ifs with h1 h2 h3
  · rw [queryV_at]
    congr 2
    apply Fin.ext
    simp only []
    omega
  · rw [queryV_at]
    congr 2
    apply Fin.ext
    simp only []
    omega
  · omega
  · rw [zero_mul]

/-- The keys, by the formula. -/
theorem second_at (Z : FVec Ideal S1024x3712 .f32) (g : FVec Ideal S1x256 .f32) (W : FVec Ideal S4x256x1024 .bf16)
    (r : Fin 1024) (n : Fin 1024) :
    res1 (keyvalV (latK Z) g W) Z (ix2 r n)
      = InProj.km CtxIn.still (zr Z r) (InProj.keyval (zr Z r) (fun k => g (ix2 0 k)) (fun k n => W (ix3 0 k n))) n := by
  rw [res1_at]
  unfold InProj.km
  split_ifs with h1 h2 h3 h4
  · rw [keyvalV_at]
  · have e : n.val % 256 % 128 = n.val % 256 - 128 := by omega
    simp only [e]
  · omega
  · omega
  · rfl

/-- The values, by the formula. -/
theorem third_at (Z : FVec Ideal S1024x3712 .f32) (g : FVec Ideal S1x256 .f32) (W : FVec Ideal S4x256x1024 .bf16)
    (r : Fin 1024) (n : Fin 512) :
    res2 (keyvalV (latK Z) g W) (ix2 r n)
      = InProj.keyval (zr Z r) (fun k => g (ix2 0 k)) (fun k n => W (ix3 0 k n)) ⟨512 + n.val, by omega⟩ := by
  rw [res2_at, keyvalV_at]

/-- The windowed attention's queries, by the formula. -/
theorem fourth_at (Z : FVec Ideal S1024x3712 .f32) (r : Fin 1024) (n : Fin 1024) :
    res3 Z (ix2 r n) = InProj.qs CtxIn.still (zr Z r) n := by
  rw [res3_at]
  have e : n.val / 128 * 128 + n.val % 128 = n.val := by omega
  unfold InProj.qs CtxIn.still
  simp only [e]

/-- The windowed attention's keys, by the formula. -/
theorem fifth_at (Z : FVec Ideal S1024x3712 .f32) (r : Fin 1024) (n : Fin 256) :
    res4 (winK Z) (ix2 r n) = InProj.ks CtxIn.still (zr Z r) n := by
  rw [res4_at, winK_at]
  rfl

/-- The windowed attention's values, by the formula. -/
theorem sixth_at (Z : FVec Ideal S1024x3712 .f32) (r : Fin 1024) (n : Fin 256) :
    res4 (winV Z) (ix2 r n) = InProj.vs (zr Z r) n := by
  rw [res4_at, winV_at]
  rfl

end Cert.Reference8Ideal.CtxIn

end
-- ==== Proof.CtxIn.Claim.lean ====
/- The claim about the context rows' input projection: all eleven results are the reference's. -/
module

public import proofs.«01_k».proof.Defs
public import proofs.«01_k».proof.Proof.CtxIn.Final
public import proofs.«01_k».proof.Proof.CtxIn.Ref
public import Idealize.ShloMosaic.Lib.Claim

@[expose] public section

set_option maxRecDepth 16384

noncomputable section

open Idealize.ShloMosaic Idealize.ShloMosaic.TcCoe Idealize.SL.Sem

namespace Cert.Reference8Ideal.CtxIn

open Cert.Reference8Ideal Cert.Reference8Ideal.Gen Cert.Reference8Ideal.Value

/-- The projection's row in the reference, by the formula. -/
theorem zr_eq (X : FVec Ideal S1024x2048 .f32) (sh sc : FVec Ideal S1x1x2048 .f32) (g : FVec Ideal S1x2048 .f32)
    (W : FVec Ideal S4x2048x3712 .bf16) (r : Fin 1024) :
    zr (projV (modV X g sc sh) W) r = Cert.Kernel8Ideal.CtxIn.proj X sh sc g W r :=
  funext fun n => proj_at X g sc sh W r n

/-- The run of the reference, its results told stage by stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v105) = res0 (queryV (latQ (projV (modV (m ((c.tc : Thread nD τ).loc main_arg0)) (m ((c.tc : Thread nD τ).loc main_arg3)) (m ((c.tc : Thread nD τ).loc main_arg2)) (m ((c.tc : Thread nD τ).loc main_arg1))) (m ((c.tc : Thread nD τ).loc main_arg4)))) (m ((c.tc : Thread nD τ).loc main_arg5)) (m ((c.tc : Thread nD τ).loc main_arg6)))
      ∧ r.2.mem ((c.tc : Thread nD τ).loc main_v106) = res1 (keyvalV (latK (projV (modV (m ((c.tc : Thread nD τ).loc main_arg0)) (m ((c.tc : Thread nD τ).loc main_arg3)) (m ((c.tc : Thread nD τ).loc main_arg2)) (m ((c.tc : Thread nD τ).loc main_arg1))) (m ((c.tc : Thread nD τ).loc main_arg4)))) (m ((c.tc : Thread nD τ).loc main_arg7)) (m ((c.tc : Thread nD τ).loc main_arg8))) (projV (modV (m ((c.tc : Thread nD τ).loc main_arg0)) (m ((c.tc : Thread nD τ).loc main_arg3)) (m ((c.tc : Thread nD τ).loc main_arg2)) (m ((c.tc : Thread nD τ).loc main_arg1))) (m ((c.tc : Thread nD τ).loc main_arg4)))
      ∧ r.2.mem ((c.tc : Thread nD τ).loc main_v107) = res2 (keyvalV (latK (projV (modV (m ((c.tc : Thread nD τ).loc main_arg0)) (m ((c.tc : Thread nD τ).loc main_arg3)) (m ((c.tc : Thread nD τ).loc main_arg2)) (m ((c.tc : Thread nD τ).loc main_arg1))) (m ((c.tc : Thread nD τ).loc main_arg4)))) (m ((c.tc : Thread nD τ).loc main_arg7)) (m ((c.tc : Thread nD τ).loc main_arg8)))
      ∧ r.2.mem ((c.tc : Thread nD τ).loc main_v108) = res3 (projV (modV (m ((c.tc : Thread nD τ).loc main_arg0)) (m ((c.tc : Thread nD τ).loc main_arg3)) (m ((c.tc : Thread nD τ).loc main_arg2)) (m ((c.tc : Thread nD τ).loc main_arg1))) (m ((c.tc : Thread nD τ).loc main_arg4)))
      ∧ r.2.mem ((c.tc : Thread nD τ).loc main_v109) = res4 (winK (projV (modV (m ((c.tc : Thread nD τ).loc main_arg0)) (m ((c.tc : Thread nD τ).loc main_arg3)) (m ((c.tc : Thread nD τ).loc main_arg2)) (m ((c.tc : Thread nD τ).loc main_arg1))) (m ((c.tc : Thread nD τ).loc main_arg4))))
      ∧ r.2.mem ((c.tc : Thread nD τ).loc main_v110) = res4 (winV (projV (modV (m ((c.tc : Thread nD τ).loc main_arg0)) (m ((c.tc : Thread nD τ).loc main_arg3)) (m ((c.tc : Thread nD τ).loc main_arg2)) (m ((c.tc : Thread nD τ).loc main_arg1))) (m ((c.tc : Thread nD τ).loc main_arg4))))
      ∧ r.2.mem ((c.tc : Thread nD τ).loc main_v111) = res6 (projV (modV (m ((c.tc : Thread nD τ).loc main_arg0)) (m ((c.tc : Thread nD τ).loc main_arg3)) (m ((c.tc : Thread nD τ).loc main_arg2)) (m ((c.tc : Thread nD τ).loc main_arg1))) (m ((c.tc : Thread nD τ).loc main_arg4)))
      ∧ r.2.mem ((c.tc : Thread nD τ).loc main_v112) = res7 (projV (modV (m ((c.tc : Thread nD τ).loc main_arg0)) (m ((c.tc : Thread nD τ).loc main_arg3)) (m ((c.tc : Thread nD τ).loc main_arg2)) (m ((c.tc : Thread nD τ).loc main_arg1))) (m ((c.tc : Thread nD τ).loc main_arg4)))
      ∧ r.2.mem ((c.tc : Thread nD τ).loc main_v113) = res8 (projV (modV (m ((c.tc : Thread nD τ).loc main_arg0)) (m ((c.tc : Thread nD τ).loc main_arg3)) (m ((c.tc : Thread nD τ).loc main_arg2)) (m ((c.tc : Thread nD τ).loc main_arg1))) (m ((c.tc : Thread nD τ).loc main_arg4)))
      ∧ r.2.mem ((c.tc : Thread nD τ).loc main_v114) = res9 (projV (modV (m ((c.tc : Thread nD τ).loc main_arg0)) (m ((c.tc : Thread nD τ).loc main_arg3)) (m ((c.tc : Thread nD τ).loc main_arg2)) (m ((c.tc : Thread nD τ).loc main_arg1))) (m ((c.tc : Thread nD τ).loc main_arg4)))
      ∧ r.2.mem ((c.tc : Thread nD τ).loc main_v35) = res10 (projV (modV (m ((c.tc : Thread nD τ).loc main_arg0)) (m ((c.tc : Thread nD τ).loc main_arg3)) (m ((c.tc : Thread nD τ).loc main_arg2)) (m ((c.tc : Thread nD τ).loc main_arg1))) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  run m ρ

/-- The run of the reference, its results told by the formula. -/
theorem run_formula (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v105) = (fun j : S1024x1024.Idx => Cert.Kernel8Ideal.CtxIn.queries (Cert.Kernel8Ideal.CtxIn.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) (j 0) (j 1))
      ∧ r.2.mem ((c.tc : Thread nD τ).loc main_v106) = (fun j : S1024x1024.Idx => Cert.Kernel8Ideal.CtxIn.keys (Cert.Kernel8Ideal.CtxIn.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg7)) (m ((c.tc : Thread nD τ).loc main_arg8)) (j 0) (j 1))
      ∧ r.2.mem ((c.tc : Thread nD τ).loc main_v107) = (fun j : S1024x512.Idx => Cert.Kernel8Ideal.CtxIn.values (Cert.Kernel8Ideal.CtxIn.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg7)) (m ((c.tc : Thread nD τ).loc main_arg8)) (j 0) (j 1))
      ∧ r.2.mem ((c.tc : Thread nD τ).loc main_v108) = (fun j : S1024x1024.Idx => Cert.Kernel8Ideal.CtxIn.nearQueries (Cert.Kernel8Ideal.CtxIn.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_v109) = (fun j : S1024x256.Idx => Cert.Kernel8Ideal.CtxIn.nearKeys (Cert.Kernel8Ideal.CtxIn.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_v110) = (fun j : S1024x256.Idx => Cert.Kernel8Ideal.CtxIn.nearValues (Cert.Kernel8Ideal.CtxIn.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_v111) = (fun j : S1024x256.Idx => Cert.Kernel8Ideal.CtxIn.statQueries (Cert.Kernel8Ideal.CtxIn.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_v112) = (fun j : S1024x256.Idx => Cert.Kernel8Ideal.CtxIn.statKeys (Cert.Kernel8Ideal.CtxIn.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_v113) = (fun j : S1024x512.Idx => Cert.Kernel8Ideal.CtxIn.statValues (Cert.Kernel8Ideal.CtxIn.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_v114) = (fun j : S1024x512.Idx => Cert.Kernel8Ideal.CtxIn.statGates (Cert.Kernel8Ideal.CtxIn.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_v35) = (fun j : S1024x128.Idx => Cert.Kernel8Ideal.CtxIn.lastCols (Cert.Kernel8Ideal.CtxIn.proj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r h c => ?_) (run_stages m ρ)
  obtain ⟨h0, h1, h2, h3, h4, h5, h6, h7, h8, h9, h10, hr⟩ := h c
  refine ⟨h0.trans (funext fun j => ?_), h1.trans (funext fun j => ?_), h2.trans (funext fun j => ?_), h3.trans (funext fun j => ?_), h4.trans (funext fun j => ?_), h5.trans (funext fun j => ?_), h6.trans (funext fun j => ?_), h7.trans (funext fun j => ?_), h8.trans (funext fun j => ?_), h9.trans (funext fun j => ?_), h10.trans (funext fun j => ?_), hr⟩
  · obtain ⟨r, n, rfl⟩ : ∃ (r : Fin 1024) (n : Fin 1024), j = ix2 r n := ⟨j 0, j 1, eq_ix2 j⟩
    exact (first_at _ _ _ r n).trans (by rw [zr_eq]; rfl)
  · obtain ⟨r, n, rfl⟩ : ∃ (r : Fin 1024) (n : Fin 1024), j = ix2 r n := ⟨j 0, j 1, eq_ix2 j⟩
    exact (second_at _ _ _ r n).trans (by rw [zr_eq]; rfl)
  · obtain ⟨r, n, rfl⟩ : ∃ (r : Fin 1024) (n : Fin 512), j = ix2 r n := ⟨j 0, j 1, eq_ix2 j⟩
    exact (third_at _ _ _ r n).trans (by rw [zr_eq]; rfl)
  · obtain ⟨r, n, rfl⟩ : ∃ (r : Fin 1024) (n : Fin 1024), j = ix2 r n := ⟨j 0, j 1, eq_ix2 j⟩
    exact (fourth_at _ r n).trans (by rw [zr_eq]; rfl)
  · obtain ⟨r, n, rfl⟩ : ∃ (r : Fin 1024) (n : Fin 256), j = ix2 r n := ⟨j 0, j 1, eq_ix2 j⟩
    exact (fifth_at _ r n).trans (by rw [zr_eq]; rfl)
  · obtain ⟨r, n, rfl⟩ : ∃ (r : Fin 1024) (n : Fin 256), j = ix2 r n := ⟨j 0, j 1, eq_ix2 j⟩
    exact (sixth_at _ r n).trans (by rw [zr_eq]; rfl)
  · obtain ⟨r, n, rfl⟩ : ∃ (r : Fin 1024) (n : Fin 256), j = ix2 r n := ⟨j 0, j 1, eq_ix2 j⟩
    exact (res6_at _ r n).trans (congrArg (· * Ideal.ofBits .f32 0x3E000000#32) (congrFun (zr_eq _ _ _ _ _ r) _))
  · obtain ⟨r, n, rfl⟩ : ∃ (r : Fin 1024) (n : Fin 256), j = ix2 r n := ⟨j 0, j 1, eq_ix2 j⟩
    exact (res7_at _ r n).trans (congrFun (zr_eq _ _ _ _ _ r) _)
  · obtain ⟨r, n, rfl⟩ : ∃ (r : Fin 1024) (n : Fin 512), j = ix2 r n := ⟨j 0, j 1, eq_ix2 j⟩
    exact (res8_at _ r n).trans (congrFun (zr_eq _ _ _ _ _ r) _)
  · obtain ⟨r, n, rfl⟩ : ∃ (r : Fin 1024) (n : Fin 512), j = ix2 r n := ⟨j 0, j 1, eq_ix2 j⟩
    exact (res9_at _ r n).trans (congrFun (zr_eq _ _ _ _ _ r) _)
  · obtain ⟨r, n, rfl⟩ : ∃ (r : Fin 1024) (n : Fin 128), j = ix2 r n := ⟨j 0, j 1, eq_ix2 j⟩
    exact (res10_at _ r n).trans (congrFun (zr_eq _ _ _ _ _ r) _)

end Cert.Reference8Ideal.CtxIn

/-- The two named constants are the scales that the table gives. -/
theorem CtxIn.preserves : Cert.preserves_Kernel8_Kernel8Ideal :=
  ⟨IdealRules.named_const.statement _ _ _ _ _ rfl, IdealRules.named_const.statement _ _ _ _ _ rfl⟩

set_option maxHeartbeats 4000000 in
/-- The context rows' input projection kernel and its reference end with the same eleven arrays, read over the extended reals. -/
theorem CtxIn.algebraic : Cert.algebraic_Kernel8Ideal_Reference8Ideal := by
  intro m g m' g' hpre hagree
  refine ⟨fun c => (Cert.Kernel8Ideal.Gen.dats m 0 c).arrAt 12 (Cert.Kernel8Ideal.cfgs 0).N, fun c => (Cert.Kernel8Ideal.Gen.dats m 0 c).arrAt 13 (Cert.Kernel8Ideal.cfgs 0).N, fun c => (Cert.Kernel8Ideal.Gen.dats m 0 c).arrAt 14 (Cert.Kernel8Ideal.cfgs 0).N, fun c => (Cert.Kernel8Ideal.Gen.dats m 0 c).arrAt 15 (Cert.Kernel8Ideal.cfgs 0).N, fun c => (Cert.Kernel8Ideal.Gen.dats m 0 c).arrAt 16 (Cert.Kernel8Ideal.cfgs 0).N, fun c => (Cert.Kernel8Ideal.Gen.dats m 0 c).arrAt 17 (Cert.Kernel8Ideal.cfgs 0).N, fun c => (Cert.Kernel8Ideal.Gen.dats m 0 c).arrAt 18 (Cert.Kernel8Ideal.cfgs 0).N, fun c => (Cert.Kernel8Ideal.Gen.dats m 0 c).arrAt 19 (Cert.Kernel8Ideal.cfgs 0).N, fun c => (Cert.Kernel8Ideal.Gen.dats m 0 c).arrAt 20 (Cert.Kernel8Ideal.cfgs 0).N, fun c => (Cert.Kernel8Ideal.Gen.dats m 0 c).arrAt 21 (Cert.Kernel8Ideal.cfgs 0).N, fun c => (Cert.Kernel8Ideal.Gen.dats m 0 c).arrAt 22 (Cert.Kernel8Ideal.cfgs 0).N, ?_, ?_⟩
  · exact (θ_run _ _ _).mono (fun r h c => h c) (Cert.Kernel8Ideal.Value.run_blocks m g)
  · refine (θ_run _ _ _).mono (fun r h c => ?_) (Cert.Reference8Ideal.CtxIn.run_formula m' g')
    obtain ⟨h0, h1, h2, h3, h4, h5, h6, h7, h8, h9, h10, hr⟩ := h c
    obtain ⟨a0, a1, a2, a3, a4, a5, a6, a7, a8⟩ := hagree c
    rw [a0, a1, a2, a3, a4, a5, a6] at h0
    rw [a0, a1, a2, a3, a4, a7, a8] at h1
    rw [a0, a1, a2, a3, a4, a7, a8] at h2
    rw [a0, a1, a2, a3, a4] at h3
    rw [a0, a1, a2, a3, a4] at h4
    rw [a0, a1, a2, a3, a4] at h5
    rw [a0, a1, a2, a3, a4] at h6
    rw [a0, a1, a2, a3, a4] at h7
    rw [a0, a1, a2, a3, a4] at h8
    rw [a0, a1, a2, a3, a4] at h9
    rw [a0, a1, a2, a3, a4] at h10
    exact ⟨h0.trans (Cert.Kernel8Ideal.CtxIn.final12 m c).symm, h1.trans (Cert.Kernel8Ideal.CtxIn.final13 m c).symm, h2.trans (Cert.Kernel8Ideal.CtxIn.final14 m c).symm, h3.trans (Cert.Kernel8Ideal.CtxIn.final15 m c).symm, h4.trans (Cert.Kernel8Ideal.CtxIn.final16 m c).symm, h5.trans (Cert.Kernel8Ideal.CtxIn.final17 m c).symm, h6.trans (Cert.Kernel8Ideal.CtxIn.final18 m c).symm, h7.trans (Cert.Kernel8Ideal.CtxIn.final19 m c).symm, h8.trans (Cert.Kernel8Ideal.CtxIn.final20 m c).symm, h9.trans (Cert.Kernel8Ideal.CtxIn.final21 m c).symm, h10.trans (Cert.Kernel8Ideal.CtxIn.final22 m c).symm, hr⟩

end
-- ==== Proof.CtxAttn.Pay.lean ====
/- One grid point of the context rows' attention: what its arithmetic computes, entry by entry. -/
module

public import proofs.«01_k».proof.Proof.Gen.Kernel9Ideal.Value
public import proofs.«01_k».proof.Proof.Attn.Spec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel9Ideal.CtxAttn

open Cert.Kernel9Ideal Cert.Kernel9Ideal.Gen

/-- Minus infinity, as the maximum starts. -/
theorem bot_bits : Ideal.ofBits .f32 0xFF800000#32 = ⊥ := by
  simp [Ideal.ofBits, Ideal.ieee]

/-- A logit is a dot product. -/
theorem logits_at (q k : FVec Ideal S256x256 .bf16) (r j : Fin 256) :
    k0_pay2 (F := Ideal) q k (ix2 r j) = ∑ d, q (ix2 r d) * k (ix2 j d) := by
  pointwise [k0_pay2]

/-- The greatest logit of a row, on every lane. -/
theorem max_at (q k : FVec Ideal S256x256 .bf16) (r : Fin 256) (c : Fin 128) :
    k0_pay3 (F := Ideal) q k (ix2 r c) = Finset.univ.fold max ⊥ (fun x : Fin 128 =>
      max (k0_pay2 (F := Ideal) q k (ix2 r ⟨x.val, by omega⟩)) (k0_pay2 (F := Ideal) q k (ix2 r ⟨128 + x.val, by omega⟩))) := by
  unfold k0_pay3
  generalize (k0_pay2 q k : FVec Ideal S256x256 .f32) = L
  rw [← bot_bits]
  pointwise []

/-- The sums of weights, lane by lane. -/
theorem lanes_at (q k : FVec Ideal S256x256 .bf16) (r : Fin 256) (c : Fin 128) :
    k0_pay6 (F := Ideal) q k (ix2 r c)
      = Ideal.exp2 (k0_pay2 (F := Ideal) q k (ix2 r ⟨c.val, by omega⟩) - k0_pay3 (F := Ideal) q k (ix2 r c))
        + Ideal.exp2 (k0_pay2 (F := Ideal) q k (ix2 r ⟨128 + c.val, by omega⟩) - k0_pay3 (F := Ideal) q k (ix2 r c)) := by
  unfold k0_pay6 k0_pay4 k0_pay5
  generalize (k0_pay3 q k : FVec Ideal S256x128 .f32) = M
  generalize (k0_pay2 q k : FVec Ideal S256x256 .f32) = L
  pointwise []
  try rfl

/-- The values' weighted sum. -/
theorem weighted_at (q k : FVec Ideal S256x256 .bf16) (v : FVec Ideal S256x128 .bf16) (r : Fin 256) (c : Fin 128)
    (m : EReal) (hm : ∀ c, k0_pay3 (F := Ideal) q k (ix2 r c) = m) :
    k0_pay7 (F := Ideal) q k v (ix2 r c) = ∑ j, Ideal.exp2 (k0_pay2 (F := Ideal) q k (ix2 r j) - m) * v (ix2 j c) := by
  unfold k0_pay7 k0_pay4 k0_pay5
  revert hm
  generalize (k0_pay3 q k : FVec Ideal S256x128 .f32) = M
  generalize (k0_pay2 q k : FVec Ideal S256x256 .f32) = L
  intro hm
  pointwise []
  simp only [hm]
  refine Eq.trans ?_ (Fin.sum_univ_tiles 2 128 rfl (fun j => Ideal.exp2 (L (ix2 r j) - m) * v (ix2 j c))).symm
  rw [Fin.sum_univ_two]
  simp
  rfl

/-- The stored entry: the weighted sum over the sum of the lanes. -/
theorem stored_at (l a : FVec Ideal S256x128 .f32) (r : Fin 256) (c : Fin 128) :
    k0_pay1 (F := Ideal) (k0_pay9 (F := Ideal) l) a (ix2 r c) = Ideal.div (a (ix2 r c)) (∑ x, l (ix2 r x)) := by
  pointwise [k0_pay1, k0_pay9]

/-- A row whose logits `s` are finite: the values, each times its key's share. -/
theorem row_out (q k : FVec Ideal S256x256 .bf16) (v : FVec Ideal S256x128 .bf16)
    (r : Fin 256) (s : Fin 256 → ℝ) (hs : ∀ j, ∑ d, q (ix2 r d) * k (ix2 j d) = (s j : EReal)) (c : Fin 128) :
    k0_pay1 (F := Ideal) (k0_pay9 (F := Ideal) (k0_pay6 (F := Ideal) q k)) (k0_pay7 (F := Ideal) q k v) (ix2 r c)
      = Attn.mix s (fun j => v (ix2 j c)) := by
  have hL : ∀ j, k0_pay2 (F := Ideal) q k (ix2 r j) = (s j : EReal) := fun j => (logits_at q k r j).trans (hs j)
  obtain ⟨m, hm⟩ : Attn.IsReal (Finset.univ.fold max ⊥ (fun x : Fin 128 =>
      max (k0_pay2 (F := Ideal) q k (ix2 r ⟨x.val, by omega⟩)) (k0_pay2 (F := Ideal) q k (ix2 r ⟨128 + x.val, by omega⟩)))) :=
    Attn.real_fold _ ⟨0, Finset.mem_univ _⟩ _ fun x => Attn.real_max ⟨_, hL _⟩ ⟨_, hL _⟩
  have hM : ∀ c, k0_pay3 (F := Ideal) q k (ix2 r c) = (m : EReal) := fun c => (max_at q k r c).trans hm
  have hl : ∑ x, k0_pay6 (F := Ideal) q k (ix2 r x) = ∑ j, (Attn.wt (s j) m : EReal) := by
    simp only [lanes_at, hM, hL, Attn.exp2_sub]
    refine Eq.trans ?_ (Fin.sum_univ_tiles 2 128 rfl (fun j => (Attn.wt (s j) m : EReal))).symm
    rw [Finset.sum_comm]
    refine Finset.sum_congr rfl fun x _ => ?_
    simp [Fin.sum_univ_succ]
  rw [stored_at, hl, weighted_at q k v r c m hM]
  simp only [hL, Attn.exp2_sub]
  exact Attn.div_eq_mix s m _

end Cert.Kernel9Ideal.CtxAttn

end
-- ==== Proof.CtxAttn.Spec.lean ====
/- The attention of the context rows, as a formula: every row of a batch entry looks at the entry's 256 rows. -/
module

public import proofs.«01_k».proof.Proof.Attn.Spec

@[expose] public section

set_option maxRecDepth 16384

noncomputable section

open Idealize.ShloMosaic

namespace CtxAttn

/-- The logit, to base two, of row `s` at the key of row `i`. -/
def logit (Q K : Fin 1024 → Fin 1024 → EReal) (b h : Fin 4) (s i : Fin 256) : EReal :=
  ∑ d, Q (Attn.crow b s) (Attn.col h d) * K (Attn.crow b i) (Attn.col h d)

/-- The result of row `s` of batch entry `b`, at feature `d` of head `h`. -/
def out (Q K : Fin 1024 → Fin 1024 → EReal) (V : Fin 1024 → Fin 512 → EReal) (b h : Fin 4) (s : Fin 256) (d : Fin 128) : EReal :=
  Attn.mix (fun i => (logit Q K b h s i).toReal) (fun i => V (Attn.crow b i) (Attn.vcol h d))

/-- Of finite queries and keys the logits are finite. -/
theorem real_logit {Q K : Fin 1024 → Fin 1024 → EReal} (hQ : ∀ r x, Attn.IsReal (Q r x)) (hK : ∀ r x, Attn.IsReal (K r x))
    (b h : Fin 4) (s i : Fin 256) : Attn.IsReal (logit Q K b h s i) :=
  Attn.real_dot _ _ (fun d => hQ _ _) fun d => hK _ _

end CtxAttn

end
-- ==== Proof.CtxAttn.Final.lean ====
/- The array the context rows' attention leaves. -/
module

public import proofs.«01_k».proof.Proof.CtxAttn.Pay
public import proofs.«01_k».proof.Proof.CtxAttn.Spec

@[expose] public section

set_option maxRecDepth 16384

noncomputable section

open Idealize.ShloMosaic Idealize.ShloMosaic.TcCoe Idealize.SL.Sem
open Idealize.ShloMosaic.Pipeline (Dat)

namespace Cert.Kernel9Ideal.CtxAttn

open Cert.Kernel9Ideal Cert.Kernel9Ideal.Gen

variable (m : (ℓ : Loc nD τ sig) → Buf (Elt Ideal) ℓ)

/-- The batch entry of a grid point. -/
def pb (t : Fin cfg0.N) : Fin 4 := ⟨t.val / 4 % 4, by omega⟩

/-- The head of a grid point. -/
def ph (t : Fin cfg0.N) : Fin 4 := ⟨t.val % 4, by omega⟩

/-- Which block each window is on at a point. -/
theorem idx : ∀ t : Fin cfg0.N, win0_0.index t = ![(pb t).val, (ph t).val] ∧ win0_1.index t = ![(pb t).val, (ph t).val]
    ∧ win0_2.index t = ![(pb t).val, (ph t).val] ∧ win0_3.index t = ![(pb t).val, (ph t).val] :=
  (by decide +kernel : ∀ t : Fin grid0.N, _)

/-- An array of the queries' and keys' shape, by row and column. -/
def wide (x : FVec Ideal S1024x1024 .bf16) (r n : Fin 1024) : EReal := x (ix2 r n)
/-- An array of the values' shape, by row and column. -/
def narrow (x : FVec Ideal S1024x512 .bf16) (r : Fin 1024) (n : Fin 512) : EReal := x (ix2 r n)

/-- The queries. -/
abbrev Q (c : Dev nD) := wide (m ((c.tc : Thread nD τ).loc main_arg0))
/-- The keys. -/
abbrev K (c : Dev nD) := wide (m ((c.tc : Thread nD τ).loc main_arg1))
/-- The values. -/
abbrev U (c : Dev nD) := narrow (m ((c.tc : Thread nD τ).loc main_arg2))

/-- A point's queries. -/
theorem q_at (c : Dev nD) (t : Fin cfg0.N) (r : Fin 256) (d : Fin 256) :
    (iblk m c 0 t : S256x256.Idx → EReal) (ix2 r d) = Q m c (Attn.crow (pb t) r) (Attn.col (ph t) d) := by
  unfold Q wide Attn.crow Attn.col
  blk_point [iblk, V, idx t]

/-- A point's keys. -/
theorem k_at (c : Dev nD) (t : Fin cfg0.N) (r : Fin 256) (d : Fin 256) :
    (iblk m c 1 t : S256x256.Idx → EReal) (ix2 r d) = K m c (Attn.crow (pb t) r) (Attn.col (ph t) d) := by
  unfold K wide Attn.crow Attn.col
  blk_point [iblk, V, idx t]

/-- A point's values. -/
theorem v_at (c : Dev nD) (t : Fin cfg0.N) (r : Fin 256) (d : Fin 128) :
    (iblk m c 2 t : S256x128.Idx → EReal) (ix2 r d) = U m c (Attn.crow (pb t) r) (Attn.vcol (ph t) d) := by
  unfold U narrow Attn.crow Attn.vcol
  blk_point [iblk, V, idx t]

/-- What a point leaves, of finite queries and keys: the attention of its rows. -/
theorem point (c : Dev nD) (hQ : ∀ r x, Attn.IsReal (Q m c r x)) (hK : ∀ r x, Attn.IsReal (K m c r x))
    (t : Fin cfg0.N) (r : Fin 256) (n : Fin 128) : outsAt0 m c t (ix2 r n)
      = _root_.CtxAttn.out (Q m c) (K m c) (U m c) (pb t) (ph t) r n := by
  unfold outsAt0
  frame_open
  simp (disch := decide) only [↓ View.readCov_skip, ↓ View.readCov_cons_toLoadRect, ↓ View.readCov_fill]
  frame_out
  refine (row_out (iblk m c 0 t) (iblk m c 1 t) (iblk m c 2 t) r
    (fun i => (_root_.CtxAttn.logit (Q m c) (K m c) (pb t) (ph t) r i).toReal) (fun j => ?_) n).trans ?_
  · rw [← (_root_.CtxAttn.real_logit hQ hK (pb t) (ph t) r j).eq]
    unfold _root_.CtxAttn.logit
    exact Finset.sum_congr rfl fun d _ => by rw [q_at, k_at]
  · unfold _root_.CtxAttn.out
    exact congrArg _ (funext fun j => v_at m c t j n)

/-- The batch entry of a row. -/
def bat (r : Fin 1024) : Fin 4 := ⟨r.val / 256, by omega⟩

/-- The position of a row in its batch entry. -/
def at' (r : Fin 1024) : Fin 256 := ⟨r.val % 256, by omega⟩

/-- The head of a column of the result. -/
def head (n : Fin 512) : Fin 4 := ⟨n.val / 128, by omega⟩

/-- The feature of a column of the result. -/
def feat (n : Fin 512) : Fin 128 := ⟨n.val % 128, by omega⟩

/-- The result array after the run, index by index. -/
theorem final (c : Dev nD) (hQ : ∀ r x, Attn.IsReal (Q m c r x)) (hK : ∀ r x, Attn.IsReal (K m c r x)) :
    (dats m 0 c).arrAt 3 (cfgs 0).N = fun j : S1024x512.Idx =>
      _root_.CtxAttn.out (Q m c) (K m c) (U m c) (bat (j 0)) (head (j 1)) (at' (j 0)) (feat (j 1)) := by
  refine (dats m 0 c).arrAt_eq_of_covers 3 _ (by decide +kernel) fun t hf y => ?_
  blk_simp
  rw [after0_3]
  revert y
  intro (y : S256x128.Idx)
  obtain ⟨r, n, rfl⟩ : ∃ r n, y = ix2 r n := ⟨y 0, y 1, eq_ix2 y⟩
  have e0 : (win0_3.blk t).view.emb (ix2 r n) 0 = Attn.crow (pb t) r :=
    Fin.ext (by unfold Attn.crow; blk_simp [idx t])
  have e1 : (win0_3.blk t).view.emb (ix2 r n) 1 = Attn.vcol (ph t) n :=
    Fin.ext (by unfold Attn.vcol; blk_simp [idx t])
  have b0 : bat (Attn.crow (pb t) r) = pb t := Fin.ext (by unfold bat Attn.crow; simp only; omega)
  have b1 : at' (Attn.crow (pb t) r) = r := Fin.ext (by unfold at' Attn.crow; simp only; omega)
  have b2 : head (Attn.vcol (ph t) n) = ph t := Fin.ext (by unfold head Attn.vcol; simp only; omega)
  have b3 : feat (Attn.vcol (ph t) n) = n := Fin.ext (by unfold feat Attn.vcol; simp only; omega)
  rw [point m c hQ hK t r n]
  refine Eq.trans ?_ (congrArg₂ (fun (x : Fin 1024) (y : Fin 512) =>
    _root_.CtxAttn.out (Q m c) (K m c) (U m c) (bat x) (head y) (at' x) (feat y)) e0.symm e1.symm)
  simp only [b0, b1, b2, b3]

end Cert.Kernel9Ideal.CtxAttn

end
-- ==== Proof.CtxAttn.Ref.lean ====
/- The reference's attention of the context rows, stage by stage. -/
module

public import proofs.«01_k».proof.Proof.Gen.Reference9Ideal.Run
public import proofs.«01_k».proof.Proof.Attn.Ref
public import proofs.«01_k».proof.Proof.CtxAttn.Spec

@[expose] public section

set_option maxRecDepth 16384

noncomputable section

open Idealize.ShloMosaic Idealize.ShloMosaic.TcCoe Idealize.SL.Sem

namespace Cert.Reference9Ideal.CtxAttn

open Cert.Reference9Ideal Cert.Reference9Ideal.Gen Cert.Reference9Ideal.Value

/-- The logits, times the logarithm of two. -/
def logitV (Q K : FVec Ideal S1024x1024 .bf16) : FVec Ideal S4x4x256x256 .f32 :=
  mulf (Host.dotGeneral dot_S4x256x4x256_S4x256x4x256_S4x4x256x256_3_3_1_1_02_02 none
      (shapeCast _ (extf .f32 Q bitsLt_bf16_f32) shapeCasts_S1024x1024_S4x256x4x256)
      (shapeCast _ (extf .f32 K bitsLt_bf16_f32) shapeCasts_S1024x1024_S4x256x4x256))
    (broadcastInDim S4x4x256x256 ![] bcast_S_S4x4x256x256 (Host.log (constant S_ .f32 0x40000000#32)))

/-- A logit is a dot product over one head's features, times the logarithm of two. -/
theorem logitV_at (Q K : FVec Ideal S1024x1024 .bf16) (b h : Fin 4) (s i : Fin 256) :
    logitV Q K (ix4 b h s i)
      = (∑ d, Q (ix2 (Attn.crow b s) (Attn.col h d)) * K (ix2 (Attn.crow b i) (Attn.col h d))) * Ideal.log (Ideal.ofBits .f32 0x40000000#32) := by
  unfold Attn.col Attn.crow
  pointwise [logitV]

/-- The greatest logit of every query. -/
def topV (L : FVec Ideal S4x4x256x256 .f32) : FVec Ideal S4x4x256 .f32 :=
  maximumf (broadcastInDim S4x4x256 ![] bcast_S_S4x4x256 (constant S_ .f32 0xFF800000#32))
    (Host.reduce FloatOps.maximumf L (constant S_ .f32 0xFF800000#32) reducesTo_S4x4x256x256_S4x4x256_d3 h_S_)

/-- Of finite logits the greatest is finite. -/
theorem real_topV (L : FVec Ideal S4x4x256x256 .f32) (hL : ∀ i, Attn.IsReal (L i)) (j : S4x4x256.Idx) :
    Attn.IsReal (topV L j) := by
  unfold topV
  exact Cert.ReferenceIdeal.Attn.real_reduce L hL _ (by decide) (by decide) _ _ _ j

/-- The exponentials of the logits less the greatest. -/
def expV (L : FVec Ideal S4x4x256x256 .f32) (T : FVec Ideal S4x4x256 .f32) : FVec Ideal S4x4x256x256 .f32 :=
  Host.exp (subf L (broadcastInDim S4x4x256x256 ![0, 1, 2, 3] bcast_S4x4x256x1_S4x4x256x256_0_1_2_3
    (broadcastInDim S4x4x256x1 ![0, 1, 2] bcast_S4x4x256_S4x4x256x1_0_1_2 T)))

/-- An entry of the exponentials. -/
theorem expV_at (L : FVec Ideal S4x4x256x256 .f32) (T : FVec Ideal S4x4x256 .f32) (b h : Fin 4) (s i : Fin 256) :
    expV L T (ix4 b h s i) = Ideal.exp (L (ix4 b h s i) - T (ix3 b h s)) := by
  pointwise [expV]

/-- The exponentials over their sum. -/
def probV (E : FVec Ideal S4x4x256x256 .f32) : FVec Ideal S4x4x256x256 .f32 :=
  Host.divf E (broadcastInDim S4x4x256x256 ![0, 1, 2, 3] bcast_S4x4x256x1_S4x4x256x256_0_1_2_3
    (broadcastInDim S4x4x256x1 ![0, 1, 2] bcast_S4x4x256_S4x4x256x1_0_1_2
      (Host.reduceAdd E (constant S_ .f32 0x00000000#32) reducesTo_S4x4x256x256_S4x4x256_d3 h_S_)))

/-- An entry of the probabilities: the exponential over its row's sum. -/
theorem probV_at (E : FVec Ideal S4x4x256x256 .f32) (b h : Fin 4) (s i : Fin 256) :
    probV E (ix4 b h s i) = Ideal.div (E (ix4 b h s i)) (∑ k, E (ix4 b h s k)) := by
  pointwise [probV]

/-- The weighted values, laid out as an array of rows. -/
def mixV (V : FVec Ideal S1024x512 .bf16) (P : FVec Ideal S4x4x256x256 .f32) : FVec Ideal S1024x512 .bf16 :=
  truncf .bf16 (shapeCast _ (transpose S4x256x4x128 [0, 3, 1, 2]
    (Host.dotGeneral dot_S4x256x4x128_S4x4x256x256_S4x4x128x256_1_3_3_2_02_01 none
      (shapeCast _ (extf .f32 V bitsLt_bf16_f32) shapeCasts_S1024x512_S4x256x4x128) P)
    transposes_S4x4x128x256_S4x256x4x128_0_3_1_2) shapeCasts_S4x256x4x128_S1024x512) bitsLt_bf16_f32

/-- An entry of the result is a sum over the keys. -/
theorem mixV_at (V : FVec Ideal S1024x512 .bf16) (P : FVec Ideal S4x4x256x256 .f32) (b h : Fin 4) (s : Fin 256) (d : Fin 128) :
    mixV V P (ix2 (Attn.crow b s) (Attn.vcol h d)) = ∑ i, V (ix2 (Attn.crow b i) (Attn.vcol h d)) * P (ix4 b h s i) := by
  have h0 : (Attn.crow b s).val / 256 = b.val := by unfold Attn.crow; simp only; omega
  have h1 : (Attn.crow b s).val % 256 = s.val := by unfold Attn.crow; simp only; omega
  have h2 : (Attn.vcol h d).val / 128 = h.val := by unfold Attn.vcol; simp only; omega
  have h3 : (Attn.vcol h d).val % 128 = d.val := by unfold Attn.vcol; simp only; omega
  pointwise [mixV, h0, h1, h2, h3]
  try rfl

/-- The stages put together. -/
def resV (Q K : FVec Ideal S1024x1024 .bf16) (V : FVec Ideal S1024x512 .bf16) : FVec Ideal S1024x512 .bf16 :=
  mixV V (probV (expV (logitV Q K) (topV (logitV Q K))))

/-- Of finite queries and keys the result is the formula. -/
theorem resV_at (Q K : FVec Ideal S1024x1024 .bf16) (V : FVec Ideal S1024x512 .bf16)
    (hQ : ∀ i, Attn.IsReal (Q i)) (hK : ∀ i, Attn.IsReal (K i)) (b h : Fin 4) (s : Fin 256) (d : Fin 128) :
    resV Q K V (ix2 (Attn.crow b s) (Attn.vcol h d))
      = _root_.CtxAttn.out (fun r x => Q (ix2 r x)) (fun r x => K (ix2 r x)) (fun r x => V (ix2 r x)) b h s d := by
  unfold resV
  generalize hLL : logitV Q K = L
  have hreal := fun b h s i => _root_.CtxAttn.real_logit (Q := fun r x => Q (ix2 r x)) (K := fun r x => K (ix2 r x))
    (fun r x => hQ _) (fun r x => hK _) b h s i
  unfold _root_.CtxAttn.out
  set l := _root_.CtxAttn.logit (fun r x => Q (ix2 r x)) (fun r x => K (ix2 r x)) with hl
  have eL : ∀ b h s i, L (ix4 b h s i) = (((l b h s i).toReal : ℝ) : EReal) * (Real.log 2 : ℝ) := fun b h s i => by
    rw [← hLL, logitV_at, Cert.ReferenceIdeal.Attn.log_two, ← (hreal b h s i).eq, hl]
    rfl
  have hL : ∀ i, Attn.IsReal (L i) := fun i => by
    obtain ⟨b, h, s, i, rfl⟩ : ∃ b h s k, i = ix4 b h s k := ⟨i 0, i 1, i 2, i 3, eq_ix4 i⟩
    rw [eL, ← EReal.coe_mul]; exact ⟨_, rfl⟩
  obtain ⟨t, ht⟩ := real_topV L hL (ix3 b h s)
  refine (mixV_at _ _ b h s d).trans ?_
  unfold Attn.mix
  refine Finset.sum_congr rfl fun i _ => ?_
  have hp : probV (expV L (topV L)) (ix4 b h s i) = Attn.share (fun i => (l b h s i).toReal) i := by
    rw [probV_at]
    simp only [expV_at, ht, eL]
    exact Attn.softmax_eq (fun i => (l b h s i).toReal) t i
  rw [hp]
  exact mul_comm (G := EReal) _ _

/-- The run of the reference, its result told stage by stage. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = resV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.Reference9Ideal.CtxAttn

end
-- ==== Proof.CtxAttn.Pre.lean ====
/- What the precondition of the context rows' attention says. -/
module

public import proofs.«01_k».proof.Proof.Attn.Pre
public import proofs.«01_k».proof.Proof.Gen.Pre_finite_ctx

@[expose] public section

set_option maxRecDepth 16384

noncomputable section

open Idealize.ShloMosaic Idealize.ShloMosaic.TcCoe Idealize.SL.Sem

namespace Cert.Pre_finite_ctx

open Cert.Pre_finite_ctx.Gen

/-- The context rows' queries and keys are finite. -/
theorem real_of_pre (q k : FVec Ideal S1024x1024 .bf16) (v : FVec Ideal S1024x512 .bf16)
    (h : fn (F := Ideal) q k v = fun _ => 1#1) :
    (∀ i, Attn.IsReal (q i)) ∧ ∀ i, Attn.IsReal (k i) := by
  haveI : Subsingleton S_.Idx := ⟨fun a b => funext fun x => x.elim0⟩
  have e := congrFun h (fun a => a.elim0)
  obtain ⟨e1, e2⟩ := IntOp.andi_eq_one.1 e
  exact ⟨fun i => Cert.Pre_finite_qk.real_of_all q _ _ _ _ _ _ _ e1 i, fun i => Cert.Pre_finite_qk.real_of_all k _ _ _ _ _ _ _ e2 i⟩

end Cert.Pre_finite_ctx

end
-- ==== Proof.CtxAttn.Claim.lean ====
/- The claim about the context rows' attention: its result is the reference's, when queries and keys are finite. -/
module

public import proofs.«01_k».proof.Defs
public import proofs.«01_k».proof.Proof.CtxAttn.Final
public import proofs.«01_k».proof.Proof.CtxAttn.Ref
public import proofs.«01_k».proof.Proof.CtxAttn.Pre
public import Idealize.ShloMosaic.Lib.Claim

@[expose] public section

set_option maxRecDepth 16384

noncomputable section

open Idealize.ShloMosaic Idealize.ShloMosaic.TcCoe Idealize.SL.Sem

/-- The kernel and its reference end with the same array, read over the extended reals. -/
theorem CtxAttn.algebraic : Cert.algebraic_Kernel9Ideal_Reference9Ideal_pre_finite_ctx := by
  pair_intro
  · run_from Cert.Kernel9Ideal.Gen.run_main m g
  · run_from Cert.Reference9Ideal.CtxAttn.run_stages m' g'
    obtain ⟨h0, h1, h2⟩ := hagree c
    obtain ⟨hQ, hK⟩ := Cert.Pre_finite_ctx.real_of_pre _ _ _ (hpre c)
    refine Eq.trans ?_ (Cert.Kernel9Ideal.CtxAttn.final m c (fun r x => hQ _) (fun r x => hK _)).symm
    funext j
    obtain ⟨r, n, rfl⟩ : ∃ (r : Fin 1024) (n : Fin 512), j = ix2 r n := ⟨j 0, j 1, eq_ix2 j⟩
    have e0 : Attn.crow (Cert.Kernel9Ideal.CtxAttn.bat r) (Cert.Kernel9Ideal.CtxAttn.at' r) = r :=
      Fin.ext (by unfold Attn.crow Cert.Kernel9Ideal.CtxAttn.bat Cert.Kernel9Ideal.CtxAttn.at'; simp only; omega)
    have e1 : Attn.vcol (Cert.Kernel9Ideal.CtxAttn.head n) (Cert.Kernel9Ideal.CtxAttn.feat n) = n :=
      Fin.ext (by unfold Attn.vcol Cert.Kernel9Ideal.CtxAttn.head Cert.Kernel9Ideal.CtxAttn.feat; simp only; omega)
    have h := Cert.Reference9Ideal.CtxAttn.resV_at (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2)) hQ hK
      (Cert.Kernel9Ideal.CtxAttn.bat r) (Cert.Kernel9Ideal.CtxAttn.head n) (Cert.Kernel9Ideal.CtxAttn.at' r) (Cert.Kernel9Ideal.CtxAttn.feat n)
    rw [e0, e1] at h
    exact h

end
-- ==== Proof.Modulation.Spec.lean ====
/- The modulation of a layer as a formula: the activated conditions against the layer's weights, plus its bias. -/
module

public import proofs.«01_k».proof.Proof.Attn.Spec

@[expose] public section

set_option maxRecDepth 16384

noncomputable section

open Idealize.ShloMosaic

namespace Modulation

/-- The activation: an entry times its own logistic. -/
def act (x : EReal) : EReal := x * Ideal.logistic x

/-- Entry `n` of row `r`'s modulation in layer `l`. -/
def out (C : Fin 8 → Fin 2048 → EReal) (W : Fin 4 → Fin 2048 → Fin 12288 → EReal) (B : Fin 4 → Fin 12288 → EReal)
    (l : Fin 4) (r : Fin 8) (n : Fin 12288) : EReal :=
  (∑ d, act (C r d) * W l d n) + B l n

/-- A finite entry's activation is finite. -/
theorem real_act {x : EReal} (h : Attn.IsReal x) : Attn.IsReal (act x) := by
  obtain ⟨r, rfl⟩ := h
  have h : (1 : ℝ) + Real.exp (-r) ≠ 0 := by positivity
  refine ⟨r * (1 / (1 + Real.exp (-r))), ?_⟩
  unfold act Ideal.logistic
  rw [← EReal.coe_neg, Ideal.exp_coe, ← EReal.coe_one, ← EReal.coe_add, Ideal.div_coe h, ← EReal.coe_mul, ← EReal.coe_mul, one_mul, one_div]

/-- A finite number less itself is 0. -/
theorem sub_self {x : EReal} (h : Attn.IsReal x) : x - x = 0 := by
  obtain ⟨r, rfl⟩ := h
  rw [← EReal.coe_sub, _root_.sub_self, EReal.coe_zero]

end Modulation

end
-- ==== Proof.Modulation.Final.lean ====
/- What the modulation kernel computes: of finite conditions and weights the parts that its products are split into are
   the entry itself and 0, so each block is the plain product plus the bias. -/
module

public import proofs.«01_k».proof.Proof.Gen.Kernel10Ideal.Value
public import proofs.«01_k».proof.Proof.Modulation.Spec
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Modulation

open Cert.Kernel10Ideal Cert.Kernel10Ideal.Gen
open _root_.Modulation (act)

/-- A point's result, as the kernel forms it: three products of the high and the low parts, and the bias. -/
theorem pay_parts (a : FVec Ideal S8x2048 .f32) (w : FVec Ideal S1x2048x2048 .f32) (b : FVec Ideal S1x1x2048 .f32)
    (r : Fin 8) (n : Fin 2048) : k0_pay1 (F := Ideal) a w b (ix3 0 r n)
    = (((∑ d, act (a (ix2 r d)) * w (ix3 0 d n)) + ∑ d, (act (a (ix2 r d)) - act (a (ix2 r d))) * w (ix3 0 d n))
        + ∑ d, act (a (ix2 r d)) * (w (ix3 0 d n) - w (ix3 0 d n))) + b (ix3 0 0 n) := by
  pointwise [k0_pay1, act]

/-- Of finite operands the low parts are 0. -/
theorem pay_at (a : FVec Ideal S8x2048 .f32) (w : FVec Ideal S1x2048x2048 .f32) (b : FVec Ideal S1x1x2048 .f32)
    (r : Fin 8) (n : Fin 2048) (ha : ∀ d, Attn.IsReal (a (ix2 r d))) (hw : ∀ d, Attn.IsReal (w (ix3 0 d n))) :
    k0_pay1 (F := Ideal) a w b (ix3 0 r n) = (∑ d, act (a (ix2 r d)) * w (ix3 0 d n)) + b (ix3 0 0 n) := by
  rw [pay_parts]
  have e1 (d : Fin 2048) : act (a (ix2 r d)) - act (a (ix2 r d)) = 0 := _root_.Modulation.sub_self (_root_.Modulation.real_act (ha d))
  have e2 (d : Fin 2048) : w (ix3 0 d n) - w (ix3 0 d n) = 0 := _root_.Modulation.sub_self (hw d)
  simp only [e1, e2, zero_mul, mul_zero, Finset.sum_const_zero, add_zero]

variable (m : (ℓ : Loc nD τ sig) → Buf (Elt Ideal) ℓ)

/-- The layer of a grid point. -/
def pl (t : Fin cfg0.N) : Fin 4 := ⟨t.val / 6 % 4, by omega⟩

/-- The block of columns of a grid point. -/
def pj (t : Fin cfg0.N) : Fin 6 := ⟨t.val % 6, by omega⟩

/-- A column of a block, in the whole. -/
def col (j : Fin 6) (n : Fin 2048) : Fin 12288 := ⟨j.val * 2048 + n.val, by omega⟩

/-- Which block each window is on at a point. -/
theorem idx : ∀ t : Fin cfg0.N, win0_0.index t = ![0, 0] ∧ win0_1.index t = ![(pl t).val, 0, (pj t).val]
    ∧ win0_2.index t = ![(pl t).val, 0, (pj t).val] ∧ win0_3.index t = ![(pl t).val, 0, (pj t).val] :=
  (by decide +kernel : ∀ t : Fin grid0.N, _)

/-- The conditions, by row and column. -/
def cond (x : FVec Ideal S8x2048 .f32) (r : Fin 8) (d : Fin 2048) : EReal := x (ix2 r d)
/-- The weights, by layer, row and column. -/
def weight (x : FVec Ideal S4x2048x12288 .f32) (l : Fin 4) (d : Fin 2048) (n : Fin 12288) : EReal := x (ix3 l d n)
/-- The biases, by layer and column. -/
def bias (x : FVec Ideal S4x12288 .f32) (l : Fin 4) (n : Fin 12288) : EReal := x (ix2 l n)

/-- The conditions that the device is given. -/
abbrev C (c : Dev nD) := cond (m ((c.tc : Thread nD τ).loc main_arg0))
/-- The weights that the device is given. -/
abbrev W (c : Dev nD) := weight (m ((c.tc : Thread nD τ).loc main_arg1))
/-- The biases that the device is given. -/
abbrev B (c : Dev nD) := bias (m ((c.tc : Thread nD τ).loc main_arg2))

/-- The biases as the host lays them out. -/
theorem biases (c : Dev nD) : V m c main_v0 = shapeCast S4x1x12288 (m ((c.tc : Thread nD τ).loc main_arg2)) shapeCasts_S4x12288_S4x1x12288 := by
  unfold V
  simp only [hostOps0, List.flatten_cons, List.flatten_nil, List.cons_append, List.nil_append, List.append_nil]
  entry_read
  rfl

/-- A bias in that layout. -/
theorem laid (b : FVec Ideal S4x12288 .f32) (l : Fin 4) (n : Fin 12288) :
    shapeCast S4x1x12288 b shapeCasts_S4x12288_S4x1x12288 (ix3 l 0 n) = b (ix2 l n) := by
  pointwise []

/-- An entry of the laid-out biases. -/
theorem biases_at (c : Dev nD) (l : Fin 4) (n : Fin 12288) :
    (V m c main_v0 : FVec Ideal S4x1x12288 .f32) (ix3 l 0 n) = B m c l n := by
  rw [biases]
  exact laid _ l n

/-- A point's conditions. -/
theorem c_at (c : Dev nD) (t : Fin cfg0.N) (r : Fin 8) (d : Fin 2048) :
    (iblk m c 0 t : S8x2048.Idx → EReal) (ix2 r d) = C m c r d := by
  unfold C cond
  blk_point [iblk, V, idx t]

/-- A point's weights. -/
theorem w_at (c : Dev nD) (t : Fin cfg0.N) (d n : Fin 2048) :
    (iblk m c 1 t : S1x2048x2048.Idx → EReal) (ix3 0 d n) = W m c (pl t) d (col (pj t) n) := by
  unfold W weight col
  blk_point [iblk, V, idx t]

/-- A point's biases. -/
theorem b_at (c : Dev nD) (t : Fin cfg0.N) (n : Fin 2048) :
    (iblk m c 2 t : S1x1x2048.Idx → EReal) (ix3 0 0 n) = B m c (pl t) (col (pj t) n) := by
  rw [← biases_at]
  unfold col
  blk_point [iblk, idx t]

/-- What a point leaves. -/
theorem point (c : Dev nD) (hC : ∀ r d, Attn.IsReal (C m c r d)) (hW : ∀ l d n, Attn.IsReal (W m c l d n))
    (t : Fin cfg0.N) (r : Fin 8) (n : Fin 2048) : out0_3 (iblk m c 0 t) (iblk m c 1 t) (iblk m c 2 t) (ix3 0 r n)
      = _root_.Modulation.out (C m c) (W m c) (B m c) (pl t) r (col (pj t) n) := by
  unfold out0_3
  frame_out
  refine (pay_at (iblk m c 0 t) (iblk m c 1 t) (iblk m c 2 t) r n (fun d => ?_) fun d => ?_).trans ?_
  · rw [c_at]; exact hC r d
  · rw [w_at]; exact hW _ d _
  · unfold _root_.Modulation.out
    rw [b_at]
    exact congrArg (· + _) (Finset.sum_congr rfl fun d _ => by rw [c_at, w_at])

/-- The result array after the run, index by index. -/
theorem final (c : Dev nD) (hC : ∀ r d, Attn.IsReal (C m c r d)) (hW : ∀ l d n, Attn.IsReal (W m c l d n)) :
    (dats m 0 c).arrAt 3 (cfgs 0).N = fun j : S4x8x12288.Idx =>
      _root_.Modulation.out (C m c) (W m c) (B m c) (j 0) (j 1) (j 2) := by
  refine (dats m 0 c).arrAt_eq_of_covers 3 _ (by decide +kernel) fun t hf y => ?_
  blk_simp
  rw [after0_3]
  revert y
  intro (y : S1x8x2048.Idx)
  obtain ⟨r, n, rfl⟩ : ∃ r n, y = ix3 0 r n :=
    ⟨y 1, y 2, (eq_ix3 y).trans (congrArg (fun a => ix3 a (y 1) (y 2)) (Subsingleton.elim (α := Fin 1) _ _))⟩
  have e0 : (win0_3.blk t).view.emb (ix3 0 r n) 0 = pl t := Fin.ext (by blk_simp [idx t]; rfl)
  have e1 : (win0_3.blk t).view.emb (ix3 0 r n) 1 = r := Fin.ext (by blk_simp [idx t])
  have e2 : (win0_3.blk t).view.emb (ix3 0 r n) 2 = col (pj t) n := Fin.ext (by unfold col; blk_simp [idx t])
  rw [point m c hC hW t r n]
  exact (congr (congrArg₂ (fun (a : Fin 4) (b : Fin 8) => _root_.Modulation.out (C m c) (W m c) (B m c) a b) e0 e1) e2).symm

end Cert.Kernel10Ideal.Modulation

end
-- ==== Proof.Modulation.Ref.lean ====
/- The reference's modulation, index by index: the formula. -/
module

public import proofs.«01_k».proof.Proof.Gen.Reference10Ideal.Run
public import proofs.«01_k».proof.Proof.Modulation.Spec
public import Idealize.ShloMosaic.Lib.Claim

@[expose] public section

set_option maxRecDepth 16384

noncomputable section

open Idealize.ShloMosaic Idealize.ShloMosaic.TcCoe Idealize.SL.Sem

namespace Cert.Reference10Ideal.Modulation

open Cert.Reference10Ideal Cert.Reference10Ideal.Gen

/-- The activated conditions. -/
def actV (x : FVec Ideal S8x2048 .f32) : FVec Ideal S8x2048 .f32 :=
  mulf x (Host.divf (broadcastInDim S8x2048 ![] bcast_S_S8x2048 (constant S_ .f32 0x3F800000#32))
    (addf (broadcastInDim S8x2048 ![] bcast_S_S8x2048 (constant S_ .f32 0x3F800000#32)) (Host.exp (Host.negf x))))

/-- An entry of the activated conditions. -/
theorem actV_at (x : FVec Ideal S8x2048 .f32) (r : Fin 8) (d : Fin 2048) :
    actV x (ix2 r d) = _root_.Modulation.act (x (ix2 r d)) := by
  pointwise [actV, _root_.Modulation.act, Ideal.logistic]

/-- The products of all layers, plus the biases. -/
def resV (a : FVec Ideal S8x2048 .f32) (w : FVec Ideal S4x2048x12288 .f32) (b : FVec Ideal S4x12288 .f32) : FVec Ideal S4x8x12288 .f32 :=
  addf (transpose S4x8x12288 [0, 2, 1] (Host.dotGeneral dot_S4x2048x12288_S8x2048_S4x12288x8_1_1_02_0_n_n none w a)
      transposes_S4x12288x8_S4x8x12288_0_2_1)
    (broadcastInDim S4x8x12288 ![0, 1, 2] bcast_S4x1x12288_S4x8x12288_0_1_2
      (broadcastInDim S4x1x12288 ![0, 2] bcast_S4x12288_S4x1x12288_0_2 b))

/-- An entry of the result. -/
theorem resV_at (a : FVec Ideal S8x2048 .f32) (w : FVec Ideal S4x2048x12288 .f32) (b : FVec Ideal S4x12288 .f32)
    (l : Fin 4) (r : Fin 8) (n : Fin 12288) :
    resV a w b (ix3 l r n) = (∑ d, w (ix3 l d n) * a (ix2 r d)) + b (ix2 l n) := by
  pointwise [resV]

/-- The result is the formula. -/
theorem res_at (x : FVec Ideal S8x2048 .f32) (w : FVec Ideal S4x2048x12288 .f32) (b : FVec Ideal S4x12288 .f32)
    (l : Fin 4) (r : Fin 8) (n : Fin 12288) :
    resV (actV x) w b (ix3 l r n)
      = _root_.Modulation.out (fun r d => x (ix2 r d)) (fun l d n => w (ix3 l d n)) (fun l n => b (ix2 l n)) l r n := by
  rw [resV_at]
  unfold _root_.Modulation.out
  exact congrArg (· + _) (Finset.sum_congr rfl fun d _ => by rw [actV_at, mul_comm])

end Cert.Reference10Ideal.Modulation

end
-- ==== Proof.Modulation.Pre.lean ====
/- What the precondition of the modulation says. -/
module

public import proofs.«01_k».proof.Proof.Attn.Pre
public import proofs.«01_k».proof.Proof.Gen.Pre_finite_mod

@[expose] public section

set_option maxRecDepth 16384

noncomputable section

open Idealize.ShloMosaic Idealize.ShloMosaic.TcCoe Idealize.SL.Sem

namespace Cert.Pre_finite_mod

open Cert.Pre_finite_mod.Gen

/-- An array of any shape whose entries' absolute values are all below infinity holds finite numbers. -/
theorem real_of_all {s u : Shape} {axes : List (Fin s.rank)} [Subsingleton u.Idx] (x : FVec Ideal s .f32)
    (dims : Fin u.rank → Fin s.rank) (hd : u.BroadcastsInDim s dims) (h : s.ReducesTo axes u) (hu : 0 < u.numel) (one : IVec u 1) (j : u.Idx)
    (e : Host.reduce IntOp.andi (cmpf .olt (Host.absf x) (broadcastInDim s dims hd (constant u .f32 0x7F800000#32))) one h hu j = 1#1)
    (i : s.Idx) : Attn.IsReal (x i) := by
  have h1 := Host.reduce_andi_all _ _ h hu j e i
  have h2 : Ideal.cmp .olt (max (x i) (-(x i))) (Ideal.ofBits .f32 0x7F800000#32) = 1#1 := h1
  rw [Cert.Pre_finite_qk.top_bits] at h2
  refine Attn.real_of ?_
  by_contra hn
  simp [Ideal.cmp, hn] at h2

/-- The conditions and the weights are finite. -/
theorem real_of_pre (x : FVec Ideal S8x2048 .f32) (w : FVec Ideal S4x2048x12288 .f32) (b : FVec Ideal S4x12288 .f32)
    (h : fn (F := Ideal) x w b = fun _ => 1#1) : (∀ i, Attn.IsReal (x i)) ∧ ∀ i, Attn.IsReal (w i) := by
  haveI : Subsingleton S_.Idx := ⟨fun a b => funext fun x => x.elim0⟩
  have e := congrFun h (fun a => a.elim0)
  obtain ⟨e1, e2⟩ := IntOp.andi_eq_one.1 e
  exact ⟨fun i => real_of_all x _ _ _ _ _ _ e1 i, fun i => real_of_all w _ _ _ _ _ _ e2 i⟩

end Cert.Pre_finite_mod

end
-- ==== Proof.Modulation.Claim.lean ====
/- The claim about the modulation: its result is the reference's, when conditions and weights are finite. -/
module

public import proofs.«01_k».proof.Defs
public import proofs.«01_k».proof.Proof.Modulation.Final
public import proofs.«01_k».proof.Proof.Modulation.Ref
public import proofs.«01_k».proof.Proof.Modulation.Pre
public import Idealize.ShloMosaic.Lib.Claim

@[expose] public section

set_option maxRecDepth 16384

noncomputable section

open Idealize.ShloMosaic Idealize.ShloMosaic.TcCoe Idealize.SL.Sem

/-- The kernel and its reference end with the same array, read over the extended reals. -/
theorem Modulation.algebraic : Cert.algebraic_Kernel10Ideal_Reference10Ideal_pre_finite_mod := by
  pair_intro
  · run_from Cert.Kernel10Ideal.Gen.run_main m g
  · run_from Cert.Reference10Ideal.Value.run m' g'
    obtain ⟨h0, h1, h2⟩ := hagree c
    obtain ⟨hC, hW⟩ := Cert.Pre_finite_mod.real_of_pre _ _ _ (hpre c)
    refine Eq.trans ?_ (Cert.Kernel10Ideal.Modulation.final m c (fun r d => hC _) (fun l d n => hW _)).symm
    funext j
    obtain ⟨l, r, n, rfl⟩ : ∃ (l : Fin 4) (r : Fin 8) (n : Fin 12288), j = ix3 l r n := ⟨j 0, j 1, j 2, eq_ix3 j⟩
    exact Cert.Reference10Ideal.Modulation.res_at (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2)) l r n

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Pre_finite_qk
public import proofs.«01_k».proof.Proof.Gen.Pre_finite_ctx
public import proofs.«01_k».proof.Proof.Gen.Pre_finite_mod
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Attn.Claim
public import proofs.«01_k».proof.Proof.Ffn.Claim
public import proofs.«01_k».proof.Proof.OutProj.Claim
public import proofs.«01_k».proof.Proof.Mlp.Claim
public import proofs.«01_k».proof.Proof.InProj.Claim
public import proofs.«01_k».proof.Proof.CtxMlp.Claim
public import proofs.«01_k».proof.Proof.CtxOut.Claim
public import proofs.«01_k».proof.Proof.CtxIn.Claim
public import proofs.«01_k».proof.Proof.CtxAttn.Claim
public import proofs.«01_k».proof.Proof.Modulation.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference of the attention runs to the end and leaves its arguments alone. -/
theorem frame_reference : Cert.quiescent_ReferenceIdeal := by
  intro m g _
  refine (θ_run _ _ _).mono (fun r h => ⟨fun c => (h c).2, ?_⟩) (Cert.ReferenceIdeal.Value.run m g)
  exact sem_eq_zero_of_no_sems (by decide) r.2

/-- The same at arguments that meet the precondition. -/
theorem frame_reference_pre : Cert.quiescent_ReferenceIdeal_pre_finite_qk := by
  intro m g _
  refine (θ_run _ _ _).mono (fun r h => ⟨fun c => (h c).2, ?_⟩) (Cert.ReferenceIdeal.Value.run m g)
  exact sem_eq_zero_of_no_sems (by decide) r.2

/-- The reference of the feed-forward block runs to the end and leaves its arguments alone. -/
theorem frame_reference2 : Cert.quiescent_Reference2Ideal := by
  intro m g _
  refine (θ_run _ _ _).mono (fun r h => ⟨fun c => (h c).2, ?_⟩) (Cert.Reference2Ideal.Value.run m g)
  exact sem_eq_zero_of_no_sems (by decide) r.2

/-- The reference of the output projection runs to the end and leaves its arguments alone. -/
theorem frame_reference3 : Cert.quiescent_Reference3Ideal := by
  intro m g _
  refine (θ_run _ _ _).mono (fun r h => ⟨fun c => (h c).2.2, ?_⟩) (Cert.Reference3Ideal.Value.run m g)
  exact sem_eq_zero_of_no_sems (by decide) r.2

/-- The reference of the unnormed feed-forward block runs to the end and leaves its arguments alone. -/
theorem frame_reference4 : Cert.quiescent_Reference4Ideal := by
  intro m g _
  refine (θ_run _ _ _).mono (fun r h => ⟨fun c => (h c).2, ?_⟩) (Cert.Reference4Ideal.Value.run m g)
  exact sem_eq_zero_of_no_sems (by decide) r.2

/-- The reference of the input projection runs to the end and leaves its arguments alone. -/
theorem frame_reference5 : Cert.quiescent_Reference5Ideal := by
  intro m g _
  refine (θ_run _ _ _).mono (fun r h => ⟨fun c => (h c).2.2.2.2.2.2.2.2.2.2.2, ?_⟩) (Cert.Reference5Ideal.Value.run m g)
  exact sem_eq_zero_of_no_sems (by decide) r.2

/-- The reference of the feed-forward block of the context rows runs to the end and leaves its arguments alone. -/
theorem frame_reference6 : Cert.quiescent_Reference6Ideal := by
  intro m g _
  refine (θ_run _ _ _).mono (fun r h => ⟨fun c => (h c).2, ?_⟩) (Cert.Reference6Ideal.Value.run m g)
  exact sem_eq_zero_of_no_sems (by decide) r.2

/-- The reference of the output projection of the context rows runs to the end and leaves its arguments alone. -/
theorem frame_reference7 : Cert.quiescent_Reference7Ideal := by
  intro m g _
  refine (θ_run _ _ _).mono (fun r h => ⟨fun c => (h c).2.2, ?_⟩) (Cert.Reference7Ideal.Value.run m g)
  exact sem_eq_zero_of_no_sems (by decide) r.2

/-- The reference of the input projection of the context rows runs to the end and leaves its arguments alone. -/
theorem frame_reference8 : Cert.quiescent_Reference8Ideal := by
  intro m g _
  refine (θ_run _ _ _).mono (fun r h => ⟨fun c => (h c).2.2.2.2.2.2.2.2.2.2.2, ?_⟩) (Cert.Reference8Ideal.Value.run m g)
  exact sem_eq_zero_of_no_sems (by decide) r.2

/-- The reference of the attention of the context rows runs to the end and leaves its arguments alone. -/
theorem frame_reference9 : Cert.quiescent_Reference9Ideal := by
  intro m g _
  refine (θ_run _ _ _).mono (fun r h => ⟨fun c => (h c).2, ?_⟩) (Cert.Reference9Ideal.Value.run m g)
  exact sem_eq_zero_of_no_sems (by decide) r.2

/-- The same at arguments that meet the precondition. -/
theorem frame_reference9_pre : Cert.quiescent_Reference9Ideal_pre_finite_ctx := by
  intro m g _
  refine (θ_run _ _ _).mono (fun r h => ⟨fun c => (h c).2, ?_⟩) (Cert.Reference9Ideal.Value.run m g)
  exact sem_eq_zero_of_no_sems (by decide) r.2

/-- The reference of the modulation runs to the end and leaves its arguments alone. -/
theorem frame_reference10 : Cert.quiescent_Reference10Ideal := by
  intro m g _
  refine (θ_run _ _ _).mono (fun r h => ⟨fun c => (h c).2, ?_⟩) (Cert.Reference10Ideal.Value.run m g)
  exact sem_eq_zero_of_no_sems (by decide) r.2

/-- The same at arguments that meet the precondition. -/
theorem frame_reference10_pre : Cert.quiescent_Reference10Ideal_pre_finite_mod := by
  intro m g _
  refine (θ_run _ _ _).mono (fun r h => ⟨fun c => (h c).2, ?_⟩) (Cert.Reference10Ideal.Value.run m g)
  exact sem_eq_zero_of_no_sems (by decide) r.2

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite_qk.Gen.facts, Cert.Pre_finite_ctx.Gen.facts, Cert.Pre_finite_mod.Gen.facts,
  fun m ρ _ => Cert.Kernel.Gen.frame m ρ, fun m ρ _ => Cert.KernelIdeal.Gen.frame m ρ, fun m ρ _ => Cert.KernelIdeal.Gen.frame m ρ,
  frame_reference, frame_reference_pre,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, fun m ρ _ => Cert.Kernel9Ideal.Gen.frame m ρ,
  frame_reference9, frame_reference9_pre,
  fun m ρ _ => Cert.Kernel10.Gen.frame m ρ, fun m ρ _ => Cert.Kernel10Ideal.Gen.frame m ρ, fun m ρ _ => Cert.Kernel10Ideal.Gen.frame m ρ,
  frame_reference10, frame_reference10_pre,
  trivial, Attn.algebraic, trivial, Ffn.algebraic, trivial, OutProj.algebraic, trivial, Mlp.algebraic, InProj.preserves, InProj.algebraic, trivial, CtxMlp.algebraic, trivial, CtxOut.algebraic, CtxIn.preserves, CtxIn.algebraic, trivial, CtxAttn.algebraic, trivial, Modulation.algebraic⟩

end Cert.Proof

end
